-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_kv [hPre_finite_kv : Cert.Pre_finite_kv.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_kv.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_kv [hPre_finite_kv : Cert.Pre_finite_kv.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_kv.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite_kv [hKernel7Ideal : Cert.Kernel7Ideal.Facts] [hPre_finite_kv : Cert.Pre_finite_kv.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_kv m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite_kv [hReference7Ideal : Cert.Reference7Ideal.Facts] [hPre_finite_kv : Cert.Pre_finite_kv.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_kv m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v38_0)) (v1 : (c : Dev Cert.Kernel2Ideal.nD) → Buf (Elt Ideal) ((c.tc : Thread Cert.Kernel2Ideal.nD Cert.Kernel2Ideal.τ).loc Cert.Kernel2Ideal.main_v38_1)) (v2 : (c : Dev Cert.Kernel2Ideal.nD) → Buf (Elt Ideal) ((c.tc : Thread Cert.Kernel2Ideal.nD Cert.Kernel2Ideal.τ).loc Cert.Kernel2Ideal.main_v38_2)) (v3 : (c : Dev Cert.Kernel2Ideal.nD) → Buf (Elt Ideal) ((c.tc : Thread Cert.Kernel2Ideal.nD Cert.Kernel2Ideal.τ).loc Cert.Kernel2Ideal.main_v38_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v38_0) = v0 c
          ∧ r.2.mem ((c.tc : Thread Cert.Kernel2Ideal.nD Cert.Kernel2Ideal.τ).loc Cert.Kernel2Ideal.main_v38_1) = v1 c
          ∧ r.2.mem ((c.tc : Thread Cert.Kernel2Ideal.nD Cert.Kernel2Ideal.τ).loc Cert.Kernel2Ideal.main_v38_2) = v2 c
          ∧ r.2.mem ((c.tc : Thread Cert.Kernel2Ideal.nD Cert.Kernel2Ideal.τ).loc Cert.Kernel2Ideal.main_v38_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v97) = v0 c
          ∧ r.2.mem ((c.tc : Thread Cert.Reference2Ideal.nD Cert.Reference2Ideal.τ).loc Cert.Reference2Ideal.main_v98) = v1 c
          ∧ r.2.mem ((c.tc : Thread Cert.Reference2Ideal.nD Cert.Reference2Ideal.τ).loc Cert.Reference2Ideal.main_v99) = v2 c
          ∧ r.2.mem ((c.tc : Thread Cert.Reference2Ideal.nD Cert.Reference2Ideal.τ).loc Cert.Reference2Ideal.main_v102) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v43_0)) (v1 : (c : Dev Cert.Kernel4Ideal.nD) → Buf (Elt Ideal) ((c.tc : Thread Cert.Kernel4Ideal.nD Cert.Kernel4Ideal.τ).loc Cert.Kernel4Ideal.main_v43_1)) (v2 : (c : Dev Cert.Kernel4Ideal.nD) → Buf (Elt Ideal) ((c.tc : Thread Cert.Kernel4Ideal.nD Cert.Kernel4Ideal.τ).loc Cert.Kernel4Ideal.main_v43_2)) (v3 : (c : Dev Cert.Kernel4Ideal.nD) → Buf (Elt Ideal) ((c.tc : Thread Cert.Kernel4Ideal.nD Cert.Kernel4Ideal.τ).loc Cert.Kernel4Ideal.main_v43_3)) (v4 : (c : Dev Cert.Kernel4Ideal.nD) → Buf (Elt Ideal) ((c.tc : Thread Cert.Kernel4Ideal.nD Cert.Kernel4Ideal.τ).loc Cert.Kernel4Ideal.main_v43_4)) (v5 : (c : Dev Cert.Kernel4Ideal.nD) → Buf (Elt Ideal) ((c.tc : Thread Cert.Kernel4Ideal.nD Cert.Kernel4Ideal.τ).loc Cert.Kernel4Ideal.main_v43_5)) (v6 : (c : Dev Cert.Kernel4Ideal.nD) → Buf (Elt Ideal) ((c.tc : Thread Cert.Kernel4Ideal.nD Cert.Kernel4Ideal.τ).loc Cert.Kernel4Ideal.main_v43_6)) (v7 : (c : Dev Cert.Kernel4Ideal.nD) → Buf (Elt Ideal) ((c.tc : Thread Cert.Kernel4Ideal.nD Cert.Kernel4Ideal.τ).loc Cert.Kernel4Ideal.main_v43_7)) (v8 : (c : Dev Cert.Kernel4Ideal.nD) → Buf (Elt Ideal) ((c.tc : Thread Cert.Kernel4Ideal.nD Cert.Kernel4Ideal.τ).loc Cert.Kernel4Ideal.main_v43_8)) (v9 : (c : Dev Cert.Kernel4Ideal.nD) → Buf (Elt Ideal) ((c.tc : Thread Cert.Kernel4Ideal.nD Cert.Kernel4Ideal.τ).loc Cert.Kernel4Ideal.main_v43_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v43_0) = v0 c
          ∧ r.2.mem ((c.tc : Thread Cert.Kernel4Ideal.nD Cert.Kernel4Ideal.τ).loc Cert.Kernel4Ideal.main_v43_1) = v1 c
          ∧ r.2.mem ((c.tc : Thread Cert.Kernel4Ideal.nD Cert.Kernel4Ideal.τ).loc Cert.Kernel4Ideal.main_v43_2) = v2 c
          ∧ r.2.mem ((c.tc : Thread Cert.Kernel4Ideal.nD Cert.Kernel4Ideal.τ).loc Cert.Kernel4Ideal.main_v43_3) = v3 c
          ∧ r.2.mem ((c.tc : Thread Cert.Kernel4Ideal.nD Cert.Kernel4Ideal.τ).loc Cert.Kernel4Ideal.main_v43_4) = v4 c
          ∧ r.2.mem ((c.tc : Thread Cert.Kernel4Ideal.nD Cert.Kernel4Ideal.τ).loc Cert.Kernel4Ideal.main_v43_5) = v5 c
          ∧ r.2.mem ((c.tc : Thread Cert.Kernel4Ideal.nD Cert.Kernel4Ideal.τ).loc Cert.Kernel4Ideal.main_v43_6) = v6 c
          ∧ r.2.mem ((c.tc : Thread Cert.Kernel4Ideal.nD Cert.Kernel4Ideal.τ).loc Cert.Kernel4Ideal.main_v43_7) = v7 c
          ∧ r.2.mem ((c.tc : Thread Cert.Kernel4Ideal.nD Cert.Kernel4Ideal.τ).loc Cert.Kernel4Ideal.main_v43_8) = v8 c
          ∧ r.2.mem ((c.tc : Thread Cert.Kernel4Ideal.nD Cert.Kernel4Ideal.τ).loc Cert.Kernel4Ideal.main_v43_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v128) = v0 c
          ∧ r.2.mem ((c.tc : Thread Cert.Reference4Ideal.nD Cert.Reference4Ideal.τ).loc Cert.Reference4Ideal.main_v168) = v1 c
          ∧ r.2.mem ((c.tc : Thread Cert.Reference4Ideal.nD Cert.Reference4Ideal.τ).loc Cert.Reference4Ideal.main_v169) = v2 c
          ∧ r.2.mem ((c.tc : Thread Cert.Reference4Ideal.nD Cert.Reference4Ideal.τ).loc Cert.Reference4Ideal.main_v68) = v3 c
          ∧ r.2.mem ((c.tc : Thread Cert.Reference4Ideal.nD Cert.Reference4Ideal.τ).loc Cert.Reference4Ideal.main_v114) = v4 c
          ∧ r.2.mem ((c.tc : Thread Cert.Reference4Ideal.nD Cert.Reference4Ideal.τ).loc Cert.Reference4Ideal.main_v64) = v5 c
          ∧ r.2.mem ((c.tc : Thread Cert.Reference4Ideal.nD Cert.Reference4Ideal.τ).loc Cert.Reference4Ideal.main_v67) = v6 c
          ∧ r.2.mem ((c.tc : Thread Cert.Reference4Ideal.nD Cert.Reference4Ideal.τ).loc Cert.Reference4Ideal.main_v110) = v7 c
          ∧ r.2.mem ((c.tc : Thread Cert.Reference4Ideal.nD Cert.Reference4Ideal.τ).loc Cert.Reference4Ideal.main_v113) = v8 c
          ∧ r.2.mem ((c.tc : Thread Cert.Reference4Ideal.nD Cert.Reference4Ideal.τ).loc Cert.Reference4Ideal.main_v170) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  IdealRules.named_const.Statement Cert.Kernel7Ideal.κ "mask" .f32 0xF149F2CA#32 ⊥

def algebraic_Kernel7Ideal_Reference7Ideal_pre_finite_kv [hKernel7Ideal : Cert.Kernel7Ideal.Facts] [hReference7Ideal : Cert.Reference7Ideal.Facts] [hPre_finite_kv : Cert.Pre_finite_kv.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_kv m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v25_0)) (v1 : (c : Dev Cert.Kernel7Ideal.nD) → Buf (Elt Ideal) ((c.tc : Thread Cert.Kernel7Ideal.nD Cert.Kernel7Ideal.τ).loc Cert.Kernel7Ideal.main_v25_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v25_0) = v0 c
          ∧ r.2.mem ((c.tc : Thread Cert.Kernel7Ideal.nD Cert.Kernel7Ideal.τ).loc Cert.Kernel7Ideal.main_v25_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v45) = v0 c
          ∧ r.2.mem ((c.tc : Thread Cert.Reference7Ideal.nD Cert.Reference7Ideal.τ).loc Cert.Reference7Ideal.main_v77) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite_kv : Cert.Pre_finite_kv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_kv (hKernel7Ideal := hKernel7Ideal) (hPre_finite_kv := hPre_finite_kv)
    ∧ quiescent_Reference7Ideal (hReference7Ideal := hReference7Ideal)
    ∧ quiescent_Reference7Ideal_pre_finite_kv (hReference7Ideal := hReference7Ideal) (hPre_finite_kv := hPre_finite_kv)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_kv (hKernel7Ideal := hKernel7Ideal) (hReference7Ideal := hReference7Ideal) (hPre_finite_kv := hPre_finite_kv)
-- ==== Pre_finite.lean ====
abbrev S8x2048x8x2x64 : Shape := ⟨5, ![8, 2048, 8, 2, 64]⟩
abbrev S8x2048x8x128 : Shape := ⟨4, ![8, 2048, 8, 128]⟩
abbrev S1x4x64 : Shape := ⟨3, ![1, 4, 64]⟩
abbrev S1x128 : Shape := ⟨2, ![1, 128]⟩
abbrev S_ : Shape := ⟨0, ![]⟩

class Facts : Prop where
  bcast_S_S8x2048x8x2x64 : S_.BroadcastsInDim S8x2048x8x2x64 (![] : Fin 0 → Fin S8x2048x8x2x64.rank)
  reducesTo_S8x2048x8x2x64_S_d0_1_2_3_4 : S8x2048x8x2x64.ReducesTo [0, 1, 2, 3, 4] S_
  h_S_ : 0 < S_.numel
  bcast_S_S8x2048x8x128 : S_.BroadcastsInDim S8x2048x8x128 (![] : Fin 0 → Fin S8x2048x8x128.rank)
  reducesTo_S8x2048x8x128_S_d0_1_2_3 : S8x2048x8x128.ReducesTo [0, 1, 2, 3] S_
  bcast_S_S1x4x64 : S_.BroadcastsInDim S1x4x64 (![] : Fin 0 → Fin S1x4x64.rank)
  reducesTo_S1x4x64_S_d0_1_2 : S1x4x64.ReducesTo [0, 1, 2] S_

variable [Facts]

def fn_part1 {F : FTy → Type} [FloatOps F] (main_v13 : IVec S_ 1) (main_v16 : IVec S1x4x64 1) : IVec S_ 1 :=
  let main_c_5 : IVec S_ 1 := constantI S_ 1 1#1
  let main_v17 : IVec S_ 1 := (fun x v => Host.reduce IntOp.andi x v reducesTo_S1x4x64_S_d0_1_2 h_S_) main_v16 main_c_5
  let main_v18 : IVec S_ 1 := andi main_v13 main_v17
  main_v18

def fn {F : FTy → Type} [FloatOps F] (main_arg0 : FVec F S8x2048x8x2x64 .f32) (main_arg1 : FVec F S8x2048x8x2x64 .f32) (main_arg2 : FVec F S8x2048x8x128 .f32) (main_arg3 : FVec F S1x4x64 .f32) (main_arg4 : FVec F S1x128 .f32) : IVec S_ 1 :=
  let main_v0 : FVec F S8x2048x8x2x64 .f32 := Host.absf main_arg0
  let main_cst : FVec F S_ .f32 := constant S_ .f32 0x7F800000#32
  let main_v1 : FVec F S8x2048x8x2x64 .f32 := broadcastInDim S8x2048x8x2x64 ![] bcast_S_S8x2048x8x2x64 main_cst
  let main_v2 : IVec S8x2048x8x2x64 1 := cmpf .olt main_v0 main_v1
  let main_c : IVec S_ 1 := constantI S_ 1 1#1
  let main_v3 : IVec S_ 1 := (fun x v => Host.reduce IntOp.andi x v reducesTo_S8x2048x8x2x64_S_d0_1_2_3_4 h_S_) main_v2 main_c
  let main_v4 : FVec F S8x2048x8x2x64 .f32 := Host.absf main_arg1
  let main_cst_0 : FVec F S_ .f32 := constant S_ .f32 0x7F800000#32
  let main_v5 : FVec F S8x2048x8x2x64 .f32 := broadcastInDim S8x2048x8x2x64 ![] bcast_S_S8x2048x8x2x64 main_cst_0
  let main_v6 : IVec S8x2048x8x2x64 1 := cmpf .olt main_v4 main_v5
  let main_c_1 : IVec S_ 1 := constantI S_ 1 1#1
  let main_v7 : IVec S_ 1 := (fun x v => Host.reduce IntOp.andi x v reducesTo_S8x2048x8x2x64_S_d0_1_2_3_4 h_S_) main_v6 main_c_1
  let main_v8 : IVec S_ 1 := andi main_v3 main_v7
  let main_v9 : FVec F S8x2048x8x128 .f32 := Host.absf main_arg2
  let main_cst_2 : FVec F S_ .f32 := constant S_ .f32 0x7F800000#32
  let main_v10 : FVec F S8x2048x8x128 .f32 := broadcastInDim S8x2048x8x128 ![] bcast_S_S8x2048x8x128 main_cst_2
  let main_v11 : IVec S8x2048x8x128 1 := cmpf .olt main_v9 main_v10
  let main_c_3 : IVec S_ 1 := constantI S_ 1 1#1
  let main_v12 : IVec S_ 1 := (fun x v => Host.reduce IntOp.andi x v reducesTo_S8x2048x8x128_S_d0_1_2_3 h_S_) main_v11 main_c_3
  let main_v13 : IVec S_ 1 := andi main_v8 main_v12
  let main_v14 : FVec F S1x4x64 .f32 := Host.absf main_arg3
  let main_cst_4 : FVec F S_ .f32 := constant S_ .f32 0x7F800000#32
  let main_v15 : FVec F S1x4x64 .f32 := broadcastInDim S1x4x64 ![] bcast_S_S1x4x64 main_cst_4
  let main_v16 : IVec S1x4x64 1 := cmpf .olt main_v14 main_v15
  fn_part1 (F := F) main_v13 main_v16
-- ==== Pre_finite_kv.lean ====
abbrev S8x2048x4x4x64 : Shape := ⟨5, ![8, 2048, 4, 4, 64]⟩
abbrev S8x2048x2x4x64 : Shape := ⟨5, ![8, 2048, 2, 4, 64]⟩
abbrev S4x128x16384 : Shape := ⟨3, ![4, 128, 16384]⟩
abbrev S_ : Shape := ⟨0, ![]⟩

class Facts : Prop where
  bcast_S_S8x2048x4x4x64 : S_.BroadcastsInDim S8x2048x4x4x64 (![] : Fin 0 → Fin S8x2048x4x4x64.rank)
  reducesTo_S8x2048x4x4x64_S_d0_1_2_3_4 : S8x2048x4x4x64.ReducesTo [0, 1, 2, 3, 4] S_
  h_S_ : 0 < S_.numel
  bcast_S_S8x2048x2x4x64 : S_.BroadcastsInDim S8x2048x2x4x64 (![] : Fin 0 → Fin S8x2048x2x4x64.rank)
  reducesTo_S8x2048x2x4x64_S_d0_1_2_3_4 : S8x2048x2x4x64.ReducesTo [0, 1, 2, 3, 4] S_

variable [Facts]

def fn {F : FTy → Type} [FloatOps F] (main_arg0 : FVec F S8x2048x4x4x64 .f32) (main_arg1 : FVec F S8x2048x2x4x64 .f32) (main_arg2 : FVec F S8x2048x2x4x64 .f32) (main_arg3 : FVec F S4x128x16384 .f32) : IVec S_ 1 :=
  let main_v0 : FVec F S8x2048x4x4x64 .f32 := Host.absf main_arg0
  let main_cst : FVec F S_ .f32 := constant S_ .f32 0x7F800000#32
  let main_v1 : FVec F S8x2048x4x4x64 .f32 := broadcastInDim S8x2048x4x4x64 ![] bcast_S_S8x2048x4x4x64 main_cst
  let main_v2 : IVec S8x2048x4x4x64 1 := cmpf .olt main_v0 main_v1
  let main_c : IVec S_ 1 := constantI S_ 1 1#1
  let main_v3 : IVec S_ 1 := (fun x v => Host.reduce IntOp.andi x v reducesTo_S8x2048x4x4x64_S_d0_1_2_3_4 h_S_) main_v2 main_c
  let main_v4 : FVec F S8x2048x2x4x64 .f32 := Host.absf main_arg1
  let main_cst_0 : FVec F S_ .f32 := constant S_ .f32 0x7F800000#32
  let main_v5 : FVec F S8x2048x2x4x64 .f32 := broadcastInDim S8x2048x2x4x64 ![] bcast_S_S8x2048x2x4x64 main_cst_0
  let main_v6 : IVec S8x2048x2x4x64 1 := cmpf .olt main_v4 main_v5
  let main_c_1 : IVec S_ 1 := constantI S_ 1 1#1
  let main_v7 : IVec S_ 1 := (fun x v => Host.reduce IntOp.andi x v reducesTo_S8x2048x2x4x64_S_d0_1_2_3_4 h_S_) main_v6 main_c_1
  let main_v8 : IVec S_ 1 := andi main_v3 main_v7
  let main_v9 : FVec F S8x2048x2x4x64 .f32 := Host.absf main_arg2
  let main_cst_2 : FVec F S_ .f32 := constant S_ .f32 0x7F800000#32
  let main_v10 : FVec F S8x2048x2x4x64 .f32 := broadcastInDim S8x2048x2x4x64 ![] bcast_S_S8x2048x2x4x64 main_cst_2
  let main_v11 : IVec S8x2048x2x4x64 1 := cmpf .olt main_v9 main_v10
  let main_c_3 : IVec S_ 1 := constantI S_ 1 1#1
  let main_v12 : IVec S_ 1 := (fun x v => Host.reduce IntOp.andi x v reducesTo_S8x2048x2x4x64_S_d0_1_2_3_4 h_S_) main_v11 main_c_3
  let main_v13 : IVec S_ 1 := andi main_v8 main_v12
  main_v13
-- ==== Kernel.lean ====
abbrev S8x2048x8x2x64 : Shape := ⟨5, ![8, 2048, 8, 2, 64]⟩
abbrev S8x2048x8x128 : Shape := ⟨4, ![8, 2048, 8, 128]⟩
abbrev S1x4x64 : Shape := ⟨3, ![1, 4, 64]⟩
abbrev S1x128 : Shape := ⟨2, ![1, 128]⟩
abbrev S16384x1024 : Shape := ⟨2, ![16384, 1024]⟩
abbrev S_ : Shape := ⟨0, ![]⟩
abbrev S1024x16384 : Shape := ⟨2, ![1024, 16384]⟩
abbrev S32x512x1024 : Shape := ⟨3, ![32, 512, 1024]⟩
abbrev S32x1024x512 : Shape := ⟨3, ![32, 1024, 512]⟩
abbrev S4x64 : Shape := ⟨2, ![4, 64]⟩
abbrev S128 : Shape := ⟨1, ![128]⟩
abbrev S128x1 : Shape := ⟨2, ![128, 1]⟩
abbrev S128x512 : Shape := ⟨2, ![128, 512]⟩
abbrev S2048x128 : Shape := ⟨2, ![2048, 128]⟩
abbrev S4x128x512 : Shape := ⟨3, ![4, 128, 512]⟩
abbrev S128x1024 : Shape := ⟨2, ![128, 1024]⟩
abbrev S512x1024 : Shape := ⟨2, ![512, 1024]⟩
abbrev S1x1024 : Shape := ⟨2, ![1, 1024]⟩
abbrev S512x128 : Shape := ⟨2, ![512, 128]⟩
abbrev S1x128x512 : Shape := ⟨3, ![1, 128, 512]⟩
abbrev S1024 : Shape := ⟨1, ![1024]⟩
abbrev S1x64 : Shape := ⟨2, ![1, 64]⟩
abbrev S1 : Shape := ⟨1, ![1]⟩
abbrev S1x1 : Shape := ⟨2, ![1, 1]⟩
abbrev S1x512 : Shape := ⟨2, ![1, 512]⟩
abbrev S512 : Shape := ⟨1, ![512]⟩

abbrev nBuf : Space → Nat
  | .hbm => 20
  | .vmem => 10
  | .smem => 0
  | _ => 0

abbrev bufTy : (tb : Table) → Fin (tcTables nBuf tb) → BufTy
  | .hbm, ⟨0, _⟩ => ⟨S8x2048x8x2x64, .f32⟩
  | .hbm, ⟨1, _⟩ => ⟨S8x2048x8x2x64, .f32⟩
  | .hbm, ⟨2, _⟩ => ⟨S8x2048x8x128, .f32⟩
  | .hbm, ⟨3, _⟩ => ⟨S1x4x64, .f32⟩
  | .hbm, ⟨4, _⟩ => ⟨S1x128, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S1024x16384, .f32⟩
  | .hbm, ⟨10, _⟩ => ⟨S1024x16384, .bf16⟩
  | .hbm, ⟨11, _⟩ => ⟨S16384x1024, .f32⟩
  | .hbm, ⟨12, _⟩ => ⟨S16384x1024, .bf16⟩
  | .hbm, ⟨13, _⟩ => ⟨S32x512x1024, .f32⟩
  | .hbm, ⟨14, _⟩ => ⟨S32x1024x512, .f32⟩
  | .hbm, ⟨15, _⟩ => ⟨S32x1024x512, .bf16⟩
  | .hbm, ⟨16, _⟩ => ⟨S4x64, .f32⟩
  | .hbm, ⟨17, _⟩ => ⟨S128, .f32⟩
  | .hbm, ⟨18, _⟩ => ⟨S128x1, .f32⟩
  | .hbm, ⟨19, _⟩ => ⟨S1024x16384, .bf16⟩
  | .local _ .vmem, ⟨0, _⟩ => ⟨S128x512, .bf16⟩
  | .local _ .vmem, ⟨1, _⟩ => ⟨S128x512, .bf16⟩
  | .local _ .vmem, ⟨2, _⟩ => ⟨S2048x128, .bf16⟩
  | .local _ .vmem, ⟨3, _⟩ => ⟨S2048x128, .bf16⟩
  | .local _ .vmem, ⟨4, _⟩ => ⟨S4x128x512, .bf16⟩
  | .local _ .vmem, ⟨5, _⟩ => ⟨S4x128x512, .bf16⟩
  | .local _ .vmem, ⟨6, _⟩ => ⟨S4x64, .f32⟩
  | .local _ .vmem, ⟨7, _⟩ => ⟨S128x1, .f32⟩
  | .local _ .vmem, ⟨8, _⟩ => ⟨S128x512, .bf16⟩
  | .local _ .vmem, ⟨9, _⟩ => ⟨S128x512, .bf16⟩
  | _, _ => ⟨S8x2048x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 8, 4], ![false, false, false]⟩

@[reducible] def k0_t1_loop (i : grid0.Coords) : Scf.Loop 32 :=
  let c0_i32_35 : BitVec 32 := 0#32
  let arg2 : BitVec 32 := BitVec.ofNat 32 (i 2).val
  let c512_i32_13 : BitVec 32 := 512#32
  let v56 : BitVec 32 := Scalar.muli arg2 c512_i32_13
  let c0_i32_15 : BitVec 32 := 0#32
  let v58 : BitVec 1 := Scalar.cmpi .sgt v56 c0_i32_15
  let v59 : BitVec 32 := Scalar.extui v58
  let c0_i32_16 : BitVec 32 := 0#32
  let v60 : BitVec 1 := Scalar.cmpi .slt v56 c0_i32_16
  let v61 : BitVec 32 := Scalar.extui v60
  let v62 : BitVec 32 := Scalar.subi v59 v61
  let c512_i32_14 : BitVec 32 := 512#32
  let c0_i32_17 : BitVec 32 := 0#32
  let v63 : BitVec 1 := Scalar.cmpi .sgt c512_i32_14 c0_i32_17
  let v64 : BitVec 32 := Scalar.extui v63
  let c0_i32_18 : BitVec 32 := 0#32
  let v65 : BitVec 1 := Scalar.cmpi .slt c512_i32_14 c0_i32_18
  let v66 : BitVec 32 := Scalar.extui v65
  let v67 : BitVec 32 := Scalar.subi v64 v66
  let v68 : BitVec 1 := Scalar.cmpi .ne v62 v67
  let v69 : BitVec 32 := Scalar.remsi v56 c512_i32_14
  let c0_i32_19 : BitVec 32 := 0#32
  let v70 : BitVec 1 := Scalar.cmpi .ne v69 c0_i32_19
  let v71 : BitVec 1 := Scalar.andi v68 v70
  let v57 : BitVec 32 := Scalar.divsi v56 c512_i32_14
  let c1_i32_20 : BitVec 32 := 1#32
  let v72 : BitVec 32 := Scalar.subi v57 c1_i32_20
  let v73 : BitVec 32 := Scalar.select v71 v72 v57
  let v98 : BitVec 32 := Scalar.subi v73 c0_i32_35
  let c1_i32_36 : BitVec 32 := 1#32
  let v100 : BitVec 32 := Scalar.divsi v98 c1_i32_36
  let v101 : BitVec 32 := Scalar.muli v100 c1_i32_36
  let v102 : BitVec 32 := Scalar.addi c0_i32_35 v101
  let c1_i32_37 : BitVec 32 := 1#32
  ⟨c0_i32_35, v102, c1_i32_37⟩
def k0_mult1 (i : grid0.Coords) (k0_t1 : Fin (k0_t1_loop i).trips) : BitVec 32 :=
  let c0_i32_35 : BitVec 32 := 0#32
  let c1_i32_37 : BitVec 32 := 1#32
  let arg9 : BitVec 32 := Scf.iv c0_i32_35 c1_i32_37 k0_t1
  let c512_i32_57 : BitVec 32 := 512#32
  let v162 : BitVec 32 := Scalar.muli arg9 c512_i32_57
  v162
def k0_off1 (i : grid0.Coords) (k0_t1 : Fin (k0_t1_loop i).trips) : Fin 2 → Nat :=
  let c0_i32_35 : BitVec 32 := 0#32
  let c1_i32_37 : BitVec 32 := 1#32
  let arg9 : BitVec 32 := Scf.iv c0_i32_35 c1_i32_37 k0_t1
  let c512_i32_57 : BitVec 32 := 512#32
  let v162 : BitVec 32 := Scalar.muli arg9 c512_i32_57
  let v163 : BitVec 32 := v162
  let v164 : Index := Scalar.indexCast v163
  let c0_58 : Index := 0#32
  ![v164.toNat, 0]
def k0_off2 (i : grid0.Coords) (k0_t1 : Fin (k0_t1_loop i).trips) : Fin 3 → Nat :=
  let c0_i32_35 : BitVec 32 := 0#32
  let c1_i32_37 : BitVec 32 := 1#32
  let arg9 : BitVec 32 := Scf.iv c0_i32_35 c1_i32_37 k0_t1
  let v168 : Index := Scalar.indexCast arg9
  let c0_60 : Index := 0#32
  let c0_61 : Index := 0#32
  ![v168.toNat, 0, 0]
@[reducible] def k0_t2_loop (i : grid0.Coords) : Scf.Loop 32 :=
  let c0_i32_35 : BitVec 32 := 0#32
  let arg2 : BitVec 32 := BitVec.ofNat 32 (i 2).val
  let c512_i32_13 : BitVec 32 := 512#32
  let v56 : BitVec 32 := Scalar.muli arg2 c512_i32_13
  let c0_i32_15 : BitVec 32 := 0#32
  let v58 : BitVec 1 := Scalar.cmpi .sgt v56 c0_i32_15
  let v59 : BitVec 32 := Scalar.extui v58
  let c0_i32_16 : BitVec 32 := 0#32
  let v60 : BitVec 1 := Scalar.cmpi .slt v56 c0_i32_16
  let v61 : BitVec 32 := Scalar.extui v60
  let v62 : BitVec 32 := Scalar.subi v59 v61
  let c512_i32_14 : BitVec 32 := 512#32
  let c0_i32_17 : BitVec 32 := 0#32
  let v63 : BitVec 1 := Scalar.cmpi .sgt c512_i32_14 c0_i32_17
  let v64 : BitVec 32 := Scalar.extui v63
  let c0_i32_18 : BitVec 32 := 0#32
  let v65 : BitVec 1 := Scalar.cmpi .slt c512_i32_14 c0_i32_18
  let v66 : BitVec 32 := Scalar.extui v65
  let v67 : BitVec 32 := Scalar.subi v64 v66
  let v68 : BitVec 1 := Scalar.cmpi .ne v62 v67
  let v69 : BitVec 32 := Scalar.remsi v56 c512_i32_14
  let c0_i32_19 : BitVec 32 := 0#32
  let v70 : BitVec 1 := Scalar.cmpi .ne v69 c0_i32_19
  let v71 : BitVec 1 := Scalar.andi v68 v70
  let v57 : BitVec 32 := Scalar.divsi v56 c512_i32_14
  let c1_i32_20 : BitVec 32 := 1#32
  let v72 : BitVec 32 := Scalar.subi v57 c1_i32_20
  let v73 : BitVec 32 := Scalar.select v71 v72 v57
  let v98 : BitVec 32 := Scalar.subi v73 c0_i32_35
  let c1_i32_36 : BitVec 32 := 1#32
  let v100 : BitVec 32 := Scalar.divsi v98 c1_i32_36
  let v101 : BitVec 32 := Scalar.muli v100 c1_i32_36
  let v102 : BitVec 32 := Scalar.addi c0_i32_35 v101
  let v99 : BitVec 32 := Scalar.addi c0_i32_35 v98
  let c1_i32_38 : BitVec 32 := 1#32
  ⟨v102, v99, c1_i32_38⟩
def k0_mult2 (i : grid0.Coords) (k0_t2 : Fin (k0_t2_loop i).trips) : BitVec 32 :=
  let c0_i32_35 : BitVec 32 := 0#32
  let arg2 : BitVec 32 := BitVec.ofNat 32 (i 2).val
  let c512_i32_13 : BitVec 32 := 512#32
  let v56 : BitVec 32 := Scalar.muli arg2 c512_i32_13
  let c0_i32_15 : BitVec 32 := 0#32
  let v58 : BitVec 1 := Scalar.cmpi .sgt v56 c0_i32_15
  let v59 : BitVec 32 := Scalar.extui v58
  let c0_i32_16 : BitVec 32 := 0#32
  let v60 : BitVec 1 := Scalar.cmpi .slt v56 c0_i32_16
  let v61 : BitVec 32 := Scalar.extui v60
  let v62 : BitVec 32 := Scalar.subi v59 v61
  let c512_i32_14 : BitVec 32 := 512#32
  let c0_i32_17 : BitVec 32 := 0#32
  let v63 : BitVec 1 := Scalar.cmpi .sgt c512_i32_14 c0_i32_17
  let v64 : BitVec 32 := Scalar.extui v63
  let c0_i32_18 : BitVec 32 := 0#32
  let v65 : BitVec 1 := Scalar.cmpi .slt c512_i32_14 c0_i32_18
  let v66 : BitVec 32 := Scalar.extui v65
  let v67 : BitVec 32 := Scalar.subi v64 v66
  let v68 : BitVec 1 := Scalar.cmpi .ne v62 v67
  let v69 : BitVec 32 := Scalar.remsi v56 c512_i32_14
  let c0_i32_19 : BitVec 32 := 0#32
  let v70 : BitVec 1 := Scalar.cmpi .ne v69 c0_i32_19
  let v71 : BitVec 1 := Scalar.andi v68 v70
  let v57 : BitVec 32 := Scalar.divsi v56 c512_i32_14
  let c1_i32_20 : BitVec 32 := 1#32
  let v72 : BitVec 32 := Scalar.subi v57 c1_i32_20
  let v73 : BitVec 32 := Scalar.select v71 v72 v57
  let v98 : BitVec 32 := Scalar.subi v73 c0_i32_35
  let c1_i32_36 : BitVec 32 := 1#32
  let v100 : BitVec 32 := Scalar.divsi v98 c1_i32_36
  let v101 : BitVec 32 := Scalar.muli v100 c1_i32_36
  let v102 : BitVec 32 := Scalar.addi c0_i32_35 v101
  let c1_i32_38 : BitVec 32 := 1#32
  let arg9 : BitVec 32 := Scf.iv v102 c1_i32_38 k0_t2
  let c512_i32_57 : BitVec 32 := 512#32
  let v162 : BitVec 32 := Scalar.muli arg9 c512_i32_57
  v162
def k0_off3 (i : grid0.Coords) (k0_t2 : Fin (k0_t2_loop i).trips) : Fin 2 → Nat :=
  let c0_i32_35 : BitVec 32 := 0#32
  let arg2 : BitVec 32 := BitVec.ofNat 32 (i 2).val
  let c512_i32_13 : BitVec 32 := 512#32
  let v56 : BitVec 32 := Scalar.muli arg2 c512_i32_13
  let c0_i32_15 : BitVec 32 := 0#32
  let v58 : BitVec 1 := Scalar.cmpi .sgt v56 c0_i32_15
  let v59 : BitVec 32 := Scalar.extui v58
  let c0_i32_16 : BitVec 32 := 0#32
  let v60 : BitVec 1 := Scalar.cmpi .slt v56 c0_i32_16
  let v61 : BitVec 32 := Scalar.extui v60
  let v62 : BitVec 32 := Scalar.subi v59 v61
  let c512_i32_14 : BitVec 32 := 512#32
  let c0_i32_17 : BitVec 32 := 0#32
  let v63 : BitVec 1 := Scalar.cmpi .sgt c512_i32_14 c0_i32_17
  let v64 : BitVec 32 := Scalar.extui v63
  let c0_i32_18 : BitVec 32 := 0#32
  let v65 : BitVec 1 := Scalar.cmpi .slt c512_i32_14 c0_i32_18
  let v66 : BitVec 32 := Scalar.extui v65
  let v67 : BitVec 32 := Scalar.subi v64 v66
  let v68 : BitVec 1 := Scalar.cmpi .ne v62 v67
  let v69 : BitVec 32 := Scalar.remsi v56 c512_i32_14
  let c0_i32_19 : BitVec 32 := 0#32
  let v70 : BitVec 1 := Scalar.cmpi .ne v69 c0_i32_19
  let v71 : BitVec 1 := Scalar.andi v68 v70
  let v57 : BitVec 32 := Scalar.divsi v56 c512_i32_14
  let c1_i32_20 : BitVec 32 := 1#32
  let v72 : BitVec 32 := Scalar.subi v57 c1_i32_20
  let v73 : BitVec 32 := Scalar.select v71 v72 v57
  let v98 : BitVec 32 := Scalar.subi v73 c0_i32_35
  let c1_i32_36 : BitVec 32 := 1#32
  let v100 : BitVec 32 := Scalar.divsi v98 c1_i32_36
  let v101 : BitVec 32 := Scalar.muli v100 c1_i32_36
  let v102 : BitVec 32 := Scalar.addi c0_i32_35 v101
  let c1_i32_38 : BitVec 32 := 1#32
  let arg9 : BitVec 32 := Scf.iv v102 c1_i32_38 k0_t2
  let c512_i32_57 : BitVec 32 := 512#32
  let v162 : BitVec 32 := Scalar.muli arg9 c512_i32_57
  let v163 : BitVec 32 := v162
  let v164 : Index := Scalar.indexCast v163
  let c0_58 : Index := 0#32
  ![v164.toNat, 0]
def k0_off4 (i : grid0.Coords) (k0_t2 : Fin (k0_t2_loop i).trips) : Fin 3 → Nat :=
  let c0_i32_35 : BitVec 32 := 0#32
  let arg2 : BitVec 32 := BitVec.ofNat 32 (i 2).val
  let c512_i32_13 : BitVec 32 := 512#32
  let v56 : BitVec 32 := Scalar.muli arg2 c512_i32_13
  let c0_i32_15 : BitVec 32 := 0#32
  let v58 : BitVec 1 := Scalar.cmpi .sgt v56 c0_i32_15
  let v59 : BitVec 32 := Scalar.extui v58
  let c0_i32_16 : BitVec 32 := 0#32
  let v60 : BitVec 1 := Scalar.cmpi .slt v56 c0_i32_16
  let v61 : BitVec 32 := Scalar.extui v60
  let v62 : BitVec 32 := Scalar.subi v59 v61
  let c512_i32_14 : BitVec 32 := 512#32
  let c0_i32_17 : BitVec 32 := 0#32
  let v63 : BitVec 1 := Scalar.cmpi .sgt c512_i32_14 c0_i32_17
  let v64 : BitVec 32 := Scalar.extui v63
  let c0_i32_18 : BitVec 32 := 0#32
  let v65 : BitVec 1 := Scalar.cmpi .slt c512_i32_14 c0_i32_18
  let v66 : BitVec 32 := Scalar.extui v65
  let v67 : BitVec 32 := Scalar.subi v64 v66
  let v68 : BitVec 1 := Scalar.cmpi .ne v62 v67
  let v69 : BitVec 32 := Scalar.remsi v56 c512_i32_14
  let c0_i32_19 : BitVec 32 := 0#32
  let v70 : BitVec 1 := Scalar.cmpi .ne v69 c0_i32_19
  let v71 : BitVec 1 := Scalar.andi v68 v70
  let v57 : BitVec 32 := Scalar.divsi v56 c512_i32_14
  let c1_i32_20 : BitVec 32 := 1#32
  let v72 : BitVec 32 := Scalar.subi v57 c1_i32_20
  let v73 : BitVec 32 := Scalar.select v71 v72 v57
  let v98 : BitVec 32 := Scalar.subi v73 c0_i32_35
  let c1_i32_36 : BitVec 32 := 1#32
  let v100 : BitVec 32 := Scalar.divsi v98 c1_i32_36
  let v101 : BitVec 32 := Scalar.muli v100 c1_i32_36
  let v102 : BitVec 32 := Scalar.addi c0_i32_35 v101
  let c1_i32_38 : BitVec 32 := 1#32
  let arg9 : BitVec 32 := Scf.iv v102 c1_i32_38 k0_t2
  let v168 : Index := Scalar.indexCast arg9
  let c0_60 : Index := 0#32
  let c0_61 : Index := 0#32
  ![v168.toNat, 0, 0]
@[reducible] def k0_t3_loop (i : grid0.Coords) : Scf.Loop 32 :=
  let arg2 : BitVec 32 := BitVec.ofNat 32 (i 2).val
  let c512_i32_13 : BitVec 32 := 512#32
  let v56 : BitVec 32 := Scalar.muli arg2 c512_i32_13
  let c0_i32_15 : BitVec 32 := 0#32
  let v58 : BitVec 1 := Scalar.cmpi .sgt v56 c0_i32_15
  let v59 : BitVec 32 := Scalar.extui v58
  let c0_i32_16 : BitVec 32 := 0#32
  let v60 : BitVec 1 := Scalar.cmpi .slt v56 c0_i32_16
  let v61 : BitVec 32 := Scalar.extui v60
  let v62 : BitVec 32 := Scalar.subi v59 v61
  let c512_i32_14 : BitVec 32 := 512#32
  let c0_i32_17 : BitVec 32 := 0#32
  let v63 : BitVec 1 := Scalar.cmpi .sgt c512_i32_14 c0_i32_17
  let v64 : BitVec 32 := Scalar.extui v63
  let c0_i32_18 : BitVec 32 := 0#32
  let v65 : BitVec 1 := Scalar.cmpi .slt c512_i32_14 c0_i32_18
  let v66 : BitVec 32 := Scalar.extui v65
  let v67 : BitVec 32 := Scalar.subi v64 v66
  let v68 : BitVec 1 := Scalar.cmpi .ne v62 v67
  let v69 : BitVec 32 := Scalar.remsi v56 c512_i32_14
  let c0_i32_19 : BitVec 32 := 0#32
  let v70 : BitVec 1 := Scalar.cmpi .ne v69 c0_i32_19
  let v71 : BitVec 1 := Scalar.andi v68 v70
  let v57 : BitVec 32 := Scalar.divsi v56 c512_i32_14
  let c1_i32_20 : BitVec 32 := 1#32
  let v72 : BitVec 32 := Scalar.subi v57 c1_i32_20
  let v73 : BitVec 32 := Scalar.select v71 v72 v57
  let c1_i32_21 : BitVec 32 := 1#32
  let v74 : BitVec 32 := Scalar.addi arg2 c1_i32_21
  let c512_i32_22 : BitVec 32 := 512#32
  let v75 : BitVec 32 := Scalar.muli v74 c512_i32_22
  let c512_i32_23 : BitVec 32 := 512#32
  let v76 : BitVec 32 := Scalar.addi v75 c512_i32_23
  let c1_i32_24 : BitVec 32 := 1#32
  let v77 : BitVec 32 := Scalar.subi v76 c1_i32_24
  let c0_i32_26 : BitVec 32 := 0#32
  let v79 : BitVec 1 := Scalar.cmpi .sgt v77 c0_i32_26
  let v80 : BitVec 32 := Scalar.extui v79
  let c0_i32_27 : BitVec 32 := 0#32
  let v81 : BitVec 1 := Scalar.cmpi .slt v77 c0_i32_27
  let v82 : BitVec 32 := Scalar.extui v81
  let v83 : BitVec 32 := Scalar.subi v80 v82
  let c512_i32_25 : BitVec 32 := 512#32
  let c0_i32_28 : BitVec 32 := 0#32
  let v84 : BitVec 1 := Scalar.cmpi .sgt c512_i32_25 c0_i32_28
  let v85 : BitVec 32 := Scalar.extui v84
  let c0_i32_29 : BitVec 32 := 0#32
  let v86 : BitVec 1 := Scalar.cmpi .slt c512_i32_25 c0_i32_29
  let v87 : BitVec 32 := Scalar.extui v86
  let v88 : BitVec 32 := Scalar.subi v85 v87
  let v89 : BitVec 1 := Scalar.cmpi .ne v83 v88
  let v90 : BitVec 32 := Scalar.remsi v77 c512_i32_25
  let c0_i32_30 : BitVec 32 := 0#32
  let v91 : BitVec 1 := Scalar.cmpi .ne v90 c0_i32_30
  let v92 : BitVec 1 := Scalar.andi v89 v91
  let v78 : BitVec 32 := Scalar.divsi v77 c512_i32_25
  let c1_i32_31 : BitVec 32 := 1#32
  let v93 : BitVec 32 := Scalar.subi v78 c1_i32_31
  let v94 : BitVec 32 := Scalar.select v92 v93 v78
  let v105 : BitVec 32 := Scalar.subi v94 v73
  let c1_i32_39 : BitVec 32 := 1#32
  let v107 : BitVec 32 := Scalar.divsi v105 c1_i32_39
  let v108 : BitVec 32 := Scalar.muli v107 c1_i32_39
  let v109 : BitVec 32 := Scalar.addi v73 v108
  let c1_i32_40 : BitVec 32 := 1#32
  ⟨v73, v109, c1_i32_40⟩
def k0_mult3 (i : grid0.Coords) (k0_t3 : Fin (k0_t3_loop i).trips) : BitVec 32 :=
  let arg2 : BitVec 32 := BitVec.ofNat 32 (i 2).val
  let c512_i32_13 : BitVec 32 := 512#32
  let v56 : BitVec 32 := Scalar.muli arg2 c512_i32_13
  let c0_i32_15 : BitVec 32 := 0#32
  let v58 : BitVec 1 := Scalar.cmpi .sgt v56 c0_i32_15
  let v59 : BitVec 32 := Scalar.extui v58
  let c0_i32_16 : BitVec 32 := 0#32
  let v60 : BitVec 1 := Scalar.cmpi .slt v56 c0_i32_16
  let v61 : BitVec 32 := Scalar.extui v60
  let v62 : BitVec 32 := Scalar.subi v59 v61
  let c512_i32_14 : BitVec 32 := 512#32
  let c0_i32_17 : BitVec 32 := 0#32
  let v63 : BitVec 1 := Scalar.cmpi .sgt c512_i32_14 c0_i32_17
  let v64 : BitVec 32 := Scalar.extui v63
  let c0_i32_18 : BitVec 32 := 0#32
  let v65 : BitVec 1 := Scalar.cmpi .slt c512_i32_14 c0_i32_18
  let v66 : BitVec 32 := Scalar.extui v65
  let v67 : BitVec 32 := Scalar.subi v64 v66
  let v68 : BitVec 1 := Scalar.cmpi .ne v62 v67
  let v69 : BitVec 32 := Scalar.remsi v56 c512_i32_14
  let c0_i32_19 : BitVec 32 := 0#32
  let v70 : BitVec 1 := Scalar.cmpi .ne v69 c0_i32_19
  let v71 : BitVec 1 := Scalar.andi v68 v70
  let v57 : BitVec 32 := Scalar.divsi v56 c512_i32_14
  let c1_i32_20 : BitVec 32 := 1#32
  let v72 : BitVec 32 := Scalar.subi v57 c1_i32_20
  let v73 : BitVec 32 := Scalar.select v71 v72 v57
  let c1_i32_40 : BitVec 32 := 1#32
  let arg9 : BitVec 32 := Scf.iv v73 c1_i32_40 k0_t3
  let c512_i32_57 : BitVec 32 := 512#32
  let v162 : BitVec 32 := Scalar.muli arg9 c512_i32_57
  v162
def k0_off5 (i : grid0.Coords) (k0_t3 : Fin (k0_t3_loop i).trips) : Fin 2 → Nat :=
  let arg2 : BitVec 32 := BitVec.ofNat 32 (i 2).val
  let c512_i32_13 : BitVec 32 := 512#32
  let v56 : BitVec 32 := Scalar.muli arg2 c512_i32_13
  let c0_i32_15 : BitVec 32 := 0#32
  let v58 : BitVec 1 := Scalar.cmpi .sgt v56 c0_i32_15
  let v59 : BitVec 32 := Scalar.extui v58
  let c0_i32_16 : BitVec 32 := 0#32
  let v60 : BitVec 1 := Scalar.cmpi .slt v56 c0_i32_16
  let v61 : BitVec 32 := Scalar.extui v60
  let v62 : BitVec 32 := Scalar.subi v59 v61
  let c512_i32_14 : BitVec 32 := 512#32
  let c0_i32_17 : BitVec 32 := 0#32
  let v63 : BitVec 1 := Scalar.cmpi .sgt c512_i32_14 c0_i32_17
  let v64 : BitVec 32 := Scalar.extui v63
  let c0_i32_18 : BitVec 32 := 0#32
  let v65 : BitVec 1 := Scalar.cmpi .slt c512_i32_14 c0_i32_18
  let v66 : BitVec 32 := Scalar.extui v65
  let v67 : BitVec 32 := Scalar.subi v64 v66
  let v68 : BitVec 1 := Scalar.cmpi .ne v62 v67
  let v69 : BitVec 32 := Scalar.remsi v56 c512_i32_14
  let c0_i32_19 : BitVec 32 := 0#32
  let v70 : BitVec 1 := Scalar.cmpi .ne v69 c0_i32_19
  let v71 : BitVec 1 := Scalar.andi v68 v70
  let v57 : BitVec 32 := Scalar.divsi v56 c512_i32_14
  let c1_i32_20 : BitVec 32 := 1#32
  let v72 : BitVec 32 := Scalar.subi v57 c1_i32_20
  let v73 : BitVec 32 := Scalar.select v71 v72 v57
  let c1_i32_40 : BitVec 32 := 1#32
  let arg9 : BitVec 32 := Scf.iv v73 c1_i32_40 k0_t3
  let c512_i32_57 : BitVec 32 := 512#32
  let v162 : BitVec 32 := Scalar.muli arg9 c512_i32_57
  let v163 : BitVec 32 := v162
  let v164 : Index := Scalar.indexCast v163
  let c0_58 : Index := 0#32
  ![v164.toNat, 0]
def k0_off6 (i : grid0.Coords) (k0_t3 : Fin (k0_t3_loop i).trips) : Fin 3 → Nat :=
  let arg2 : BitVec 32 := BitVec.ofNat 32 (i 2).val
  let c512_i32_13 : BitVec 32 := 512#32
  let v56 : BitVec 32 := Scalar.muli arg2 c512_i32_13
  let c0_i32_15 : BitVec 32 := 0#32
  let v58 : BitVec 1 := Scalar.cmpi .sgt v56 c0_i32_15
  let v59 : BitVec 32 := Scalar.extui v58
  let c0_i32_16 : BitVec 32 := 0#32
  let v60 : BitVec 1 := Scalar.cmpi .slt v56 c0_i32_16
  let v61 : BitVec 32 := Scalar.extui v60
  let v62 : BitVec 32 := Scalar.subi v59 v61
  let c512_i32_14 : BitVec 32 := 512#32
  let c0_i32_17 : BitVec 32 := 0#32
  let v63 : BitVec 1 := Scalar.cmpi .sgt c512_i32_14 c0_i32_17
  let v64 : BitVec 32 := Scalar.extui v63
  let c0_i32_18 : BitVec 32 := 0#32
  let v65 : BitVec 1 := Scalar.cmpi .slt c512_i32_14 c0_i32_18
  let v66 : BitVec 32 := Scalar.extui v65
  let v67 : BitVec 32 := Scalar.subi v64 v66
  let v68 : BitVec 1 := Scalar.cmpi .ne v62 v67
  let v69 : BitVec 32 := Scalar.remsi v56 c512_i32_14
  let c0_i32_19 : BitVec 32 := 0#32
  let v70 : BitVec 1 := Scalar.cmpi .ne v69 c0_i32_19
  let v71 : BitVec 1 := Scalar.andi v68 v70
  let v57 : BitVec 32 := Scalar.divsi v56 c512_i32_14
  let c1_i32_20 : BitVec 32 := 1#32
  let v72 : BitVec 32 := Scalar.subi v57 c1_i32_20
  let v73 : BitVec 32 := Scalar.select v71 v72 v57
  let c1_i32_40 : BitVec 32 := 1#32
  let arg9 : BitVec 32 := Scf.iv v73 c1_i32_40 k0_t3
  let v172 : Index := Scalar.indexCast arg9
  let c0_61 : Index := 0#32
  let c0_62 : Index := 0#32
  ![v172.toNat, 0, 0]
@[reducible] def k0_t4_loop (i : grid0.Coords) : Scf.Loop 32 :=
  let arg2 : BitVec 32 := BitVec.ofNat 32 (i 2).val
  let c512_i32_13 : BitVec 32 := 512#32
  let v56 : BitVec 32 := Scalar.muli arg2 c512_i32_13
  let c0_i32_15 : BitVec 32 := 0#32
  let v58 : BitVec 1 := Scalar.cmpi .sgt v56 c0_i32_15
  let v59 : BitVec 32 := Scalar.extui v58
  let c0_i32_16 : BitVec 32 := 0#32
  let v60 : BitVec 1 := Scalar.cmpi .slt v56 c0_i32_16
  let v61 : BitVec 32 := Scalar.extui v60
  let v62 : BitVec 32 := Scalar.subi v59 v61
  let c512_i32_14 : BitVec 32 := 512#32
  let c0_i32_17 : BitVec 32 := 0#32
  let v63 : BitVec 1 := Scalar.cmpi .sgt c512_i32_14 c0_i32_17
  let v64 : BitVec 32 := Scalar.extui v63
  let c0_i32_18 : BitVec 32 := 0#32
  let v65 : BitVec 1 := Scalar.cmpi .slt c512_i32_14 c0_i32_18
  let v66 : BitVec 32 := Scalar.extui v65
  let v67 : BitVec 32 := Scalar.subi v64 v66
  let v68 : BitVec 1 := Scalar.cmpi .ne v62 v67
  let v69 : BitVec 32 := Scalar.remsi v56 c512_i32_14
  let c0_i32_19 : BitVec 32 := 0#32
  let v70 : BitVec 1 := Scalar.cmpi .ne v69 c0_i32_19
  let v71 : BitVec 1 := Scalar.andi v68 v70
  let v57 : BitVec 32 := Scalar.divsi v56 c512_i32_14
  let c1_i32_20 : BitVec 32 := 1#32
  let v72 : BitVec 32 := Scalar.subi v57 c1_i32_20
  let v73 : BitVec 32 := Scalar.select v71 v72 v57
  let c1_i32_21 : BitVec 32 := 1#32
  let v74 : BitVec 32 := Scalar.addi arg2 c1_i32_21
  let c512_i32_22 : BitVec 32 := 512#32
  let v75 : BitVec 32 := Scalar.muli v74 c512_i32_22
  let c512_i32_23 : BitVec 32 := 512#32
  let v76 : BitVec 32 := Scalar.addi v75 c512_i32_23
  let c1_i32_24 : BitVec 32 := 1#32
  let v77 : BitVec 32 := Scalar.subi v76 c1_i32_24
  let c0_i32_26 : BitVec 32 := 0#32
  let v79 : BitVec 1 := Scalar.cmpi .sgt v77 c0_i32_26
  let v80 : BitVec 32 := Scalar.extui v79
  let c0_i32_27 : BitVec 32 := 0#32
  let v81 : BitVec 1 := Scalar.cmpi .slt v77 c0_i32_27
  let v82 : BitVec 32 := Scalar.extui v81
  let v83 : BitVec 32 := Scalar.subi v80 v82
  let c512_i32_25 : BitVec 32 := 512#32
  let c0_i32_28 : BitVec 32 := 0#32
  let v84 : BitVec 1 := Scalar.cmpi .sgt c512_i32_25 c0_i32_28
  let v85 : BitVec 32 := Scalar.extui v84
  let c0_i32_29 : BitVec 32 := 0#32
  let v86 : BitVec 1 := Scalar.cmpi .slt c512_i32_25 c0_i32_29
  let v87 : BitVec 32 := Scalar.extui v86
  let v88 : BitVec 32 := Scalar.subi v85 v87
  let v89 : BitVec 1 := Scalar.cmpi .ne v83 v88
  let v90 : BitVec 32 := Scalar.remsi v77 c512_i32_25
  let c0_i32_30 : BitVec 32 := 0#32
  let v91 : BitVec 1 := Scalar.cmpi .ne v90 c0_i32_30
  let v92 : BitVec 1 := Scalar.andi v89 v91
  let v78 : BitVec 32 := Scalar.divsi v77 c512_i32_25
  let c1_i32_31 : BitVec 32 := 1#32
  let v93 : BitVec 32 := Scalar.subi v78 c1_i32_31
  let v94 : BitVec 32 := Scalar.select v92 v93 v78
  let v105 : BitVec 32 := Scalar.subi v94 v73
  let c1_i32_39 : BitVec 32 := 1#32
  let v107 : BitVec 32 := Scalar.divsi v105 c1_i32_39
  let v108 : BitVec 32 := Scalar.muli v107 c1_i32_39
  let v109 : BitVec 32 := Scalar.addi v73 v108
  let v106 : BitVec 32 := Scalar.addi v73 v105
  let c1_i32_41 : BitVec 32 := 1#32
  ⟨v109, v106, c1_i32_41⟩
def k0_mult4 (i : grid0.Coords) (k0_t4 : Fin (k0_t4_loop i).trips) : BitVec 32 :=
  let arg2 : BitVec 32 := BitVec.ofNat 32 (i 2).val
  let c512_i32_13 : BitVec 32 := 512#32
  let v56 : BitVec 32 := Scalar.muli arg2 c512_i32_13
  let c0_i32_15 : BitVec 32 := 0#32
  let v58 : BitVec 1 := Scalar.cmpi .sgt v56 c0_i32_15
  let v59 : BitVec 32 := Scalar.extui v58
  let c0_i32_16 : BitVec 32 := 0#32
  let v60 : BitVec 1 := Scalar.cmpi .slt v56 c0_i32_16
  let v61 : BitVec 32 := Scalar.extui v60
  let v62 : BitVec 32 := Scalar.subi v59 v61
  let c512_i32_14 : BitVec 32 := 512#32
  let c0_i32_17 : BitVec 32 := 0#32
  let v63 : BitVec 1 := Scalar.cmpi .sgt c512_i32_14 c0_i32_17
  let v64 : BitVec 32 := Scalar.extui v63
  let c0_i32_18 : BitVec 32 := 0#32
  let v65 : BitVec 1 := Scalar.cmpi .slt c512_i32_14 c0_i32_18
  let v66 : BitVec 32 := Scalar.extui v65
  let v67 : BitVec 32 := Scalar.subi v64 v66
  let v68 : BitVec 1 := Scalar.cmpi .ne v62 v67
  let v69 : BitVec 32 := Scalar.remsi v56 c512_i32_14
  let c0_i32_19 : BitVec 32 := 0#32
  let v70 : BitVec 1 := Scalar.cmpi .ne v69 c0_i32_19
  let v71 : BitVec 1 := Scalar.andi v68 v70
  let v57 : BitVec 32 := Scalar.divsi v56 c512_i32_14
  let c1_i32_20 : BitVec 32 := 1#32
  let v72 : BitVec 32 := Scalar.subi v57 c1_i32_20
  let v73 : BitVec 32 := Scalar.select v71 v72 v57
  let c1_i32_21 : BitVec 32 := 1#32
  let v74 : BitVec 32 := Scalar.addi arg2 c1_i32_21
  let c512_i32_22 : BitVec 32 := 512#32
  let v75 : BitVec 32 := Scalar.muli v74 c512_i32_22
  let c512_i32_23 : BitVec 32 := 512#32
  let v76 : BitVec 32 := Scalar.addi v75 c512_i32_23
  let c1_i32_24 : BitVec 32 := 1#32
  let v77 : BitVec 32 := Scalar.subi v76 c1_i32_24
  let c0_i32_26 : BitVec 32 := 0#32
  let v79 : BitVec 1 := Scalar.cmpi .sgt v77 c0_i32_26
  let v80 : BitVec 32 := Scalar.extui v79
  let c0_i32_27 : BitVec 32 := 0#32
  let v81 : BitVec 1 := Scalar.cmpi .slt v77 c0_i32_27
  let v82 : BitVec 32 := Scalar.extui v81
  let v83 : BitVec 32 := Scalar.subi v80 v82
  let c512_i32_25 : BitVec 32 := 512#32
  let c0_i32_28 : BitVec 32 := 0#32
  let v84 : BitVec 1 := Scalar.cmpi .sgt c512_i32_25 c0_i32_28
  let v85 : BitVec 32 := Scalar.extui v84
  let c0_i32_29 : BitVec 32 := 0#32
  let v86 : BitVec 1 := Scalar.cmpi .slt c512_i32_25 c0_i32_29
  let v87 : BitVec 32 := Scalar.extui v86
  let v88 : BitVec 32 := Scalar.subi v85 v87
  let v89 : BitVec 1 := Scalar.cmpi .ne v83 v88
  let v90 : BitVec 32 := Scalar.remsi v77 c512_i32_25
  let c0_i32_30 : BitVec 32 := 0#32
  let v91 : BitVec 1 := Scalar.cmpi .ne v90 c0_i32_30
  let v92 : BitVec 1 := Scalar.andi v89 v91
  let v78 : BitVec 32 := Scalar.divsi v77 c512_i32_25
  let c1_i32_31 : BitVec 32 := 1#32
  let v93 : BitVec 32 := Scalar.subi v78 c1_i32_31
  let v94 : BitVec 32 := Scalar.select v92 v93 v78
  let v105 : BitVec 32 := Scalar.subi v94 v73
  let c1_i32_39 : BitVec 32 := 1#32
  let v107 : BitVec 32 := Scalar.divsi v105 c1_i32_39
  let v108 : BitVec 32 := Scalar.muli v107 c1_i32_39
  let v109 : BitVec 32 := Scalar.addi v73 v108
  let c1_i32_41 : BitVec 32 := 1#32
  let arg9 : BitVec 32 := Scf.iv v109 c1_i32_41 k0_t4
  let c512_i32_57 : BitVec 32 := 512#32
  let v162 : BitVec 32 := Scalar.muli arg9 c512_i32_57
  v162
def k0_off7 (i : grid0.Coords) (k0_t4 : Fin (k0_t4_loop i).trips) : Fin 2 → Nat :=
  let arg2 : BitVec 32 := BitVec.ofNat 32 (i 2).val
  let c512_i32_13 : BitVec 32 := 512#32
  let v56 : BitVec 32 := Scalar.muli arg2 c512_i32_13
  let c0_i32_15 : BitVec 32 := 0#32
  let v58 : BitVec 1 := Scalar.cmpi .sgt v56 c0_i32_15
  let v59 : BitVec 32 := Scalar.extui v58
  let c0_i32_16 : BitVec 32 := 0#32
  let v60 : BitVec 1 := Scalar.cmpi .slt v56 c0_i32_16
  let v61 : BitVec 32 := Scalar.extui v60
  let v62 : BitVec 32 := Scalar.subi v59 v61
  let c512_i32_14 : BitVec 32 := 512#32
  let c0_i32_17 : BitVec 32 := 0#32
  let v63 : BitVec 1 := Scalar.cmpi .sgt c512_i32_14 c0_i32_17
  let v64 : BitVec 32 := Scalar.extui v63
  let c0_i32_18 : BitVec 32 := 0#32
  let v65 : BitVec 1 := Scalar.cmpi .slt c512_i32_14 c0_i32_18
  let v66 : BitVec 32 := Scalar.extui v65
  let v67 : BitVec 32 := Scalar.subi v64 v66
  let v68 : BitVec 1 := Scalar.cmpi .ne v62 v67
  let v69 : BitVec 32 := Scalar.remsi v56 c512_i32_14
  let c0_i32_19 : BitVec 32 := 0#32
  let v70 : BitVec 1 := Scalar.cmpi .ne v69 c0_i32_19
  let v71 : BitVec 1 := Scalar.andi v68 v70
  let v57 : BitVec 32 := Scalar.divsi v56 c512_i32_14
  let c1_i32_20 : BitVec 32 := 1#32
  let v72 : BitVec 32 := Scalar.subi v57 c1_i32_20
  let v73 : BitVec 32 := Scalar.select v71 v72 v57
  let c1_i32_21 : BitVec 32 := 1#32
  let v74 : BitVec 32 := Scalar.addi arg2 c1_i32_21
  let c512_i32_22 : BitVec 32 := 512#32
  let v75 : BitVec 32 := Scalar.muli v74 c512_i32_22
  let c512_i32_23 : BitVec 32 := 512#32
  let v76 : BitVec 32 := Scalar.addi v75 c512_i32_23
  let c1_i32_24 : BitVec 32 := 1#32
  let v77 : BitVec 32 := Scalar.subi v76 c1_i32_24
  let c0_i32_26 : BitVec 32 := 0#32
  let v79 : BitVec 1 := Scalar.cmpi .sgt v77 c0_i32_26
  let v80 : BitVec 32 := Scalar.extui v79
  let c0_i32_27 : BitVec 32 := 0#32
  let v81 : BitVec 1 := Scalar.cmpi .slt v77 c0_i32_27
  let v82 : BitVec 32 := Scalar.extui v81
  let v83 : BitVec 32 := Scalar.subi v80 v82
  let c512_i32_25 : BitVec 32 := 512#32
  let c0_i32_28 : BitVec 32 := 0#32
  let v84 : BitVec 1 := Scalar.cmpi .sgt c512_i32_25 c0_i32_28
  let v85 : BitVec 32 := Scalar.extui v84
  let c0_i32_29 : BitVec 32 := 0#32
  let v86 : BitVec 1 := Scalar.cmpi .slt c512_i32_25 c0_i32_29
  let v87 : BitVec 32 := Scalar.extui v86
  let v88 : BitVec 32 := Scalar.subi v85 v87
  let v89 : BitVec 1 := Scalar.cmpi .ne v83 v88
  let v90 : BitVec 32 := Scalar.remsi v77 c512_i32_25
  let c0_i32_30 : BitVec 32 := 0#32
  let v91 : BitVec 1 := Scalar.cmpi .ne v90 c0_i32_30
  let v92 : BitVec 1 := Scalar.andi v89 v91
  let v78 : BitVec 32 := Scalar.divsi v77 c512_i32_25
  let c1_i32_31 : BitVec 32 := 1#32
  let v93 : BitVec 32 := Scalar.subi v78 c1_i32_31
  let v94 : BitVec 32 := Scalar.select v92 v93 v78
  let v105 : BitVec 32 := Scalar.subi v94 v73
  let c1_i32_39 : BitVec 32 := 1#32
  let v107 : BitVec 32 := Scalar.divsi v105 c1_i32_39
  let v108 : BitVec 32 := Scalar.muli v107 c1_i32_39
  let v109 : BitVec 32 := Scalar.addi v73 v108
  let c1_i32_41 : BitVec 32 := 1#32
  let arg9 : BitVec 32 := Scf.iv v109 c1_i32_41 k0_t4
  let c512_i32_57 : BitVec 32 := 512#32
  let v162 : BitVec 32 := Scalar.muli arg9 c512_i32_57
  let v163 : BitVec 32 := v162
  let v164 : Index := Scalar.indexCast v163
  let c0_58 : Index := 0#32
  ![v164.toNat, 0]
def k0_off8 (i : grid0.Coords) (k0_t4 : Fin (k0_t4_loop i).trips) : Fin 3 → Nat :=
  let arg2 : BitVec 32 := BitVec.ofNat 32 (i 2).val
  let c512_i32_13 : BitVec 32 := 512#32
  let v56 : BitVec 32 := Scalar.muli arg2 c512_i32_13
  let c0_i32_15 : BitVec 32 := 0#32
  let v58 : BitVec 1 := Scalar.cmpi .sgt v56 c0_i32_15
  let v59 : BitVec 32 := Scalar.extui v58
  let c0_i32_16 : BitVec 32 := 0#32
  let v60 : BitVec 1 := Scalar.cmpi .slt v56 c0_i32_16
  let v61 : BitVec 32 := Scalar.extui v60
  let v62 : BitVec 32 := Scalar.subi v59 v61
  let c512_i32_14 : BitVec 32 := 512#32
  let c0_i32_17 : BitVec 32 := 0#32
  let v63 : BitVec 1 := Scalar.cmpi .sgt c512_i32_14 c0_i32_17
  let v64 : BitVec 32 := Scalar.extui v63
  let c0_i32_18 : BitVec 32 := 0#32
  let v65 : BitVec 1 := Scalar.cmpi .slt c512_i32_14 c0_i32_18
  let v66 : BitVec 32 := Scalar.extui v65
  let v67 : BitVec 32 := Scalar.subi v64 v66
  let v68 : BitVec 1 := Scalar.cmpi .ne v62 v67
  let v69 : BitVec 32 := Scalar.remsi v56 c512_i32_14
  let c0_i32_19 : BitVec 32 := 0#32
  let v70 : BitVec 1 := Scalar.cmpi .ne v69 c0_i32_19
  let v71 : BitVec 1 := Scalar.andi v68 v70
  let v57 : BitVec 32 := Scalar.divsi v56 c512_i32_14
  let c1_i32_20 : BitVec 32 := 1#32
  let v72 : BitVec 32 := Scalar.subi v57 c1_i32_20
  let v73 : BitVec 32 := Scalar.select v71 v72 v57
  let c1_i32_21 : BitVec 32 := 1#32
  let v74 : BitVec 32 := Scalar.addi arg2 c1_i32_21
  let c512_i32_22 : BitVec 32 := 512#32
  let v75 : BitVec 32 := Scalar.muli v74 c512_i32_22
  let c512_i32_23 : BitVec 32 := 512#32
  let v76 : BitVec 32 := Scalar.addi v75 c512_i32_23
  let c1_i32_24 : BitVec 32 := 1#32
  let v77 : BitVec 32 := Scalar.subi v76 c1_i32_24
  let c0_i32_26 : BitVec 32 := 0#32
  let v79 : BitVec 1 := Scalar.cmpi .sgt v77 c0_i32_26
  let v80 : BitVec 32 := Scalar.extui v79
  let c0_i32_27 : BitVec 32 := 0#32
  let v81 : BitVec 1 := Scalar.cmpi .slt v77 c0_i32_27
  let v82 : BitVec 32 := Scalar.extui v81
  let v83 : BitVec 32 := Scalar.subi v80 v82
  let c512_i32_25 : BitVec 32 := 512#32
  let c0_i32_28 : BitVec 32 := 0#32
  let v84 : BitVec 1 := Scalar.cmpi .sgt c512_i32_25 c0_i32_28
  let v85 : BitVec 32 := Scalar.extui v84
  let c0_i32_29 : BitVec 32 := 0#32
  let v86 : BitVec 1 := Scalar.cmpi .slt c512_i32_25 c0_i32_29
  let v87 : BitVec 32 := Scalar.extui v86
  let v88 : BitVec 32 := Scalar.subi v85 v87
  let v89 : BitVec 1 := Scalar.cmpi .ne v83 v88
  let v90 : BitVec 32 := Scalar.remsi v77 c512_i32_25
  let c0_i32_30 : BitVec 32 := 0#32
  let v91 : BitVec 1 := Scalar.cmpi .ne v90 c0_i32_30
  let v92 : BitVec 1 := Scalar.andi v89 v91
  let v78 : BitVec 32 := Scalar.divsi v77 c512_i32_25
  let c1_i32_31 : BitVec 32 := 1#32
  let v93 : BitVec 32 := Scalar.subi v78 c1_i32_31
  let v94 : BitVec 32 := Scalar.select v92 v93 v78
  let v105 : BitVec 32 := Scalar.subi v94 v73
  let c1_i32_39 : BitVec 32 := 1#32
  let v107 : BitVec 32 := Scalar.divsi v105 c1_i32_39
  let v108 : BitVec 32 := Scalar.muli v107 c1_i32_39
  let v109 : BitVec 32 := Scalar.addi v73 v108
  let c1_i32_41 : BitVec 32 := 1#32
  let arg9 : BitVec 32 := Scf.iv v109 c1_i32_41 k0_t4
  let v172 : Index := Scalar.indexCast arg9
  let c0_61 : Index := 0#32
  let c0_62 : Index := 0#32
  ![v172.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x2048x8x2x64 : Shape := ⟨5, ![8, 2048, 8, 2, 64]⟩
abbrev S8x2048x8x128 : Shape := ⟨4, ![8, 2048, 8, 128]⟩
abbrev S1x4x64 : Shape := ⟨3, ![1, 4, 64]⟩
abbrev S1x128 : Shape := ⟨2, ![1, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S2048 : Shape := ⟨1, ![2048]⟩
abbrev S8x2x8x2048x2048 : Shape := ⟨5, ![8, 2, 8, 2048, 2048]⟩
abbrev S1x2048 : Shape := ⟨2, ![1, 2048]⟩
abbrev S2048x1 : Shape := ⟨2, ![2048, 1]⟩
abbrev S2048x2048 : Shape := ⟨2, ![2048, 2048]⟩
abbrev S8x2x8x2048 : Shape := ⟨4, ![8, 2, 8, 2048]⟩
abbrev S8x2x8x2048x1 : Shape := ⟨5, ![8, 2, 8, 2048, 1]⟩
abbrev S8x1x8x2048x2048 : Shape := ⟨5, ![8, 1, 8, 2048, 2048]⟩
abbrev S8x8x2048x2048 : Shape := ⟨4, ![8, 8, 2048, 2048]⟩
abbrev S8x8x128x2048 : Shape := ⟨4, ![8, 8, 128, 2048]⟩
abbrev S128 : Shape := ⟨1, ![128]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S16384x1024 : Shape := ⟨2, ![16384, 1024]⟩
abbrev S1024x16384 : Shape := ⟨2, ![1024, 16384]⟩

abbrev nBuf : Space → Nat
  | .hbm => 91
  | .vmem => 0
  | .smem => 0
  | _ => 0

abbrev bufTy : (tb : Table) → Fin (tcTables nBuf tb) → BufTy
  | .hbm, ⟨0, _⟩ => ⟨S8x2048x8x2x64, .f32⟩
  | .hbm, ⟨1, _⟩ => ⟨S8x2048x8x2x64, .f32⟩
  | .hbm, ⟨2, _⟩ => ⟨S8x2048x8x128, .f32⟩
  | .hbm, ⟨3, _⟩ => ⟨S1x4x64, .f32⟩
  | .hbm, ⟨4, _⟩ => ⟨S1x128, .f32⟩
  | .hbm, ⟨5, _⟩ => ⟨S4x64, .f32⟩
  | .hbm, ⟨6, _⟩ => ⟨S1x64, .f32⟩
  | .hbm, ⟨7, _⟩ => ⟨S64, .f32⟩
  | .hbm, ⟨8, _⟩ => ⟨S1x64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2048, .i32⟩
  | .hbm, ⟨26, _⟩ => ⟨S8x2x8x2048x2048, .f32⟩
  | .hbm, ⟨27, _⟩ => ⟨S_, .f32⟩
  | .hbm, ⟨28, _⟩ => ⟨S8x2x8x2048x2048, .f32⟩
  | .hbm, ⟨29, _⟩ => ⟨S8x2x8x2048x2048, .f32⟩
  | .hbm, ⟨30, _⟩ => ⟨S1x2048, .i32⟩
  | .hbm, ⟨31, _⟩ => ⟨S2048x1, .i32⟩
  | .hbm, ⟨32, _⟩ => ⟨S2048x2048, .i32⟩
  | .hbm, ⟨33, _⟩ => ⟨S2048x2048, .i32⟩
  | .hbm, ⟨34, _⟩ => ⟨S2048x2048, .i1⟩
  | .hbm, ⟨35, _⟩ => ⟨S_, .f32⟩
  | .hbm, ⟨36, _⟩ => ⟨S_, .f32⟩
  | .hbm, ⟨37, _⟩ => ⟨S8x2x8x2048x2048, .i1⟩
  | .hbm, ⟨38, _⟩ => ⟨S8x2x8x2048x2048, .f32⟩
  | .hbm, ⟨39, _⟩ => ⟨S8x2x8x2048x2048, .f32⟩
  | .hbm, ⟨40, _⟩ => ⟨S_, .f32⟩
  | .hbm, ⟨41, _⟩ => ⟨S8x2x8x2048, .f32⟩
  | .hbm, ⟨42, _⟩ => ⟨S8x2x8x2048x1, .f32⟩
  | .hbm, ⟨43, _⟩ => ⟨S8x2x8x2048x2048, .f32⟩
  | .hbm, ⟨44, _⟩ => ⟨S8x2x8x2048x2048, .f32⟩
  | .hbm, ⟨45, _⟩ => ⟨S8x2x8x2048x2048, .f32⟩
  | .hbm, ⟨46, _⟩ => ⟨S_, .f32⟩
  | .hbm, ⟨47, _⟩ => ⟨S_, .f32⟩
  | .hbm, ⟨48, _⟩ => ⟨S8x2x8x2048x2048, .i1⟩
  | .hbm, ⟨49, _⟩ => ⟨S8x2x8x2048x2048, .f32⟩
  | .hbm, ⟨50, _⟩ => ⟨S8x2x8x2048x2048, .f32⟩
  | .hbm, ⟨51, _⟩ => ⟨S_, .f32⟩
  | .hbm, ⟨52, _⟩ => ⟨S8x2x8x2048, .f32⟩
  | .hbm, ⟨53, _⟩ => ⟨S8x2x8x2048x1, .f32⟩
  | .hbm, ⟨54, _⟩ => ⟨S_, .f32⟩
  | .hbm, ⟨55, _⟩ => ⟨S8x2x8x2048x1, .f32⟩
  | .hbm, ⟨56, _⟩ => ⟨S8x2x8x2048x1, .f32⟩
  | .hbm, ⟨57, _⟩ => ⟨S8x2x8x2048x2048, .f32⟩
  | .hbm, ⟨58, _⟩ => ⟨S8x2x8x2048x2048, .f32⟩
  | .hbm, ⟨59, _⟩ => ⟨S8x1x8x2048x2048, .f32⟩
  | .hbm, ⟨60, _⟩ => ⟨S8x8x2048x2048, .f32⟩
  | .hbm, ⟨61, _⟩ => ⟨S8x1x8x2048x2048, .f32⟩
  | .hbm, ⟨62, _⟩ => ⟨S8x8x2048x2048, .f32⟩
  | .hbm, ⟨63, _⟩ => ⟨S8x8x2048x2048, .f32⟩
  | .hbm, ⟨64, _⟩ => ⟨S8x8x2048x2048, .f32⟩
  | .hbm, ⟨65, _⟩ => ⟨S8x8x2048x2048, .f32⟩
  | .hbm, ⟨66, _⟩ => ⟨S8x8x128x2048, .f32⟩
  | .hbm, ⟨67, _⟩ => ⟨S8x2048x8x128, .f32⟩
  | .hbm, ⟨68, _⟩ => ⟨S128, .f32⟩
  | .hbm, ⟨69, _⟩ => ⟨S8x2048x8x128, .f32⟩
  | .hbm, ⟨70, _⟩ => ⟨S_, .f32⟩
  | .hbm, ⟨71, _⟩ => ⟨S8x2048x8, .f32⟩
  | .hbm, ⟨72, _⟩ => ⟨S8x2048x8x1, .f32⟩
  | .hbm, ⟨73, _⟩ => ⟨S_, .f32⟩
  | .hbm, ⟨74, _⟩ => ⟨S8x2048x8x1, .f32⟩
  | .hbm, ⟨75, _⟩ => ⟨S8x2048x8x1, .f32⟩
  | .hbm, ⟨76, _⟩ => ⟨S_, .f32⟩
  | .hbm, ⟨77, _⟩ => ⟨S8x2048x8x1, .f32⟩
  | .hbm, ⟨78, _⟩ => ⟨S8x2048x8x1, .f32⟩
  | .hbm, ⟨79, _⟩ => ⟨S8x2048x8x1, .f32⟩
  | .hbm, ⟨80, _⟩ => ⟨S8x2048x8x128, .f32⟩
  | .hbm, ⟨81, _⟩ => ⟨S8x2048x8x128, .f32⟩
  | .hbm, ⟨82, _⟩ => ⟨S1x1x1x128, .f32⟩
  | .hbm, ⟨83, _⟩ => ⟨S8x2048x8x128, .f32⟩
  | .hbm, ⟨84, _⟩ => ⟨S8x2048x8x128, .f32⟩
  | .hbm, ⟨85, _⟩ => ⟨S_, .f32⟩
  | .hbm, ⟨86, _⟩ => ⟨S8x2048x8x128, .f32⟩
  | .hbm, ⟨87, _⟩ => ⟨S8x2048x8x128, .f32⟩
  | .hbm, ⟨88, _⟩ => ⟨S16384x1024, .f32⟩
  | .hbm, ⟨89, _⟩ => ⟨S1024x16384, .f32⟩
  | .hbm, ⟨90, _⟩ => ⟨S1024x16384, .bf16⟩
  | _, _ => ⟨S8x2048x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Kernel2.lean ====
abbrev S8x2048x1024 : Shape := ⟨3, ![8, 2048, 1024]⟩
abbrev S2x1024 : Shape := ⟨2, ![2, 1024]⟩
abbrev S1x1024x3072 : Shape := ⟨3, ![1, 1024, 3072]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S2048x56 : Shape := ⟨2, ![2048, 56]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16384x1024 : Shape := ⟨2, ![16384, 1024]⟩
abbrev S1x1024 : Shape := ⟨2, ![1, 1024]⟩
abbrev S1024 : Shape := ⟨1, ![1024]⟩
abbrev S1024x3072 : Shape := ⟨2, ![1024, 3072]⟩
abbrev S1024x16384 : Shape := ⟨2, ![1024, 16384]⟩
abbrev S16384x2048 : Shape := ⟨2, ![16384, 2048]⟩
abbrev S32x1024x512 : Shape := ⟨3, ![32, 1024, 512]⟩
abbrev S512x1024 : Shape := ⟨2, ![512, 1024]⟩
abbrev S512x128 : Shape := ⟨2, ![512, 128]⟩
abbrev S1024x512 : Shape := ⟨2, ![1024, 512]⟩
abbrev S512x2048 : Shape := ⟨2, ![512, 2048]⟩
abbrev S1x1024x512 : Shape := ⟨3, ![1, 1024, 512]⟩
abbrev S512 : Shape := ⟨1, ![512]⟩
abbrev S512x1 : Shape := ⟨2, ![512, 1]⟩
abbrev S512x3072 : Shape := ⟨2, ![512, 3072]⟩

abbrev nBuf : Space → Nat
  | .hbm => 51
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x3072, .f32⟩
  | .hbm, ⟨3, _⟩ => ⟨S2048, .i32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S2048, .f32⟩
  | .hbm, ⟨13, _⟩ => ⟨S2048x1, .f32⟩
  | .hbm, ⟨14, _⟩ => ⟨S1x8, .f32⟩
  | .hbm, ⟨15, _⟩ => ⟨S2048x8, .f32⟩
  | .hbm, ⟨16, _⟩ => ⟨S2048x8, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S_, .f32⟩
  | .hbm, ⟨21, _⟩ => ⟨S2048x48, .f32⟩
  | .hbm, ⟨22, _⟩ => ⟨S2048x64, .f32⟩
  | .hbm, ⟨23, _⟩ => ⟨S2048x8, .f32⟩
  | .hbm, ⟨24, _⟩ => ⟨S_, .f32⟩
  | .hbm, ⟨25, _⟩ => ⟨S2048x56, .f32⟩
  | .hbm, ⟨26, _⟩ => ⟨S2048x64, .f32⟩
  | .hbm, ⟨27, _⟩ => ⟨S_, .f32⟩
  | .hbm, ⟨28, _⟩ => ⟨S2048x8, .f32⟩
  | .hbm, ⟨29, _⟩ => ⟨S_, .f32⟩
  | .hbm, ⟨30, _⟩ => ⟨S2048x48, .f32⟩
  | .hbm, ⟨31, _⟩ => ⟨S2048x64, .f32⟩
  | .hbm, ⟨32, _⟩ => ⟨S1x2048x1x64, .f32⟩
  | .hbm, ⟨33, _⟩ => ⟨S1x2048x2x64, .f32⟩
  | .hbm, ⟨34, _⟩ => ⟨S2048x128, .f32⟩
  | .hbm, ⟨35, _⟩ => ⟨S1x2048x1x64, .f32⟩
  | .hbm, ⟨36, _⟩ => ⟨S1x2048x2x64, .f32⟩
  | .hbm, ⟨37, _⟩ => ⟨S2048x128, .f32⟩
  | .hbm, ⟨38, _⟩ => ⟨S1x2048x1x64, .f32⟩
  | .hbm, ⟨39, _⟩ => ⟨S1x2048x2x64, .f32⟩
  | .hbm, ⟨40, _⟩ => ⟨S2048x128, .f32⟩
  | .hbm, ⟨41, _⟩ => ⟨S16384x1024, .f32⟩
  | .hbm, ⟨42, _⟩ => ⟨S1x1024, .f32⟩
  | .hbm, ⟨43, _⟩ => ⟨S1024, .f32⟩
  | .hbm, ⟨44, _⟩ => ⟨S1024x3072, .f32⟩
  | .hbm, ⟨45, _⟩ => ⟨S1024x3072, .bf16⟩
  | .hbm, ⟨46, _⟩ => ⟨S1x1024, .f32⟩
  | .hbm, ⟨47, _⟩ => ⟨S1024x16384, .bf16⟩
  | .hbm, ⟨48, _⟩ => ⟨S16384x2048, .f32⟩
  | .hbm, ⟨49, _⟩ => ⟨S16384x1024, .bf16⟩
  | .hbm, ⟨50, _⟩ => ⟨S32x1024x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1024x512, .bf16⟩
  | .local _ .vmem, ⟨11, _⟩ => ⟨S1024x512, .bf16⟩
  | .local _ .vmem, ⟨12, _⟩ => ⟨S512x2048, .f32⟩
  | .local _ .vmem, ⟨13, _⟩ => ⟨S512x2048, .f32⟩
  | .local _ .vmem, ⟨14, _⟩ => ⟨S512x1024, .bf16⟩
  | .local _ .vmem, ⟨15, _⟩ => ⟨S512x1024, .bf16⟩
  | .local _ .vmem, ⟨16, _⟩ => ⟨S1x1024x512, .bf16⟩
  | .local _ .vmem, ⟨17, _⟩ => ⟨S1x1024x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38_0 : Ref sig .tc := ⟨.hbm, 47, rfl⟩
abbrev main_v38_1 : Ref sig .tc := ⟨.hbm, 48, rfl⟩
abbrev main_v38_2 : Ref sig .tc := ⟨.hbm, 49, rfl⟩
abbrev main_v38_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8x2048x1024 : Shape := ⟨3, ![8, 2048, 1024]⟩
abbrev S2x1024 : Shape := ⟨2, ![2, 1024]⟩
abbrev S1x1024x3072 : Shape := ⟨3, ![1, 1024, 3072]⟩
abbrev S2048 : Shape := ⟨1, ![2048]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3072 : Shape := ⟨2, ![1024, 3072]⟩
abbrev S8x2048x3072 : Shape := ⟨3, ![8, 2048, 3072]⟩
abbrev S8x2048x16x64 : Shape := ⟨4, ![8, 2048, 16, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S8x2048x16x8 : Shape := ⟨4, ![8, 2048, 16, 8]⟩
abbrev S8x2048x16x48 : Shape := ⟨4, ![8, 2048, 16, 48]⟩
abbrev S1x2048x1x8 : Shape := ⟨4, ![1, 2048, 1, 8]⟩
abbrev S16384x1024 : Shape := ⟨2, ![16384, 1024]⟩
abbrev S1024x16384 : Shape := ⟨2, ![1024, 16384]⟩
abbrev S16384x2048 : Shape := ⟨2, ![16384, 2048]⟩
abbrev S32x512x1024 : Shape := ⟨3, ![32, 512, 1024]⟩
abbrev S32x1024x512 : Shape := ⟨3, ![32, 1024, 512]⟩

abbrev nBuf : Space → Nat
  | .hbm => 114
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x3072, .f32⟩
  | .hbm, ⟨3, _⟩ => ⟨S2048, .i32⟩
  | .hbm, ⟨4, _⟩ => ⟨S1x1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x3072, .f32⟩
  | .hbm, ⟨23, _⟩ => ⟨S8x2048x3072, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x16x64, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S2048, .f32⟩
  | .hbm, ⟨37, _⟩ => ⟨S2048x1, .f32⟩
  | .hbm, ⟨38, _⟩ => ⟨S1x8, .f32⟩
  | .hbm, ⟨39, _⟩ => ⟨S2048x8, .f32⟩
  | .hbm, ⟨40, _⟩ => ⟨S2048x8, .f32⟩
  | .hbm, ⟨41, _⟩ => ⟨S2048x8, .f32⟩
  | .hbm, ⟨42, _⟩ => ⟨S2048x8, .f32⟩
  | .hbm, ⟨43, _⟩ => ⟨S2048x1x8, .f32⟩
  | .hbm, ⟨44, _⟩ => ⟨S2048x8, .f32⟩
  | .hbm, ⟨45, _⟩ => ⟨S2048x1x8, .f32⟩
  | .hbm, ⟨46, _⟩ => ⟨S8x2048x16x8, .f32⟩
  | .hbm, ⟨47, _⟩ => ⟨S8x2048x16x8, .f32⟩
  | .hbm, ⟨48, _⟩ => ⟨S8x2048x16x48, .f32⟩
  | .hbm, ⟨49, _⟩ => ⟨S1x2048x1x8, .f32⟩
  | .hbm, ⟨50, _⟩ => ⟨S8x2048x16x8, .f32⟩
  | .hbm, ⟨51, _⟩ => ⟨S8x2048x16x8, .f32⟩
  | .hbm, ⟨52, _⟩ => ⟨S1x2048x1x8, .f32⟩
  | .hbm, ⟨53, _⟩ => ⟨S8x2048x16x8, .f32⟩
  | .hbm, ⟨54, _⟩ => ⟨S8x2048x16x8, .f32⟩
  | .hbm, ⟨55, _⟩ => ⟨S8x2048x16x8, .f32⟩
  | .hbm, ⟨56, _⟩ => ⟨S1x2048x1x8, .f32⟩
  | .hbm, ⟨57, _⟩ => ⟨S8x2048x16x8, .f32⟩
  | .hbm, ⟨58, _⟩ => ⟨S8x2048x16x8, .f32⟩
  | .hbm, ⟨59, _⟩ => ⟨S1x2048x1x8, .f32⟩
  | .hbm, ⟨60, _⟩ => ⟨S8x2048x16x8, .f32⟩
  | .hbm, ⟨61, _⟩ => ⟨S8x2048x16x8, .f32⟩
  | .hbm, ⟨62, _⟩ => ⟨S8x2048x16x8, .f32⟩
  | .hbm, ⟨63, _⟩ => ⟨S8x2048x16x64, .f32⟩
  | .hbm, ⟨64, _⟩ => ⟨S16384x1024, .f32⟩
  | .hbm, ⟨65, _⟩ => ⟨S8x2048x16x64, .f32⟩
  | .hbm, ⟨66, _⟩ => ⟨S8, .f32⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S2048, .f32⟩
  | .hbm, ⟨75, _⟩ => ⟨S2048x1, .f32⟩
  | .hbm, ⟨76, _⟩ => ⟨S1x8, .f32⟩
  | .hbm, ⟨77, _⟩ => ⟨S2048x8, .f32⟩
  | .hbm, ⟨78, _⟩ => ⟨S2048x8, .f32⟩
  | .hbm, ⟨79, _⟩ => ⟨S2048x8, .f32⟩
  | .hbm, ⟨80, _⟩ => ⟨S2048x8, .f32⟩
  | .hbm, ⟨81, _⟩ => ⟨S2048x1x8, .f32⟩
  | .hbm, ⟨82, _⟩ => ⟨S2048x8, .f32⟩
  | .hbm, ⟨83, _⟩ => ⟨S2048x1x8, .f32⟩
  | .hbm, ⟨84, _⟩ => ⟨S8x2048x16x8, .f32⟩
  | .hbm, ⟨85, _⟩ => ⟨S8x2048x16x8, .f32⟩
  | .hbm, ⟨86, _⟩ => ⟨S8x2048x16x48, .f32⟩
  | .hbm, ⟨87, _⟩ => ⟨S1x2048x1x8, .f32⟩
  | .hbm, ⟨88, _⟩ => ⟨S8x2048x16x8, .f32⟩
  | .hbm, ⟨89, _⟩ => ⟨S8x2048x16x8, .f32⟩
  | .hbm, ⟨90, _⟩ => ⟨S1x2048x1x8, .f32⟩
  | .hbm, ⟨91, _⟩ => ⟨S8x2048x16x8, .f32⟩
  | .hbm, ⟨92, _⟩ => ⟨S8x2048x16x8, .f32⟩
  | .hbm, ⟨93, _⟩ => ⟨S8x2048x16x8, .f32⟩
  | .hbm, ⟨94, _⟩ => ⟨S1x2048x1x8, .f32⟩
  | .hbm, ⟨95, _⟩ => ⟨S8x2048x16x8, .f32⟩
  | .hbm, ⟨96, _⟩ => ⟨S8x2048x16x8, .f32⟩
  | .hbm, ⟨97, _⟩ => ⟨S1x2048x1x8, .f32⟩
  | .hbm, ⟨98, _⟩ => ⟨S8x2048x16x8, .f32⟩
  | .hbm, ⟨99, _⟩ => ⟨S8x2048x16x8, .f32⟩
  | .hbm, ⟨100, _⟩ => ⟨S8x2048x16x8, .f32⟩
  | .hbm, ⟨101, _⟩ => ⟨S8x2048x16x64, .f32⟩
  | .hbm, ⟨102, _⟩ => ⟨S16384x1024, .f32⟩
  | .hbm, ⟨103, _⟩ => ⟨S16384x1024, .f32⟩
  | .hbm, ⟨104, _⟩ => ⟨S_, .f32⟩
  | .hbm, ⟨105, _⟩ => ⟨S16384x1024, .f32⟩
  | .hbm, ⟨106, _⟩ => ⟨S16384x1024, .f32⟩
  | .hbm, ⟨107, _⟩ => ⟨S1024x16384, .f32⟩
  | .hbm, ⟨108, _⟩ => ⟨S1024x16384, .bf16⟩
  | .hbm, ⟨109, _⟩ => ⟨S16384x2048, .f32⟩
  | .hbm, ⟨110, _⟩ => ⟨S16384x1024, .bf16⟩
  | .hbm, ⟨111, _⟩ => ⟨S32x512x1024, .f32⟩
  | .hbm, ⟨112, _⟩ => ⟨S32x1024x512, .f32⟩
  | .hbm, ⟨113, _⟩ => ⟨S32x1024x512, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_4 : Ref sig .tc := ⟨.hbm, 68, rfl⟩
abbrev main_v60 : Ref sig .tc := ⟨.hbm, 69, rfl⟩
abbrev main_v61 : Ref sig .tc := ⟨.hbm, 70, rfl⟩
abbrev main_cst_5 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_cst_6 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x8x128 : Shape := ⟨4, ![8, 2048, 8, 128]⟩
abbrev S1x1024x1024 : Shape := ⟨3, ![1, 1024, 1024]⟩
abbrev S16384x1024 : Shape := ⟨2, ![16384, 1024]⟩
abbrev S1024x16384 : Shape := ⟨2, ![1024, 16384]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 10
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S8x2048x8x128, .f32⟩
  | .hbm, ⟨2, _⟩ => ⟨S1x1024x1024, .f32⟩
  | .hbm, ⟨3, _⟩ => ⟨S16384x1024, .f32⟩
  | .hbm, ⟨4, _⟩ => ⟨S1024x16384, .f32⟩
  | .hbm, ⟨5, _⟩ => ⟨S1024x16384, .bf16⟩
  | .hbm, ⟨6, _⟩ => ⟨S16384x1024, .f32⟩
  | .hbm, ⟨7, _⟩ => ⟨S1024x1024, .f32⟩
  | .hbm, ⟨8, _⟩ => ⟨S1024x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8x2048x1024 : Shape := ⟨3, ![8, 2048, 1024]⟩
abbrev S8x2048x8x128 : Shape := ⟨4, ![8, 2048, 8, 128]⟩
abbrev S1x1024x1024 : Shape := ⟨3, ![1, 1024, 1024]⟩
abbrev S1024x1024 : Shape := ⟨2, ![1024, 1024]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x8x128, .f32⟩
  | .hbm, ⟨2, _⟩ => ⟨S1x1024x1024, .f32⟩
  | .hbm, ⟨3, _⟩ => ⟨S8x2048x1024, .f32⟩
  | .hbm, ⟨4, _⟩ => ⟨S1024x1024, .f32⟩
  | .hbm, ⟨5, _⟩ => ⟨S8x2048x1024, .f32⟩
  | .hbm, ⟨6, _⟩ => ⟨S8x2048x1024, .f32⟩
  | .hbm, ⟨7, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8x2048x1024 : Shape := ⟨3, ![8, 2048, 1024]⟩
abbrev S2x1024 : Shape := ⟨2, ![2, 1024]⟩
abbrev S1x1024x2608 : Shape := ⟨3, ![1, 1024, 2608]⟩
abbrev S1024x2608 : Shape := ⟨2, ![1024, 2608]⟩
abbrev S1024x2560 : Shape := ⟨2, ![1024, 2560]⟩
abbrev S1024x48 : Shape := ⟨2, ![1024, 48]⟩
abbrev S_ : Shape := ⟨0, ![]⟩
abbrev S1024x128 : Shape := ⟨2, ![1024, 128]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S2048x56 : Shape := ⟨2, ![2048, 56]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16384x1024 : Shape := ⟨2, ![16384, 1024]⟩
abbrev S1x1024 : Shape := ⟨2, ![1, 1024]⟩
abbrev S1024 : Shape := ⟨1, ![1024]⟩
abbrev S1024x16384 : Shape := ⟨2, ![1024, 16384]⟩
abbrev S16384x512 : Shape := ⟨2, ![16384, 512]⟩
abbrev S4x16384x64 : Shape := ⟨3, ![4, 16384, 64]⟩
abbrev S64x256x256 : Shape := ⟨3, ![64, 256, 256]⟩
abbrev S128x16384 : Shape := ⟨2, ![128, 16384]⟩
abbrev S512x1024 : Shape := ⟨2, ![512, 1024]⟩
abbrev S512x128 : Shape := ⟨2, ![512, 128]⟩
abbrev S1024x512 : Shape := ⟨2, ![1024, 512]⟩
abbrev S512x512 : Shape := ⟨2, ![512, 512]⟩
abbrev S4x512x64 : Shape := ⟨3, ![4, 512, 64]⟩
abbrev S2x256x256 : Shape := ⟨3, ![2, 256, 256]⟩
abbrev S128x512 : Shape := ⟨2, ![128, 512]⟩
abbrev S512 : Shape := ⟨1, ![512]⟩
abbrev S512x1 : Shape := ⟨2, ![512, 1]⟩
abbrev S512x2560 : Shape := ⟨2, ![512, 2560]⟩
abbrev S512x256 : Shape := ⟨2, ![512, 256]⟩
abbrev S512x64 : Shape := ⟨2, ![512, 64]⟩
abbrev S1x512x64 : Shape := ⟨3, ![1, 512, 64]⟩
abbrev S256x512 : Shape := ⟨2, ![256, 512]⟩
abbrev S256x256 : Shape := ⟨2, ![256, 256]⟩
abbrev S1x256x256 : Shape := ⟨3, ![1, 256, 256]⟩

abbrev nBuf : Space → Nat
  | .hbm => 64
  | .vmem => 31
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2608, .f32⟩
  | .hbm, ⟨3, _⟩ => ⟨S1024x2608, .f32⟩
  | .hbm, ⟨4, _⟩ => ⟨S1024x2560, .f32⟩
  | .hbm, ⟨5, _⟩ => ⟨S1024x2560, .bf16⟩
  | .hbm, ⟨6, _⟩ => ⟨S1024x2608, .f32⟩
  | .hbm, ⟨7, _⟩ => ⟨S1024x48, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S2048, .i32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S2048, .f32⟩
  | .hbm, ⟨22, _⟩ => ⟨S2048x1, .f32⟩
  | .hbm, ⟨23, _⟩ => ⟨S1x8, .f32⟩
  | .hbm, ⟨24, _⟩ => ⟨S2048x8, .f32⟩
  | .hbm, ⟨25, _⟩ => ⟨S2048x8, .f32⟩
  | .hbm, ⟨26, _⟩ => ⟨S2048x8, .f32⟩
  | .hbm, ⟨27, _⟩ => ⟨S2048x8, .f32⟩
  | .hbm, ⟨28, _⟩ => ⟨S2048x8, .f32⟩
  | .hbm, ⟨29, _⟩ => ⟨S_, .f32⟩
  | .hbm, ⟨30, _⟩ => ⟨S2048x48, .f32⟩
  | .hbm, ⟨31, _⟩ => ⟨S2048x64, .f32⟩
  | .hbm, ⟨32, _⟩ => ⟨S2048x8, .f32⟩
  | .hbm, ⟨33, _⟩ => ⟨S_, .f32⟩
  | .hbm, ⟨34, _⟩ => ⟨S2048x56, .f32⟩
  | .hbm, ⟨35, _⟩ => ⟨S2048x64, .f32⟩
  | .hbm, ⟨36, _⟩ => ⟨S_, .f32⟩
  | .hbm, ⟨37, _⟩ => ⟨S2048x8, .f32⟩
  | .hbm, ⟨38, _⟩ => ⟨S_, .f32⟩
  | .hbm, ⟨39, _⟩ => ⟨S2048x48, .f32⟩
  | .hbm, ⟨40, _⟩ => ⟨S2048x64, .f32⟩
  | .hbm, ⟨41, _⟩ => ⟨S1x2048x1x64, .f32⟩
  | .hbm, ⟨42, _⟩ => ⟨S1x2048x2x64, .f32⟩
  | .hbm, ⟨43, _⟩ => ⟨S2048x128, .f32⟩
  | .hbm, ⟨44, _⟩ => ⟨S1x2048x1x64, .f32⟩
  | .hbm, ⟨45, _⟩ => ⟨S1x2048x2x64, .f32⟩
  | .hbm, ⟨46, _⟩ => ⟨S2048x128, .f32⟩
  | .hbm, ⟨47, _⟩ => ⟨S1x2048x1x64, .f32⟩
  | .hbm, ⟨48, _⟩ => ⟨S1x2048x2x64, .f32⟩
  | .hbm, ⟨49, _⟩ => ⟨S2048x128, .f32⟩
  | .hbm, ⟨50, _⟩ => ⟨S16384x1024, .f32⟩
  | .hbm, ⟨51, _⟩ => ⟨S1x1024, .f32⟩
  | .hbm, ⟨52, _⟩ => ⟨S1024, .f32⟩
  | .hbm, ⟨53, _⟩ => ⟨S1x1024, .f32⟩
  | .hbm, ⟨54, _⟩ => ⟨S1024x16384, .bf16⟩
  | .hbm, ⟨55, _⟩ => ⟨S1024x16384, .bf16⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S4x16384x64, .bf16⟩
  | .hbm, ⟨60, _⟩ => ⟨S64x256x256, .bf16⟩
  | .hbm, ⟨61, _⟩ => ⟨S4x16384x64, .bf16⟩
  | .hbm, ⟨62, _⟩ => ⟨S64x256x256, .bf16⟩
  | .hbm, ⟨63, _⟩ => ⟨S128x16384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1024x128, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S4x512x64, .bf16⟩
  | .local _ .vmem, ⟨22, _⟩ => ⟨S4x512x64, .bf16⟩
  | .local _ .vmem, ⟨23, _⟩ => ⟨S2x256x256, .bf16⟩
  | .local _ .vmem, ⟨24, _⟩ => ⟨S2x256x256, .bf16⟩
  | .local _ .vmem, ⟨25, _⟩ => ⟨S4x512x64, .bf16⟩
  | .local _ .vmem, ⟨26, _⟩ => ⟨S4x512x64, .bf16⟩
  | .local _ .vmem, ⟨27, _⟩ => ⟨S2x256x256, .bf16⟩
  | .local _ .vmem, ⟨28, _⟩ => ⟨S2x256x256, .bf16⟩
  | .local _ .vmem, ⟨29, _⟩ => ⟨S128x512, .f32⟩
  | .local _ .vmem, ⟨30, _⟩ => ⟨S128x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43_0 : Ref sig .tc := ⟨.hbm, 54, rfl⟩
abbrev main_v43_1 : Ref sig .tc := ⟨.hbm, 55, rfl⟩
abbrev main_v43_2 : Ref sig .tc := ⟨.hbm, 56, rfl⟩
abbrev main_v43_3 : Ref sig .tc := ⟨.hbm, 57, rfl⟩
abbrev main_v43_4 : Ref sig .tc := ⟨.hbm, 58, rfl⟩
abbrev main_v43_5 : Ref sig .tc := ⟨.hbm, 59, rfl⟩
abbrev main_v43_6 : Ref sig .tc := ⟨.hbm, 60, rfl⟩
abbrev main_v43_7 : Ref sig .tc := ⟨.hbm, 61, rfl⟩
abbrev main_v43_8 : Ref sig .tc := ⟨.hbm, 62, rfl⟩
abbrev main_v43_9 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S8x2048x1024 : Shape := ⟨3, ![8, 2048, 1024]⟩
abbrev S2x1024 : Shape := ⟨2, ![2, 1024]⟩
abbrev S1x1024x2608 : Shape := ⟨3, ![1, 1024, 2608]⟩
abbrev S2048 : Shape := ⟨1, ![2048]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2608 : Shape := ⟨2, ![1024, 2608]⟩
abbrev S8x2048x2608 : Shape := ⟨3, ![8, 2048, 2608]⟩
abbrev S8x2048x512 : Shape := ⟨3, ![8, 2048, 512]⟩
abbrev S8x2048x48 : Shape := ⟨3, ![8, 2048, 48]⟩
abbrev S8x2048x256 : Shape := ⟨3, ![8, 2048, 256]⟩
abbrev S8x2048x4x64 : Shape := ⟨4, ![8, 2048, 4, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S8x2048x4x8 : Shape := ⟨4, ![8, 2048, 4, 8]⟩
abbrev S8x2048x4x48 : Shape := ⟨4, ![8, 2048, 4, 48]⟩
abbrev S1x2048x1x8 : Shape := ⟨4, ![1, 2048, 1, 8]⟩
abbrev S16384x256 : Shape := ⟨2, ![16384, 256]⟩
abbrev S16384x4x64 : Shape := ⟨3, ![16384, 4, 64]⟩
abbrev S4x16384x64 : Shape := ⟨3, ![4, 16384, 64]⟩
abbrev S64x256x256 : Shape := ⟨3, ![64, 256, 256]⟩
abbrev S16384x512 : Shape := ⟨2, ![16384, 512]⟩
abbrev S16384x48 : Shape := ⟨2, ![16384, 48]⟩
abbrev S48x16384 : Shape := ⟨2, ![48, 16384]⟩
abbrev S80x16384 : Shape := ⟨2, ![80, 16384]⟩
abbrev S16384x1024 : Shape := ⟨2, ![16384, 1024]⟩
abbrev S1024x16384 : Shape := ⟨2, ![1024, 16384]⟩
abbrev S8x2048x16x64 : Shape := ⟨4, ![8, 2048, 16, 64]⟩
abbrev S8x2048x16x8 : Shape := ⟨4, ![8, 2048, 16, 8]⟩
abbrev S8x2048x16x48 : Shape := ⟨4, ![8, 2048, 16, 48]⟩
abbrev S128x16384 : Shape := ⟨2, ![128, 16384]⟩

abbrev nBuf : Space → Nat
  | .hbm => 188
  | .vmem => 0
  | .smem => 0
  | _ => 0

abbrev hbmTy0_0 (i : Nat) : BufTy := match i % 128 with
  | 0 => ⟨S8x2048x1024, .f32⟩
  | 1 => ⟨S2x1024, .f32⟩
  | 2 => ⟨S1x1024x2608, .f32⟩
  | 3 => ⟨S2048, .i32⟩
  | 4 => ⟨S1x1024, .f32⟩
  | 5 => ⟨S1024, .f32⟩
  | 6 => ⟨S8x2048x1024, .f32⟩
  | 7 => ⟨S_, .f32⟩
  | 8 => ⟨S8x2048, .f32⟩
  | 9 => ⟨S8x2048x1, .f32⟩
  | 10 => ⟨S_, .f32⟩
  | 11 => ⟨S8x2048x1, .f32⟩
  | 12 => ⟨S8x2048x1, .f32⟩
  | 13 => ⟨S_, .f32⟩
  | 14 => ⟨S8x2048x1, .f32⟩
  | 15 => ⟨S8x2048x1, .f32⟩
  | 16 => ⟨S8x2048x1, .f32⟩
  | 17 => ⟨S8x2048x1024, .f32⟩
  | 18 => ⟨S8x2048x1024, .f32⟩
  | 19 => ⟨S1x1x1024, .f32⟩
  | 20 => ⟨S8x2048x1024, .f32⟩
  | 21 => ⟨S8x2048x1024, .f32⟩
  | 22 => ⟨S1024x2608, .f32⟩
  | 23 => ⟨S8x2048x2608, .f32⟩
  | 24 => ⟨S8x2048x1024, .f32⟩
  | 25 => ⟨S8x2048x512, .f32⟩
  | 26 => ⟨S8x2048x512, .f32⟩
  | 27 => ⟨S8x2048x512, .f32⟩
  | 28 => ⟨S8x2048x48, .f32⟩
  | 29 => ⟨S8x2048x256, .f32⟩
  | 30 => ⟨S8x2048x4x64, .f32⟩
  | 31 => ⟨S8, .f32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S2048, .f32⟩
  | 40 => ⟨S2048x1, .f32⟩
  | 41 => ⟨S1x8, .f32⟩
  | 42 => ⟨S2048x8, .f32⟩
  | 43 => ⟨S2048x8, .f32⟩
  | 44 => ⟨S2048x8, .f32⟩
  | 45 => ⟨S2048x8, .f32⟩
  | 46 => ⟨S2048x1x8, .f32⟩
  | 47 => ⟨S2048x8, .f32⟩
  | 48 => ⟨S2048x1x8, .f32⟩
  | 49 => ⟨S8x2048x4x8, .f32⟩
  | 50 => ⟨S8x2048x4x8, .f32⟩
  | 51 => ⟨S8x2048x4x48, .f32⟩
  | 52 => ⟨S1x2048x1x8, .f32⟩
  | 53 => ⟨S8x2048x4x8, .f32⟩
  | 54 => ⟨S8x2048x4x8, .f32⟩
  | 55 => ⟨S1x2048x1x8, .f32⟩
  | 56 => ⟨S8x2048x4x8, .f32⟩
  | 57 => ⟨S8x2048x4x8, .f32⟩
  | 58 => ⟨S8x2048x4x8, .f32⟩
  | 59 => ⟨S1x2048x1x8, .f32⟩
  | 60 => ⟨S8x2048x4x8, .f32⟩
  | 61 => ⟨S8x2048x4x8, .f32⟩
  | 62 => ⟨S1x2048x1x8, .f32⟩
  | 63 => ⟨S8x2048x4x8, .f32⟩
  | 64 => ⟨S8x2048x4x8, .f32⟩
  | 65 => ⟨S8x2048x4x8, .f32⟩
  | 66 => ⟨S8x2048x4x64, .f32⟩
  | 67 => ⟨S16384x256, .f32⟩
  | 68 => ⟨S8x2048x256, .f32⟩
  | 69 => ⟨S16384x256, .f32⟩
  | 70 => ⟨S16384x4x64, .f32⟩
  | 71 => ⟨S4x16384x64, .f32⟩
  | 72 => ⟨S4x16384x64, .bf16⟩
  | 73 => ⟨S64x256x256, .f32⟩
  | 74 => ⟨S64x256x256, .f32⟩
  | 75 => ⟨S64x256x256, .bf16⟩
  | 76 => ⟨S16384x512, .f32⟩
  | 77 => ⟨S8x2048x256, .f32⟩
  | 78 => ⟨S8x2048x4x64, .f32⟩
  | 79 => ⟨S8, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S2048, .f32⟩
  | 88 => ⟨S2048x1, .f32⟩
  | 89 => ⟨S1x8, .f32⟩
  | 90 => ⟨S2048x8, .f32⟩
  | 91 => ⟨S2048x8, .f32⟩
  | 92 => ⟨S2048x8, .f32⟩
  | 93 => ⟨S2048x8, .f32⟩
  | 94 => ⟨S2048x1x8, .f32⟩
  | 95 => ⟨S2048x8, .f32⟩
  | 96 => ⟨S2048x1x8, .f32⟩
  | 97 => ⟨S8x2048x4x8, .f32⟩
  | 98 => ⟨S8x2048x4x8, .f32⟩
  | 99 => ⟨S8x2048x4x48, .f32⟩
  | 100 => ⟨S1x2048x1x8, .f32⟩
  | 101 => ⟨S8x2048x4x8, .f32⟩
  | 102 => ⟨S8x2048x4x8, .f32⟩
  | 103 => ⟨S1x2048x1x8, .f32⟩
  | 104 => ⟨S8x2048x4x8, .f32⟩
  | 105 => ⟨S8x2048x4x8, .f32⟩
  | 106 => ⟨S8x2048x4x8, .f32⟩
  | 107 => ⟨S1x2048x1x8, .f32⟩
  | 108 => ⟨S8x2048x4x8, .f32⟩
  | 109 => ⟨S8x2048x4x8, .f32⟩
  | 110 => ⟨S1x2048x1x8, .f32⟩
  | 111 => ⟨S8x2048x4x8, .f32⟩
  | 112 => ⟨S8x2048x4x8, .f32⟩
  | 113 => ⟨S8x2048x4x8, .f32⟩
  | 114 => ⟨S8x2048x4x64, .f32⟩
  | 115 => ⟨S16384x256, .f32⟩
  | 116 => ⟨S8x2048x256, .f32⟩
  | 117 => ⟨S16384x256, .f32⟩
  | 118 => ⟨S16384x4x64, .f32⟩
  | 119 => ⟨S4x16384x64, .f32⟩
  | 120 => ⟨S4x16384x64, .bf16⟩
  | 121 => ⟨S64x256x256, .f32⟩
  | 122 => ⟨S64x256x256, .f32⟩
  | 123 => ⟨S64x256x256, .bf16⟩
  | 124 => ⟨S16384x512, .f32⟩
  | 125 => ⟨S8x2048x48, .f32⟩
  | 126 => ⟨S8x2048x48, .f32⟩
  | 127 => ⟨S_, .f32⟩
  | _ => ⟨S8x2048x1024, .f32⟩

abbrev hbmTy0_1 (i : Nat) : BufTy := match i % 128 with
  | 0 => ⟨S8x2048x48, .f32⟩
  | 1 => ⟨S8x2048x48, .f32⟩
  | 2 => ⟨S_, .f32⟩
  | 3 => ⟨S8x2048x48, .f32⟩
  | 4 => ⟨S8x2048x48, .f32⟩
  | 5 => ⟨S16384x48, .f32⟩
  | 6 => ⟨S48x16384, .f32⟩
  | 7 => ⟨S_, .f32⟩
  | 8 => ⟨S80x16384, .f32⟩
  | 9 => ⟨S16384x1024, .f32⟩
  | 10 => ⟨S_, .f32⟩
  | 11 => ⟨S16384x1024, .f32⟩
  | 12 => ⟨S16384x1024, .f32⟩
  | 13 => ⟨S1024x16384, .f32⟩
  | 14 => ⟨S1024x16384, .bf16⟩
  | 15 => ⟨S8x2048x16x64, .f32⟩
  | 16 => ⟨S8, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S8, .f32⟩
  | 24 => ⟨S2048, .f32⟩
  | 25 => ⟨S2048x1, .f32⟩
  | 26 => ⟨S1x8, .f32⟩
  | 27 => ⟨S2048x8, .f32⟩
  | 28 => ⟨S2048x8, .f32⟩
  | 29 => ⟨S2048x8, .f32⟩
  | 30 => ⟨S2048x8, .f32⟩
  | 31 => ⟨S2048x1x8, .f32⟩
  | 32 => ⟨S2048x8, .f32⟩
  | 33 => ⟨S2048x1x8, .f32⟩
  | 34 => ⟨S8x2048x16x8, .f32⟩
  | 35 => ⟨S8x2048x16x8, .f32⟩
  | 36 => ⟨S8x2048x16x48, .f32⟩
  | 37 => ⟨S1x2048x1x8, .f32⟩
  | 38 => ⟨S8x2048x16x8, .f32⟩
  | 39 => ⟨S8x2048x16x8, .f32⟩
  | 40 => ⟨S1x2048x1x8, .f32⟩
  | 41 => ⟨S8x2048x16x8, .f32⟩
  | 42 => ⟨S8x2048x16x8, .f32⟩
  | 43 => ⟨S8x2048x16x8, .f32⟩
  | 44 => ⟨S1x2048x1x8, .f32⟩
  | 45 => ⟨S8x2048x16x8, .f32⟩
  | 46 => ⟨S8x2048x16x8, .f32⟩
  | 47 => ⟨S1x2048x1x8, .f32⟩
  | 48 => ⟨S8x2048x16x8, .f32⟩
  | 49 => ⟨S8x2048x16x8, .f32⟩
  | 50 => ⟨S8x2048x16x8, .f32⟩
  | 51 => ⟨S8x2048x16x64, .f32⟩
  | 52 => ⟨S16384x1024, .f32⟩
  | 53 => ⟨S_, .f32⟩
  | 54 => ⟨S16384x1024, .f32⟩
  | 55 => ⟨S16384x1024, .f32⟩
  | 56 => ⟨S1024x16384, .f32⟩
  | 57 => ⟨S1024x16384, .bf16⟩
  | 58 => ⟨S16384x512, .f32⟩
  | 59 => ⟨S128x16384, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_cst_4 : Ref sig .tc := ⟨.hbm, 81, rfl⟩
abbrev main_v73 : Ref sig .tc := ⟨.hbm, 82, rfl⟩
abbrev main_v74 : Ref sig .tc := ⟨.hbm, 83, rfl⟩
abbrev main_cst_5 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_cst_6 : Ref sig .tc := ⟨.hbm, 127, rfl⟩
abbrev main_v117 : Ref sig .tc := ⟨.hbm, 128, rfl⟩
abbrev main_v118 : Ref sig .tc := ⟨.hbm, 129, rfl⟩
abbrev main_cst_7 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_cst_8 : Ref sig .tc := ⟨.hbm, 135, rfl⟩
abbrev main_v123 : Ref sig .tc := ⟨.hbm, 136, rfl⟩
abbrev main_v124 : Ref sig .tc := ⟨.hbm, 137, rfl⟩
abbrev main_cst_9 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_cst_10 : Ref sig .tc := ⟨.hbm, 146, rfl⟩
abbrev main_v132 : Ref sig .tc := ⟨.hbm, 147, rfl⟩
abbrev main_v133 : Ref sig .tc := ⟨.hbm, 148, rfl⟩
abbrev main_cst_11 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_cst_12 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩

abbrev nD : Nat := 1
abbrev τ : Topo := Topo.v7x

variable {F : FTy → Type} [FloatOps F]
-- ==== Kernel5.lean ====
abbrev S8x2048x1024 : Shape := ⟨3, ![8, 2048, 1024]⟩
abbrev S8x2048x4x4x64 : Shape := ⟨5, ![8, 2048, 4, 4, 64]⟩
abbrev S128x16384 : Shape := ⟨2, ![128, 16384]⟩
abbrev S1x1024x1024 : Shape := ⟨3, ![1, 1024, 1024]⟩
abbrev S16384x1024 : Shape := ⟨2, ![16384, 1024]⟩
abbrev S1024x16384 : Shape := ⟨2, ![1024, 16384]⟩
abbrev S1024x1024 : Shape := ⟨2, ![1024, 1024]⟩
abbrev S512x1024 : Shape := ⟨2, ![512, 1024]⟩
abbrev S1024x512 : Shape := ⟨2, ![1024, 512]⟩
abbrev S128x512 : Shape := ⟨2, ![128, 512]⟩
abbrev S1x512 : Shape := ⟨2, ![1, 512]⟩
abbrev S64x512 : Shape := ⟨2, ![64, 512]⟩

abbrev nBuf : Space → Nat
  | .hbm => 19
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x2048x4x4x64, .f32⟩
  | .hbm, ⟨2, _⟩ => ⟨S8x2048x4x4x64, .f32⟩
  | .hbm, ⟨3, _⟩ => ⟨S8x2048x4x4x64, .f32⟩
  | .hbm, ⟨4, _⟩ => ⟨S128x16384, .f32⟩
  | .hbm, ⟨5, _⟩ => ⟨S1x1024x1024, .f32⟩
  | .hbm, ⟨6, _⟩ => ⟨S16384x1024, .f32⟩
  | .hbm, ⟨7, _⟩ => ⟨S16384x1024, .f32⟩
  | .hbm, ⟨8, _⟩ => ⟨S1024x16384, .f32⟩
  | .hbm, ⟨9, _⟩ => ⟨S1024x16384, .bf16⟩
  | .hbm, ⟨10, _⟩ => ⟨S16384x1024, .f32⟩
  | .hbm, ⟨11, _⟩ => ⟨S1024x16384, .f32⟩
  | .hbm, ⟨12, _⟩ => ⟨S1024x16384, .bf16⟩
  | .hbm, ⟨13, _⟩ => ⟨S16384x1024, .f32⟩
  | .hbm, ⟨14, _⟩ => ⟨S1024x16384, .f32⟩
  | .hbm, ⟨15, _⟩ => ⟨S1024x16384, .bf16⟩
  | .hbm, ⟨16, _⟩ => ⟨S1024x1024, .f32⟩
  | .hbm, ⟨17, _⟩ => ⟨S1024x1024, .bf16⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S128x512, .f32⟩
  | .local _ .vmem, ⟨9, _⟩ => ⟨S128x512, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S1024x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S8x2048x1024 : Shape := ⟨3, ![8, 2048, 1024]⟩
abbrev S8x2048x4x4x64 : Shape := ⟨5, ![8, 2048, 4, 4, 64]⟩
abbrev S128x16384 : Shape := ⟨2, ![128, 16384]⟩
abbrev S1x1024x1024 : Shape := ⟨3, ![1, 1024, 1024]⟩
abbrev S48x16384 : Shape := ⟨2, ![48, 16384]⟩
abbrev S16384x48 : Shape := ⟨2, ![16384, 48]⟩
abbrev S8x2048x4x4x3 : Shape := ⟨5, ![8, 2048, 4, 4, 3]⟩
abbrev S8x2048x4x4x1 : Shape := ⟨5, ![8, 2048, 4, 4, 1]⟩
abbrev S1024x1024 : Shape := ⟨2, ![1024, 1024]⟩
abbrev S16384x1024 : Shape := ⟨2, ![16384, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x4x4x64, .f32⟩
  | .hbm, ⟨2, _⟩ => ⟨S8x2048x4x4x64, .f32⟩
  | .hbm, ⟨3, _⟩ => ⟨S8x2048x4x4x64, .f32⟩
  | .hbm, ⟨4, _⟩ => ⟨S128x16384, .f32⟩
  | .hbm, ⟨5, _⟩ => ⟨S1x1024x1024, .f32⟩
  | .hbm, ⟨6, _⟩ => ⟨S48x16384, .f32⟩
  | .hbm, ⟨7, _⟩ => ⟨S16384x48, .f32⟩
  | .hbm, ⟨8, _⟩ => ⟨S8x2048x4x4x3, .f32⟩
  | .hbm, ⟨9, _⟩ => ⟨S8x2048x4x4x1, .f32⟩
  | .hbm, ⟨10, _⟩ => ⟨S8x2048x4x4x64, .f32⟩
  | .hbm, ⟨11, _⟩ => ⟨S8x2048x4x4x64, .f32⟩
  | .hbm, ⟨12, _⟩ => ⟨S8x2048x4x4x1, .f32⟩
  | .hbm, ⟨13, _⟩ => ⟨S8x2048x4x4x64, .f32⟩
  | .hbm, ⟨14, _⟩ => ⟨S8x2048x4x4x64, .f32⟩
  | .hbm, ⟨15, _⟩ => ⟨S8x2048x4x4x64, .f32⟩
  | .hbm, ⟨16, _⟩ => ⟨S8x2048x4x4x1, .f32⟩
  | .hbm, ⟨17, _⟩ => ⟨S8x2048x4x4x64, .f32⟩
  | .hbm, ⟨18, _⟩ => ⟨S8x2048x4x4x64, .f32⟩
  | .hbm, ⟨19, _⟩ => ⟨S8x2048x4x4x64, .f32⟩
  | .hbm, ⟨20, _⟩ => ⟨S8x2048x1024, .f32⟩
  | .hbm, ⟨21, _⟩ => ⟨S1024x1024, .f32⟩
  | .hbm, ⟨22, _⟩ => ⟨S8x2048x1024, .f32⟩
  | .hbm, ⟨23, _⟩ => ⟨S8x2048x1024, .f32⟩
  | .hbm, ⟨24, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel6.lean ====
abbrev S8x2048x1024 : Shape := ⟨3, ![8, 2048, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8x2048x1024 : Shape := ⟨3, ![8, 2048, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x2048x1024, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S_, .f32⟩
  | .hbm, ⟨7, _⟩ => ⟨S8x2048x1, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x1, .f32⟩
  | .hbm, ⟨13, _⟩ => ⟨S8x2048x1024, .f32⟩
  | .hbm, ⟨14, _⟩ => ⟨S8x2048x1024, .f32⟩
  | .hbm, ⟨15, _⟩ => ⟨S1x1x1024, .f32⟩
  | .hbm, ⟨16, _⟩ => ⟨S8x2048x1024, .f32⟩
  | .hbm, ⟨17, _⟩ => ⟨S8x2048x1024, .f32⟩
  | .hbm, ⟨18, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel7.lean ====
abbrev S8x2048x4x4x64 : Shape := ⟨5, ![8, 2048, 4, 4, 64]⟩
abbrev S8x2048x2x4x64 : Shape := ⟨5, ![8, 2048, 2, 4, 64]⟩
abbrev S4x128x16384 : Shape := ⟨3, ![4, 128, 16384]⟩
abbrev S16384x1024 : Shape := ⟨2, ![16384, 1024]⟩
abbrev S_ : Shape := ⟨0, ![]⟩
abbrev S1024x16384 : Shape := ⟨2, ![1024, 16384]⟩
abbrev S8x2048x1x4x64 : Shape := ⟨5, ![8, 2048, 1, 4, 64]⟩
abbrev S8x2048x4x64 : Shape := ⟨4, ![8, 2048, 4, 64]⟩
abbrev S16384x4x64 : Shape := ⟨3, ![16384, 4, 64]⟩
abbrev S4x16384x64 : Shape := ⟨3, ![4, 16384, 64]⟩
abbrev S64x256x256 : Shape := ⟨3, ![64, 256, 256]⟩
abbrev S256x256 : Shape := ⟨2, ![256, 256]⟩
abbrev S1x2048x64 : Shape := ⟨3, ![1, 2048, 64]⟩
abbrev S8x64x256 : Shape := ⟨3, ![8, 64, 256]⟩
abbrev S1x128x256 : Shape := ⟨3, ![1, 128, 256]⟩
abbrev S64x256 : Shape := ⟨2, ![64, 256]⟩
abbrev S64x1024 : Shape := ⟨2, ![64, 1024]⟩
abbrev S128x256 : Shape := ⟨2, ![128, 256]⟩
abbrev S512x128 : Shape := ⟨2, ![512, 128]⟩
abbrev S1x1024 : Shape := ⟨2, ![1, 1024]⟩
abbrev S1x512x64 : Shape := ⟨3, ![1, 512, 64]⟩
abbrev S512x64 : Shape := ⟨2, ![512, 64]⟩
abbrev S512x1024 : Shape := ⟨2, ![512, 1024]⟩
abbrev S512x256 : Shape := ⟨2, ![512, 256]⟩
abbrev S1x64x256 : Shape := ⟨3, ![1, 64, 256]⟩
abbrev S64x512 : Shape := ⟨2, ![64, 512]⟩
abbrev S1024 : Shape := ⟨1, ![1024]⟩
abbrev S1x256x64 : Shape := ⟨3, ![1, 256, 64]⟩
abbrev S256x64 : Shape := ⟨2, ![256, 64]⟩
abbrev S256x1024 : Shape := ⟨2, ![256, 1024]⟩

abbrev nBuf : Space → Nat
  | .hbm => 32
  | .vmem => 16
  | .smem => 0
  | _ => 0

abbrev bufTy : (tb : Table) → Fin (tcTables nBuf tb) → BufTy
  | .hbm, ⟨0, _⟩ => ⟨S8x2048x4x4x64, .f32⟩
  | .hbm, ⟨1, _⟩ => ⟨S8x2048x2x4x64, .f32⟩
  | .hbm, ⟨2, _⟩ => ⟨S8x2048x2x4x64, .f32⟩
  | .hbm, ⟨3, _⟩ => ⟨S4x128x16384, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S1024x16384, .f32⟩
  | .hbm, ⟨9, _⟩ => ⟨S1024x16384, .bf16⟩
  | .hbm, ⟨10, _⟩ => ⟨S8x2048x1x4x64, .f32⟩
  | .hbm, ⟨11, _⟩ => ⟨S8x2048x4x64, .f32⟩
  | .hbm, ⟨12, _⟩ => ⟨S16384x4x64, .f32⟩
  | .hbm, ⟨13, _⟩ => ⟨S4x16384x64, .f32⟩
  | .hbm, ⟨14, _⟩ => ⟨S4x16384x64, .bf16⟩
  | .hbm, ⟨15, _⟩ => ⟨S8x2048x1x4x64, .f32⟩
  | .hbm, ⟨16, _⟩ => ⟨S8x2048x4x64, .f32⟩
  | .hbm, ⟨17, _⟩ => ⟨S64x256x256, .f32⟩
  | .hbm, ⟨18, _⟩ => ⟨S64x256x256, .f32⟩
  | .hbm, ⟨19, _⟩ => ⟨S64x256x256, .bf16⟩
  | .hbm, ⟨20, _⟩ => ⟨S8x2048x1x4x64, .f32⟩
  | .hbm, ⟨21, _⟩ => ⟨S8x2048x4x64, .f32⟩
  | .hbm, ⟨22, _⟩ => ⟨S16384x4x64, .f32⟩
  | .hbm, ⟨23, _⟩ => ⟨S4x16384x64, .f32⟩
  | .hbm, ⟨24, _⟩ => ⟨S4x16384x64, .bf16⟩
  | .hbm, ⟨25, _⟩ => ⟨S8x2048x1x4x64, .f32⟩
  | .hbm, ⟨26, _⟩ => ⟨S8x2048x4x64, .f32⟩
  | .hbm, ⟨27, _⟩ => ⟨S64x256x256, .f32⟩
  | .hbm, ⟨28, _⟩ => ⟨S64x256x256, .f32⟩
  | .hbm, ⟨29, _⟩ => ⟨S64x256x256, .bf16⟩
  | .hbm, ⟨30, _⟩ => ⟨S1024x16384, .bf16⟩
  | .hbm, ⟨31, _⟩ => ⟨S1024x16384, .bf16⟩
  | .local _ .vmem, ⟨0, _⟩ => ⟨S256x256, .bf16⟩
  | .local _ .vmem, ⟨1, _⟩ => ⟨S256x256, .bf16⟩
  | .local _ .vmem, ⟨2, _⟩ => ⟨S1x2048x64, .bf16⟩
  | .local _ .vmem, ⟨3, _⟩ => ⟨S1x2048x64, .bf16⟩
  | .local _ .vmem, ⟨4, _⟩ => ⟨S8x64x256, .bf16⟩
  | .local _ .vmem, ⟨5, _⟩ => ⟨S8x64x256, .bf16⟩
  | .local _ .vmem, ⟨6, _⟩ => ⟨S1x2048x64, .bf16⟩
  | .local _ .vmem, ⟨7, _⟩ => ⟨S1x2048x64, .bf16⟩
  | .local _ .vmem, ⟨8, _⟩ => ⟨S8x64x256, .bf16⟩
  | .local _ .vmem, ⟨9, _⟩ => ⟨S8x64x256, .bf16⟩
  | .local _ .vmem, ⟨10, _⟩ => ⟨S1x128x256, .f32⟩
  | .local _ .vmem, ⟨11, _⟩ => ⟨S1x128x256, .f32⟩
  | .local _ .vmem, ⟨12, _⟩ => ⟨S256x256, .bf16⟩
  | .local _ .vmem, ⟨13, _⟩ => ⟨S256x256, .bf16⟩
  | .local _ .vmem, ⟨14, _⟩ => ⟨S256x256, .bf16⟩
  | .local _ .vmem, ⟨15, _⟩ => ⟨S256x256, .bf16⟩
  | _, _ => ⟨S8x2048x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25_0 : Ref sig .tc := ⟨.hbm, 30, rfl⟩
abbrev main_v25_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 4, 8], ![false, false, false]⟩

@[reducible] def k0_t1_loop (i : grid0.Coords) : Scf.Loop 32 :=
  let c0_i32_30 : BitVec 32 := 0#32
  let arg2 : BitVec 32 := BitVec.ofNat 32 (i 2).val
  let c256_i32 : BitVec 32 := 256#32
  let v41 : BitVec 32 := Scalar.muli arg2 c256_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c512_i32 : BitVec 32 := 512#32
  let c0_i32_15 : BitVec 32 := 0#32
  let v48 : BitVec 1 := Scalar.cmpi .sgt c512_i32 c0_i32_15
  let v49 : BitVec 32 := Scalar.extui v48
  let c0_i32_16 : BitVec 32 := 0#32
  let v50 : BitVec 1 := Scalar.cmpi .slt c512_i32 c0_i32_16
  let v51 : BitVec 32 := Scalar.extui v50
  let v52 : BitVec 32 := Scalar.subi v49 v51
  let v53 : BitVec 1 := Scalar.cmpi .ne v47 v52
  let v54 : BitVec 32 := Scalar.remsi v41 c512_i32
  let c0_i32_17 : BitVec 32 := 0#32
  let v55 : BitVec 1 := Scalar.cmpi .ne v54 c0_i32_17
  let v56 : BitVec 1 := Scalar.andi v53 v55
  let v42 : BitVec 32 := Scalar.divsi v41 c512_i32
  let c1_i32_18 : BitVec 32 := 1#32
  let v57 : BitVec 32 := Scalar.subi v42 c1_i32_18
  let v58 : BitVec 32 := Scalar.select v56 v57 v42
  let v80 : BitVec 32 := Scalar.subi v58 c0_i32_30
  let c1_i32_31 : BitVec 32 := 1#32
  let v82 : BitVec 32 := Scalar.divsi v80 c1_i32_31
  let v83 : BitVec 32 := Scalar.muli v82 c1_i32_31
  let v84 : BitVec 32 := Scalar.addi c0_i32_30 v83
  let c1_i32_32 : BitVec 32 := 1#32
  ⟨c0_i32_30, v84, c1_i32_32⟩
def k0_mult1 (i : grid0.Coords) (k0_t1 : Fin (k0_t1_loop i).trips) : BitVec 32 :=
  let c0_i32_30 : BitVec 32 := 0#32
  let c1_i32_32 : BitVec 32 := 1#32
  let arg11 : BitVec 32 := Scf.iv c0_i32_30 c1_i32_32 k0_t1
  let c512_i32_80 : BitVec 32 := 512#32
  let v172 : BitVec 32 := Scalar.muli arg11 c512_i32_80
  v172
def k0_off1 (i : grid0.Coords) (k0_t1 : Fin (k0_t1_loop i).trips) : Fin 3 → Nat :=
  let c0_81 : Index := 0#32
  let c0_i32_30 : BitVec 32 := 0#32
  let c1_i32_32 : BitVec 32 := 1#32
  let arg11 : BitVec 32 := Scf.iv c0_i32_30 c1_i32_32 k0_t1
  let c512_i32_80 : BitVec 32 := 512#32
  let v172 : BitVec 32 := Scalar.muli arg11 c512_i32_80
  let v173 : BitVec 32 := v172
  let v174 : Index := Scalar.indexCast v173
  let c0_82 : Index := 0#32
  ![0, v174.toNat, 0]
def k0_off2 (i : grid0.Coords) (k0_t1 : Fin (k0_t1_loop i).trips) (c0_i32_88 : BitVec 32) : Fin 3 → Nat :=
  let c0_i32_30 : BitVec 32 := 0#32
  let c1_i32_32 : BitVec 32 := 1#32
  let arg11 : BitVec 32 := Scf.iv c0_i32_30 c1_i32_32 k0_t1
  let c2_i32 : BitVec 32 := 2#32
  let v190 : BitVec 32 := Scalar.muli arg11 c2_i32
  let v191 : BitVec 32 := Scalar.addi v190 c0_i32_88
  let v192 : Index := Scalar.indexCast v191
  let c0_89 : Index := 0#32
  let c0_90 : Index := 0#32
  ![v192.toNat, 0, 0]
@[reducible] def k0_t2_loop (i : grid0.Coords) : Scf.Loop 32 :=
  let c0_i32_30 : BitVec 32 := 0#32
  let arg2 : BitVec 32 := BitVec.ofNat 32 (i 2).val
  let c256_i32 : BitVec 32 := 256#32
  let v41 : BitVec 32 := Scalar.muli arg2 c256_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c512_i32 : BitVec 32 := 512#32
  let c0_i32_15 : BitVec 32 := 0#32
  let v48 : BitVec 1 := Scalar.cmpi .sgt c512_i32 c0_i32_15
  let v49 : BitVec 32 := Scalar.extui v48
  let c0_i32_16 : BitVec 32 := 0#32
  let v50 : BitVec 1 := Scalar.cmpi .slt c512_i32 c0_i32_16
  let v51 : BitVec 32 := Scalar.extui v50
  let v52 : BitVec 32 := Scalar.subi v49 v51
  let v53 : BitVec 1 := Scalar.cmpi .ne v47 v52
  let v54 : BitVec 32 := Scalar.remsi v41 c512_i32
  let c0_i32_17 : BitVec 32 := 0#32
  let v55 : BitVec 1 := Scalar.cmpi .ne v54 c0_i32_17
  let v56 : BitVec 1 := Scalar.andi v53 v55
  let v42 : BitVec 32 := Scalar.divsi v41 c512_i32
  let c1_i32_18 : BitVec 32 := 1#32
  let v57 : BitVec 32 := Scalar.subi v42 c1_i32_18
  let v58 : BitVec 32 := Scalar.select v56 v57 v42
  let v80 : BitVec 32 := Scalar.subi v58 c0_i32_30
  let c1_i32_31 : BitVec 32 := 1#32
  let v82 : BitVec 32 := Scalar.divsi v80 c1_i32_31
  let v83 : BitVec 32 := Scalar.muli v82 c1_i32_31
  let v84 : BitVec 32 := Scalar.addi c0_i32_30 v83
  let v81 : BitVec 32 := Scalar.addi c0_i32_30 v80
  let c1_i32_33 : BitVec 32 := 1#32
  ⟨v84, v81, c1_i32_33⟩
def k0_mult2 (i : grid0.Coords) (k0_t2 : Fin (k0_t2_loop i).trips) : BitVec 32 :=
  let c0_i32_30 : BitVec 32 := 0#32
  let arg2 : BitVec 32 := BitVec.ofNat 32 (i 2).val
  let c256_i32 : BitVec 32 := 256#32
  let v41 : BitVec 32 := Scalar.muli arg2 c256_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c512_i32 : BitVec 32 := 512#32
  let c0_i32_15 : BitVec 32 := 0#32
  let v48 : BitVec 1 := Scalar.cmpi .sgt c512_i32 c0_i32_15
  let v49 : BitVec 32 := Scalar.extui v48
  let c0_i32_16 : BitVec 32 := 0#32
  let v50 : BitVec 1 := Scalar.cmpi .slt c512_i32 c0_i32_16
  let v51 : BitVec 32 := Scalar.extui v50
  let v52 : BitVec 32 := Scalar.subi v49 v51
  let v53 : BitVec 1 := Scalar.cmpi .ne v47 v52
  let v54 : BitVec 32 := Scalar.remsi v41 c512_i32
  let c0_i32_17 : BitVec 32 := 0#32
  let v55 : BitVec 1 := Scalar.cmpi .ne v54 c0_i32_17
  let v56 : BitVec 1 := Scalar.andi v53 v55
  let v42 : BitVec 32 := Scalar.divsi v41 c512_i32
  let c1_i32_18 : BitVec 32 := 1#32
  let v57 : BitVec 32 := Scalar.subi v42 c1_i32_18
  let v58 : BitVec 32 := Scalar.select v56 v57 v42
  let v80 : BitVec 32 := Scalar.subi v58 c0_i32_30
  let c1_i32_31 : BitVec 32 := 1#32
  let v82 : BitVec 32 := Scalar.divsi v80 c1_i32_31
  let v83 : BitVec 32 := Scalar.muli v82 c1_i32_31
  let v84 : BitVec 32 := Scalar.addi c0_i32_30 v83
  let c1_i32_33 : BitVec 32 := 1#32
  let arg11 : BitVec 32 := Scf.iv v84 c1_i32_33 k0_t2
  let c512_i32_80 : BitVec 32 := 512#32
  let v172 : BitVec 32 := Scalar.muli arg11 c512_i32_80
  v172
def k0_off3 (i : grid0.Coords) (k0_t2 : Fin (k0_t2_loop i).trips) : Fin 3 → Nat :=
  let c0_81 : Index := 0#32
  let c0_i32_30 : BitVec 32 := 0#32
  let arg2 : BitVec 32 := BitVec.ofNat 32 (i 2).val
  let c256_i32 : BitVec 32 := 256#32
  let v41 : BitVec 32 := Scalar.muli arg2 c256_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c512_i32 : BitVec 32 := 512#32
  let c0_i32_15 : BitVec 32 := 0#32
  let v48 : BitVec 1 := Scalar.cmpi .sgt c512_i32 c0_i32_15
  let v49 : BitVec 32 := Scalar.extui v48
  let c0_i32_16 : BitVec 32 := 0#32
  let v50 : BitVec 1 := Scalar.cmpi .slt c512_i32 c0_i32_16
  let v51 : BitVec 32 := Scalar.extui v50
  let v52 : BitVec 32 := Scalar.subi v49 v51
  let v53 : BitVec 1 := Scalar.cmpi .ne v47 v52
  let v54 : BitVec 32 := Scalar.remsi v41 c512_i32
  let c0_i32_17 : BitVec 32 := 0#32
  let v55 : BitVec 1 := Scalar.cmpi .ne v54 c0_i32_17
  let v56 : BitVec 1 := Scalar.andi v53 v55
  let v42 : BitVec 32 := Scalar.divsi v41 c512_i32
  let c1_i32_18 : BitVec 32 := 1#32
  let v57 : BitVec 32 := Scalar.subi v42 c1_i32_18
  let v58 : BitVec 32 := Scalar.select v56 v57 v42
  let v80 : BitVec 32 := Scalar.subi v58 c0_i32_30
  let c1_i32_31 : BitVec 32 := 1#32
  let v82 : BitVec 32 := Scalar.divsi v80 c1_i32_31
  let v83 : BitVec 32 := Scalar.muli v82 c1_i32_31
  let v84 : BitVec 32 := Scalar.addi c0_i32_30 v83
  let c1_i32_33 : BitVec 32 := 1#32
  let arg11 : BitVec 32 := Scf.iv v84 c1_i32_33 k0_t2
  let c512_i32_80 : BitVec 32 := 512#32
  let v172 : BitVec 32 := Scalar.muli arg11 c512_i32_80
  let v173 : BitVec 32 := v172
  let v174 : Index := Scalar.indexCast v173
  let c0_82 : Index := 0#32
  ![0, v174.toNat, 0]
def k0_off4 (i : grid0.Coords) (k0_t2 : Fin (k0_t2_loop i).trips) (c0_i32_88 : BitVec 32) : Fin 3 → Nat :=
  let c0_i32_30 : BitVec 32 := 0#32
  let arg2 : BitVec 32 := BitVec.ofNat 32 (i 2).val
  let c256_i32 : BitVec 32 := 256#32
  let v41 : BitVec 32 := Scalar.muli arg2 c256_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c512_i32 : BitVec 32 := 512#32
  let c0_i32_15 : BitVec 32 := 0#32
  let v48 : BitVec 1 := Scalar.cmpi .sgt c512_i32 c0_i32_15
  let v49 : BitVec 32 := Scalar.extui v48
  let c0_i32_16 : BitVec 32 := 0#32
  let v50 : BitVec 1 := Scalar.cmpi .slt c512_i32 c0_i32_16
  let v51 : BitVec 32 := Scalar.extui v50
  let v52 : BitVec 32 := Scalar.subi v49 v51
  let v53 : BitVec 1 := Scalar.cmpi .ne v47 v52
  let v54 : BitVec 32 := Scalar.remsi v41 c512_i32
  let c0_i32_17 : BitVec 32 := 0#32
  let v55 : BitVec 1 := Scalar.cmpi .ne v54 c0_i32_17
  let v56 : BitVec 1 := Scalar.andi v53 v55
  let v42 : BitVec 32 := Scalar.divsi v41 c512_i32
  let c1_i32_18 : BitVec 32 := 1#32
  let v57 : BitVec 32 := Scalar.subi v42 c1_i32_18
  let v58 : BitVec 32 := Scalar.select v56 v57 v42
  let v80 : BitVec 32 := Scalar.subi v58 c0_i32_30
  let c1_i32_31 : BitVec 32 := 1#32
  let v82 : BitVec 32 := Scalar.divsi v80 c1_i32_31
  let v83 : BitVec 32 := Scalar.muli v82 c1_i32_31
  let v84 : BitVec 32 := Scalar.addi c0_i32_30 v83
  let c1_i32_33 : BitVec 32 := 1#32
  let arg11 : BitVec 32 := Scf.iv v84 c1_i32_33 k0_t2
  let c2_i32 : BitVec 32 := 2#32
  let v190 : BitVec 32 := Scalar.muli arg11 c2_i32
  let v191 : BitVec 32 := Scalar.addi v190 c0_i32_88
  let v192 : Index := Scalar.indexCast v191
  let c0_89 : Index := 0#32
  let c0_90 : Index := 0#32
  ![v192.toNat, 0, 0]
@[reducible] def k0_t3_loop (i : grid0.Coords) : Scf.Loop 32 :=
  let arg2 : BitVec 32 := BitVec.ofNat 32 (i 2).val
  let c256_i32 : BitVec 32 := 256#32
  let v41 : BitVec 32 := Scalar.muli arg2 c256_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c512_i32 : BitVec 32 := 512#32
  let c0_i32_15 : BitVec 32 := 0#32
  let v48 : BitVec 1 := Scalar.cmpi .sgt c512_i32 c0_i32_15
  let v49 : BitVec 32 := Scalar.extui v48
  let c0_i32_16 : BitVec 32 := 0#32
  let v50 : BitVec 1 := Scalar.cmpi .slt c512_i32 c0_i32_16
  let v51 : BitVec 32 := Scalar.extui v50
  let v52 : BitVec 32 := Scalar.subi v49 v51
  let v53 : BitVec 1 := Scalar.cmpi .ne v47 v52
  let v54 : BitVec 32 := Scalar.remsi v41 c512_i32
  let c0_i32_17 : BitVec 32 := 0#32
  let v55 : BitVec 1 := Scalar.cmpi .ne v54 c0_i32_17
  let v56 : BitVec 1 := Scalar.andi v53 v55
  let v42 : BitVec 32 := Scalar.divsi v41 c512_i32
  let c1_i32_18 : BitVec 32 := 1#32
  let v57 : BitVec 32 := Scalar.subi v42 c1_i32_18
  let v58 : BitVec 32 := Scalar.select v56 v57 v42
  let c1_i32_19 : BitVec 32 := 1#32
  let v59 : BitVec 32 := Scalar.addi arg2 c1_i32_19
  let c256_i32_20 : BitVec 32 := 256#32
  let v60 : BitVec 32 := Scalar.muli v59 c256_i32_20
  let c512_i32_21 : BitVec 32 := 512#32
  let v61 : BitVec 32 := Scalar.addi v60 c512_i32_21
  let c1_i32_22 : BitVec 32 := 1#32
  let v62 : BitVec 32 := Scalar.subi v61 c1_i32_22
  let c0_i32_24 : BitVec 32 := 0#32
  let v64 : BitVec 1 := Scalar.cmpi .sgt v62 c0_i32_24
  let v65 : BitVec 32 := Scalar.extui v64
  let c0_i32_25 : BitVec 32 := 0#32
  let v66 : BitVec 1 := Scalar.cmpi .slt v62 c0_i32_25
  let v67 : BitVec 32 := Scalar.extui v66
  let v68 : BitVec 32 := Scalar.subi v65 v67
  let c512_i32_23 : BitVec 32 := 512#32
  let c0_i32_26 : BitVec 32 := 0#32
  let v69 : BitVec 1 := Scalar.cmpi .sgt c512_i32_23 c0_i32_26
  let v70 : BitVec 32 := Scalar.extui v69
  let c0_i32_27 : BitVec 32 := 0#32
  let v71 : BitVec 1 := Scalar.cmpi .slt c512_i32_23 c0_i32_27
  let v72 : BitVec 32 := Scalar.extui v71
  let v73 : BitVec 32 := Scalar.subi v70 v72
  let v74 : BitVec 1 := Scalar.cmpi .ne v68 v73
  let v75 : BitVec 32 := Scalar.remsi v62 c512_i32_23
  let c0_i32_28 : BitVec 32 := 0#32
  let v76 : BitVec 1 := Scalar.cmpi .ne v75 c0_i32_28
  let v77 : BitVec 1 := Scalar.andi v74 v76
  let v63 : BitVec 32 := Scalar.divsi v62 c512_i32_23
  let c1_i32_29 : BitVec 32 := 1#32
  let v78 : BitVec 32 := Scalar.subi v63 c1_i32_29
  let v79 : BitVec 32 := Scalar.select v77 v78 v63
  let v87 : BitVec 32 := Scalar.subi v79 v58
  let c1_i32_34 : BitVec 32 := 1#32
  let v89 : BitVec 32 := Scalar.divsi v87 c1_i32_34
  let v90 : BitVec 32 := Scalar.muli v89 c1_i32_34
  let v91 : BitVec 32 := Scalar.addi v58 v90
  let c1_i32_35 : BitVec 32 := 1#32
  ⟨v58, v91, c1_i32_35⟩
def k0_mult3 (i : grid0.Coords) (k0_t3 : Fin (k0_t3_loop i).trips) : BitVec 32 :=
  let arg2 : BitVec 32 := BitVec.ofNat 32 (i 2).val
  let c256_i32 : BitVec 32 := 256#32
  let v41 : BitVec 32 := Scalar.muli arg2 c256_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c512_i32 : BitVec 32 := 512#32
  let c0_i32_15 : BitVec 32 := 0#32
  let v48 : BitVec 1 := Scalar.cmpi .sgt c512_i32 c0_i32_15
  let v49 : BitVec 32 := Scalar.extui v48
  let c0_i32_16 : BitVec 32 := 0#32
  let v50 : BitVec 1 := Scalar.cmpi .slt c512_i32 c0_i32_16
  let v51 : BitVec 32 := Scalar.extui v50
  let v52 : BitVec 32 := Scalar.subi v49 v51
  let v53 : BitVec 1 := Scalar.cmpi .ne v47 v52
  let v54 : BitVec 32 := Scalar.remsi v41 c512_i32
  let c0_i32_17 : BitVec 32 := 0#32
  let v55 : BitVec 1 := Scalar.cmpi .ne v54 c0_i32_17
  let v56 : BitVec 1 := Scalar.andi v53 v55
  let v42 : BitVec 32 := Scalar.divsi v41 c512_i32
  let c1_i32_18 : BitVec 32 := 1#32
  let v57 : BitVec 32 := Scalar.subi v42 c1_i32_18
  let v58 : BitVec 32 := Scalar.select v56 v57 v42
  let c1_i32_35 : BitVec 32 := 1#32
  let arg11 : BitVec 32 := Scf.iv v58 c1_i32_35 k0_t3
  let c512_i32_80 : BitVec 32 := 512#32
  let v172 : BitVec 32 := Scalar.muli arg11 c512_i32_80
  v172
def k0_off5 (i : grid0.Coords) (k0_t3 : Fin (k0_t3_loop i).trips) : Fin 3 → Nat :=
  let c0_81 : Index := 0#32
  let arg2 : BitVec 32 := BitVec.ofNat 32 (i 2).val
  let c256_i32 : BitVec 32 := 256#32
  let v41 : BitVec 32 := Scalar.muli arg2 c256_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c512_i32 : BitVec 32 := 512#32
  let c0_i32_15 : BitVec 32 := 0#32
  let v48 : BitVec 1 := Scalar.cmpi .sgt c512_i32 c0_i32_15
  let v49 : BitVec 32 := Scalar.extui v48
  let c0_i32_16 : BitVec 32 := 0#32
  let v50 : BitVec 1 := Scalar.cmpi .slt c512_i32 c0_i32_16
  let v51 : BitVec 32 := Scalar.extui v50
  let v52 : BitVec 32 := Scalar.subi v49 v51
  let v53 : BitVec 1 := Scalar.cmpi .ne v47 v52
  let v54 : BitVec 32 := Scalar.remsi v41 c512_i32
  let c0_i32_17 : BitVec 32 := 0#32
  let v55 : BitVec 1 := Scalar.cmpi .ne v54 c0_i32_17
  let v56 : BitVec 1 := Scalar.andi v53 v55
  let v42 : BitVec 32 := Scalar.divsi v41 c512_i32
  let c1_i32_18 : BitVec 32 := 1#32
  let v57 : BitVec 32 := Scalar.subi v42 c1_i32_18
  let v58 : BitVec 32 := Scalar.select v56 v57 v42
  let c1_i32_35 : BitVec 32 := 1#32
  let arg11 : BitVec 32 := Scf.iv v58 c1_i32_35 k0_t3
  let c512_i32_80 : BitVec 32 := 512#32
  let v172 : BitVec 32 := Scalar.muli arg11 c512_i32_80
  let v173 : BitVec 32 := v172
  let v174 : Index := Scalar.indexCast v173
  let c0_82 : Index := 0#32
  ![0, v174.toNat, 0]
def k0_off6 (i : grid0.Coords) (k0_t3 : Fin (k0_t3_loop i).trips) (c0_i32_90 : BitVec 32) : Fin 3 → Nat :=
  let arg2 : BitVec 32 := BitVec.ofNat 32 (i 2).val
  let c256_i32 : BitVec 32 := 256#32
  let v41 : BitVec 32 := Scalar.muli arg2 c256_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c512_i32 : BitVec 32 := 512#32
  let c0_i32_15 : BitVec 32 := 0#32
  let v48 : BitVec 1 := Scalar.cmpi .sgt c512_i32 c0_i32_15
  let v49 : BitVec 32 := Scalar.extui v48
  let c0_i32_16 : BitVec 32 := 0#32
  let v50 : BitVec 1 := Scalar.cmpi .slt c512_i32 c0_i32_16
  let v51 : BitVec 32 := Scalar.extui v50
  let v52 : BitVec 32 := Scalar.subi v49 v51
  let v53 : BitVec 1 := Scalar.cmpi .ne v47 v52
  let v54 : BitVec 32 := Scalar.remsi v41 c512_i32
  let c0_i32_17 : BitVec 32 := 0#32
  let v55 : BitVec 1 := Scalar.cmpi .ne v54 c0_i32_17
  let v56 : BitVec 1 := Scalar.andi v53 v55
  let v42 : BitVec 32 := Scalar.divsi v41 c512_i32
  let c1_i32_18 : BitVec 32 := 1#32
  let v57 : BitVec 32 := Scalar.subi v42 c1_i32_18
  let v58 : BitVec 32 := Scalar.select v56 v57 v42
  let c1_i32_35 : BitVec 32 := 1#32
  let arg11 : BitVec 32 := Scf.iv v58 c1_i32_35 k0_t3
  let c2_i32 : BitVec 32 := 2#32
  let v200 : BitVec 32 := Scalar.muli arg11 c2_i32
  let v201 : BitVec 32 := Scalar.addi v200 c0_i32_90
  let v202 : Index := Scalar.indexCast v201
  let c0_91 : Index := 0#32
  let c0_92 : Index := 0#32
  ![v202.toNat, 0, 0]
@[reducible] def k0_t4_loop (i : grid0.Coords) : Scf.Loop 32 :=
  let arg2 : BitVec 32 := BitVec.ofNat 32 (i 2).val
  let c256_i32 : BitVec 32 := 256#32
  let v41 : BitVec 32 := Scalar.muli arg2 c256_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c512_i32 : BitVec 32 := 512#32
  let c0_i32_15 : BitVec 32 := 0#32
  let v48 : BitVec 1 := Scalar.cmpi .sgt c512_i32 c0_i32_15
  let v49 : BitVec 32 := Scalar.extui v48
  let c0_i32_16 : BitVec 32 := 0#32
  let v50 : BitVec 1 := Scalar.cmpi .slt c512_i32 c0_i32_16
  let v51 : BitVec 32 := Scalar.extui v50
  let v52 : BitVec 32 := Scalar.subi v49 v51
  let v53 : BitVec 1 := Scalar.cmpi .ne v47 v52
  let v54 : BitVec 32 := Scalar.remsi v41 c512_i32
  let c0_i32_17 : BitVec 32 := 0#32
  let v55 : BitVec 1 := Scalar.cmpi .ne v54 c0_i32_17
  let v56 : BitVec 1 := Scalar.andi v53 v55
  let v42 : BitVec 32 := Scalar.divsi v41 c512_i32
  let c1_i32_18 : BitVec 32 := 1#32
  let v57 : BitVec 32 := Scalar.subi v42 c1_i32_18
  let v58 : BitVec 32 := Scalar.select v56 v57 v42
  let c1_i32_19 : BitVec 32 := 1#32
  let v59 : BitVec 32 := Scalar.addi arg2 c1_i32_19
  let c256_i32_20 : BitVec 32 := 256#32
  let v60 : BitVec 32 := Scalar.muli v59 c256_i32_20
  let c512_i32_21 : BitVec 32 := 512#32
  let v61 : BitVec 32 := Scalar.addi v60 c512_i32_21
  let c1_i32_22 : BitVec 32 := 1#32
  let v62 : BitVec 32 := Scalar.subi v61 c1_i32_22
  let c0_i32_24 : BitVec 32 := 0#32
  let v64 : BitVec 1 := Scalar.cmpi .sgt v62 c0_i32_24
  let v65 : BitVec 32 := Scalar.extui v64
  let c0_i32_25 : BitVec 32 := 0#32
  let v66 : BitVec 1 := Scalar.cmpi .slt v62 c0_i32_25
  let v67 : BitVec 32 := Scalar.extui v66
  let v68 : BitVec 32 := Scalar.subi v65 v67
  let c512_i32_23 : BitVec 32 := 512#32
  let c0_i32_26 : BitVec 32 := 0#32
  let v69 : BitVec 1 := Scalar.cmpi .sgt c512_i32_23 c0_i32_26
  let v70 : BitVec 32 := Scalar.extui v69
  let c0_i32_27 : BitVec 32 := 0#32
  let v71 : BitVec 1 := Scalar.cmpi .slt c512_i32_23 c0_i32_27
  let v72 : BitVec 32 := Scalar.extui v71
  let v73 : BitVec 32 := Scalar.subi v70 v72
  let v74 : BitVec 1 := Scalar.cmpi .ne v68 v73
  let v75 : BitVec 32 := Scalar.remsi v62 c512_i32_23
  let c0_i32_28 : BitVec 32 := 0#32
  let v76 : BitVec 1 := Scalar.cmpi .ne v75 c0_i32_28
  let v77 : BitVec 1 := Scalar.andi v74 v76
  let v63 : BitVec 32 := Scalar.divsi v62 c512_i32_23
  let c1_i32_29 : BitVec 32 := 1#32
  let v78 : BitVec 32 := Scalar.subi v63 c1_i32_29
  let v79 : BitVec 32 := Scalar.select v77 v78 v63
  let v87 : BitVec 32 := Scalar.subi v79 v58
  let c1_i32_34 : BitVec 32 := 1#32
  let v89 : BitVec 32 := Scalar.divsi v87 c1_i32_34
  let v90 : BitVec 32 := Scalar.muli v89 c1_i32_34
  let v91 : BitVec 32 := Scalar.addi v58 v90
  let v88 : BitVec 32 := Scalar.addi v58 v87
  let c1_i32_36 : BitVec 32 := 1#32
  ⟨v91, v88, c1_i32_36⟩
def k0_mult4 (i : grid0.Coords) (k0_t4 : Fin (k0_t4_loop i).trips) : BitVec 32 :=
  let arg2 : BitVec 32 := BitVec.ofNat 32 (i 2).val
  let c256_i32 : BitVec 32 := 256#32
  let v41 : BitVec 32 := Scalar.muli arg2 c256_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c512_i32 : BitVec 32 := 512#32
  let c0_i32_15 : BitVec 32 := 0#32
  let v48 : BitVec 1 := Scalar.cmpi .sgt c512_i32 c0_i32_15
  let v49 : BitVec 32 := Scalar.extui v48
  let c0_i32_16 : BitVec 32 := 0#32
  let v50 : BitVec 1 := Scalar.cmpi .slt c512_i32 c0_i32_16
  let v51 : BitVec 32 := Scalar.extui v50
  let v52 : BitVec 32 := Scalar.subi v49 v51
  let v53 : BitVec 1 := Scalar.cmpi .ne v47 v52
  let v54 : BitVec 32 := Scalar.remsi v41 c512_i32
  let c0_i32_17 : BitVec 32 := 0#32
  let v55 : BitVec 1 := Scalar.cmpi .ne v54 c0_i32_17
  let v56 : BitVec 1 := Scalar.andi v53 v55
  let v42 : BitVec 32 := Scalar.divsi v41 c512_i32
  let c1_i32_18 : BitVec 32 := 1#32
  let v57 : BitVec 32 := Scalar.subi v42 c1_i32_18
  let v58 : BitVec 32 := Scalar.select v56 v57 v42
  let c1_i32_19 : BitVec 32 := 1#32
  let v59 : BitVec 32 := Scalar.addi arg2 c1_i32_19
  let c256_i32_20 : BitVec 32 := 256#32
  let v60 : BitVec 32 := Scalar.muli v59 c256_i32_20
  let c512_i32_21 : BitVec 32 := 512#32
  let v61 : BitVec 32 := Scalar.addi v60 c512_i32_21
  let c1_i32_22 : BitVec 32 := 1#32
  let v62 : BitVec 32 := Scalar.subi v61 c1_i32_22
  let c0_i32_24 : BitVec 32 := 0#32
  let v64 : BitVec 1 := Scalar.cmpi .sgt v62 c0_i32_24
  let v65 : BitVec 32 := Scalar.extui v64
  let c0_i32_25 : BitVec 32 := 0#32
  let v66 : BitVec 1 := Scalar.cmpi .slt v62 c0_i32_25
  let v67 : BitVec 32 := Scalar.extui v66
  let v68 : BitVec 32 := Scalar.subi v65 v67
  let c512_i32_23 : BitVec 32 := 512#32
  let c0_i32_26 : BitVec 32 := 0#32
  let v69 : BitVec 1 := Scalar.cmpi .sgt c512_i32_23 c0_i32_26
  let v70 : BitVec 32 := Scalar.extui v69
  let c0_i32_27 : BitVec 32 := 0#32
  let v71 : BitVec 1 := Scalar.cmpi .slt c512_i32_23 c0_i32_27
  let v72 : BitVec 32 := Scalar.extui v71
  let v73 : BitVec 32 := Scalar.subi v70 v72
  let v74 : BitVec 1 := Scalar.cmpi .ne v68 v73
  let v75 : BitVec 32 := Scalar.remsi v62 c512_i32_23
  let c0_i32_28 : BitVec 32 := 0#32
  let v76 : BitVec 1 := Scalar.cmpi .ne v75 c0_i32_28
  let v77 : BitVec 1 := Scalar.andi v74 v76
  let v63 : BitVec 32 := Scalar.divsi v62 c512_i32_23
  let c1_i32_29 : BitVec 32 := 1#32
  let v78 : BitVec 32 := Scalar.subi v63 c1_i32_29
  let v79 : BitVec 32 := Scalar.select v77 v78 v63
  let v87 : BitVec 32 := Scalar.subi v79 v58
  let c1_i32_34 : BitVec 32 := 1#32
  let v89 : BitVec 32 := Scalar.divsi v87 c1_i32_34
  let v90 : BitVec 32 := Scalar.muli v89 c1_i32_34
  let v91 : BitVec 32 := Scalar.addi v58 v90
  let c1_i32_36 : BitVec 32 := 1#32
  let arg11 : BitVec 32 := Scf.iv v91 c1_i32_36 k0_t4
  let c512_i32_80 : BitVec 32 := 512#32
  let v172 : BitVec 32 := Scalar.muli arg11 c512_i32_80
  v172
def k0_off7 (i : grid0.Coords) (k0_t4 : Fin (k0_t4_loop i).trips) : Fin 3 → Nat :=
  let c0_81 : Index := 0#32
  let arg2 : BitVec 32 := BitVec.ofNat 32 (i 2).val
  let c256_i32 : BitVec 32 := 256#32
  let v41 : BitVec 32 := Scalar.muli arg2 c256_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c512_i32 : BitVec 32 := 512#32
  let c0_i32_15 : BitVec 32 := 0#32
  let v48 : BitVec 1 := Scalar.cmpi .sgt c512_i32 c0_i32_15
  let v49 : BitVec 32 := Scalar.extui v48
  let c0_i32_16 : BitVec 32 := 0#32
  let v50 : BitVec 1 := Scalar.cmpi .slt c512_i32 c0_i32_16
  let v51 : BitVec 32 := Scalar.extui v50
  let v52 : BitVec 32 := Scalar.subi v49 v51
  let v53 : BitVec 1 := Scalar.cmpi .ne v47 v52
  let v54 : BitVec 32 := Scalar.remsi v41 c512_i32
  let c0_i32_17 : BitVec 32 := 0#32
  let v55 : BitVec 1 := Scalar.cmpi .ne v54 c0_i32_17
  let v56 : BitVec 1 := Scalar.andi v53 v55
  let v42 : BitVec 32 := Scalar.divsi v41 c512_i32
  let c1_i32_18 : BitVec 32 := 1#32
  let v57 : BitVec 32 := Scalar.subi v42 c1_i32_18
  let v58 : BitVec 32 := Scalar.select v56 v57 v42
  let c1_i32_19 : BitVec 32 := 1#32
  let v59 : BitVec 32 := Scalar.addi arg2 c1_i32_19
  let c256_i32_20 : BitVec 32 := 256#32
  let v60 : BitVec 32 := Scalar.muli v59 c256_i32_20
  let c512_i32_21 : BitVec 32 := 512#32
  let v61 : BitVec 32 := Scalar.addi v60 c512_i32_21
  let c1_i32_22 : BitVec 32 := 1#32
  let v62 : BitVec 32 := Scalar.subi v61 c1_i32_22
  let c0_i32_24 : BitVec 32 := 0#32
  let v64 : BitVec 1 := Scalar.cmpi .sgt v62 c0_i32_24
  let v65 : BitVec 32 := Scalar.extui v64
  let c0_i32_25 : BitVec 32 := 0#32
  let v66 : BitVec 1 := Scalar.cmpi .slt v62 c0_i32_25
  let v67 : BitVec 32 := Scalar.extui v66
  let v68 : BitVec 32 := Scalar.subi v65 v67
  let c512_i32_23 : BitVec 32 := 512#32
  let c0_i32_26 : BitVec 32 := 0#32
  let v69 : BitVec 1 := Scalar.cmpi .sgt c512_i32_23 c0_i32_26
  let v70 : BitVec 32 := Scalar.extui v69
  let c0_i32_27 : BitVec 32 := 0#32
  let v71 : BitVec 1 := Scalar.cmpi .slt c512_i32_23 c0_i32_27
  let v72 : BitVec 32 := Scalar.extui v71
  let v73 : BitVec 32 := Scalar.subi v70 v72
  let v74 : BitVec 1 := Scalar.cmpi .ne v68 v73
  let v75 : BitVec 32 := Scalar.remsi v62 c512_i32_23
  let c0_i32_28 : BitVec 32 := 0#32
  let v76 : BitVec 1 := Scalar.cmpi .ne v75 c0_i32_28
  let v77 : BitVec 1 := Scalar.andi v74 v76
  let v63 : BitVec 32 := Scalar.divsi v62 c512_i32_23
  let c1_i32_29 : BitVec 32 := 1#32
  let v78 : BitVec 32 := Scalar.subi v63 c1_i32_29
  let v79 : BitVec 32 := Scalar.select v77 v78 v63
  let v87 : BitVec 32 := Scalar.subi v79 v58
  let c1_i32_34 : BitVec 32 := 1#32
  let v89 : BitVec 32 := Scalar.divsi v87 c1_i32_34
  let v90 : BitVec 32 := Scalar.muli v89 c1_i32_34
  let v91 : BitVec 32 := Scalar.addi v58 v90
  let c1_i32_36 : BitVec 32 := 1#32
  let arg11 : BitVec 32 := Scf.iv v91 c1_i32_36 k0_t4
  let c512_i32_80 : BitVec 32 := 512#32
  let v172 : BitVec 32 := Scalar.muli arg11 c512_i32_80
  let v173 : BitVec 32 := v172
  let v174 : Index := Scalar.indexCast v173
  let c0_82 : Index := 0#32
  ![0, v174.toNat, 0]
def k0_off8 (i : grid0.Coords) (k0_t4 : Fin (k0_t4_loop i).trips) (c0_i32_90 : BitVec 32) : Fin 3 → Nat :=
  let arg2 : BitVec 32 := BitVec.ofNat 32 (i 2).val
  let c256_i32 : BitVec 32 := 256#32
  let v41 : BitVec 32 := Scalar.muli arg2 c256_i32
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c512_i32 : BitVec 32 := 512#32
  let c0_i32_15 : BitVec 32 := 0#32
  let v48 : BitVec 1 := Scalar.cmpi .sgt c512_i32 c0_i32_15
  let v49 : BitVec 32 := Scalar.extui v48
  let c0_i32_16 : BitVec 32 := 0#32
  let v50 : BitVec 1 := Scalar.cmpi .slt c512_i32 c0_i32_16
  let v51 : BitVec 32 := Scalar.extui v50
  let v52 : BitVec 32 := Scalar.subi v49 v51
  let v53 : BitVec 1 := Scalar.cmpi .ne v47 v52
  let v54 : BitVec 32 := Scalar.remsi v41 c512_i32
  let c0_i32_17 : BitVec 32 := 0#32
  let v55 : BitVec 1 := Scalar.cmpi .ne v54 c0_i32_17
  let v56 : BitVec 1 := Scalar.andi v53 v55
  let v42 : BitVec 32 := Scalar.divsi v41 c512_i32
  let c1_i32_18 : BitVec 32 := 1#32
  let v57 : BitVec 32 := Scalar.subi v42 c1_i32_18
  let v58 : BitVec 32 := Scalar.select v56 v57 v42
  let c1_i32_19 : BitVec 32 := 1#32
  let v59 : BitVec 32 := Scalar.addi arg2 c1_i32_19
  let c256_i32_20 : BitVec 32 := 256#32
  let v60 : BitVec 32 := Scalar.muli v59 c256_i32_20
  let c512_i32_21 : BitVec 32 := 512#32
  let v61 : BitVec 32 := Scalar.addi v60 c512_i32_21
  let c1_i32_22 : BitVec 32 := 1#32
  let v62 : BitVec 32 := Scalar.subi v61 c1_i32_22
  let c0_i32_24 : BitVec 32 := 0#32
  let v64 : BitVec 1 := Scalar.cmpi .sgt v62 c0_i32_24
  let v65 : BitVec 32 := Scalar.extui v64
  let c0_i32_25 : BitVec 32 := 0#32
  let v66 : BitVec 1 := Scalar.cmpi .slt v62 c0_i32_25
  let v67 : BitVec 32 := Scalar.extui v66
  let v68 : BitVec 32 := Scalar.subi v65 v67
  let c512_i32_23 : BitVec 32 := 512#32
  let c0_i32_26 : BitVec 32 := 0#32
  let v69 : BitVec 1 := Scalar.cmpi .sgt c512_i32_23 c0_i32_26
  let v70 : BitVec 32 := Scalar.extui v69
  let c0_i32_27 : BitVec 32 := 0#32
  let v71 : BitVec 1 := Scalar.cmpi .slt c512_i32_23 c0_i32_27
  let v72 : BitVec 32 := Scalar.extui v71
  let v73 : BitVec 32 := Scalar.subi v70 v72
  let v74 : BitVec 1 := Scalar.cmpi .ne v68 v73
  let v75 : BitVec 32 := Scalar.remsi v62 c512_i32_23
  let c0_i32_28 : BitVec 32 := 0#32
  let v76 : BitVec 1 := Scalar.cmpi .ne v75 c0_i32_28
  let v77 : BitVec 1 := Scalar.andi v74 v76
  let v63 : BitVec 32 := Scalar.divsi v62 c512_i32_23
  let c1_i32_29 : BitVec 32 := 1#32
  let v78 : BitVec 32 := Scalar.subi v63 c1_i32_29
  let v79 : BitVec 32 := Scalar.select v77 v78 v63
  let v87 : BitVec 32 := Scalar.subi v79 v58
  let c1_i32_34 : BitVec 32 := 1#32
  let v89 : BitVec 32 := Scalar.divsi v87 c1_i32_34
  let v90 : BitVec 32 := Scalar.muli v89 c1_i32_34
  let v91 : BitVec 32 := Scalar.addi v58 v90
  let c1_i32_36 : BitVec 32 := 1#32
  let arg11 : BitVec 32 := Scf.iv v91 c1_i32_36 k0_t4
  let c2_i32 : BitVec 32 := 2#32
  let v200 : BitVec 32 := Scalar.muli arg11 c2_i32
  let v201 : BitVec 32 := Scalar.addi v200 c0_i32_90
  let v202 : Index := Scalar.indexCast v201
  let c0_91 : Index := 0#32
  let c0_92 : Index := 0#32
  ![v202.toNat, 0, 0]
@[reducible] def k0_t5_loop (i : grid0.Coords) : Scf.Loop 32 :=
  let arg2 : BitVec 32 := BitVec.ofNat 32 (i 2).val
  let c256_i32_47 : BitVec 32 := 256#32
  let v109 : BitVec 32 := Scalar.muli arg2 c256_i32_47
  let c511_i32 : BitVec 32 := 511#32
  let v110 : BitVec 32 := Scalar.subi v109 c511_i32
  let c0_i32_48 : BitVec 32 := 0#32
  let v111 : BitVec 32 := Scalar.maxsi v110 c0_i32_48
  let c0_i32_50 : BitVec 32 := 0#32
  let v113 : BitVec 1 := Scalar.cmpi .sgt v111 c0_i32_50
  let v114 : BitVec 32 := Scalar.extui v113
  let c0_i32_51 : BitVec 32 := 0#32
  let v115 : BitVec 1 := Scalar.cmpi .slt v111 c0_i32_51
  let v116 : BitVec 32 := Scalar.extui v115
  let v117 : BitVec 32 := Scalar.subi v114 v116
  let c256_i32_49 : BitVec 32 := 256#32
  let c0_i32_52 : BitVec 32 := 0#32
  let v118 : BitVec 1 := Scalar.cmpi .sgt c256_i32_49 c0_i32_52
  let v119 : BitVec 32 := Scalar.extui v118
  let c0_i32_53 : BitVec 32 := 0#32
  let v120 : BitVec 1 := Scalar.cmpi .slt c256_i32_49 c0_i32_53
  let v121 : BitVec 32 := Scalar.extui v120
  let v122 : BitVec 32 := Scalar.subi v119 v121
  let v123 : BitVec 1 := Scalar.cmpi .ne v117 v122
  let v124 : BitVec 32 := Scalar.remsi v111 c256_i32_49
  let c0_i32_54 : BitVec 32 := 0#32
  let v125 : BitVec 1 := Scalar.cmpi .ne v124 c0_i32_54
  let v126 : BitVec 1 := Scalar.andi v123 v125
  let v112 : BitVec 32 := Scalar.divsi v111 c256_i32_49
  let c1_i32_55 : BitVec 32 := 1#32
  let v127 : BitVec 32 := Scalar.subi v112 c1_i32_55
  let v128 : BitVec 32 := Scalar.select v126 v127 v112
  let c1_i32_56 : BitVec 32 := 1#32
  let v129 : BitVec 32 := Scalar.addi arg2 c1_i32_56
  let c256_i32_57 : BitVec 32 := 256#32
  let v130 : BitVec 32 := Scalar.muli v129 c256_i32_57
  let c256_i32_58 : BitVec 32 := 256#32
  let v131 : BitVec 32 := Scalar.addi v130 c256_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c256_i32_60 : BitVec 32 := 256#32
  let c0_i32_63 : BitVec 32 := 0#32
  let v139 : BitVec 1 := Scalar.cmpi .sgt c256_i32_60 c0_i32_63
  let v140 : BitVec 32 := Scalar.extui v139
  let c0_i32_64 : BitVec 32 := 0#32
  let v141 : BitVec 1 := Scalar.cmpi .slt c256_i32_60 c0_i32_64
  let v142 : BitVec 32 := Scalar.extui v141
  let v143 : BitVec 32 := Scalar.subi v140 v142
  let v144 : BitVec 1 := Scalar.cmpi .ne v138 v143
  let v145 : BitVec 32 := Scalar.remsi v132 c256_i32_60
  let c0_i32_65 : BitVec 32 := 0#32
  let v146 : BitVec 1 := Scalar.cmpi .ne v145 c0_i32_65
  let v147 : BitVec 1 := Scalar.andi v144 v146
  let v133 : BitVec 32 := Scalar.divsi v132 c256_i32_60
  let c1_i32_66 : BitVec 32 := 1#32
  let v148 : BitVec 32 := Scalar.subi v133 c1_i32_66
  let v149 : BitVec 32 := Scalar.select v147 v148 v133
  let v150 : BitVec 32 := Scalar.subi v149 v128
  let c1_i32_67 : BitVec 32 := 1#32
  let v152 : BitVec 32 := Scalar.divsi v150 c1_i32_67
  let v153 : BitVec 32 := Scalar.muli v152 c1_i32_67
  let v154 : BitVec 32 := Scalar.addi v128 v153
  let c1_i32_68 : BitVec 32 := 1#32
  ⟨v128, v154, c1_i32_68⟩
def k0_mult5 (i : grid0.Coords) (k0_t5 : Fin (k0_t5_loop i).trips) : BitVec 32 :=
  let arg2 : BitVec 32 := BitVec.ofNat 32 (i 2).val
  let c256_i32_47 : BitVec 32 := 256#32
  let v109 : BitVec 32 := Scalar.muli arg2 c256_i32_47
  let c511_i32 : BitVec 32 := 511#32
  let v110 : BitVec 32 := Scalar.subi v109 c511_i32
  let c0_i32_48 : BitVec 32 := 0#32
  let v111 : BitVec 32 := Scalar.maxsi v110 c0_i32_48
  let c0_i32_50 : BitVec 32 := 0#32
  let v113 : BitVec 1 := Scalar.cmpi .sgt v111 c0_i32_50
  let v114 : BitVec 32 := Scalar.extui v113
  let c0_i32_51 : BitVec 32 := 0#32
  let v115 : BitVec 1 := Scalar.cmpi .slt v111 c0_i32_51
  let v116 : BitVec 32 := Scalar.extui v115
  let v117 : BitVec 32 := Scalar.subi v114 v116
  let c256_i32_49 : BitVec 32 := 256#32
  let c0_i32_52 : BitVec 32 := 0#32
  let v118 : BitVec 1 := Scalar.cmpi .sgt c256_i32_49 c0_i32_52
  let v119 : BitVec 32 := Scalar.extui v118
  let c0_i32_53 : BitVec 32 := 0#32
  let v120 : BitVec 1 := Scalar.cmpi .slt c256_i32_49 c0_i32_53
  let v121 : BitVec 32 := Scalar.extui v120
  let v122 : BitVec 32 := Scalar.subi v119 v121
  let v123 : BitVec 1 := Scalar.cmpi .ne v117 v122
  let v124 : BitVec 32 := Scalar.remsi v111 c256_i32_49
  let c0_i32_54 : BitVec 32 := 0#32
  let v125 : BitVec 1 := Scalar.cmpi .ne v124 c0_i32_54
  let v126 : BitVec 1 := Scalar.andi v123 v125
  let v112 : BitVec 32 := Scalar.divsi v111 c256_i32_49
  let c1_i32_55 : BitVec 32 := 1#32
  let v127 : BitVec 32 := Scalar.subi v112 c1_i32_55
  let v128 : BitVec 32 := Scalar.select v126 v127 v112
  let c1_i32_68 : BitVec 32 := 1#32
  let arg11 : BitVec 32 := Scf.iv v128 c1_i32_68 k0_t5
  let c256_i32_80 : BitVec 32 := 256#32
  let v172 : BitVec 32 := Scalar.muli arg11 c256_i32_80
  v172
def k0_off9 (i : grid0.Coords) (k0_t5 : Fin (k0_t5_loop i).trips) : Fin 3 → Nat :=
  let c0_81 : Index := 0#32
  let arg2 : BitVec 32 := BitVec.ofNat 32 (i 2).val
  let c256_i32_47 : BitVec 32 := 256#32
  let v109 : BitVec 32 := Scalar.muli arg2 c256_i32_47
  let c511_i32 : BitVec 32 := 511#32
  let v110 : BitVec 32 := Scalar.subi v109 c511_i32
  let c0_i32_48 : BitVec 32 := 0#32
  let v111 : BitVec 32 := Scalar.maxsi v110 c0_i32_48
  let c0_i32_50 : BitVec 32 := 0#32
  let v113 : BitVec 1 := Scalar.cmpi .sgt v111 c0_i32_50
  let v114 : BitVec 32 := Scalar.extui v113
  let c0_i32_51 : BitVec 32 := 0#32
  let v115 : BitVec 1 := Scalar.cmpi .slt v111 c0_i32_51
  let v116 : BitVec 32 := Scalar.extui v115
  let v117 : BitVec 32 := Scalar.subi v114 v116
  let c256_i32_49 : BitVec 32 := 256#32
  let c0_i32_52 : BitVec 32 := 0#32
  let v118 : BitVec 1 := Scalar.cmpi .sgt c256_i32_49 c0_i32_52
  let v119 : BitVec 32 := Scalar.extui v118
  let c0_i32_53 : BitVec 32 := 0#32
  let v120 : BitVec 1 := Scalar.cmpi .slt c256_i32_49 c0_i32_53
  let v121 : BitVec 32 := Scalar.extui v120
  let v122 : BitVec 32 := Scalar.subi v119 v121
  let v123 : BitVec 1 := Scalar.cmpi .ne v117 v122
  let v124 : BitVec 32 := Scalar.remsi v111 c256_i32_49
  let c0_i32_54 : BitVec 32 := 0#32
  let v125 : BitVec 1 := Scalar.cmpi .ne v124 c0_i32_54
  let v126 : BitVec 1 := Scalar.andi v123 v125
  let v112 : BitVec 32 := Scalar.divsi v111 c256_i32_49
  let c1_i32_55 : BitVec 32 := 1#32
  let v127 : BitVec 32 := Scalar.subi v112 c1_i32_55
  let v128 : BitVec 32 := Scalar.select v126 v127 v112
  let c1_i32_68 : BitVec 32 := 1#32
  let arg11 : BitVec 32 := Scf.iv v128 c1_i32_68 k0_t5
  let c256_i32_80 : BitVec 32 := 256#32
  let v172 : BitVec 32 := Scalar.muli arg11 c256_i32_80
  let v173 : BitVec 32 := v172
  let v174 : Index := Scalar.indexCast v173
  let c0_82 : Index := 0#32
  ![0, v174.toNat, 0]
def k0_off10 (i : grid0.Coords) (k0_t5 : Fin (k0_t5_loop i).trips) : Fin 3 → Nat :=
  let arg2 : BitVec 32 := BitVec.ofNat 32 (i 2).val
  let c256_i32_47 : BitVec 32 := 256#32
  let v109 : BitVec 32 := Scalar.muli arg2 c256_i32_47
  let c511_i32 : BitVec 32 := 511#32
  let v110 : BitVec 32 := Scalar.subi v109 c511_i32
  let c0_i32_48 : BitVec 32 := 0#32
  let v111 : BitVec 32 := Scalar.maxsi v110 c0_i32_48
  let c0_i32_50 : BitVec 32 := 0#32
  let v113 : BitVec 1 := Scalar.cmpi .sgt v111 c0_i32_50
  let v114 : BitVec 32 := Scalar.extui v113
  let c0_i32_51 : BitVec 32 := 0#32
  let v115 : BitVec 1 := Scalar.cmpi .slt v111 c0_i32_51
  let v116 : BitVec 32 := Scalar.extui v115
  let v117 : BitVec 32 := Scalar.subi v114 v116
  let c256_i32_49 : BitVec 32 := 256#32
  let c0_i32_52 : BitVec 32 := 0#32
  let v118 : BitVec 1 := Scalar.cmpi .sgt c256_i32_49 c0_i32_52
  let v119 : BitVec 32 := Scalar.extui v118
  let c0_i32_53 : BitVec 32 := 0#32
  let v120 : BitVec 1 := Scalar.cmpi .slt c256_i32_49 c0_i32_53
  let v121 : BitVec 32 := Scalar.extui v120
  let v122 : BitVec 32 := Scalar.subi v119 v121
  let v123 : BitVec 1 := Scalar.cmpi .ne v117 v122
  let v124 : BitVec 32 := Scalar.remsi v111 c256_i32_49
  let c0_i32_54 : BitVec 32 := 0#32
  let v125 : BitVec 1 := Scalar.cmpi .ne v124 c0_i32_54
  let v126 : BitVec 1 := Scalar.andi v123 v125
  let v112 : BitVec 32 := Scalar.divsi v111 c256_i32_49
  let c1_i32_55 : BitVec 32 := 1#32
  let v127 : BitVec 32 := Scalar.subi v112 c1_i32_55
  let v128 : BitVec 32 := Scalar.select v126 v127 v112
  let c1_i32_68 : BitVec 32 := 1#32
  let arg11 : BitVec 32 := Scf.iv v128 c1_i32_68 k0_t5
  let v193 : Index := Scalar.indexCast arg11
  let c0_88 : Index := 0#32
  let c0_89 : Index := 0#32
  ![v193.toNat, 0, 0]
@[reducible] def k0_t6_loop (i : grid0.Coords) : Scf.Loop 32 :=
  let arg2 : BitVec 32 := BitVec.ofNat 32 (i 2).val
  let c256_i32_47 : BitVec 32 := 256#32
  let v109 : BitVec 32 := Scalar.muli arg2 c256_i32_47
  let c511_i32 : BitVec 32 := 511#32
  let v110 : BitVec 32 := Scalar.subi v109 c511_i32
  let c0_i32_48 : BitVec 32 := 0#32
  let v111 : BitVec 32 := Scalar.maxsi v110 c0_i32_48
  let c0_i32_50 : BitVec 32 := 0#32
  let v113 : BitVec 1 := Scalar.cmpi .sgt v111 c0_i32_50
  let v114 : BitVec 32 := Scalar.extui v113
  let c0_i32_51 : BitVec 32 := 0#32
  let v115 : BitVec 1 := Scalar.cmpi .slt v111 c0_i32_51
  let v116 : BitVec 32 := Scalar.extui v115
  let v117 : BitVec 32 := Scalar.subi v114 v116
  let c256_i32_49 : BitVec 32 := 256#32
  let c0_i32_52 : BitVec 32 := 0#32
  let v118 : BitVec 1 := Scalar.cmpi .sgt c256_i32_49 c0_i32_52
  let v119 : BitVec 32 := Scalar.extui v118
  let c0_i32_53 : BitVec 32 := 0#32
  let v120 : BitVec 1 := Scalar.cmpi .slt c256_i32_49 c0_i32_53
  let v121 : BitVec 32 := Scalar.extui v120
  let v122 : BitVec 32 := Scalar.subi v119 v121
  let v123 : BitVec 1 := Scalar.cmpi .ne v117 v122
  let v124 : BitVec 32 := Scalar.remsi v111 c256_i32_49
  let c0_i32_54 : BitVec 32 := 0#32
  let v125 : BitVec 1 := Scalar.cmpi .ne v124 c0_i32_54
  let v126 : BitVec 1 := Scalar.andi v123 v125
  let v112 : BitVec 32 := Scalar.divsi v111 c256_i32_49
  let c1_i32_55 : BitVec 32 := 1#32
  let v127 : BitVec 32 := Scalar.subi v112 c1_i32_55
  let v128 : BitVec 32 := Scalar.select v126 v127 v112
  let c1_i32_56 : BitVec 32 := 1#32
  let v129 : BitVec 32 := Scalar.addi arg2 c1_i32_56
  let c256_i32_57 : BitVec 32 := 256#32
  let v130 : BitVec 32 := Scalar.muli v129 c256_i32_57
  let c256_i32_58 : BitVec 32 := 256#32
  let v131 : BitVec 32 := Scalar.addi v130 c256_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c256_i32_60 : BitVec 32 := 256#32
  let c0_i32_63 : BitVec 32 := 0#32
  let v139 : BitVec 1 := Scalar.cmpi .sgt c256_i32_60 c0_i32_63
  let v140 : BitVec 32 := Scalar.extui v139
  let c0_i32_64 : BitVec 32 := 0#32
  let v141 : BitVec 1 := Scalar.cmpi .slt c256_i32_60 c0_i32_64
  let v142 : BitVec 32 := Scalar.extui v141
  let v143 : BitVec 32 := Scalar.subi v140 v142
  let v144 : BitVec 1 := Scalar.cmpi .ne v138 v143
  let v145 : BitVec 32 := Scalar.remsi v132 c256_i32_60
  let c0_i32_65 : BitVec 32 := 0#32
  let v146 : BitVec 1 := Scalar.cmpi .ne v145 c0_i32_65
  let v147 : BitVec 1 := Scalar.andi v144 v146
  let v133 : BitVec 32 := Scalar.divsi v132 c256_i32_60
  let c1_i32_66 : BitVec 32 := 1#32
  let v148 : BitVec 32 := Scalar.subi v133 c1_i32_66
  let v149 : BitVec 32 := Scalar.select v147 v148 v133
  let v150 : BitVec 32 := Scalar.subi v149 v128
  let c1_i32_67 : BitVec 32 := 1#32
  let v152 : BitVec 32 := Scalar.divsi v150 c1_i32_67
  let v153 : BitVec 32 := Scalar.muli v152 c1_i32_67
  let v154 : BitVec 32 := Scalar.addi v128 v153
  let v151 : BitVec 32 := Scalar.addi v128 v150
  let c1_i32_69 : BitVec 32 := 1#32
  ⟨v154, v151, c1_i32_69⟩
def k0_mult6 (i : grid0.Coords) (k0_t6 : Fin (k0_t6_loop i).trips) : BitVec 32 :=
  let arg2 : BitVec 32 := BitVec.ofNat 32 (i 2).val
  let c256_i32_47 : BitVec 32 := 256#32
  let v109 : BitVec 32 := Scalar.muli arg2 c256_i32_47
  let c511_i32 : BitVec 32 := 511#32
  let v110 : BitVec 32 := Scalar.subi v109 c511_i32
  let c0_i32_48 : BitVec 32 := 0#32
  let v111 : BitVec 32 := Scalar.maxsi v110 c0_i32_48
  let c0_i32_50 : BitVec 32 := 0#32
  let v113 : BitVec 1 := Scalar.cmpi .sgt v111 c0_i32_50
  let v114 : BitVec 32 := Scalar.extui v113
  let c0_i32_51 : BitVec 32 := 0#32
  let v115 : BitVec 1 := Scalar.cmpi .slt v111 c0_i32_51
  let v116 : BitVec 32 := Scalar.extui v115
  let v117 : BitVec 32 := Scalar.subi v114 v116
  let c256_i32_49 : BitVec 32 := 256#32
  let c0_i32_52 : BitVec 32 := 0#32
  let v118 : BitVec 1 := Scalar.cmpi .sgt c256_i32_49 c0_i32_52
  let v119 : BitVec 32 := Scalar.extui v118
  let c0_i32_53 : BitVec 32 := 0#32
  let v120 : BitVec 1 := Scalar.cmpi .slt c256_i32_49 c0_i32_53
  let v121 : BitVec 32 := Scalar.extui v120
  let v122 : BitVec 32 := Scalar.subi v119 v121
  let v123 : BitVec 1 := Scalar.cmpi .ne v117 v122
  let v124 : BitVec 32 := Scalar.remsi v111 c256_i32_49
  let c0_i32_54 : BitVec 32 := 0#32
  let v125 : BitVec 1 := Scalar.cmpi .ne v124 c0_i32_54
  let v126 : BitVec 1 := Scalar.andi v123 v125
  let v112 : BitVec 32 := Scalar.divsi v111 c256_i32_49
  let c1_i32_55 : BitVec 32 := 1#32
  let v127 : BitVec 32 := Scalar.subi v112 c1_i32_55
  let v128 : BitVec 32 := Scalar.select v126 v127 v112
  let c1_i32_56 : BitVec 32 := 1#32
  let v129 : BitVec 32 := Scalar.addi arg2 c1_i32_56
  let c256_i32_57 : BitVec 32 := 256#32
  let v130 : BitVec 32 := Scalar.muli v129 c256_i32_57
  let c256_i32_58 : BitVec 32 := 256#32
  let v131 : BitVec 32 := Scalar.addi v130 c256_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c256_i32_60 : BitVec 32 := 256#32
  let c0_i32_63 : BitVec 32 := 0#32
  let v139 : BitVec 1 := Scalar.cmpi .sgt c256_i32_60 c0_i32_63
  let v140 : BitVec 32 := Scalar.extui v139
  let c0_i32_64 : BitVec 32 := 0#32
  let v141 : BitVec 1 := Scalar.cmpi .slt c256_i32_60 c0_i32_64
  let v142 : BitVec 32 := Scalar.extui v141
  let v143 : BitVec 32 := Scalar.subi v140 v142
  let v144 : BitVec 1 := Scalar.cmpi .ne v138 v143
  let v145 : BitVec 32 := Scalar.remsi v132 c256_i32_60
  let c0_i32_65 : BitVec 32 := 0#32
  let v146 : BitVec 1 := Scalar.cmpi .ne v145 c0_i32_65
  let v147 : BitVec 1 := Scalar.andi v144 v146
  let v133 : BitVec 32 := Scalar.divsi v132 c256_i32_60
  let c1_i32_66 : BitVec 32 := 1#32
  let v148 : BitVec 32 := Scalar.subi v133 c1_i32_66
  let v149 : BitVec 32 := Scalar.select v147 v148 v133
  let v150 : BitVec 32 := Scalar.subi v149 v128
  let c1_i32_67 : BitVec 32 := 1#32
  let v152 : BitVec 32 := Scalar.divsi v150 c1_i32_67
  let v153 : BitVec 32 := Scalar.muli v152 c1_i32_67
  let v154 : BitVec 32 := Scalar.addi v128 v153
  let c1_i32_69 : BitVec 32 := 1#32
  let arg11 : BitVec 32 := Scf.iv v154 c1_i32_69 k0_t6
  let c256_i32_80 : BitVec 32 := 256#32
  let v172 : BitVec 32 := Scalar.muli arg11 c256_i32_80
  v172
def k0_off11 (i : grid0.Coords) (k0_t6 : Fin (k0_t6_loop i).trips) : Fin 3 → Nat :=
  let c0_81 : Index := 0#32
  let arg2 : BitVec 32 := BitVec.ofNat 32 (i 2).val
  let c256_i32_47 : BitVec 32 := 256#32
  let v109 : BitVec 32 := Scalar.muli arg2 c256_i32_47
  let c511_i32 : BitVec 32 := 511#32
  let v110 : BitVec 32 := Scalar.subi v109 c511_i32
  let c0_i32_48 : BitVec 32 := 0#32
  let v111 : BitVec 32 := Scalar.maxsi v110 c0_i32_48
  let c0_i32_50 : BitVec 32 := 0#32
  let v113 : BitVec 1 := Scalar.cmpi .sgt v111 c0_i32_50
  let v114 : BitVec 32 := Scalar.extui v113
  let c0_i32_51 : BitVec 32 := 0#32
  let v115 : BitVec 1 := Scalar.cmpi .slt v111 c0_i32_51
  let v116 : BitVec 32 := Scalar.extui v115
  let v117 : BitVec 32 := Scalar.subi v114 v116
  let c256_i32_49 : BitVec 32 := 256#32
  let c0_i32_52 : BitVec 32 := 0#32
  let v118 : BitVec 1 := Scalar.cmpi .sgt c256_i32_49 c0_i32_52
  let v119 : BitVec 32 := Scalar.extui v118
  let c0_i32_53 : BitVec 32 := 0#32
  let v120 : BitVec 1 := Scalar.cmpi .slt c256_i32_49 c0_i32_53
  let v121 : BitVec 32 := Scalar.extui v120
  let v122 : BitVec 32 := Scalar.subi v119 v121
  let v123 : BitVec 1 := Scalar.cmpi .ne v117 v122
  let v124 : BitVec 32 := Scalar.remsi v111 c256_i32_49
  let c0_i32_54 : BitVec 32 := 0#32
  let v125 : BitVec 1 := Scalar.cmpi .ne v124 c0_i32_54
  let v126 : BitVec 1 := Scalar.andi v123 v125
  let v112 : BitVec 32 := Scalar.divsi v111 c256_i32_49
  let c1_i32_55 : BitVec 32 := 1#32
  let v127 : BitVec 32 := Scalar.subi v112 c1_i32_55
  let v128 : BitVec 32 := Scalar.select v126 v127 v112
  let c1_i32_56 : BitVec 32 := 1#32
  let v129 : BitVec 32 := Scalar.addi arg2 c1_i32_56
  let c256_i32_57 : BitVec 32 := 256#32
  let v130 : BitVec 32 := Scalar.muli v129 c256_i32_57
  let c256_i32_58 : BitVec 32 := 256#32
  let v131 : BitVec 32 := Scalar.addi v130 c256_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c256_i32_60 : BitVec 32 := 256#32
  let c0_i32_63 : BitVec 32 := 0#32
  let v139 : BitVec 1 := Scalar.cmpi .sgt c256_i32_60 c0_i32_63
  let v140 : BitVec 32 := Scalar.extui v139
  let c0_i32_64 : BitVec 32 := 0#32
  let v141 : BitVec 1 := Scalar.cmpi .slt c256_i32_60 c0_i32_64
  let v142 : BitVec 32 := Scalar.extui v141
  let v143 : BitVec 32 := Scalar.subi v140 v142
  let v144 : BitVec 1 := Scalar.cmpi .ne v138 v143
  let v145 : BitVec 32 := Scalar.remsi v132 c256_i32_60
  let c0_i32_65 : BitVec 32 := 0#32
  let v146 : BitVec 1 := Scalar.cmpi .ne v145 c0_i32_65
  let v147 : BitVec 1 := Scalar.andi v144 v146
  let v133 : BitVec 32 := Scalar.divsi v132 c256_i32_60
  let c1_i32_66 : BitVec 32 := 1#32
  let v148 : BitVec 32 := Scalar.subi v133 c1_i32_66
  let v149 : BitVec 32 := Scalar.select v147 v148 v133
  let v150 : BitVec 32 := Scalar.subi v149 v128
  let c1_i32_67 : BitVec 32 := 1#32
  let v152 : BitVec 32 := Scalar.divsi v150 c1_i32_67
  let v153 : BitVec 32 := Scalar.muli v152 c1_i32_67
  let v154 : BitVec 32 := Scalar.addi v128 v153
  let c1_i32_69 : BitVec 32 := 1#32
  let arg11 : BitVec 32 := Scf.iv v154 c1_i32_69 k0_t6
  let c256_i32_80 : BitVec 32 := 256#32
  let v172 : BitVec 32 := Scalar.muli arg11 c256_i32_80
  let v173 : BitVec 32 := v172
  let v174 : Index := Scalar.indexCast v173
  let c0_82 : Index := 0#32
  ![0, v174.toNat, 0]
def k0_off12 (i : grid0.Coords) (k0_t6 : Fin (k0_t6_loop i).trips) : Fin 3 → Nat :=
  let arg2 : BitVec 32 := BitVec.ofNat 32 (i 2).val
  let c256_i32_47 : BitVec 32 := 256#32
  let v109 : BitVec 32 := Scalar.muli arg2 c256_i32_47
  let c511_i32 : BitVec 32 := 511#32
  let v110 : BitVec 32 := Scalar.subi v109 c511_i32
  let c0_i32_48 : BitVec 32 := 0#32
  let v111 : BitVec 32 := Scalar.maxsi v110 c0_i32_48
  let c0_i32_50 : BitVec 32 := 0#32
  let v113 : BitVec 1 := Scalar.cmpi .sgt v111 c0_i32_50
  let v114 : BitVec 32 := Scalar.extui v113
  let c0_i32_51 : BitVec 32 := 0#32
  let v115 : BitVec 1 := Scalar.cmpi .slt v111 c0_i32_51
  let v116 : BitVec 32 := Scalar.extui v115
  let v117 : BitVec 32 := Scalar.subi v114 v116
  let c256_i32_49 : BitVec 32 := 256#32
  let c0_i32_52 : BitVec 32 := 0#32
  let v118 : BitVec 1 := Scalar.cmpi .sgt c256_i32_49 c0_i32_52
  let v119 : BitVec 32 := Scalar.extui v118
  let c0_i32_53 : BitVec 32 := 0#32
  let v120 : BitVec 1 := Scalar.cmpi .slt c256_i32_49 c0_i32_53
  let v121 : BitVec 32 := Scalar.extui v120
  let v122 : BitVec 32 := Scalar.subi v119 v121
  let v123 : BitVec 1 := Scalar.cmpi .ne v117 v122
  let v124 : BitVec 32 := Scalar.remsi v111 c256_i32_49
  let c0_i32_54 : BitVec 32 := 0#32
  let v125 : BitVec 1 := Scalar.cmpi .ne v124 c0_i32_54
  let v126 : BitVec 1 := Scalar.andi v123 v125
  let v112 : BitVec 32 := Scalar.divsi v111 c256_i32_49
  let c1_i32_55 : BitVec 32 := 1#32
  let v127 : BitVec 32 := Scalar.subi v112 c1_i32_55
  let v128 : BitVec 32 := Scalar.select v126 v127 v112
  let c1_i32_56 : BitVec 32 := 1#32
  let v129 : BitVec 32 := Scalar.addi arg2 c1_i32_56
  let c256_i32_57 : BitVec 32 := 256#32
  let v130 : BitVec 32 := Scalar.muli v129 c256_i32_57
  let c256_i32_58 : BitVec 32 := 256#32
  let v131 : BitVec 32 := Scalar.addi v130 c256_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c256_i32_60 : BitVec 32 := 256#32
  let c0_i32_63 : BitVec 32 := 0#32
  let v139 : BitVec 1 := Scalar.cmpi .sgt c256_i32_60 c0_i32_63
  let v140 : BitVec 32 := Scalar.extui v139
  let c0_i32_64 : BitVec 32 := 0#32
  let v141 : BitVec 1 := Scalar.cmpi .slt c256_i32_60 c0_i32_64
  let v142 : BitVec 32 := Scalar.extui v141
  let v143 : BitVec 32 := Scalar.subi v140 v142
  let v144 : BitVec 1 := Scalar.cmpi .ne v138 v143
  let v145 : BitVec 32 := Scalar.remsi v132 c256_i32_60
  let c0_i32_65 : BitVec 32 := 0#32
  let v146 : BitVec 1 := Scalar.cmpi .ne v145 c0_i32_65
  let v147 : BitVec 1 := Scalar.andi v144 v146
  let v133 : BitVec 32 := Scalar.divsi v132 c256_i32_60
  let c1_i32_66 : BitVec 32 := 1#32
  let v148 : BitVec 32 := Scalar.subi v133 c1_i32_66
  let v149 : BitVec 32 := Scalar.select v147 v148 v133
  let v150 : BitVec 32 := Scalar.subi v149 v128
  let c1_i32_67 : BitVec 32 := 1#32
  let v152 : BitVec 32 := Scalar.divsi v150 c1_i32_67
  let v153 : BitVec 32 := Scalar.muli v152 c1_i32_67
  let v154 : BitVec 32 := Scalar.addi v128 v153
  let c1_i32_69 : BitVec 32 := 1#32
  let arg11 : BitVec 32 := Scf.iv v154 c1_i32_69 k0_t6
  let v193 : Index := Scalar.indexCast arg11
  let c0_88 : Index := 0#32
  let c0_89 : Index := 0#32
  ![v193.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, c0_i32.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel7Ideal.lean ====
variable {F : FTy → Type} [FloatOps F] [Named F]
def κ : String → Option EReal := fun
  | "mask" => some ⊥
  | _ => none
-- ==== Reference7Ideal.lean ====
abbrev S8x2048x4x4x64 : Shape := ⟨5, ![8, 2048, 4, 4, 64]⟩
abbrev S8x2048x2x4x64 : Shape := ⟨5, ![8, 2048, 2, 4, 64]⟩
abbrev S4x128x16384 : Shape := ⟨3, ![4, 128, 16384]⟩
abbrev S2048 : Shape := ⟨1, ![2048]⟩
abbrev S4x32x16384 : Shape := ⟨3, ![4, 32, 16384]⟩
abbrev S4x32x8x2048 : Shape := ⟨4, ![4, 32, 8, 2048]⟩
abbrev S8x2048x4x32 : Shape := ⟨4, ![8, 2048, 4, 32]⟩
abbrev S_ : Shape := ⟨0, ![]⟩
abbrev S8x2048x4x32x1 : Shape := ⟨5, ![8, 2048, 4, 32, 1]⟩
abbrev S8x2048x4x32x64 : Shape := ⟨5, ![8, 2048, 4, 32, 64]⟩
abbrev S8x2048x4x2048 : Shape := ⟨4, ![8, 2048, 4, 2048]⟩
abbrev S2048x1 : Shape := ⟨2, ![2048, 1]⟩
abbrev S1x2048 : Shape := ⟨2, ![1, 2048]⟩
abbrev S2048x2048 : Shape := ⟨2, ![2048, 2048]⟩
abbrev S8x2048x4x1x2048 : Shape := ⟨5, ![8, 2048, 4, 1, 2048]⟩
abbrev S1x2048x1x1x2048 : Shape := ⟨5, ![1, 2048, 1, 1, 2048]⟩
abbrev S8x2048x1x4x64 : Shape := ⟨5, ![8, 2048, 1, 4, 64]⟩
abbrev S8x2048x4x64 : Shape := ⟨4, ![8, 2048, 4, 64]⟩
abbrev S8x4x2048x2048x4 : Shape := ⟨5, ![8, 4, 2048, 2048, 4]⟩
abbrev S8x2048x4x4x2048 : Shape := ⟨5, ![8, 2048, 4, 4, 2048]⟩
abbrev S8x2048x4x4 : Shape := ⟨4, ![8, 2048, 4, 4]⟩
abbrev S8x2048x4x4x1 : Shape := ⟨5, ![8, 2048, 4, 4, 1]⟩
abbrev S8x4x64x2048x4 : Shape := ⟨5, ![8, 4, 64, 2048, 4]⟩
abbrev S16384x1024 : Shape := ⟨2, ![16384, 1024]⟩
abbrev S1024x16384 : Shape := ⟨2, ![1024, 16384]⟩

abbrev nBuf : Space → Nat
  | .hbm => 110
  | .vmem => 0
  | .smem => 0
  | _ => 0

abbrev bufTy : (tb : Table) → Fin (tcTables nBuf tb) → BufTy
  | .hbm, ⟨0, _⟩ => ⟨S8x2048x4x4x64, .f32⟩
  | .hbm, ⟨1, _⟩ => ⟨S8x2048x2x4x64, .f32⟩
  | .hbm, ⟨2, _⟩ => ⟨S8x2048x2x4x64, .f32⟩
  | .hbm, ⟨3, _⟩ => ⟨S4x128x16384, .f32⟩
  | .hbm, ⟨4, _⟩ => ⟨S2048, .i32⟩
  | .hbm, ⟨5, _⟩ => ⟨S4x32x16384, .f32⟩
  | .hbm, ⟨6, _⟩ => ⟨S4x32x8x2048, .f32⟩
  | .hbm, ⟨7, _⟩ => ⟨S8x2048x4x32, .f32⟩
  | .hbm, ⟨8, _⟩ => ⟨S_, .f32⟩
  | .hbm, ⟨9, _⟩ => ⟨S8x2048x4x32, .f32⟩
  | .hbm, ⟨10, _⟩ => ⟨S8x2048x4x32, .i1⟩
  | .hbm, ⟨11, _⟩ => ⟨S8x2048x4x32x1, .i1⟩
  | .hbm, ⟨12, _⟩ => ⟨S8x2048x4x32x64, .i1⟩
  | .hbm, ⟨13, _⟩ => ⟨S8x2048x4x2048, .i1⟩
  | .hbm, ⟨14, _⟩ => ⟨S2048x1, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S8x2048x4x1x2048, .i1⟩
  | .hbm, ⟨20, _⟩ => ⟨S_, .i32⟩
  | .hbm, ⟨21, _⟩ => ⟨S2048x2048, .i32⟩
  | .hbm, ⟨22, _⟩ => ⟨S2048x2048, .i1⟩
  | .hbm, ⟨23, _⟩ => ⟨S1x2048x1x1x2048, .i1⟩
  | .hbm, ⟨24, _⟩ => ⟨S8x2048x4x1x2048, .i1⟩
  | .hbm, ⟨25, _⟩ => ⟨S8x2048x4x1x2048, .i1⟩
  | .hbm, ⟨26, _⟩ => ⟨S8x2048x1x4x64, .f32⟩
  | .hbm, ⟨27, _⟩ => ⟨S8x2048x4x64, .f32⟩
  | .hbm, ⟨28, _⟩ => ⟨S8x4x2048x2048x4, .f32⟩
  | .hbm, ⟨29, _⟩ => ⟨S8x2048x4x4x2048, .f32⟩
  | .hbm, ⟨30, _⟩ => ⟨S_, .f32⟩
  | .hbm, ⟨31, _⟩ => ⟨S8x2048x4x4x2048, .f32⟩
  | .hbm, ⟨32, _⟩ => ⟨S8x2048x4x4x2048, .f32⟩
  | .hbm, ⟨33, _⟩ => ⟨S_, .f32⟩
  | .hbm, ⟨34, _⟩ => ⟨S_, .f32⟩
  | .hbm, ⟨35, _⟩ => ⟨S8x2048x4x4x2048, .i1⟩
  | .hbm, ⟨36, _⟩ => ⟨S8x2048x4x4x2048, .f32⟩
  | .hbm, ⟨37, _⟩ => ⟨S8x2048x4x4x2048, .f32⟩
  | .hbm, ⟨38, _⟩ => ⟨S_, .f32⟩
  | .hbm, ⟨39, _⟩ => ⟨S8x2048x4x4, .f32⟩
  | .hbm, ⟨40, _⟩ => ⟨S8x2048x4x4x1, .f32⟩
  | .hbm, ⟨41, _⟩ => ⟨S8x2048x4x4x2048, .f32⟩
  | .hbm, ⟨42, _⟩ => ⟨S8x2048x4x4x2048, .f32⟩
  | .hbm, ⟨43, _⟩ => ⟨S8x2048x4x4x2048, .f32⟩
  | .hbm, ⟨44, _⟩ => ⟨S_, .f32⟩
  | .hbm, ⟨45, _⟩ => ⟨S_, .f32⟩
  | .hbm, ⟨46, _⟩ => ⟨S8x2048x4x4x2048, .i1⟩
  | .hbm, ⟨47, _⟩ => ⟨S8x2048x4x4x2048, .f32⟩
  | .hbm, ⟨48, _⟩ => ⟨S8x2048x4x4x2048, .f32⟩
  | .hbm, ⟨49, _⟩ => ⟨S_, .f32⟩
  | .hbm, ⟨50, _⟩ => ⟨S8x2048x4x4, .f32⟩
  | .hbm, ⟨51, _⟩ => ⟨S8x2048x4x4x1, .f32⟩
  | .hbm, ⟨52, _⟩ => ⟨S_, .f32⟩
  | .hbm, ⟨53, _⟩ => ⟨S8x2048x4x4x1, .f32⟩
  | .hbm, ⟨54, _⟩ => ⟨S8x2048x4x4x1, .f32⟩
  | .hbm, ⟨55, _⟩ => ⟨S8x2048x4x4x2048, .f32⟩
  | .hbm, ⟨56, _⟩ => ⟨S8x2048x4x4x2048, .f32⟩
  | .hbm, ⟨57, _⟩ => ⟨S8x2048x1x4x64, .f32⟩
  | .hbm, ⟨58, _⟩ => ⟨S8x2048x4x64, .f32⟩
  | .hbm, ⟨59, _⟩ => ⟨S8x4x64x2048x4, .f32⟩
  | .hbm, ⟨60, _⟩ => ⟨S8x2048x4x4x64, .f32⟩
  | .hbm, ⟨61, _⟩ => ⟨S16384x1024, .f32⟩
  | .hbm, ⟨62, _⟩ => ⟨S1024x16384, .f32⟩
  | .hbm, ⟨63, _⟩ => ⟨S1024x16384, .bf16⟩
  | .hbm, ⟨64, _⟩ => ⟨S_, .i32⟩
  | .hbm, ⟨65, _⟩ => ⟨S2048x2048, .i32⟩
  | .hbm, ⟨66, _⟩ => ⟨S2048x2048, .i1⟩
  | .hbm, ⟨67, _⟩ => ⟨S_, .i32⟩
  | .hbm, ⟨68, _⟩ => ⟨S2048x2048, .i32⟩
  | .hbm, ⟨69, _⟩ => ⟨S2048x2048, .i1⟩
  | .hbm, ⟨70, _⟩ => ⟨S2048x2048, .i1⟩
  | .hbm, ⟨71, _⟩ => ⟨S1x2048x1x1x2048, .i1⟩
  | .hbm, ⟨72, _⟩ => ⟨S8x2048x1x4x64, .f32⟩
  | .hbm, ⟨73, _⟩ => ⟨S8x2048x4x64, .f32⟩
  | .hbm, ⟨74, _⟩ => ⟨S8x4x2048x2048x4, .f32⟩
  | .hbm, ⟨75, _⟩ => ⟨S8x2048x4x4x2048, .f32⟩
  | .hbm, ⟨76, _⟩ => ⟨S_, .f32⟩
  | .hbm, ⟨77, _⟩ => ⟨S8x2048x4x4x2048, .f32⟩
  | .hbm, ⟨78, _⟩ => ⟨S8x2048x4x4x2048, .f32⟩
  | .hbm, ⟨79, _⟩ => ⟨S_, .f32⟩
  | .hbm, ⟨80, _⟩ => ⟨S_, .f32⟩
  | .hbm, ⟨81, _⟩ => ⟨S8x2048x4x4x2048, .i1⟩
  | .hbm, ⟨82, _⟩ => ⟨S8x2048x4x4x2048, .f32⟩
  | .hbm, ⟨83, _⟩ => ⟨S8x2048x4x4x2048, .f32⟩
  | .hbm, ⟨84, _⟩ => ⟨S_, .f32⟩
  | .hbm, ⟨85, _⟩ => ⟨S8x2048x4x4, .f32⟩
  | .hbm, ⟨86, _⟩ => ⟨S8x2048x4x4x1, .f32⟩
  | .hbm, ⟨87, _⟩ => ⟨S8x2048x4x4x2048, .f32⟩
  | .hbm, ⟨88, _⟩ => ⟨S8x2048x4x4x2048, .f32⟩
  | .hbm, ⟨89, _⟩ => ⟨S8x2048x4x4x2048, .f32⟩
  | .hbm, ⟨90, _⟩ => ⟨S_, .f32⟩
  | .hbm, ⟨91, _⟩ => ⟨S_, .f32⟩
  | .hbm, ⟨92, _⟩ => ⟨S8x2048x4x4x2048, .i1⟩
  | .hbm, ⟨93, _⟩ => ⟨S8x2048x4x4x2048, .f32⟩
  | .hbm, ⟨94, _⟩ => ⟨S8x2048x4x4x2048, .f32⟩
  | .hbm, ⟨95, _⟩ => ⟨S_, .f32⟩
  | .hbm, ⟨96, _⟩ => ⟨S8x2048x4x4, .f32⟩
  | .hbm, ⟨97, _⟩ => ⟨S8x2048x4x4x1, .f32⟩
  | .hbm, ⟨98, _⟩ => ⟨S_, .f32⟩
  | .hbm, ⟨99, _⟩ => ⟨S8x2048x4x4x1, .f32⟩
  | .hbm, ⟨100, _⟩ => ⟨S8x2048x4x4x1, .f32⟩
  | .hbm, ⟨101, _⟩ => ⟨S8x2048x4x4x2048, .f32⟩
  | .hbm, ⟨102, _⟩ => ⟨S8x2048x4x4x2048, .f32⟩
  | .hbm, ⟨103, _⟩ => ⟨S8x2048x1x4x64, .f32⟩
  | .hbm, ⟨104, _⟩ => ⟨S8x2048x4x64, .f32⟩
  | .hbm, ⟨105, _⟩ => ⟨S8x4x64x2048x4, .f32⟩
  | .hbm, ⟨106, _⟩ => ⟨S8x2048x4x4x64, .f32⟩
  | .hbm, ⟨107, _⟩ => ⟨S16384x1024, .f32⟩
  | .hbm, ⟨108, _⟩ => ⟨S1024x16384, .f32⟩
  | .hbm, ⟨109, _⟩ => ⟨S1024x16384, .bf16⟩
  | _, _ => ⟨S8x2048x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_6 : Ref sig .tc := ⟨.hbm, 64, rfl⟩
abbrev main_v46 : Ref sig .tc := ⟨.hbm, 65, rfl⟩
abbrev main_v47 : Ref sig .tc := ⟨.hbm, 66, rfl⟩
abbrev main_c_7 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_11 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_cst_13 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]
-- ==== Proof.Attn.Online.lean ====
/- The mathematics of a softmax taken chunk by chunk, over extended reals: the running maximum, the running
   normaliser and the running weighted sum of a row of scores, how they move when a chunk of scores is added,
   and the difference of two such softmaxes as one weighted sum.  Nothing here mentions the programs. -/
module

public import Idealize.ShloMosaic.PureOps.Ideal.Laws
public import Idealize.ShloMosaic.Lib.IdealHost

@[expose] public section

noncomputable section

namespace Cert.DiffAttn

open Idealize.ShloMosaic
open scoped BigOperators

/-! ## Reals inside the extended reals -/

/-- A finite sum of reals, read as an extended real, is the sum of the extended reals. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real by a nonzero real is their real quotient. -/
theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- The larger of two reals, read as an extended real. -/
theorem max_coe (a b : ℝ) : max (a : EReal) (b : EReal) = ((max a b : ℝ) : EReal) := by
  rcases le_total a b with h | h
  · rw [max_eq_right h, max_eq_right (by exact_mod_cast h)]
  · rw [max_eq_left h, max_eq_left (by exact_mod_cast h)]

/-- The exponential of a masked score is 0. -/
theorem exp_masked (M : EReal) : Ideal.exp (⊥ - M) = 0 := by
  rw [EReal.bot_sub]; rfl

/-- The weight of score `x` against the maximum `M`, as a real: 0 at a masked score. -/
def weight (x : EReal) (M : ℝ) : ℝ := if x = ⊥ then 0 else Real.exp (x.toReal - M)

/-- The exponential of a score less a real maximum is its weight. -/
theorem exp_sub_coe {x : EReal} (hx : x ≠ ⊤) (M : ℝ) : Ideal.exp (x - (M : EReal)) = (weight x M : EReal) := by
  unfold weight
  induction x with
  | bot => rw [exp_masked]; simp
  | top => exact absurd rfl hx
  | coe r =>
    rw [if_neg (EReal.coe_ne_bot r), ← EReal.coe_sub, EReal.toReal_coe]
    rfl

/-- Moving the maximum scales every weight by the same factor. -/
theorem weight_shift (x : EReal) (M M' : ℝ) : weight x M' = Real.exp (M - M') * weight x M := by
  unfold weight
  split
  · simp
  · rw [← Real.exp_add]; congr 1; ring

/-! ## A row of scores -/

/-- The maximum of the first `N` scores (`⊥` of none). -/
def rowMax (s : ℕ → EReal) (N : ℕ) : EReal := (Finset.range N).sup s

/-- The first `N` values weighted by the exponentials of their scores less the maximum. -/
def rowVal (s w : ℕ → EReal) (N : ℕ) : EReal := ∑ κ ∈ Finset.range N, w κ * Ideal.exp (s κ - rowMax s N)

/-- The normaliser: the sum of the exponentials alone. -/
def rowSum (s : ℕ → EReal) (N : ℕ) : EReal := ∑ κ ∈ Finset.range N, Ideal.exp (s κ - rowMax s N)

theorem rowSum_eq (s : ℕ → EReal) (N : ℕ) : rowSum s N = rowVal s (fun _ => 1) N := by
  unfold rowSum rowVal; simp only [one_mul]

theorem rowMax_zero (s : ℕ → EReal) : rowMax s 0 = ⊥ := by simp [rowMax]
theorem rowVal_zero (s w : ℕ → EReal) : rowVal s w 0 = 0 := by simp [rowVal]
theorem rowSum_zero (s : ℕ → EReal) : rowSum s 0 = 0 := by simp [rowSum]

/-- Scores as the programs have them: never `⊤`, and the first one real. -/
structure Scores (s : ℕ → EReal) : Prop where
  ne_top : ∀ κ, s κ ≠ ⊤
  first : s 0 ≠ ⊥

/-- Values that are all reals. -/
def Reals (w : ℕ → EReal) : Prop := ∀ κ, ∃ r : ℝ, w κ = (r : EReal)

theorem reals_one : Reals fun _ => 1 := fun _ => ⟨1, by simp⟩

/-- The maximum of at least one score is a real. -/
theorem rowMax_real {s : ℕ → EReal} (hs : Scores s) {N : ℕ} (hN : 0 < N) : ∃ M : ℝ, rowMax s N = (M : EReal) := by
  have ht : rowMax s N ≠ ⊤ :=
    ((Finset.sup_lt_iff bot_lt_top).2 fun κ _ => lt_top_iff_ne_top.2 (hs.ne_top κ)).ne
  have hb : rowMax s N ≠ ⊥ := fun h => hs.first (le_bot_iff.1 (h ▸ Finset.le_sup (f := s) (Finset.mem_range.2 hN)))
  exact ⟨_, (EReal.coe_toReal ht hb).symm⟩

/-- The maximum after a further chunk of `n` scores. -/
theorem rowMax_add (s : ℕ → EReal) (N n : ℕ) :
    rowMax s (N + n) = max (rowMax s N) ((Finset.univ : Finset (Fin n)).sup fun r => s (N + r.val)) := by
  unfold rowMax
  apply le_antisymm
  · refine Finset.sup_le fun κ hκ => ?_
    rcases lt_or_ge κ N with h | h
    · exact le_max_of_le_left (Finset.le_sup (Finset.mem_range.2 h))
    · have hlt : κ - N < n := by have := Finset.mem_range.1 hκ; omega
      refine le_max_of_le_right ?_
      have e := Finset.le_sup (f := fun r : Fin n => s (N + r.val)) (Finset.mem_univ ⟨κ - N, hlt⟩)
      simpa [Nat.add_sub_cancel' h] using e
  · refine max_le ?_ ?_
    · exact Finset.sup_mono (Finset.range_mono (Nat.le_add_right N n))
    · exact Finset.sup_le fun r _ => Finset.le_sup (Finset.mem_range.2 (by omega))

/-- The weighted sum of `N > 0` values as a real. -/
theorem rowVal_coe {s w : ℕ → EReal} (hs : Scores s) {r : ℕ → ℝ} (hr : ∀ κ, w κ = (r κ : EReal)) {N : ℕ} {M : ℝ}
    (hM : rowMax s N = (M : EReal)) : rowVal s w N = ((∑ κ ∈ Finset.range N, r κ * weight (s κ) M : ℝ) : EReal) := by
  rw [coe_sum]
  unfold rowVal
  refine Finset.sum_congr rfl fun κ _ => ?_
  rw [hM, exp_sub_coe (hs.ne_top κ), hr, EReal.coe_mul]

/-- The weighted sum after a further chunk of `n` scores: the old sum, scaled by the exponential of the old
    maximum less the new one, plus the chunk's own sum. -/
theorem rowVal_add {s w : ℕ → EReal} (hs : Scores s) (hw : Reals w) (N n : ℕ) (hn : 0 < n) :
    rowVal s w (N + n) = Ideal.exp (rowMax s N - rowMax s (N + n)) * rowVal s w N
      + ∑ r : Fin n, w (N + r.val) * Ideal.exp (s (N + r.val) - rowMax s (N + n)) := by
  obtain ⟨M', hM'⟩ := rowMax_real hs (show 0 < N + n by omega)
  choose r hr using hw
  have hsplit : rowVal s w (N + n) = (∑ κ ∈ Finset.range N, w κ * Ideal.exp (s κ - rowMax s (N + n)))
      + ∑ r : Fin n, w (N + r.val) * Ideal.exp (s (N + r.val) - rowMax s (N + n)) := by
    unfold rowVal
    rw [Finset.sum_range_add, Finset.sum_range (fun x => w (N + x) * Ideal.exp (s (N + x) - rowMax s (N + n)))]
  rw [hsplit]
  congr 1
  rcases Nat.eq_zero_or_pos N with rfl | hN
  · simp [rowVal_zero]
  · obtain ⟨M, hM⟩ := rowMax_real hs hN
    rw [rowVal_coe hs hr hM, hM, hM', ← EReal.coe_sub]
    show _ = ((Real.exp (M - M') : ℝ) : EReal) * _
    rw [← EReal.coe_mul, Finset.mul_sum, coe_sum]
    refine Finset.sum_congr rfl fun κ _ => ?_
    rw [exp_sub_coe (hs.ne_top κ), hr, ← EReal.coe_mul, weight_shift (s κ) M M']
    congr 1; ring

/-- The normaliser after a further chunk of `n` scores. -/
theorem rowSum_add {s : ℕ → EReal} (hs : Scores s) (N n : ℕ) (hn : 0 < n) :
    rowSum s (N + n) = Ideal.exp (rowMax s N - rowMax s (N + n)) * rowSum s N
      + ∑ r : Fin n, Ideal.exp (s (N + r.val) - rowMax s (N + n)) := by
  rw [rowSum_eq, rowSum_eq, rowVal_add hs reals_one N n hn]
  simp only [one_mul]

/-! ## Masked scores at the end of the row change nothing -/

theorem rowMax_masked (s : ℕ → EReal) {N N' : ℕ} (h : N ≤ N') (hm : ∀ κ, N ≤ κ → s κ = ⊥) : rowMax s N' = rowMax s N := by
  obtain ⟨n, rfl⟩ := Nat.exists_eq_add_of_le h
  rw [rowMax_add]
  refine max_eq_left ((Finset.sup_le fun r _ => ?_).trans bot_le)
  rw [hm _ (Nat.le_add_right _ _)]

theorem rowVal_masked (s w : ℕ → EReal) {N N' : ℕ} (h : N ≤ N') (hm : ∀ κ, N ≤ κ → s κ = ⊥) :
    rowVal s w N' = rowVal s w N := by
  unfold rowVal
  rw [rowMax_masked s h hm]
  symm
  refine Finset.sum_subset (Finset.range_mono h) fun κ _ hκ => ?_
  rw [hm κ (by simpa using hκ), exp_masked, mul_zero]

theorem rowSum_masked (s : ℕ → EReal) {N N' : ℕ} (h : N ≤ N') (hm : ∀ κ, N ≤ κ → s κ = ⊥) :
    rowSum s N' = rowSum s N := by
  rw [rowSum_eq, rowSum_eq, rowVal_masked s _ h hm]

/-! ## The difference of two softmaxes -/

/-- Two weighted sums, each divided by its normaliser (kept above a real `ε > 0`), the second times `lam` taken from
    the first: the same as weighting each value by the difference of the two softmaxes. -/
theorem difference {s₀ s₁ w : ℕ → EReal} (h₀ : Scores s₀) (h₁ : Scores s₁) (hw : Reals w) {N : ℕ} (hN : 0 < N)
    {lam : EReal} (hl : ∃ r : ℝ, lam = (r : EReal)) {ε : EReal} (hε : ∃ r : ℝ, 0 < r ∧ ε = (r : EReal)) :
    rowVal s₀ w N * Ideal.div 1 (max (rowSum s₀ N) ε) - lam * (rowVal s₁ w N * Ideal.div 1 (max (rowSum s₁ N) ε))
      = ∑ κ ∈ Finset.range N, w κ * (Ideal.div (Ideal.exp (s₀ κ - rowMax s₀ N)) (max (rowSum s₀ N) ε)
          - lam * Ideal.div (Ideal.exp (s₁ κ - rowMax s₁ N)) (max (rowSum s₁ N) ε)) := by
  obtain ⟨M₀, hM₀⟩ := rowMax_real h₀ hN
  obtain ⟨M₁, hM₁⟩ := rowMax_real h₁ hN
  obtain ⟨l, rfl⟩ := hl
  obtain ⟨e, he, rfl⟩ := hε
  choose r hr using hw
  have one : ∀ κ : ℕ, (fun _ : ℕ => (1 : EReal)) κ = (((fun _ : ℕ => (1 : ℝ)) κ : ℝ) : EReal) := fun _ => by simp
  rw [rowSum_eq, rowSum_eq, rowVal_coe h₀ hr hM₀, rowVal_coe h₁ hr hM₁, rowVal_coe h₀ one hM₀, rowVal_coe h₁ one hM₁,
    max_coe, max_coe, hM₀, hM₁]
  generalize hd₀ : max (∑ κ ∈ Finset.range N, (1 : ℝ) * weight (s₀ κ) M₀) e = d₀
  generalize hd₁ : max (∑ κ ∈ Finset.range N, (1 : ℝ) * weight (s₁ κ) M₁) e = d₁
  have p₀ : d₀ ≠ 0 := by rw [← hd₀]; exact (lt_of_lt_of_le he (le_max_right _ _)).ne'
  have p₁ : d₁ ≠ 0 := by rw [← hd₁]; exact (lt_of_lt_of_le he (le_max_right _ _)).ne'
  rw [show (1 : EReal) = ((1 : ℝ) : EReal) by simp, div_coe _ _ p₀, div_coe _ _ p₁]
  have term : ∀ κ, w κ * (Ideal.div (Ideal.exp (s₀ κ - (M₀ : EReal))) (d₀ : EReal)
        - (l : EReal) * Ideal.div (Ideal.exp (s₁ κ - (M₁ : EReal))) (d₁ : EReal))
      = ((r κ * (weight (s₀ κ) M₀ / d₀ - l * (weight (s₁ κ) M₁ / d₁)) : ℝ) : EReal) := fun κ => by
    rw [exp_sub_coe (h₀.ne_top κ), exp_sub_coe (h₁.ne_top κ), div_coe _ _ p₀, div_coe _ _ p₁, hr]
    simp only [EReal.coe_mul, EReal.coe_sub]
  rw [Finset.sum_congr rfl fun κ _ => term κ, ← coe_sum]
  simp only [← EReal.coe_mul, ← EReal.coe_sub]
  congr 1
  rw [Finset.sum_mul, Finset.sum_mul, Finset.mul_sum, ← Finset.sum_sub_distrib]
  refine Finset.sum_congr rfl fun κ _ => ?_
  ring

/-- The word of negative infinity is the bottom of the extended reals. -/
theorem ofBits_neg_inf : Ideal.ofBits .f32 0xFF800000#32 = ⊥ := by
  simp [Ideal.ofBits, Ideal.ieee]

/-- A maximum folded from `⊥` is the supremum. -/
theorem fold_max_bot {n : ℕ} (f : Fin n → EReal) : Finset.univ.fold max ⊥ f = Finset.univ.sup f := rfl

end Cert.DiffAttn

end
-- ==== Proof.Attn.Chunk.lean ====
/- One chunk of keys in the attention call: what the vector expressions of one pass of the key loop hold, read at
   an index.  The three carried arrays are, per column, the running maximum, normaliser and weighted sums of
   Online.lean; the lemmas say that a pass takes them from `N` scores to `N + 512`. -/
module

public import proofs.«01_k».proof.Proof.Gen.KernelIdeal.Value
public import proofs.«01_k».proof.Proof.Attn.Online
public import Idealize.ShloMosaic.Lib.Pointwise

@[expose] public section

set_option maxRecDepth 16384

noncomputable section

namespace Cert.DiffAttn

open Cert.KernelIdeal Cert.KernelIdeal.Gen Idealize.ShloMosaic Idealize.ShloMosaic.TcCoe
open scoped BigOperators

/-- The carried maxima after `N` scores, a row of 1024 columns. -/
def maxs (s : Fin 1024 → ℕ → EReal) (N : ℕ) : FVec Ideal S1x1024 .f32 := fun j => rowMax (s (j 1)) N
/-- The carried normalisers after `N` scores. -/
def sums (s : Fin 1024 → ℕ → EReal) (N : ℕ) : FVec Ideal S1x1024 .f32 := fun j => rowSum (s (j 1)) N
/-- The carried weighted sums after `N` scores, one row per value coordinate. -/
def vals (s : Fin 1024 → ℕ → EReal) (w : Fin 128 → ℕ → EReal) (N : ℕ) : FVec Ideal S128x1024 .f32 :=
  fun j => rowVal (s (j 1)) (w (j 0)) N

theorem pay5_eq (s : Fin 1024 → ℕ → EReal) : k0_pay5 (F := Ideal) = maxs s 0 := by
  funext j
  rw [show maxs s 0 j = ⊥ from rowMax_zero _]
  exact IdealRules.named_const.ideal_named_scalar _ _ _ _ rfl

theorem pay6_eq (s : Fin 1024 → ℕ → EReal) : k0_pay6 (F := Ideal) = sums s 0 := by
  funext j
  rw [show sums s 0 j = 0 from rowSum_zero _]
  pointwise [k0_pay6]

theorem pay7_eq (s : Fin 1024 → ℕ → EReal) (w : Fin 128 → ℕ → EReal) : k0_pay7 (F := Ideal) = vals s w 0 := by
  funext j
  rw [show vals s w 0 j = 0 from rowVal_zero _ _]
  pointwise [k0_pay7]

section Step

variable {s : Fin 1024 → ℕ → EReal} {w : Fin 128 → ℕ → EReal} (hs : ∀ c, Scores (s c)) (hw : ∀ e, Reals (w e))
variable {N : ℕ} (q : FVec Ideal S128x1024 .bf16) (kc : Vec Ideal S512x128 .bf16) (vc : Vec Ideal S1x128x512 .bf16)

/-! ### A chunk without a mask -/

section Plain

variable (h : ∀ (r : Fin 512) (c : Fin 1024), k0_pay8 (F := Ideal) q kc (ix2 r c) = s c (N + r.val))
include h

theorem pay9_step : k0_pay9 q (maxs s N) kc = maxs s (N + 512) := by
  funext j
  idx_vars j
  pointwise [k0_pay9]
  rw [ofBits_neg_inf, fold_max_bot]
  simp only [h]
  exact (rowMax_add _ N 512).symm

include hs

theorem pay12_step : k0_pay12 q (maxs s N) (sums s N) kc = sums s (N + 512) := by
  funext j
  idx_vars j
  pointwise [k0_pay12, k0_pay11, k0_pay10]
  rw [pay9_step q kc h]
  simp only [h]
  exact (rowSum_add (hs _) N 512 (by norm_num)).symm

include hw

theorem pay13_step (hv : ∀ (e : Fin 128) (r : Fin 512), vc (ix3 0 e r) = w e (N + r.val)) :
    k0_pay13 q (maxs s N) (vals s w N) kc vc = vals s w (N + 512) := by
  funext j
  idx_vars j
  pointwise [k0_pay13, k0_pay11, k0_pay10]
  rw [pay9_step q kc h]
  simp only [h, hv]
  exact (rowVal_add (hs _) (hw _) N 512 (by norm_num)).symm

end Plain

/-! ### A chunk with the causal mask -/

section Masked

variable (i : grid0.Coords) (v54 v55 : IVec S512x1024 32) (v73 : BitVec 32) (t : Fin (k0_t3_loop i).trips)
variable (h : ∀ (r : Fin 512) (c : Fin 1024), k0_pay20 (F := Ideal) i q v54 v55 v73 t kc (ix2 r c) = s c (N + r.val))
include h

theorem pay21_step : k0_pay21 i q v54 v55 v73 t (maxs s N) kc = maxs s (N + 512) := by
  funext j
  idx_vars j
  pointwise [k0_pay21]
  rw [ofBits_neg_inf, fold_max_bot]
  simp only [h]
  exact (rowMax_add _ N 512).symm

include hs

theorem pay24_step : k0_pay24 i q v54 v55 v73 t (maxs s N) (sums s N) kc = sums s (N + 512) := by
  funext j
  idx_vars j
  pointwise [k0_pay24, k0_pay23, k0_pay22]
  rw [pay21_step q kc i v54 v55 v73 t h]
  simp only [h]
  exact (rowSum_add (hs _) N 512 (by norm_num)).symm

include hw

theorem pay25_step (hv : ∀ (e : Fin 128) (r : Fin 512), vc (ix3 0 e r) = w e (N + r.val)) :
    k0_pay25 i q v54 v55 v73 t (maxs s N) (vals s w N) kc vc = vals s w (N + 512) := by
  funext j
  idx_vars j
  pointwise [k0_pay25, k0_pay23, k0_pay22]
  rw [pay21_step q kc i v54 v55 v73 t h]
  simp only [h, hv]
  exact (rowVal_add (hs _) (hw _) N 512 (by norm_num)).symm

end Masked

end Step

end Cert.DiffAttn

end
-- ==== Proof.Attn.Block.lean ====
/- One block of the attention call: 512 queries of one head of one sequence, against every key they may see.
   The two key loops that run — the chunks before the queries' own, and the queries' own chunk under the causal
   mask — leave the maxima, normalisers and weighted sums of all the scores up to the queries' own chunk. -/
module

public import proofs.«01_k».proof.Proof.Attn.Chunk
public import Idealize.ShloMosaic.Lib.Pipeline.ValueKit
public import Idealize.ShloMosaic.Lib.Claim

@[expose] public section

set_option maxRecDepth 16384

noncomputable section

namespace Cert.DiffAttn

open Cert.KernelIdeal Cert.KernelIdeal.Gen Idealize.ShloMosaic Idealize.ShloMosaic.TcCoe Idealize.SL.Sem
open scoped BigOperators

/-! ## How often the four loops run -/

theorem trips1 : ∀ i : grid0.Coords, (k0_t1_loop i).trips = (i 2).val := by decide +kernel
theorem trips2 : ∀ i : grid0.Coords, (k0_t2_loop i).trips = 0 := by decide +kernel
theorem trips3 : ∀ i : grid0.Coords, (k0_t3_loop i).trips = 1 := by decide +kernel
theorem trips4 : ∀ i : grid0.Coords, (k0_t4_loop i).trips = 0 := by decide +kernel

/-! ## The scores and the values of a block -/

/-- The score of key `κ` in column `c`: columns 0–511 are the block's queries in the first component, columns
    512–1023 the same queries in the second. -/
def score (X0 : Vec Ideal S128x512 .bf16) (X1 : Vec Ideal S2048x128 .bf16) (c : Fin 1024) (κ : Fin 2048) : EReal :=
  ∑ x : Fin 128, X1 (ix2 κ x) * k0_pay2 (F := Ideal) X0 (ix2 x c)

/-- The scores of column `c` as a row, `⊥` at the keys after the column's query. -/
def scores (X0 : Vec Ideal S128x512 .bf16) (X1 : Vec Ideal S2048x128 .bf16) (qi : ℕ) (c : Fin 1024) (κ : ℕ) : EReal :=
  if h : κ < 2048 then if κ ≤ qi * 512 + c.val % 512 then score X0 X1 c ⟨κ, h⟩ else ⊥ else ⊥

/-- Coordinate `e` of the values, in the order of the keys. -/
def values (X2 : Vec Ideal S4x128x512 .bf16) (e : Fin 128) (κ : ℕ) : EReal :=
  if h : κ < 2048 then X2 (ix3 ⟨κ / 512, by omega⟩ e ⟨κ % 512, by omega⟩) else 0

/-! ## What a pass loads -/

theorem keys_chunk (X1 : Vec Ideal S2048x128 .bf16) (off : Fin 2 → ℕ) (inb) (n : ℕ) (ho : off = ![512 * n, 0])
    (hn : n < 4) (r : Fin 512) (x : Fin 128) :
    View.ld (Val := Elt Ideal) X1 (Rect.unit (s := S2048x128) off S512x128.size inb) (ix2 r x) = X1 (ix2 ⟨512 * n + r.val, by omega⟩ x) := by
  subst ho
  pointwise

theorem values_chunk (X2 : Vec Ideal S4x128x512 .bf16) (off : Fin 3 → ℕ) (inb) (n : ℕ) (ho : off = ![n, 0, 0])
    (hn : n < 4) (e : Fin 128) (r : Fin 512) :
    View.ld (Val := Elt Ideal) X2 (Rect.unit (s := S4x128x512) off S1x128x512.size inb) (ix3 0 e r) = values X2 e (512 * n + r.val) := by
  subst ho
  pointwise
  unfold values
  rw [dif_pos (by omega)]
  congr 1
  have h1 : (512 * n + r.val) / 512 = n := by omega
  have h2 : (512 * n + r.val) % 512 = r.val := by omega
  simp only [h1, h2]

/-- The product of a chunk of keys with the block's queries, in terms of the chunk. -/
theorem pay8_apply (q : FVec Ideal S128x1024 .bf16) (kc : Vec Ideal S512x128 .bf16) (r : Fin 512) (c : Fin 1024) :
    k0_pay8 (F := Ideal) q kc (ix2 r c) = ∑ x : Fin 128, kc (ix2 r x) * q (ix2 x c) := by
  pointwise [k0_pay8]

/-- The same product under the causal mask. -/
theorem pay20_apply (i : grid0.Coords) (q : FVec Ideal S128x1024 .bf16) (v54 v55 : IVec S512x1024 32) (v73 : BitVec 32)
    (t : Fin (k0_t3_loop i).trips) (kc : Vec Ideal S512x128 .bf16) (r : Fin 512) (c : Fin 1024) :
    k0_pay20 (F := Ideal) i q v54 v55 v73 t kc (ix2 r c)
      = if IntOp.cmpi .sle (IntOp.addi (v55 (ix2 r c)) (Scalar.muli (Scf.iv v73 1#32 t) 512#32)) (v54 (ix2 r c)) = 1#1
        then ∑ x : Fin 128, kc (ix2 r x) * q (ix2 x c) else ⊥ := by
  pointwise [k0_pay20]
  rw [IdealRules.named_const.ideal_named_scalar Cert.KernelIdeal.κ "mask" _ ⊥ rfl]
  rfl

/-! ## The loop over the chunks before the queries' own -/

section Loops

variable (c : Dev nD) (t : Fin cfg0.N)
variable (X0 : Vec Ideal S128x512 .bf16) (X1 : Vec Ideal S2048x128 .bf16) (X2 : Vec Ideal S4x128x512 .bf16)
variable (hs : ∀ c, Scores (scores X0 X1 (grid0.coords t 2).val c)) (hw : ∀ e, Reals (values X2 e))
variable (v54 v55 : IVec S512x1024 32) (v73 v77 c512 v78 v80 v82 : BitVec 32)

/-- The three carried arrays after `N` scores. -/
abbrev carried (qi : ℕ) (N : ℕ) : FVec Ideal S1x1024 .f32 × FVec Ideal S1x1024 .f32 × FVec Ideal S128x1024 .f32 :=
  (maxs (scores X0 X1 qi) N, sums (scores X0 X1 qi) N, vals (scores X0 X1 qi) (values X2) N)

theorem carried_zero (qi : ℕ) : (k0_pay5 (F := Ideal), k0_pay6 (F := Ideal), k0_pay7 (F := Ideal)) = carried X0 X1 X2 qi 0 := by
  unfold carried
  rw [← pay5_eq, ← pay6_eq, ← pay7_eq]

include hs hw in
theorem trip1 (k : Fin (k0_t1_loop (grid0.coords t)).trips) :
    tripR_k0_t1 (F := Ideal) Variants.none c none (grid0.coords t) (ms0_0 t) (hs0_0 t) (ms0_1 t) (hs0_1 t) (ms0_2 t) (hs0_2 t)
      (ms0_3 t) (hs0_3 t) (ms0_4 t) (hs0_4 t) (ms0_5 t) (hs0_5 t) (k0_pay2 X0) v54 v55 v73 v77 c512 v78 v80 v82
      ((hs0_1 t).unread X1) ((hs0_2 t).unread X2) k (carried X0 X1 X2 (grid0.coords t 2).val (512 * k.val))
      = carried X0 X1 X2 (grid0.coords t 2).val (512 * k.val + 512) := by
  have hk : k.val < (grid0.coords t 2).val := trips1 (grid0.coords t) ▸ k.isLt
  have h4 : (grid0.coords t 2).val < 4 := (grid0.coords t 2).isLt
  unfold tripR_k0_t1 trip_k0_t1
  frame_out
  have hsc : ∀ (r : Fin 512) (col : Fin 1024), k0_pay8 (F := Ideal) (k0_pay2 X0)
      (View.ld (Val := Elt Ideal) X1 (Rect.unit (s := S2048x128) (k0_off1 (grid0.coords t) k) S512x128.size (k0_off1_inb _ _))) (ix2 r col)
      = scores X0 X1 (grid0.coords t 2).val col (512 * k.val + r.val) := fun r col => by
    rw [pay8_apply]
    unfold scores score
    rw [dif_pos (by omega), if_pos (by omega)]
    exact Finset.sum_congr rfl fun x _ => by rw [keys_chunk X1 _ _ k.val (k0_off1_eq _ _) (by omega)]
  have hv := fun e r => values_chunk X2 _ (k0_off2_inb _ k) k.val (k0_off2_eq _ _) (by omega) e r
  unfold carried
  rw [← pay9_step _ _ hsc, ← pay12_step hs _ _ hsc, ← pay13_step hs hw _ _ _ hsc hv]

include hs hw in
theorem loop1 (k : ℕ) (hk : k ≤ (grid0.coords t 2).val) :
    st_k0_t1 (F := Ideal) Variants.none c none (grid0.coords t) (ms0_0 t) (hs0_0 t) (ms0_1 t) (hs0_1 t) (ms0_2 t) (hs0_2 t)
      (ms0_3 t) (hs0_3 t) (ms0_4 t) (hs0_4 t) (ms0_5 t) (hs0_5 t) (k0_pay2 X0) v54 v55 v73 v77 c512 v78 v80 v82
      ((hs0_1 t).unread X1) ((hs0_2 t).unread X2) (k0_pay5, k0_pay6, k0_pay7) k
      = carried X0 X1 X2 (grid0.coords t 2).val (512 * k) := by
  induction k with
  | zero => rw [st_k0_t1_zero, carried_zero X0 X1 X2 (grid0.coords t 2).val]
  | succ n ih =>
    have hn : n < (k0_t1_loop (grid0.coords t)).trips := by rw [trips1]; omega
    rw [show n + 1 = (⟨n, hn⟩ : Fin (k0_t1_loop (grid0.coords t)).trips).val + 1 from rfl, st_k0_t1_succ, ih (by omega),
      trip1 c t X0 X1 X2 hs hw v54 v55 v73 v77 c512 v78 v80 v82 ⟨n, hn⟩]
    rfl

/-! ## The queries' own chunk, under the mask -/

variable (h54 : ∀ (r : Fin 512) (col : Fin 1024), v54 (ix2 r col) = BitVec.ofNat 32 ((grid0.coords t 2).val * 512 + col.val % 512))
variable (h55 : ∀ (r : Fin 512) (col : Fin 1024), v55 (ix2 r col) = BitVec.ofNat 32 r.val)
variable (h73 : v73 = BitVec.ofNat 32 (grid0.coords t 2).val)

theorem own_chunk : ∀ (i : Fin 4) (k : Fin 1), Scalar.muli (Scf.iv (BitVec.ofNat 32 i.val) 1#32 k.val) 512#32 = BitVec.ofNat 32 (512 * i.val) := by
  decide

theorem off5_eq : ∀ (i : grid0.Coords) (k : Fin (k0_t3_loop i).trips), k0_off5 i k = ![512 * (i 2).val, 0] := by decide +kernel
theorem off6_eq : ∀ (i : grid0.Coords) (k : Fin (k0_t3_loop i).trips), k0_off6 i k = ![(i 2).val, 0, 0] := by decide +kernel

include hs hw h54 h55 h73 in
theorem trip3 (k : Fin (k0_t3_loop (grid0.coords t)).trips) :
    tripR_k0_t3 (F := Ideal) Variants.none c none (grid0.coords t) (ms0_0 t) (hs0_0 t) (ms0_1 t) (hs0_1 t) (ms0_2 t) (hs0_2 t)
      (ms0_3 t) (hs0_3 t) (ms0_4 t) (hs0_4 t) (ms0_5 t) (hs0_5 t) (k0_pay2 X0) v54 v55 v73 v77 c512 v78 v80 v82
      ((hs0_1 t).unread X1) ((hs0_2 t).unread X2) k (carried X0 X1 X2 (grid0.coords t 2).val (512 * (grid0.coords t 2).val))
      = carried X0 X1 X2 (grid0.coords t 2).val (512 * (grid0.coords t 2).val + 512) := by
  have h4 : (grid0.coords t 2).val < 4 := (grid0.coords t 2).isLt
  unfold tripR_k0_t3 trip_k0_t3
  frame_out
  have hsc : ∀ (r : Fin 512) (col : Fin 1024), k0_pay20 (F := Ideal) (grid0.coords t) (k0_pay2 X0) v54 v55 v73 k
      (View.ld (Val := Elt Ideal) X1 (Rect.unit (s := S2048x128) (k0_off5 (grid0.coords t) k) S512x128.size (k0_off5_inb _ _))) (ix2 r col)
      = scores X0 X1 (grid0.coords t 2).val col (512 * (grid0.coords t 2).val + r.val) := fun r col => by
    have hadd : IntOp.addi (v55 (ix2 r col)) (Scalar.muli (Scf.iv v73 1#32 k) 512#32)
        = BitVec.ofNat 32 (512 * (grid0.coords t 2).val + r.val) := by
      have hk1 : k.val < 1 := trips3 (grid0.coords t) ▸ k.isLt
      rw [h55, h73, own_chunk ⟨_, h4⟩ ⟨k.val, hk1⟩, Nat.add_comm]
      exact (BitVec.ofNat_add _ _).symm
    rw [pay20_apply, hadd, h54]
    unfold scores score
    rw [dif_pos (by omega)]
    refine if_congr (WordCmp.cmpi_sle_ofNat_eq_one_iff (by norm_num; omega) (by norm_num; omega)) (Finset.sum_congr rfl fun x _ => ?_) rfl
    rw [keys_chunk X1 _ _ _ (off5_eq _ _) h4]
  have hv := fun e r => values_chunk X2 _ (k0_off6_inb _ k) _ (off6_eq _ _) h4 e r
  unfold carried
  rw [← pay21_step _ _ _ _ _ _ _ hsc, ← pay24_step hs _ _ _ _ _ _ _ hsc, ← pay25_step hs hw _ _ _ _ _ _ _ _ hsc hv]

/-! ## The four loops, as they run in one grid point -/

include hs hw in
theorem loop1_end (n : ℕ) (hn : n = (grid0.coords t 2).val) :
    st_k0_t1 (F := Ideal) Variants.none c none (grid0.coords t) (ms0_0 t) (hs0_0 t) (ms0_1 t) (hs0_1 t) (ms0_2 t) (hs0_2 t)
      (ms0_3 t) (hs0_3 t) (ms0_4 t) (hs0_4 t) (ms0_5 t) (hs0_5 t) (k0_pay2 X0) v54 v55 v73 v77 c512 v78 v80 v82
      ((hs0_1 t).unread X1) ((hs0_2 t).unread X2) (k0_pay5, k0_pay6, k0_pay7) n
      = carried X0 X1 X2 (grid0.coords t 2).val (512 * (grid0.coords t 2).val) := by
  subst hn
  exact loop1 c t X0 X1 X2 hs hw v54 v55 v73 v77 c512 v78 v80 v82 _ le_rfl

theorem loop2_end (init) (n : ℕ) (hn : n = 0) :
    st_k0_t2 (F := Ideal) Variants.none c none (grid0.coords t) (ms0_0 t) (hs0_0 t) (ms0_1 t) (hs0_1 t) (ms0_2 t) (hs0_2 t)
      (ms0_3 t) (hs0_3 t) (ms0_4 t) (hs0_4 t) (ms0_5 t) (hs0_5 t) (k0_pay2 X0) v54 v55 v73 v77 c512 v78 v80 v82
      ((hs0_1 t).unread X1) ((hs0_2 t).unread X2) init n = init := by
  subst hn
  exact st_k0_t2_zero ..

include hs hw h54 h55 h73 in
theorem loop3_end (init) (hi : init = carried X0 X1 X2 (grid0.coords t 2).val (512 * (grid0.coords t 2).val)) (n : ℕ) (hn : n = 1) :
    st_k0_t3 (F := Ideal) Variants.none c none (grid0.coords t) (ms0_0 t) (hs0_0 t) (ms0_1 t) (hs0_1 t) (ms0_2 t) (hs0_2 t)
      (ms0_3 t) (hs0_3 t) (ms0_4 t) (hs0_4 t) (ms0_5 t) (hs0_5 t) (k0_pay2 X0) v54 v55 v73 v77 c512 v78 v80 v82
      ((hs0_1 t).unread X1) ((hs0_2 t).unread X2) init n
      = carried X0 X1 X2 (grid0.coords t 2).val (512 * (grid0.coords t 2).val + 512) := by
  subst hn hi
  have h0 : 0 < (k0_t3_loop (grid0.coords t)).trips := by rw [trips3]; exact Nat.one_pos
  rw [show 1 = (⟨0, h0⟩ : Fin (k0_t3_loop (grid0.coords t)).trips).val + 1 from rfl, st_k0_t3_succ]
  show tripR_k0_t3 _ _ _ _ _ _ _ _ _ _ _ _ _ _ _ _ _ _ _ _ _ _ _ _ _ _ _ _ (st_k0_t3 _ _ _ _ _ _ _ _ _ _ _ _ _ _ _ _ _ _ _ _ _ _ _ _ _ _ _ _ 0) = _
  rw [st_k0_t3_zero]
  exact trip3 c t X0 X1 X2 hs hw v54 v55 v73 v77 c512 v78 v80 v82 h54 h55 h73 ⟨0, h0⟩

theorem loop4_end (init) (n : ℕ) (hn : n = 0) :
    st_k0_t4 (F := Ideal) Variants.none c none (grid0.coords t) (ms0_0 t) (hs0_0 t) (ms0_1 t) (hs0_1 t) (ms0_2 t) (hs0_2 t)
      (ms0_3 t) (hs0_3 t) (ms0_4 t) (hs0_4 t) (ms0_5 t) (hs0_5 t) (k0_pay2 X0) v54 v55 v73 v77 c512 v78 v80 v82
      ((hs0_1 t).unread X1) ((hs0_2 t).unread X2) init n = init := by
  subst hn
  exact st_k0_t4_zero ..

end Loops

/-! ## The position words -/

theorem column_word : ∀ c : Fin 1024,
    Scalar.select (IntOp.andi (IntOp.xori (IntOp.cmpi .slt (IntOp.remsi ArithUnit.vector (BitVec.ofNat 32 c.val)
        (Scalar.select (Scalar.cmpi .eq 512#32 0#32) 1#32 512#32)) 0#32) (Scalar.cmpi .slt 512#32 0#32))
        (IntOp.cmpi .ne (IntOp.remsi ArithUnit.vector (BitVec.ofNat 32 c.val)
          (Scalar.select (Scalar.cmpi .eq 512#32 0#32) 1#32 512#32)) 0#32))
      (IntOp.addi (IntOp.remsi ArithUnit.vector (BitVec.ofNat 32 c.val)
        (Scalar.select (Scalar.cmpi .eq 512#32 0#32) 1#32 512#32)) 512#32)
      (IntOp.remsi ArithUnit.vector (BitVec.ofNat 32 c.val) (Scalar.select (Scalar.cmpi .eq 512#32 0#32) 1#32 512#32))
      = BitVec.ofNat 32 (c.val % 512) := by decide +kernel

theorem block_word : ∀ i : Fin 4, Scalar.muli (BitVec.ofNat 32 i.val) 512#32 = BitVec.ofNat 32 (i.val * 512) := by decide

/-- The word in column `c` is the position of that column's query. -/
theorem query_word (i : Fin 4) (r : Fin 512) (c : Fin 1024) :
    k0_pay4 (Scalar.muli (BitVec.ofNat 32 i.val) 512#32) 512#32 k0_pay3 (ix2 r c) = BitVec.ofNat 32 (i.val * 512 + c.val % 512) := by
  rw [block_word]
  pointwise [k0_pay4, k0_pay3]
  rw [column_word]
  exact (BitVec.ofNat_add _ _).symm

/-! ## The two halves of the queries -/

theorem component_word : ∀ d : Fin 128,
    Scalar.select (IntOp.andi (IntOp.cmpi .ne
          (IntOp.subi (BitVec.setWidth 32 (IntOp.cmpi .sgt (BitVec.ofNat 32 d.val) 0#32))
            (BitVec.setWidth 32 (IntOp.cmpi .slt (BitVec.ofNat 32 d.val) 0#32)))
          (Scalar.subi (Scalar.extui (Scalar.cmpi .sgt 64#32 0#32)) (Scalar.extui (Scalar.cmpi .slt 64#32 0#32))))
        (IntOp.cmpi .ne (IntOp.remsi ArithUnit.vector (BitVec.ofNat 32 d.val) 64#32) 0#32))
      (IntOp.subi (IntOp.divsi ArithUnit.vector (BitVec.ofNat 32 d.val) 64#32) 1#32)
      (IntOp.divsi ArithUnit.vector (BitVec.ofNat 32 d.val) 64#32) = BitVec.ofNat 32 (d.val / 64) := by decide +kernel

theorem component_zero : ∀ d : Fin 128, (IntOp.cmpi .eq (BitVec.ofNat 32 (d.val / 64)) 0#32 = 1#1) = (d.val / 64 = 0) := by
  decide +kernel
theorem component_one : ∀ d : Fin 128, (IntOp.cmpi .eq (BitVec.ofNat 32 (d.val / 64)) 1#32 = 1#1) = (d.val / 64 = 1) := by
  decide +kernel

/-- Column `c` of the queries keeps the component the column stands for, and holds 0 in the other. -/
theorem queries_apply (X0 : Vec Ideal S128x512 .bf16) (d : Fin 128) (c : Fin 1024) :
    k0_pay2 (F := Ideal) X0 (ix2 d c) = if d.val / 64 = c.val / 512 then X0 (ix2 d ⟨c.val % 512, by omega⟩) else 0 := by
  pointwise [k0_pay2]
  rw [component_word]
  have hc := c.isLt
  split
  · have e : c.val / 512 = 0 := by omega
    have e' : c.val % 512 = c.val := by omega
    refine if_congr ((iff_of_eq (component_zero d)).trans (by rw [e])) ?_ rfl
    simp only [e']
  · have e : c.val / 512 = 1 := by omega
    have e' : c.val % 512 = c.val - 512 := by omega
    refine if_congr ((iff_of_eq (component_one d)).trans (by rw [e])) ?_ rfl
    simp only [e']

end Cert.DiffAttn

end
-- ==== Proof.Attn.Attention.lean ====
/- The result of the differential attention as one function of its arrays, over extended reals: what the kernel and
   the reference are both shown to compute.  Where the arrays hold reals, the scores are reals or masked and the
   values are reals, which is all that Online.lean asks for. -/
module

public import proofs.«01_k».proof.Proof.Attn.Online

@[expose] public section

noncomputable section

namespace Cert.DiffAttn

open Idealize.ShloMosaic
open scoped BigOperators

/-- Queries or keys: sequence, position, head, component, coordinate. -/
abbrev Pairs : Type := Fin 8 → Fin 2048 → Fin 8 → Fin 2 → Fin 64 → EReal
/-- Values: sequence, position, head, coordinate. -/
abbrev Values : Type := Fin 8 → Fin 2048 → Fin 8 → Fin 128 → EReal

/-- The scale of the scores, 1/8. -/
abbrev scale : EReal := Ideal.ofBits .f32 0x3E000000#32
/-- The least normaliser divided by. -/
abbrev floor : EReal := Ideal.ofBits .f32 0x0DA24260#32

theorem scale_real : ∃ r : ℝ, scale = (r : EReal) := by
  refine ⟨1 / 8, ?_⟩
  simp [scale, Ideal.ofBits, Ideal.ieee, -EReal.coe_mul]
  norm_num

theorem floor_real : ∃ r : ℝ, 0 < r ∧ floor = (r : EReal) := by
  unfold floor
  refine ⟨_, ?_, by simp [Ideal.ofBits, Ideal.ieee, -EReal.coe_mul]; rfl⟩
  positivity

section

variable (q k : Pairs) (v : Values) (l : Fin 4 → Fin 64 → EReal) (g : Fin 128 → EReal)

/-- The scores of query `p` against the keys up to `p`, `⊥` at the keys after it. -/
def causal (b : Fin 8) (p : Fin 2048) (h : Fin 8) (comp : Fin 2) (κ : ℕ) : EReal :=
  if hκ : κ < 2048 then
    if κ ≤ p.val then (∑ d : Fin 64, q b p h comp d * k b ⟨κ, hκ⟩ h comp d) * scale else ⊥
  else ⊥

/-- One coordinate of the values, in the order of the keys. -/
def valueRow (b : Fin 8) (h : Fin 8) (e : Fin 128) (κ : ℕ) : EReal :=
  if hκ : κ < 2048 then v b ⟨κ, hκ⟩ h e else 0

/-- The weight of the second softmax. -/
def lambda : EReal :=
  Ideal.exp (∑ d : Fin 64, l 0 d * l 1 d) - Ideal.exp (∑ d : Fin 64, l 2 d * l 3 d) + Ideal.ofBits .f32 0x3E4CCCCD#32

/-- The first softmax's weighted sum of the values less `lambda` times the second's. -/
def mixed (b : Fin 8) (p : Fin 2048) (h : Fin 8) (e : Fin 128) : EReal :=
  rowVal (causal q k b p h 0) (valueRow v b h e) 2048 * Ideal.div 1 (max (rowSum (causal q k b p h 0) 2048) floor)
    - lambda l * (rowVal (causal q k b p h 1) (valueRow v b h e) 2048
        * Ideal.div 1 (max (rowSum (causal q k b p h 1) 2048) floor))

/-- A head's 128 coordinates over their root mean square, times the gain and 0.8. -/
def normed (x : Fin 128 → EReal) (e : Fin 128) : EReal :=
  x e * Ideal.rsqrt (Ideal.div (∑ e' : Fin 128, x e' * x e') (Ideal.ofBits .f32 0x43000000#32) + Ideal.ofBits .f32 0x358637BD#32)
    * g e * Ideal.ofBits .f32 0x3F4CCCCD#32

/-- The attention of sequence `b`, position `p`, head `h`, coordinate `e`. -/
def attention (b : Fin 8) (p : Fin 2048) (h : Fin 8) (e : Fin 128) : EReal := normed g (mixed q k v l b p h) e

end

/-! ## Reals in, reals inside -/

/-- The arrays hold reals. -/
structure AllReal (q k : Pairs) (v : Values) (l : Fin 4 → Fin 64 → EReal) : Prop where
  q : ∀ b p h c d, ∃ r : ℝ, q b p h c d = (r : EReal)
  k : ∀ b p h c d, ∃ r : ℝ, k b p h c d = (r : EReal)
  v : ∀ b p h e, ∃ r : ℝ, v b p h e = (r : EReal)
  l : ∀ i d, ∃ r : ℝ, l i d = (r : EReal)

/-- A sum of products of reals is a real. -/
theorem dot_real {n : ℕ} (x y : Fin n → EReal) (hx : ∀ d, ∃ r : ℝ, x d = (r : EReal)) (hy : ∀ d, ∃ r : ℝ, y d = (r : EReal)) :
    ∃ r : ℝ, ∑ d : Fin n, x d * y d = (r : EReal) := by
  choose a ha using hx
  choose b hb using hy
  refine ⟨∑ d, a d * b d, ?_⟩
  rw [coe_sum]
  exact Finset.sum_congr rfl fun d _ => by rw [ha, hb, EReal.coe_mul]

section

variable {q k : Pairs} {v : Values} {l : Fin 4 → Fin 64 → EReal} (hr : AllReal q k v l)
include hr

theorem causal_real (b : Fin 8) (p : Fin 2048) (h : Fin 8) (c : Fin 2) (κ : Fin 2048) :
    ∃ r : ℝ, (∑ d : Fin 64, q b p h c d * k b κ h c d) * scale = (r : EReal) := by
  obtain ⟨a, ha⟩ := dot_real (q b p h c) (k b κ h c) (hr.q b p h c) (hr.k b κ h c)
  obtain ⟨s, hs⟩ := scale_real
  exact ⟨a * s, by rw [ha, hs, EReal.coe_mul]⟩

theorem causal_scores (b : Fin 8) (p : Fin 2048) (h : Fin 8) (c : Fin 2) : Scores (causal q k b p h c) where
  ne_top κ := by
    unfold causal
    split
    · split
      · obtain ⟨r, e⟩ := causal_real hr b p h c ⟨κ, by assumption⟩
        rw [e]; exact EReal.coe_ne_top r
      · exact bot_ne_top
    · exact bot_ne_top
  first := by
    unfold causal
    rw [dif_pos (by norm_num), if_pos (Nat.zero_le _)]
    obtain ⟨r, e⟩ := causal_real hr b p h c ⟨0, by norm_num⟩
    rw [e]; exact EReal.coe_ne_bot r

theorem valueRow_reals (b h : Fin 8) (e : Fin 128) : Reals (valueRow v b h e) := fun κ => by
  unfold valueRow
  split
  · exact hr.v _ _ _ _
  · exact ⟨0, rfl⟩

theorem lambda_real : ∃ r : ℝ, lambda l = (r : EReal) := by
  obtain ⟨a, ha⟩ := dot_real (l 0) (l 1) (hr.l 0) (hr.l 1)
  obtain ⟨b, hb⟩ := dot_real (l 2) (l 3) (hr.l 2) (hr.l 3)
  have hc : ∃ r : ℝ, Ideal.ofBits .f32 0x3E4CCCCD#32 = (r : EReal) :=
    ⟨_, by simp [Ideal.ofBits, Ideal.ieee, -EReal.coe_mul]; rfl⟩
  obtain ⟨c, hc⟩ := hc
  refine ⟨Real.exp a - Real.exp b + c, ?_⟩
  unfold lambda
  rw [ha, hb, hc, EReal.coe_add, EReal.coe_sub]
  rfl

/-- The mixed value as one weighted sum of the values. -/
theorem mixed_eq (b : Fin 8) (p : Fin 2048) (h : Fin 8) (e : Fin 128) :
    mixed q k v l b p h e = ∑ κ : Fin 2048, v b κ h e
      * (Ideal.div (Ideal.exp (causal q k b p h 0 κ.val - rowMax (causal q k b p h 0) 2048)) (max (rowSum (causal q k b p h 0) 2048) floor)
        - lambda l * Ideal.div (Ideal.exp (causal q k b p h 1 κ.val - rowMax (causal q k b p h 1) 2048))
            (max (rowSum (causal q k b p h 1) 2048) floor)) := by
  unfold mixed
  rw [difference (causal_scores hr b p h 0) (causal_scores hr b p h 1) (valueRow_reals hr b h e) (by norm_num) (lambda_real hr)
    floor_real, Finset.sum_range]
  refine Finset.sum_congr rfl fun κ _ => ?_
  unfold valueRow
  rw [dif_pos κ.isLt]

end

/-! ## The two components of a 128-wide row -/

/-- Of 128 coordinates laid out as 2 components of 64, the sum over one component. -/
theorem component_sum (F : Fin 2 → Fin 64 → EReal) (c : Fin 2) :
    ∑ x : Fin 128, (if x.val / 64 = c.val then F ⟨x.val / 64, by omega⟩ ⟨x.val % 64, by omega⟩ else 0) = ∑ d : Fin 64, F c d := by
  rw [← Equiv.sum_comp (finProdFinEquiv (m := 2) (n := 64)), Fintype.sum_prod_type, Fintype.sum_eq_single c]
  · refine Finset.sum_congr rfl fun d _ => ?_
    have h1 : (d.val + 64 * c.val) / 64 = c.val := by omega
    have h2 : (d.val + 64 * c.val) % 64 = d.val := by omega
    simp only [finProdFinEquiv_apply_val, h1, h2, if_true]
  · intro c' hc'
    refine Finset.sum_eq_zero fun d _ => ?_
    have h1 : (d.val + 64 * c'.val) / 64 = c'.val := by omega
    simp only [finProdFinEquiv_apply_val, h1]
    exact if_neg fun e => hc' (Fin.ext e)

/-- The scale taken into the queries comes out of the score. -/
theorem scaled_dot {n : ℕ} (x y : Fin n → EReal) (hx : ∀ d, ∃ r : ℝ, x d = (r : EReal)) (hy : ∀ d, ∃ r : ℝ, y d = (r : EReal)) :
    ∑ d : Fin n, y d * (x d * scale) = (∑ d : Fin n, x d * y d) * scale := by
  choose a ha using hx
  choose b hb using hy
  obtain ⟨s, hs⟩ := scale_real
  have e1 : ∀ d, y d * (x d * scale) = ((a d * b d * s : ℝ) : EReal) := fun d => by
    rw [ha, hb, hs, ← EReal.coe_mul, ← EReal.coe_mul]; congr 1; ring
  have e2 : ∀ d, x d * y d = ((a d * b d : ℝ) : EReal) := fun d => by rw [ha, hb, EReal.coe_mul]
  simp only [e1, e2]
  rw [← coe_sum, ← coe_sum, hs, ← EReal.coe_mul, Finset.sum_mul]

end Cert.DiffAttn

end
-- ==== Proof.Attn.Inputs.lean ====
/- The blocks the attention call reads, in terms of the arguments of the program: the host's scaling, reshapes and
   transposes undone.  A grid point `(b, h, i)` works on sequence `b`, head `h`, queries `512 i … 512 i + 511`. -/
module

public import proofs.«01_k».proof.Proof.Attn.Block
public import proofs.«01_k».proof.Proof.Attn.Attention

@[expose] public section

set_option maxRecDepth 16384

noncomputable section

namespace Cert.DiffAttn

open Cert.KernelIdeal Cert.KernelIdeal.Gen Idealize.ShloMosaic Idealize.ShloMosaic.TcCoe Idealize.SL.Sem
open scoped BigOperators

variable (m : (ℓ : Loc nD τ sig) → Buf (Elt Ideal) ℓ)

/-- Where each window's block lies. -/
theorem index_eq : ∀ t : Fin cfg0.N,
    win0_0.index t = ![(grid0.coords t 1).val, (grid0.coords t 0).val * 4 + (grid0.coords t 2).val]
      ∧ win0_1.index t = ![(grid0.coords t 0).val, (grid0.coords t 1).val]
      ∧ win0_2.index t = ![(grid0.coords t 0).val, (grid0.coords t 1).val, 0]
      ∧ win0_3.index t = ![0, 0] ∧ win0_4.index t = ![0, 0]
      ∧ win0_5.index t = ![(grid0.coords t 1).val, (grid0.coords t 0).val * 4 + (grid0.coords t 2).val] := by
  decide +kernel

/-- The grid point's sequence, head and block of queries. -/
abbrev seq (t : Fin cfg0.N) : Fin 8 := ⟨(grid0.coords t 0).val, (grid0.coords t 0).isLt⟩
abbrev head (t : Fin cfg0.N) : Fin 8 := ⟨(grid0.coords t 1).val, (grid0.coords t 1).isLt⟩
abbrev qblock (t : Fin cfg0.N) : Fin 4 := ⟨(grid0.coords t 2).val, (grid0.coords t 2).isLt⟩

/-- The arguments as arrays by coordinates. -/
abbrev argQ (c : Dev nD) : Pairs := fun b p h cp d => m ((c : Thread nD τ).loc main_arg0) (ix5 b p h cp d)
abbrev argK (c : Dev nD) : Pairs := fun b p h cp d => m ((c : Thread nD τ).loc main_arg1) (ix5 b p h cp d)
abbrev argV (c : Dev nD) : Values := fun b p h e => m ((c : Thread nD τ).loc main_arg2) (ix4 b p h e)
abbrev argL (c : Dev nD) : Fin 4 → Fin 64 → EReal := fun i d => m ((c : Thread nD τ).loc main_arg3) (ix3 0 i d)
abbrev argG (c : Dev nD) : Fin 128 → EReal := fun e => m ((c : Thread nD τ).loc main_arg4) (ix2 0 e)

theorem iblk_q (c : Dev nD) (t : Fin cfg0.N) (d : Fin 128) (j : Fin 512) :
    iblk m c 0 t (ix2 d j) = argQ m c (seq t) ⟨(qblock t).val * 512 + j.val, by omega⟩ (head t) ⟨d.val / 64, by omega⟩ ⟨d.val % 64, by omega⟩ * scale := by
  blk_simp [iblk]
  entry_read
  pointwise
  congr 1
  have h2 : (grid0.coords t 2).val < 4 := (grid0.coords t 2).isLt
  blk_ext [index_eq t]
  all_goals omega

theorem iblk_k (c : Dev nD) (t : Fin cfg0.N) (κ : Fin 2048) (d : Fin 128) :
    iblk m c 1 t (ix2 κ d) = argK m c (seq t) κ (head t) ⟨d.val / 64, by omega⟩ ⟨d.val % 64, by omega⟩ := by
  blk_simp [iblk]
  entry_read
  pointwise
  blk_ext [index_eq t]

theorem iblk_v (c : Dev nD) (t : Fin cfg0.N) (n : Fin 4) (e : Fin 128) (r : Fin 512) :
    iblk m c 2 t (ix3 n e r) = argV m c (seq t) ⟨n.val * 512 + r.val, by omega⟩ (head t) e := by
  blk_simp [iblk]
  entry_read
  pointwise
  blk_ext [index_eq t]

theorem iblk_l (c : Dev nD) (t : Fin cfg0.N) (i : Fin 4) (d : Fin 64) : iblk m c 3 t (ix2 i d) = argL m c i d := by
  blk_simp [iblk]
  entry_read
  pointwise
  blk_ext [index_eq t]

theorem iblk_g (c : Dev nD) (t : Fin cfg0.N) (e : Fin 128) : iblk m c 4 t (ix2 e 0) = argG m c e := by
  blk_simp [iblk]
  entry_read
  pointwise
  blk_ext [index_eq t]

/-! ## The scores, the values and the weight of the second softmax -/

/-- The query a column stands for. -/
abbrev position (t : Fin cfg0.N) (col : Fin 1024) : Fin 2048 :=
  ⟨(qblock t).val * 512 + col.val % 512, by have := (qblock t).isLt; omega⟩

theorem scores_eq (c : Dev nD) (hr : AllReal (argQ m c) (argK m c) (argV m c) (argL m c)) (t : Fin cfg0.N) (col : Fin 1024) :
    scores (iblk m c 0 t) (iblk m c 1 t) (grid0.coords t 2).val col
      = causal (argQ m c) (argK m c) (seq t) (position t col) (head t) ⟨col.val / 512, by omega⟩ := by
  funext κ
  unfold scores causal
  refine dite_congr rfl (fun hκ => if_congr Iff.rfl ?_ rfl) fun _ => rfl
  unfold score
  rw [← scaled_dot _ _ (hr.q _ _ _ _) (hr.k _ _ _ _)]
  refine Eq.trans ?_ (component_sum (fun cp d => argK m c (seq t) ⟨κ, hκ⟩ (head t) cp d
    * (argQ m c (seq t) (position t col) (head t) cp d * scale)) ⟨col.val / 512, by omega⟩)
  refine Finset.sum_congr rfl fun x _ => ?_
  rw [iblk_k, queries_apply, iblk_q, mul_ite, mul_zero]

theorem values_eq (c : Dev nD) (t : Fin cfg0.N) (e : Fin 128) :
    values (iblk m c 2 t) e = valueRow (argV m c) (seq t) (head t) e := by
  funext κ
  unfold values valueRow
  refine dite_congr rfl (fun hκ => ?_) fun _ => rfl
  rw [iblk_v]
  congr 1
  exact Fin.ext (by show κ / 512 * 512 + κ % 512 = κ; omega)

theorem lambda_eq (c : Dev nD) (t : Fin cfg0.N) :
    k0_pay34 (F := Ideal) (iblk m c 3 t) (ix2 0 0) - Ideal.exp (k0_pay33 (F := Ideal) (iblk m c 3 t) (ix2 0 0))
      + Ideal.ofBits .f32 0x3E4CCCCD#32 = lambda (argL m c) := by
  pointwise [k0_pay34, k0_pay33, k0_pay32]
  simp only [iblk_l]
  rfl

end Cert.DiffAttn

end
-- ==== Proof.Attn.Output.lean ====
/- What the attention call leaves in its result: at every grid point the block it stores, and together the whole
   array, the attention of every sequence, position, head and coordinate. -/
module

public import proofs.«01_k».proof.Proof.Attn.Inputs
public import Idealize.ShloMosaic.Lib.Pipeline.Covers

@[expose] public section

set_option maxRecDepth 16384

noncomputable section

namespace Cert.DiffAttn

open Cert.KernelIdeal Cert.KernelIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-! ## The words a grid point computes from its coordinates -/

theorem chunk_word : ∀ i : Fin 4,
    Scalar.select
      (Scalar.andi
        (Scalar.cmpi .ne
          (Scalar.subi (Scalar.extui (Scalar.cmpi .sgt (Scalar.muli (BitVec.ofNat 32 i.val) 512#32) 0#32))
            (Scalar.extui (Scalar.cmpi .slt (Scalar.muli (BitVec.ofNat 32 i.val) 512#32) 0#32)))
          (Scalar.subi (Scalar.extui (Scalar.cmpi .sgt 512#32 0#32)) (Scalar.extui (Scalar.cmpi .slt 512#32 0#32))))
        (Scalar.cmpi .ne (Scalar.remsi (Scalar.muli (BitVec.ofNat 32 i.val) 512#32) 512#32) 0#32))
      (Scalar.subi (Scalar.divsi (Scalar.muli (BitVec.ofNat 32 i.val) 512#32) 512#32) 1#32)
      (Scalar.divsi (Scalar.muli (BitVec.ofNat 32 i.val) 512#32) 512#32) = BitVec.ofNat 32 i.val := by decide

theorem row_word (r : Fin 512) (c : Fin 1024) :
    (iota .tc S512x1024 32 [0] iota_S512x1024_d0_w32) (ix2 r c) = BitVec.ofNat 32 r.val := by
  pointwise

/-! ## One grid point -/

/-- What one grid point stores, from its five input blocks. -/
def stored (X0 : Vec Ideal S128x512 .bf16) (X1 : Vec Ideal S2048x128 .bf16) (X2 : Vec Ideal S4x128x512 .bf16)
    (X3 : Vec Ideal S4x64 .f32) (X4 : Vec Ideal S128x1 .f32) (qi : ℕ) : FVec Ideal S128x512 .bf16 :=
  k0_pay1 (sums (scores X0 X1 qi) (512 * qi + 512)) (vals (scores X0 X1 qi) (values X2) (512 * qi + 512))
    (k0_pay33 X3) (k0_pay34 X3) X4

theorem outs_eq (c : Dev nD) (t : Fin cfg0.N)
    (hs : ∀ col, Scores (scores (iblk m c 0 t) (iblk m c 1 t) (grid0.coords t 2).val col))
    (hw : ∀ e, Reals (values (iblk m c 2 t) e)) (y : S128x512.Idx) :
    outsAt0 m c t y
      = stored (iblk m c 0 t) (iblk m c 1 t) (iblk m c 2 t) (iblk m c 3 t) (iblk m c 4 t) (grid0.coords t 2).val y := by
  unfold outsAt0
  frame_out
  have h4 : (grid0.coords t 2).val < 4 := (grid0.coords t 2).isLt
  rw [loop1_end c t _ _ _ hs hw _ _ _ _ _ _ _ _ _ ?n1, loop2_end c t _ _ _ _ _ _ _ _ _ _ _ _ _ ?n2,
    loop3_end c t _ _ _ hs hw _ _ _ _ _ _ _ _ ?w1 ?w2 ?w3 _ ?i3 _ ?n3, loop4_end c t _ _ _ _ _ _ _ _ _ _ _ _ _ ?n4]
  · rfl
  · exact trips4 (grid0.coords t)
  · exact fun r col => query_word ⟨_, h4⟩ r col
  · exact fun r col => row_word r col
  · exact chunk_word ⟨_, h4⟩
  · rfl
  · exact trips3 (grid0.coords t)
  · exact trips2 (grid0.coords t)
  · exact trips1 (grid0.coords t)

/-- The stored block at an index, over the carried arrays. -/
theorem pay1_apply (s : FVec Ideal S1x1024 .f32) (a : FVec Ideal S128x1024 .f32) (x y : FVec Ideal S1x1 .f32)
    (g : Vec Ideal S128x1 .f32) (e : Fin 128) (j : Fin 512) (lam : EReal)
    (hl : y (ix2 0 0) - Ideal.exp (x (ix2 0 0)) + Ideal.ofBits .f32 0x3E4CCCCD#32 = lam) :
    k0_pay1 s a x y g (ix2 e j)
      = normed (fun e => g (ix2 e 0))
          (fun e => a (ix2 e ⟨j.val, by omega⟩) * Ideal.div 1 (max (s (ix2 0 ⟨j.val, by omega⟩)) floor)
            - lam * (a (ix2 e ⟨512 + j.val, by omega⟩) * Ideal.div 1 (max (s (ix2 0 ⟨512 + j.val, by omega⟩)) floor))) e := by
  subst hl
  pointwise [k0_pay1]
  rfl

/-- The whole result: row `128 h + e`, column `2048 b + p`. -/
def result (c : Dev nD) : S1024x16384.Idx → EReal := fun j =>
  attention (argQ m c) (argK m c) (argV m c) (argL m c) (argG m c)
    ⟨(j 1).val / 2048, by have : (j 1).val < 16384 := (j 1).isLt; omega⟩
    ⟨(j 1).val % 2048, Nat.mod_lt _ (by norm_num)⟩
    ⟨(j 0).val / 128, by have : (j 0).val < 1024 := (j 0).isLt; omega⟩
    ⟨(j 0).val % 128, Nat.mod_lt _ (by norm_num)⟩

variable (c : Dev nD) (hr : AllReal (argQ m c) (argK m c) (argV m c) (argL m c))
include hr

/-- Scores stop at the queries' own chunk, so the carried arrays there are those of the whole row. -/
theorem row_end (t : Fin cfg0.N) (col : Fin 1024) (κ : ℕ) (h : 512 * (grid0.coords t 2).val + 512 ≤ κ) :
    causal (argQ m c) (argK m c) (seq t) (position t col) (head t) ⟨col.val / 512, by omega⟩ κ = ⊥ := by
  unfold causal
  split
  · exact if_neg (by show ¬ κ ≤ (grid0.coords t 2).val * 512 + col.val % 512; omega)
  · rfl

theorem stored_apply (t : Fin cfg0.N) (e : Fin 128) (j : Fin 512) :
    outsAt0 m c t (ix2 e j) = attention (argQ m c) (argK m c) (argV m c) (argL m c) (argG m c)
      (seq t) ⟨(qblock t).val * 512 + j.val, by have := (qblock t).isLt; omega⟩ (head t) e := by
  have h4 : (grid0.coords t 2).val < 4 := (grid0.coords t 2).isLt
  have hsc := scores_eq m c hr t
  rw [outs_eq m c t (fun col => hsc col ▸ causal_scores hr _ _ _ _) (fun e => values_eq m c t e ▸ valueRow_reals hr _ _ e)]
  unfold stored
  rw [pay1_apply _ _ _ _ _ _ _ _ (lambda_eq m c t)]
  unfold attention
  have hg : (fun e : Fin 128 => iblk m c 4 t (ix2 e 0)) = argG m c := funext fun e => iblk_g m c t e
  have hs : ∀ (col : Fin 1024), sums (scores (iblk m c 0 t) (iblk m c 1 t) (grid0.coords t 2).val) (512 * (grid0.coords t 2).val + 512) (ix2 0 col)
      = rowSum (causal (argQ m c) (argK m c) (seq t) (position t col) (head t) ⟨col.val / 512, by omega⟩) 2048 := fun col => by
    show rowSum (scores (iblk m c 0 t) (iblk m c 1 t) (grid0.coords t 2).val col) _ = _
    rw [hsc]
    exact (rowSum_masked _ (by omega) (row_end m c hr t col)).symm
  have hv : ∀ (e : Fin 128) (col : Fin 1024),
      vals (scores (iblk m c 0 t) (iblk m c 1 t) (grid0.coords t 2).val) (values (iblk m c 2 t)) (512 * (grid0.coords t 2).val + 512) (ix2 e col)
      = rowVal (causal (argQ m c) (argK m c) (seq t) (position t col) (head t) ⟨col.val / 512, by omega⟩)
          (valueRow (argV m c) (seq t) (head t) e) 2048 := fun e col => by
    show rowVal (scores (iblk m c 0 t) (iblk m c 1 t) (grid0.coords t 2).val col) (values (iblk m c 2 t) e) _ = _
    rw [hsc, values_eq]
    exact (rowVal_masked _ _ (by omega) (row_end m c hr t col)).symm
  rw [hg]
  congr 1
  funext e'
  have hp0 : position t ⟨j.val, by omega⟩ = ⟨(qblock t).val * 512 + j.val, by have := (qblock t).isLt; omega⟩ :=
    Fin.ext (by show (grid0.coords t 2).val * 512 + j.val % 512 = (grid0.coords t 2).val * 512 + j.val; omega)
  have hp1 : position t ⟨512 + j.val, by omega⟩ = ⟨(qblock t).val * 512 + j.val, by have := (qblock t).isLt; omega⟩ :=
    Fin.ext (by show (grid0.coords t 2).val * 512 + (512 + j.val) % 512 = (grid0.coords t 2).val * 512 + j.val; omega)
  have hc0 : (⟨j.val / 512, by omega⟩ : Fin 2) = 0 := Fin.ext (by show j.val / 512 = 0; omega)
  have hc1 : (⟨(512 + j.val) / 512, by omega⟩ : Fin 2) = 1 := Fin.ext (by show (512 + j.val) / 512 = 1; omega)
  rw [hs, hs, hv, hv, hp0, hp1, hc0, hc1]
  rfl

theorem array_eq : (dats m 0 c).arrAt 5 cfg0.N = result m c := by
  refine (dats m 0 c).arrAt_eq_of_covers 5 _ (by decide +kernel) fun t hf y => ?_
  blk_simp
  rw [after0_5]
  obtain ⟨e, j, rfl⟩ : ∃ (e : Fin 128) (j : Fin 512), y = ix2 e j := ⟨y 0, y 1, by funext a; fin_cases a <;> rfl⟩
  rw [stored_apply m c hr t e j]
  unfold result
  have h0 : (grid0.coords t 0).val < 8 := (grid0.coords t 0).isLt
  have h1 : (grid0.coords t 1).val < 8 := (grid0.coords t 1).isLt
  have h2 : (grid0.coords t 2).val < 4 := (grid0.coords t 2).isLt
  congr 1
  · apply Fin.ext
    blk_simp [index_eq t]
    show (grid0.coords t 0).val = (((grid0.coords t 0).val * 4 + (grid0.coords t 2).val) * 512 + j.val) / 2048
    omega
  · apply Fin.ext
    blk_simp [index_eq t]
    show (grid0.coords t 2).val * 512 + j.val = (((grid0.coords t 0).val * 4 + (grid0.coords t 2).val) * 512 + j.val) % 2048
    omega
  · apply Fin.ext
    blk_simp [index_eq t]
    show (grid0.coords t 1).val = ((grid0.coords t 1).val * 128 + e.val) / 128
    omega
  · apply Fin.ext
    blk_simp [index_eq t]
    show e.val = ((grid0.coords t 1).val * 128 + e.val) % 128
    omega

end Cert.DiffAttn

end
-- ==== Proof.Attn.Reference.lean ====
/- What the reference computes, stage by stage: the masked scores, their maxima, the exponentials, the two softmaxes,
   their difference over the values, and the normalised heads.  At reals this is the attention of Attention.lean. -/
module

public import proofs.«01_k».proof.Proof.Gen.ReferenceIdeal.Read
public import proofs.«01_k».proof.Proof.Attn.Attention
public import Idealize.ShloMosaic.Lib.Pointwise
public import Idealize.ShloMosaic.Lib.WordCmp

@[expose] public section

set_option maxRecDepth 16384

noncomputable section

namespace Cert.DiffAttn.Ref

open Cert.ReferenceIdeal Cert.ReferenceIdeal.Read Idealize.ShloMosaic Idealize.ShloMosaic.TcCoe
open scoped BigOperators

variable (q k : (⟨S8x2048x8x2x64, .f32⟩ : BufTy).Contents (Elt Ideal))
variable (v : (⟨S8x2048x8x128, .f32⟩ : BufTy).Contents (Elt Ideal))
variable (l : (⟨S1x4x64, .f32⟩ : BufTy).Contents (Elt Ideal)) (g : (⟨S1x128, .f32⟩ : BufTy).Contents (Elt Ideal))

/-- The queries or keys, by coordinates. -/
abbrev pairs (x : (⟨S8x2048x8x2x64, .f32⟩ : BufTy).Contents (Elt Ideal)) : Pairs := fun b p h c d => x (ix5 b p h c d)
/-- The values, by coordinates. -/
abbrev values (x : (⟨S8x2048x8x128, .f32⟩ : BufTy).Contents (Elt Ideal)) : Values := fun b p h e => x (ix4 b p h e)
/-- The four vectors of `lambda`, by coordinates. -/
abbrev vectors (x : (⟨S1x4x64, .f32⟩ : BufTy).Contents (Elt Ideal)) : Fin 4 → Fin 64 → EReal := fun i d => x (ix3 0 i d)
/-- The gain, by coordinates. -/
abbrev gain (x : (⟨S1x128, .f32⟩ : BufTy).Contents (Elt Ideal)) : Fin 128 → EReal := fun e => x (ix2 0 e)

/-! ## The softmax of one row of scores -/

section

variable (b : Fin 8) (cp : Fin 2) (h : Fin 8) (p κ : Fin 2048)

/-- The mask is true at the keys up to the query. -/
theorem mask_iff : IntOp.cmpi .sle (BitVec.ofNat 32 κ.val) (BitVec.ofNat 32 p.val) = 1 ↔ κ.val ≤ p.val :=
  WordCmp.cmpi_sle_ofNat_eq_one_iff (by have := κ.isLt; omega) (by have := p.isLt; omega)

theorem scores_apply : val_main_v26 (F := Ideal) q k (ix5 b cp h p κ) = causal (pairs q) (pairs k) b p h cp κ.val := by
  pointwise [val_main_v26, val_main_call0_v0, val_main_call0_v1, val_main_call0_v2, val_main_v25, val_main_v24, val_main_v23,
    val_main_v22, val_main_v21, val_main_v20, val_main_v19, val_main_v18, val_main_v17, val_main_cst_2, val_main_cst_3]
  unfold causal
  rw [dif_pos κ.isLt]
  exact if_congr (mask_iff p κ) rfl ofBits_neg_inf

/-- The largest of all 2048 scores, as the maximum of a row. -/
theorem rowMax_all (s : ℕ → EReal) : (Finset.univ.sup fun x : Fin 2048 => s x.val) = rowMax s 2048 := by
  have e := rowMax_add s 0 2048
  rw [rowMax_zero] at e
  simp only [Nat.zero_add] at e
  rw [e]
  exact (bot_sup_eq _).symm

theorem max_apply : val_main_v27 (F := Ideal) q k (ix4 b cp h p) = rowMax (causal (pairs q) (pairs k) b p h cp) 2048 := by
  pointwise [val_main_v27, val_main_cst_4]
  rw [ofBits_neg_inf, fold_max_bot]
  simp only [scores_apply]
  exact rowMax_all _

theorem exp_apply : val_main_v32 (F := Ideal) q k (ix5 b cp h p κ)
    = Ideal.exp (causal (pairs q) (pairs k) b p h cp κ.val - rowMax (causal (pairs q) (pairs k) b p h cp) 2048) := by
  pointwise [val_main_v32, val_main_v31, val_main_v30, val_main_v29, val_main_v28, val_main_call1_v0, val_main_call1_v1,
    val_main_call1_v2, val_main_cst_5]
  rw [scores_apply, max_apply]
  have e : val_main_v25 (F := Ideal) (ix2 p κ) = IntOp.cmpi .sle (BitVec.ofNat 32 κ.val) (BitVec.ofNat 32 p.val) := by
    pointwise [val_main_v25, val_main_v24, val_main_v23, val_main_v22, val_main_v21, val_main_v20, val_main_v19, val_main_v18, val_main_v17]
  rw [e]
  by_cases hκ : κ.val ≤ p.val
  · exact if_pos ((mask_iff p κ).mpr hκ)
  · refine (if_neg fun h1 => hκ ((mask_iff p κ).mp h1)).trans ?_
    have c : causal (pairs q) (pairs k) b p h cp κ.val = ⊥ := by
      unfold causal; rw [dif_pos κ.isLt, if_neg hκ]
    rw [c, exp_masked]
    exact Ideal.ofBits_zero .f32

theorem softmax_apply : val_main_v38 (F := Ideal) q k (ix5 b cp h p κ)
    = Ideal.div (Ideal.exp (causal (pairs q) (pairs k) b p h cp κ.val - rowMax (causal (pairs q) (pairs k) b p h cp) 2048))
        (max (rowSum (causal (pairs q) (pairs k) b p h cp) 2048) floor) := by
  pointwise [val_main_v38, val_main_v37, val_main_v36, val_main_v35, val_main_v34, val_main_v33, val_main_cst_6, val_main_cst_7]
  simp only [exp_apply]
  unfold rowSum
  rw [Finset.sum_range]

end

/-! ## The difference of the two softmaxes -/

section

variable (b : Fin 8) (h : Fin 8) (p κ : Fin 2048)

/-- The first softmax is component 0. -/
theorem first_apply : val_main_v40 (F := Ideal) q k (ix4 b h p κ) = val_main_v38 (F := Ideal) q k (ix5 b 0 h p κ) := by
  rw [val_main_v40_apply, val_main_v39_apply]
  refine congrArg _ (funext fun a => Fin.ext ?_)
  have := b.isLt; have := h.isLt; have := p.isLt; have := κ.isLt
  match a with
  | ⟨0, _⟩ => show (((b.val * 8 + h.val) * 2048 + p.val) * 2048 + κ.val) / 33554432 = b.val; omega
  | ⟨1, _⟩ => rfl
  | ⟨2, _⟩ => show (((b.val * 8 + h.val) * 2048 + p.val) * 2048 + κ.val) / 4194304 % 8 = h.val; omega
  | ⟨3, _⟩ => show (((b.val * 8 + h.val) * 2048 + p.val) * 2048 + κ.val) / 2048 % 2048 = p.val; omega
  | ⟨4, _⟩ => show (((b.val * 8 + h.val) * 2048 + p.val) * 2048 + κ.val) % 2048 = κ.val; omega

/-- The second softmax is component 1. -/
theorem second_apply : val_main_v42 (F := Ideal) q k (ix4 b h p κ) = val_main_v38 (F := Ideal) q k (ix5 b 1 h p κ) := by
  rw [val_main_v42_apply, val_main_v41_apply]
  refine congrArg _ (funext fun a => Fin.ext ?_)
  have := b.isLt; have := h.isLt; have := p.isLt; have := κ.isLt
  match a with
  | ⟨0, _⟩ => show (((b.val * 8 + h.val) * 2048 + p.val) * 2048 + κ.val) / 33554432 = b.val; omega
  | ⟨1, _⟩ => rfl
  | ⟨2, _⟩ => show (((b.val * 8 + h.val) * 2048 + p.val) * 2048 + κ.val) / 4194304 % 8 = h.val; omega
  | ⟨3, _⟩ => show (((b.val * 8 + h.val) * 2048 + p.val) * 2048 + κ.val) / 2048 % 2048 = p.val; omega
  | ⟨4, _⟩ => show (((b.val * 8 + h.val) * 2048 + p.val) * 2048 + κ.val) % 2048 = κ.val; omega

theorem lambda_apply (j : S_.Idx) : val_main_v16 (F := Ideal) l j = lambda (vectors l) := by
  pointwise [val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1]
  rfl

theorem weights_apply : val_main_v45 (F := Ideal) q k l (ix4 b h p κ)
    = val_main_v38 (F := Ideal) q k (ix5 b 0 h p κ) - lambda (vectors l) * val_main_v38 (F := Ideal) q k (ix5 b 1 h p κ) := by
  rw [val_main_v45_apply, val_main_v44_apply, val_main_v43_apply, first_apply, second_apply, lambda_apply]
  rfl

theorem mixed_apply (hr : AllReal (pairs q) (pairs k) (values v) (vectors l)) (e : Fin 128) :
    val_main_v47 (F := Ideal) q k v l (ix4 b p h e) = mixed (pairs q) (pairs k) (values v) (vectors l) b p h e := by
  pointwise [val_main_v47, val_main_v46]
  rw [mixed_eq hr]
  refine Finset.sum_congr rfl fun κ _ => ?_
  rw [weights_apply, softmax_apply, softmax_apply]

end

/-! ## The result -/

theorem attention_apply (hr : AllReal (pairs q) (pairs k) (values v) (vectors l)) (r : Fin 1024) (c : Fin 16384) :
    val_main_v66 (F := Ideal) q k v l g (ix2 r c)
      = attention (pairs q) (pairs k) (values v) (vectors l) (gain g) ⟨c.val / 2048, by have := c.isLt; omega⟩
          ⟨c.val % 2048, by omega⟩ ⟨r.val / 128, by have := r.isLt; omega⟩ ⟨r.val % 128, by omega⟩ := by
  pointwise [val_main_v66, val_main_v65, val_main_v64, val_main_v63, val_main_v62, val_main_v61, val_main_v60, val_main_v59,
    val_main_v58, val_main_v57, val_main_v56, val_main_v55, val_main_v54, val_main_v53, val_main_v52, val_main_v51,
    val_main_v50, val_main_v49, val_main_v48, val_main_cst_8, val_main_cst_9, val_main_cst_10, val_main_cst_11]
  simp only [mixed_apply q k v l _ _ _ hr]
  rfl

end Cert.DiffAttn.Ref

end
-- ==== Proof.Attn.Finite.lean ====
/- What the precondition says of the arrays: every element of the queries, keys, values and the four vectors of
   `lambda` is a real. -/
module

public import proofs.«01_k».proof.Pre_finite
public import proofs.«01_k».proof.Proof.Attn.Attention
public import Idealize.ShloMosaic.Lib.Pointwise
public import Idealize.ShloMosaic.Lib.ReduceAll

@[expose] public section

set_option maxRecDepth 16384

noncomputable section

namespace Cert.DiffAttn

open Cert.Pre_finite Idealize.ShloMosaic Idealize.ShloMosaic.TcCoe

/-- The side conditions of the precondition's operations. -/
theorem pre_facts : Cert.Pre_finite.Facts where
  bcast_S_S8x2048x8x2x64 := by decide
  reducesTo_S8x2048x8x2x64_S_d0_1_2_3_4 := by decide
  h_S_ := by decide
  bcast_S_S8x2048x8x128 := by decide
  reducesTo_S8x2048x8x128_S_d0_1_2_3 := by decide
  bcast_S_S1x4x64 := by decide
  reducesTo_S1x4x64_S_d0_1_2 := by decide

/-- An extended real of absolute value below infinity is a real. -/
theorem real_of_abs (x : EReal) (h : Ideal.cmp .olt (max x (-x)) (Ideal.ofBits .f32 0x7F800000#32) = 1) :
    ∃ r : ℝ, x = (r : EReal) := by
  have top : Ideal.ofBits .f32 0x7F800000#32 = ⊤ := by simp [Ideal.ofBits, Ideal.ieee]
  rw [top] at h
  have h' := (Ideal.cmp_olt_eq_one _ _).mp h
  induction x with
  | bot => exact absurd h' (by simp)
  | top => exact absurd h' (by simp)
  | coe r => exact ⟨r, rfl⟩

instance : Subsingleton S_.Idx := ⟨fun i j => funext fun a => a.elim0⟩

/-- The precondition at its arrays: each comparison holds at each index. -/
theorem reals_of_pre [Cert.Pre_finite.Facts] (q k : FVec Ideal S8x2048x8x2x64 .f32) (v : FVec Ideal S8x2048x8x128 .f32)
    (l : FVec Ideal S1x4x64 .f32) (g : FVec Ideal S1x128 .f32) (h : Cert.Pre_finite.fn (F := Ideal) q k v l g = fun _ => 1#1) :
    AllReal (fun b p h c d => q (ix5 b p h c d)) (fun b p h c d => k (ix5 b p h c d)) (fun b p h e => v (ix4 b p h e))
      (fun i d => l (ix3 0 i d)) := by
  have e := congrFun h ix0
  unfold Cert.Pre_finite.fn Cert.Pre_finite.fn_part1 at e
  obtain ⟨e, el⟩ := IntOp.andi_eq_one.mp e
  obtain ⟨e, ev⟩ := IntOp.andi_eq_one.mp e
  obtain ⟨eq, ek⟩ := IntOp.andi_eq_one.mp e
  exact ⟨fun b p h c d => real_of_abs _ (Host.reduce_andi_all _ _ _ _ _ eq (ix5 b p h c d)),
    fun b p h c d => real_of_abs _ (Host.reduce_andi_all _ _ _ _ _ ek (ix5 b p h c d)),
    fun b p h e => real_of_abs _ (Host.reduce_andi_all _ _ _ _ _ ev (ix4 b p h e)),
    fun i d => real_of_abs _ (Host.reduce_andi_all _ _ _ _ _ el (ix3 0 i d))⟩

end Cert.DiffAttn

end
-- ==== Proof.Attn.Claims.lean ====
/- The claims about the attention call, each from its programs' runs. -/
module

public import proofs.«01_k».proof.Defs
public import proofs.«01_k».proof.Proof.Gen.Kernel.Frame
public import proofs.«01_k».proof.Proof.Gen.ReferenceIdeal.Run
public import proofs.«01_k».proof.Proof.Attn.Output
public import proofs.«01_k».proof.Proof.Attn.Reference
public import proofs.«01_k».proof.Proof.Attn.Finite

@[expose] public section

set_option maxRecDepth 16384

noncomputable section

namespace Cert.DiffAttn

open Idealize.ShloMosaic Idealize.ShloMosaic.TcCoe Idealize.SL.Sem

/-- The attention call as run. -/
theorem frame_kernel : Cert.quiescent_Kernel (hKernel := Cert.Kernel.Gen.facts) :=
  fun m g _ => Cert.Kernel.Gen.frame m g

/-- The attention call over extended reals. -/
theorem frame_kernelIdeal : Cert.quiescent_KernelIdeal (hKernelIdeal := Cert.KernelIdeal.Gen.facts) :=
  fun m g _ => Cert.KernelIdeal.Gen.frame m g

/-- The reference, which declares no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

theorem frame_kernelIdeal_pre :
    Cert.quiescent_KernelIdeal_pre_finite (hKernelIdeal := Cert.KernelIdeal.Gen.facts) (hPre_finite := pre_facts) :=
  fun m g _ => Cert.KernelIdeal.Gen.frame m g

theorem frame_reference_pre :
    Cert.quiescent_ReferenceIdeal_pre_finite (hReferenceIdeal := Cert.ReferenceIdeal.Gen.facts) (hPre_finite := pre_facts) :=
  fun m g _ => frame_reference m g trivial

/-- The mask's constant stands for negative infinity. -/
theorem mask_preserved : Cert.preserves_Kernel_KernelIdeal :=
  IdealRules.named_const.statement Cert.KernelIdeal.κ "mask" .f32 0xF149F2CA#32 ⊥ rfl

/-- The reference at arrays of reals is the attention the kernel's array holds. -/
theorem reference_eq (q k : Cert.ReferenceIdeal.S8x2048x8x2x64.Idx → EReal) (v : Cert.ReferenceIdeal.S8x2048x8x128.Idx → EReal)
    (l : Cert.ReferenceIdeal.S1x4x64.Idx → EReal) (g : Cert.ReferenceIdeal.S1x128.Idx → EReal)
    (hr : AllReal (Ref.pairs q) (Ref.pairs k) (Ref.values v) (Ref.vectors l)) :
    Cert.ReferenceIdeal.Read.val_main_v66 (F := Ideal) q k v l g = fun j => attention (Ref.pairs q) (Ref.pairs k) (Ref.values v)
      (Ref.vectors l) (Ref.gain g) ⟨(j 1).val / 2048, by have : (j 1).val < 16384 := (j 1).isLt; omega⟩ ⟨(j 1).val % 2048, by omega⟩
      ⟨(j 0).val / 128, by have : (j 0).val < 1024 := (j 0).isLt; omega⟩ ⟨(j 0).val % 128, by omega⟩ := by
  funext j
  idx_vars j
  exact Ref.attention_apply q k v l g hr _ _

/-- The attention call and the reference hold the same array. -/
theorem attention_equal : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hagree
  have hr : ∀ c, AllReal (argQ m c) (argK m c) (argV m c) (argL m c) := fun c =>
    @reals_of_pre pre_facts _ _ _ _ _ (hpre c)
  refine ⟨fun c => result m c, ?_, ?_⟩
  · exact (θ_run _ _ _).mono (fun r h c => ⟨(h c).1.trans (array_eq m c (hr c)), (h c).2⟩)
      (Cert.KernelIdeal.Value.run_blocks (F := Ideal) m g)
  · refine (θ_run _ _ _).mono (fun r h c => ⟨(h c).1.trans ?_, (h c).2⟩) (Cert.ReferenceIdeal.Value.run (F := Ideal) m' g')
    rw [Cert.ReferenceIdeal.Read.val_main_v66_eq, (hagree c).1, (hagree c).2.1, (hagree c).2.2.1, (hagree c).2.2.2.1,
      (hagree c).2.2.2.2]
    exact reference_eq _ _ _ _ _ (hr c)

end Cert.DiffAttn

end
-- ==== Proof.Diff.Frames.lean ====
/- The frames of one call: its run over extended reals and, by the same text, over machine numbers; and the frame of
   its reference. -/
module

public import proofs.«01_k».proof.Defs
public import proofs.«01_k».proof.Proof.Gen.Kernel2Ideal.Frame
public import proofs.«01_k».proof.Proof.Gen.Reference2Ideal.Run

@[expose] public section

set_option maxHeartbeats 8000000

noncomputable section

namespace Cert.DiffProj

open Idealize.ShloMosaic Idealize.ShloMosaic.TcCoe Idealize.SL.Sem

/-- The side conditions the program states are those of its twin over extended reals. -/
theorem facts₀ : Cert.Kernel2.Facts₀ where
  bcast_S_S8 := @Cert.Kernel2Ideal.Gen.bcast_S_S8
  bcast_S2048_S2048x1_0 := @Cert.Kernel2Ideal.Gen.bcast_S2048_S2048x1_0
  bcast_S8_S1x8_1 := @Cert.Kernel2Ideal.Gen.bcast_S8_S1x8_1
  bcast_S2048x1_S2048x8_0_1 := @Cert.Kernel2Ideal.Gen.bcast_S2048x1_S2048x8_0_1
  bcast_S1x8_S2048x8_0_1 := @Cert.Kernel2Ideal.Gen.bcast_S1x8_S2048x8_0_1
  bcast_S_S2048x48 := @Cert.Kernel2Ideal.Gen.bcast_S_S2048x48
  concatenates_S2048x8_S2048x8_S2048x48_S2048x64_d1 := @Cert.Kernel2Ideal.Gen.concatenates_S2048x8_S2048x8_S2048x48_S2048x64_d1
  bcast_S_S2048x56 := @Cert.Kernel2Ideal.Gen.bcast_S_S2048x56
  concatenates_S2048x8_S2048x56_S2048x64_d1 := @Cert.Kernel2Ideal.Gen.concatenates_S2048x8_S2048x56_S2048x64_d1
  bcast_S_S2048x8 := @Cert.Kernel2Ideal.Gen.bcast_S_S2048x8
  shapeCasts_S2048x64_S1x2048x1x64 := @Cert.Kernel2Ideal.Gen.shapeCasts_S2048x64_S1x2048x1x64
  bcast_S1x2048x1x64_S1x2048x2x64_0_1_2_3 := @Cert.Kernel2Ideal.Gen.bcast_S1x2048x1x64_S1x2048x2x64_0_1_2_3
  shapeCasts_S1x2048x2x64_S2048x128 := @Cert.Kernel2Ideal.Gen.shapeCasts_S1x2048x2x64_S2048x128
  shapeCasts_S8x2048x1024_S16384x1024 := @Cert.Kernel2Ideal.Gen.shapeCasts_S8x2048x1024_S16384x1024
  slices_S2x1024_S1x1024_0_0 := @Cert.Kernel2Ideal.Gen.slices_S2x1024_S1x1024_0_0
  shapeCasts_S1x1024_S1024 := @Cert.Kernel2Ideal.Gen.shapeCasts_S1x1024_S1024
  shapeCasts_S1x1024x3072_S1024x3072 := @Cert.Kernel2Ideal.Gen.shapeCasts_S1x1024x3072_S1024x3072
  bitsLt_bf16_f32 := @Cert.Kernel2Ideal.Gen.bitsLt_bf16_f32
  shapeCasts_S1024_S1x1024 := @Cert.Kernel2Ideal.Gen.shapeCasts_S1024_S1x1024
  inb_S512x1024_S512x1024_0_0 := @Cert.Kernel2Ideal.Gen.inb_S512x1024_S512x1024_0_0
  h_S512x1024 := @Cert.Kernel2Ideal.Gen.h_S512x1024
  shapeCasts_S512x1024_S512x1024 := @Cert.Kernel2Ideal.Gen.shapeCasts_S512x1024_S512x1024
  inb_S1x1024_S1x1024_0_0 := @Cert.Kernel2Ideal.Gen.inb_S1x1024_S1x1024_0_0
  h_S1x1024 := @Cert.Kernel2Ideal.Gen.h_S1x1024
  shapeCasts_S1x1024_S1x1024 := @Cert.Kernel2Ideal.Gen.shapeCasts_S1x1024_S1x1024
  reduces_S512x1024_S512 := @Cert.Kernel2Ideal.Gen.reduces_S512x1024_S512
  shapeCasts_S512_S512x1 := @Cert.Kernel2Ideal.Gen.shapeCasts_S512_S512x1
  broadcasts_S512x1_S512x1024 := @Cert.Kernel2Ideal.Gen.broadcasts_S512x1_S512x1024
  broadcasts_S1x1024_S512x1024 := @Cert.Kernel2Ideal.Gen.broadcasts_S1x1024_S512x1024
  inb_S1024x3072_S1024x3072_0_0 := @Cert.Kernel2Ideal.Gen.inb_S1024x3072_S1024x3072_0_0
  h_S1024x3072 := @Cert.Kernel2Ideal.Gen.h_S1024x3072
  shapeCasts_S1024x3072_S1024x3072 := @Cert.Kernel2Ideal.Gen.shapeCasts_S1024x3072_S1024x3072
  inb_S512x128_S512x128_0_0 := @Cert.Kernel2Ideal.Gen.inb_S512x128_S512x128_0_0
  h_S512x128 := @Cert.Kernel2Ideal.Gen.h_S512x128
  shapeCasts_S512x128_S512x128 := @Cert.Kernel2Ideal.Gen.shapeCasts_S512x128_S512x128
  slices_S512x3072_o0_0_S512x1024 := @Cert.Kernel2Ideal.Gen.slices_S512x3072_o0_0_S512x1024
  slices_S512x1024_o0_0_S512x128 := @Cert.Kernel2Ideal.Gen.slices_S512x1024_o0_0_S512x128
  rotates_S512x128_d1 := @Cert.Kernel2Ideal.Gen.rotates_S512x128_d1
  slices_S512x1024_o0_128_S512x128 := @Cert.Kernel2Ideal.Gen.slices_S512x1024_o0_128_S512x128
  slices_S512x1024_o0_256_S512x128 := @Cert.Kernel2Ideal.Gen.slices_S512x1024_o0_256_S512x128
  slices_S512x1024_o0_384_S512x128 := @Cert.Kernel2Ideal.Gen.slices_S512x1024_o0_384_S512x128
  slices_S512x1024_o0_512_S512x128 := @Cert.Kernel2Ideal.Gen.slices_S512x1024_o0_512_S512x128
  slices_S512x1024_o0_640_S512x128 := @Cert.Kernel2Ideal.Gen.slices_S512x1024_o0_640_S512x128
  slices_S512x1024_o0_768_S512x128 := @Cert.Kernel2Ideal.Gen.slices_S512x1024_o0_768_S512x128
  slices_S512x1024_o0_896_S512x128 := @Cert.Kernel2Ideal.Gen.slices_S512x1024_o0_896_S512x128
  concatenates_S512x128_S512x128_S512x128_S512x128_S512x128_S512x128_S512x128_S512x128_S512x1024_d1 := @Cert.Kernel2Ideal.Gen.concatenates_S512x128_S512x128_S512x128_S512x128_S512x128_S512x128_S512x128_S512x128_S512x1024_d1
  slices_S512x3072_o0_1024_S512x1024 := @Cert.Kernel2Ideal.Gen.slices_S512x3072_o0_1024_S512x1024
  slices_S512x3072_o0_2048_S512x1024 := @Cert.Kernel2Ideal.Gen.slices_S512x3072_o0_2048_S512x1024
  transposes_S512x1024_p1_0_S1024x512 := @Cert.Kernel2Ideal.Gen.transposes_S512x1024_p1_0_S1024x512
  inb_S1024x512_S1024x512_0_0 := @Cert.Kernel2Ideal.Gen.inb_S1024x512_S1024x512_0_0
  h_S1024x512 := @Cert.Kernel2Ideal.Gen.h_S1024x512
  packedbf16_S1024x512_S1024x512_0_0 := @Cert.Kernel2Ideal.Gen.packedbf16_S1024x512_S1024x512_0_0
  inb_S512x2048_S512x1024_0_0 := @Cert.Kernel2Ideal.Gen.inb_S512x2048_S512x1024_0_0
  inb_S512x2048_S512x1024_0_1024 := @Cert.Kernel2Ideal.Gen.inb_S512x2048_S512x1024_0_1024
  packedbf16_S512x1024_S512x1024_0_0 := @Cert.Kernel2Ideal.Gen.packedbf16_S512x1024_S512x1024_0_0
  inb_S1x1024x512_S1x1024x512_0_0_0 := @Cert.Kernel2Ideal.Gen.inb_S1x1024x512_S1x1024x512_0_0_0
  h_S1x1024x512 := @Cert.Kernel2Ideal.Gen.h_S1x1024x512
  shapeCasts_S1x1024x512_S1024x512 := @Cert.Kernel2Ideal.Gen.shapeCasts_S1x1024x512_S1024x512
  shapeCasts_S1024x512_S1x1024x512 := @Cert.Kernel2Ideal.Gen.shapeCasts_S1024x512_S1x1024x512
  packedbf16_S1x1024x512_S1x1024x512_0_0_0 := @Cert.Kernel2Ideal.Gen.packedbf16_S1x1024x512_S1x1024x512_0_0_0
  dot_S512x1024_S1024x3072_S512x3072_1_0_0_1_n_n_wf := @Cert.Kernel2Ideal.Gen.dot_S512x1024_S1024x3072_S512x3072_1_0_0_1_n_n_wf
  hrank0 := @Cert.Kernel2Ideal.Gen.hrank0
  hstage0_0 := @Cert.Kernel2Ideal.Gen.hstage0_0
  nbuf0_0 := @Cert.Kernel2Ideal.Gen.nbuf0_0
  hreads0_0 := @Cert.Kernel2Ideal.Gen.hreads0_0
  hinb0_0 := @Cert.Kernel2Ideal.Gen.hinb0_0
  hwx0_0 := @Cert.Kernel2Ideal.Gen.hwx0_0
  hstage0_1 := @Cert.Kernel2Ideal.Gen.hstage0_1
  nbuf0_1 := @Cert.Kernel2Ideal.Gen.nbuf0_1
  hreads0_1 := @Cert.Kernel2Ideal.Gen.hreads0_1
  hinb0_1 := @Cert.Kernel2Ideal.Gen.hinb0_1
  hwx0_1 := @Cert.Kernel2Ideal.Gen.hwx0_1
  hstage0_2 := @Cert.Kernel2Ideal.Gen.hstage0_2
  nbuf0_2 := @Cert.Kernel2Ideal.Gen.nbuf0_2
  hreads0_2 := @Cert.Kernel2Ideal.Gen.hreads0_2
  hinb0_2 := @Cert.Kernel2Ideal.Gen.hinb0_2
  hwx0_2 := @Cert.Kernel2Ideal.Gen.hwx0_2
  hstage0_3 := @Cert.Kernel2Ideal.Gen.hstage0_3
  nbuf0_3 := @Cert.Kernel2Ideal.Gen.nbuf0_3
  hreads0_3 := @Cert.Kernel2Ideal.Gen.hreads0_3
  hinb0_3 := @Cert.Kernel2Ideal.Gen.hinb0_3
  hwx0_3 := @Cert.Kernel2Ideal.Gen.hwx0_3
  hstage0_4 := @Cert.Kernel2Ideal.Gen.hstage0_4
  nbuf0_4 := @Cert.Kernel2Ideal.Gen.nbuf0_4
  hreads0_4 := @Cert.Kernel2Ideal.Gen.hreads0_4
  hinb0_4 := @Cert.Kernel2Ideal.Gen.hinb0_4
  hwx0_4 := @Cert.Kernel2Ideal.Gen.hwx0_4
  hstage0_5 := @Cert.Kernel2Ideal.Gen.hstage0_5
  nbuf0_5 := @Cert.Kernel2Ideal.Gen.nbuf0_5
  hreads0_5 := @Cert.Kernel2Ideal.Gen.hreads0_5
  hinb0_5 := @Cert.Kernel2Ideal.Gen.hinb0_5
  hwx0_5 := @Cert.Kernel2Ideal.Gen.hwx0_5
  hstage0_6 := @Cert.Kernel2Ideal.Gen.hstage0_6
  nbuf0_6 := @Cert.Kernel2Ideal.Gen.nbuf0_6
  hreads0_6 := @Cert.Kernel2Ideal.Gen.hreads0_6
  hinb0_6 := @Cert.Kernel2Ideal.Gen.hinb0_6
  hwx0_6 := @Cert.Kernel2Ideal.Gen.hwx0_6
  hstage0_7 := @Cert.Kernel2Ideal.Gen.hstage0_7
  nbuf0_7 := @Cert.Kernel2Ideal.Gen.nbuf0_7
  hreads0_7 := @Cert.Kernel2Ideal.Gen.hreads0_7
  hinb0_7 := @Cert.Kernel2Ideal.Gen.hinb0_7
  hwx0_7 := @Cert.Kernel2Ideal.Gen.hwx0_7
  hstage0_8 := @Cert.Kernel2Ideal.Gen.hstage0_8
  nbuf0_8 := @Cert.Kernel2Ideal.Gen.nbuf0_8
  hreads0_8 := @Cert.Kernel2Ideal.Gen.hreads0_8
  hinb0_8 := @Cert.Kernel2Ideal.Gen.hinb0_8
  hwx0_8 := @Cert.Kernel2Ideal.Gen.hwx0_8
  hstage0_9 := @Cert.Kernel2Ideal.Gen.hstage0_9
  nbuf0_9 := @Cert.Kernel2Ideal.Gen.nbuf0_9
  hreads0_9 := @Cert.Kernel2Ideal.Gen.hreads0_9
  hinb0_9 := @Cert.Kernel2Ideal.Gen.hinb0_9
  hwx0_9 := @Cert.Kernel2Ideal.Gen.hwx0_9

theorem facts : Cert.Kernel2.Facts :=
  @Cert.Kernel2.Facts.mk facts₀

/-- Both programs run the same bodies. -/
theorem bodies_eq [Cert.Kernel2.Facts] : Cert.Kernel2.defs₀ (F := Bits) = Cert.Kernel2Ideal.defs₀ (F := Bits) := by
  unfold Cert.Kernel2.defs₀ Cert.Kernel2Ideal.defs₀
  congr 1
  funext l x
  match l, x with
  | ⟨0, _⟩, ⟨t, s⟩ => rfl

theorem defs_eq [Cert.Kernel2.Facts] : Cert.Kernel2.defs (F := Bits) = Cert.Kernel2Ideal.defs (F := Bits) :=
  congrArg (Pipeline.defs (Cert.Kernel2Ideal.pcfgs (F := Bits))) bodies_eq

/-- The call as run. -/
theorem frame_kernel : Cert.quiescent_Kernel2 (hKernel2 := facts) := by
  haveI := facts
  intro m g _
  rw [defs_eq]
  exact Cert.Kernel2Ideal.Gen.frame (F := Bits) m g

/-- The call over extended reals. -/
theorem frame_kernelIdeal : Cert.quiescent_Kernel2Ideal (hKernel2Ideal := Cert.Kernel2Ideal.Gen.facts) :=
  fun m g _ => Cert.Kernel2Ideal.Gen.frame m g

/-- The reference, which declares no semaphore. -/
theorem frame_reference : Cert.quiescent_Reference2Ideal (hReference2Ideal := Cert.Reference2Ideal.Gen.facts) := fun m g _ =>
  (θ_run _ _ _).mono (fun r h => ⟨fun c => (h c).2.2.2.2, sem_eq_zero_of_no_sems (by decide) r.2⟩)
    (Cert.Reference2Ideal.Value.run (F := Ideal) m g)

end Cert.DiffProj

end
-- ==== Proof.Rope.Rope.lean ====
/- The rotary embedding of the first 16 of every 64 columns, once as the reference states it and once as the kernels
   compute it, 128 columns at a time from three tables and two rotations of the lanes. The two agree over the extended
   reals with no assumption: where a table holds zero or one, its term drops out. -/
module

public import proofs.«01_k».proof.Defs
public import Idealize.ShloMosaic.Lib.StableHlo.RunRead
public import Idealize.ShloMosaic.Lib.Pointwise

@[expose] public section

noncomputable section

namespace Cert.Rope

open Idealize.ShloMosaic Idealize.ShloMosaic.StableHlo
open scoped BigOperators

/-- A concatenation of three operands, its operands read one by one. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The angle at position `p` of the `i`-th of the eight frequencies. -/
def angle (p i : Nat) : EReal :=
  FloatOps.sitofp (F := Ideal) .f32 (BitVec.ofNat 32 p) * Ideal.pow (Ideal.ofBits .f32 1223959552#32)
    (Ideal.div (-FloatOps.sitofp (F := Ideal) .f32 (BitVec.ofNat 32 i)) (Ideal.ofBits .f32 1090519040#32))

/-- Column `e` of a row `y` embedded at position `p`. -/
def rope (y : Nat → EReal) (p e : Nat) : EReal :=
  if e % 64 < 8 then y e * Ideal.cos (angle p (e % 64)) - y (e + 8) * Ideal.sin (angle p (e % 64))
  else if e % 64 < 16 then y e * Ideal.cos (angle p (e % 64 - 8)) + y (e - 8) * Ideal.sin (angle p (e % 64 - 8))
  else y e

/-- The three tables the kernels multiply by, each of 128 columns. -/
def cosTable (p e : Nat) : EReal :=
  if e % 64 < 8 then Ideal.cos (angle p (e % 64)) else if e % 64 < 16 then Ideal.cos (angle p (e % 64 - 8)) else 1

def sinNext (p e : Nat) : EReal := if e % 64 < 8 then -Ideal.sin (angle p (e % 64)) else 0

def sinLast (p e : Nat) : EReal :=
  if e % 64 < 8 then 0 else if e % 64 < 16 then Ideal.sin (angle p (e % 64 - 8)) else 0

/-- The kernels' sum over a chunk of 128 columns is the embedding: `E` is the column, `d` its lane in the chunk, `j` and `k`
    the columns the two rotations bring there. -/
theorem chunk (y : Nat → EReal) (p : Nat) {i j k d E : Nat} (hd : d < 128) (hE : (E - d) % 64 = 0) (hle : d ≤ E) (hi : i = E)
    (hj : j = E - d + (d + 8) % 128) (hk : k = E - d + (d + 120) % 128) :
    y i * cosTable p d + y j * sinNext p d + y k * sinLast p d = rope y p E := by
  have hm : E % 64 = d % 64 := by omega
  subst hi
  unfold cosTable sinNext sinLast rope
  rw [hm]
  by_cases h : d % 64 < 8
  · rw [if_pos h, if_pos h, if_pos h, if_pos h, mul_zero, add_zero, mul_neg, ← sub_eq_add_neg,
      show j = i + 8 by omega]
  · rw [if_neg h, if_neg h, if_neg h, if_neg h, mul_zero, add_zero]
    by_cases h' : d % 64 < 16
    · rw [if_pos h', if_pos h', if_pos h', show k = i - 8 by omega]
    · rw [if_neg h', if_neg h', if_neg h', mul_zero, add_zero, mul_one]

/-- The reference's three parts of the embedding, its columns read at any equal indices. -/
theorem parts (y : Nat → EReal) (p : Nat) {o E i1 i2 i3 i4 i5 : Nat} (ho : o = E % 64) (h1 : o < 8 → i1 = E)
    (h2 : o < 8 → i2 = E + 8) (h3 : ¬o < 8 → o - 8 < 8 → i3 = E) (h4 : ¬o < 8 → o - 8 < 8 → i4 = E - 8)
    (h5 : ¬o < 8 → ¬o - 8 < 8 → i5 = E) :
    (if _h : o < 8 then y i1 * Ideal.cos (angle p o) - y i2 * Ideal.sin (angle p o)
      else if _h : o - 8 < 8 then y i3 * Ideal.cos (angle p (o - 8)) + y i4 * Ideal.sin (angle p (o - 8)) else y i5)
      = rope y p E := by
  unfold rope
  rw [← ho]
  by_cases h : o < 8
  · rw [dif_pos h, if_pos h, h1 h, h2 h]
  · rw [dif_neg h, if_neg h]
    by_cases h' : o - 8 < 8
    · rw [dif_pos h', if_pos (by omega), h3 h h', h4 h h']
    · rw [dif_neg h', if_neg (by omega), h5 h h']

/-- A row read at any natural number, zero beyond its end. -/
def column {n : Nat} (f : Fin n → EReal) (e : Nat) : EReal := if h : e < n then f ⟨e, h⟩ else 0

theorem column_val {n : Nat} (f : Fin n → EReal) (e : Fin n) : column f e.val = f e := dif_pos e.isLt

theorem column_of_lt {n : Nat} (f : Fin n → EReal) {e : Nat} (h : e < n) : column f e = f ⟨e, h⟩ := dif_pos h

/-- A row divided by the root of its mean square and scaled by `g`. -/
def normed (x g : Fin 1024 → EReal) (k : Fin 1024) : EReal :=
  x k * Ideal.rsqrt (Ideal.div (∑ k', x k' * x k') (Ideal.ofBits .f32 1149239296#32) + Ideal.ofBits .f32 897988541#32) * g k

/-- Entry `e` of the normed row's product with a matrix. -/
def projected {n : Nat} (x g : Fin 1024 → EReal) (w : Fin 1024 → Fin n → EReal) (e : Fin n) : EReal :=
  ∑ k, normed x g k * w k e

end Cert.Rope

end
-- ==== Proof.Diff.Block.lean ====
/- The projection kernel of the differential layer: what a grid point stores, from the blocks it loads. -/
module

public import proofs.«01_k».proof.Defs
public import proofs.«01_k».proof.Proof.Rope.Rope
public import proofs.«01_k».proof.Proof.Gen.Kernel2Ideal.Value
public import Idealize.ShloMosaic.Lib.Pipeline.Covers
public import Idealize.ShloMosaic.Lib.Pipeline.ValueKit
public import Idealize.ShloMosaic.Lib.Claim
public import Idealize.ShloMosaic.Lib.Pointwise

@[expose] public section

set_option maxRecDepth 131072
set_option maxHeartbeats 2000000

noncomputable section

namespace Cert.DiffProj

open Cert.Kernel2Ideal Cert.Kernel2Ideal.Gen Idealize.ShloMosaic Idealize.ShloMosaic.TcCoe Idealize.SL.Sem
open Idealize.ShloMosaic.Pipeline (Dat)
open Cert.Rope
open scoped BigOperators

variable (x0 : Vec Ideal S512x1024 .f32) (x1 : Vec Ideal S1x1024 .f32) (x2 : Vec Ideal S1024x3072 .bf16)
  (x3 x4 x5 : Vec Ideal S512x128 .f32)

/-- Row `r` of the block's product with the weights. -/
def product (r : Fin 512) : Nat → EReal :=
  column (projected (fun k => x0 (ix2 r k)) (fun k => x1 (ix2 0 k)) (fun k e => x2 (ix2 k e)))

theorem product_apply (r : Fin 512) (e : Fin 3072) : k0_pay2 x0 x1 x2 (ix2 r e) = product x0 x1 x2 r e.val := by
  unfold product
  rw [column_val]
  pointwise [k0_pay2]
  rfl

theorem zero2 : (![0, 0] : Fin 2 → Nat) = fun _ => 0 := by funext a; fin_cases a <;> rfl

theorem zero3 : (![0, 0, 0] : Fin 3 → Nat) = fun _ => 0 := by funext a; fin_cases a <;> rfl

variable (P : Fin 512 → Nat) (h3 : ∀ r e, x3 (ix2 r e) = cosTable (P r) e.val) (h4 : ∀ r e, x4 (ix2 r e) = sinNext (P r) e.val)
  (h5 : ∀ r e, x5 (ix2 r e) = sinLast (P r) e.val)

include h3 h4 h5

/-- The rotated keys. -/
theorem keys_apply (v19 : FVec Ideal S512x3072 .f32) (Y : Fin 512 → Nat → EReal) (hy : ∀ r e, v19 (ix2 r e) = Y r e.val) (r : Fin 512) (e : Fin 1024) :
    k0_pay26 x3 x4 x5 (k0_pay19 v19) (k0_pay20 v19 x3 x4 x5) (k0_pay21 v19 x3 x4 x5) (k0_pay22 v19 x3 x4 x5)
      (k0_pay23 v19 x3 x4 x5) (k0_pay24 v19 x3 x4 x5) (k0_pay25 v19) (ix2 r e) = rope (Y r) (P r) (1024 + e.val) := by
  pointwise [k0_pay26, k0_pay19, k0_pay20, k0_pay21, k0_pay22, k0_pay23, k0_pay24, k0_pay25]
  simp only [hy, h3, h4, h5]
  split_ifs <;> exact chunk _ _ (by omega) (by omega) (by omega) (by omega) (by omega) (by omega)

omit h3 h4 h5 in
theorem pay3_eq (x : Vec Ideal S512x128 .f32) : k0_pay3 x = x := by
  funext i
  idx_vars i
  pointwise [k0_pay3]

omit h3 h4 h5 in
theorem pay4_eq (x : Vec Ideal S512x128 .f32) : k0_pay4 x = x := pay3_eq x

omit h3 h4 h5 in
theorem pay5_eq (x : Vec Ideal S512x128 .f32) : k0_pay5 x = x := pay3_eq x

/-- The queries, rotated, divided by eight and transposed. -/
theorem out6_apply (r : Fin 512) (e : Fin 1024) :
    out0_6 x0 x1 x2 x3 x4 x5 (ix2 e r) = rope (product x0 x1 x2 r) (P r) e.val * Ideal.ofBits .f32 0x3E000000#32 := by
  unfold_out out0_6
  rw [View.canon_unit_zero zero2]
  simp only [View.ld_unit_zero (S := S512x1024) zero2, View.ld_unit_zero (S := S1x1024) zero2,
    View.ld_unit_zero (S := S1024x3072) zero2, View.ld_unit_zero (S := S512x128) zero2]
  pointwise [k0_pay28, k0_pay3, k0_pay4, k0_pay5, k0_pay6, k0_pay7, k0_pay8, k0_pay9, k0_pay10, k0_pay11, k0_pay12, k0_pay13, k0_pay14, k0_pay15, k0_pay16, k0_pay17, k0_pay18]
  simp only [product_apply, h3, h4, h5]
  refine congrArg (· * _) ?_
  split_ifs <;> exact chunk _ _ (by omega) (by omega) (by omega) (by omega) (by omega) (by omega)

/-- The rotated keys beside the values. -/
theorem out7_apply (r : Fin 512) (e : Fin 2048) :
    out0_7 x0 x1 x2 x3 x4 x5 (ix2 r e)
      = if e.val < 1024 then rope (product x0 x1 x2 r) (P r) (1024 + e.val) else product x0 x1 x2 r (1024 + e.val) := by
  unfold_out out0_7
  simp only [View.ld_unit_zero (S := S512x1024) zero2, View.ld_unit_zero (S := S1x1024) zero2,
    View.ld_unit_zero (S := S1024x3072) zero2, View.ld_unit_zero (S := S512x128) zero2, pay3_eq, pay4_eq, pay5_eq]
  refine View.canon_apply_of_pieces (Val := Elt Ideal) (S := S512x2048) (e := .f32) (fun y => show EReal from
    if (y 1).val < 1024 then rope (product x0 x1 x2 (y 0)) (P (y 0)) (1024 + (y 1).val) else product x0 x1 x2 (y 0) (1024 + (y 1).val))
    _ ?_ (ix2 r e) (cover0_7 _ _ (ix2 r e))
  intro pc hpc
  rcases List.mem_cons.mp hpc with rfl | hpc
  · intro x
    obtain ⟨i, j, rfl⟩ : ∃ (i : Fin 512) (j : Fin 1024), x = ix2 i j := ⟨x 0, x 1, by funext a; fin_cases a <;> rfl⟩
    have e0 : r0_6.emb (ix2 i j) 0 = i := Fin.ext (by show 0 + 1 * i.val = i.val; omega)
    have e1 : (r0_6.emb (ix2 i j) 1).val = 1024 + j.val := by show 1024 + 1 * j.val = 1024 + j.val; omega
    show k0_pay27 (k0_pay2 x0 x1 x2) (ix2 i j) = _
    beta_reduce
    rw [e0, e1, if_neg (by omega)]
    pointwise [k0_pay27]
    rw [product_apply]
    exact congrArg _ (by show 2048 + j.val = _; omega)
  rcases List.mem_cons.mp hpc with rfl | hpc
  · intro x
    obtain ⟨i, j, rfl⟩ : ∃ (i : Fin 512) (j : Fin 1024), x = ix2 i j := ⟨x 0, x 1, by funext a; fin_cases a <;> rfl⟩
    have e0 : r0_5.emb (ix2 i j) 0 = i := Fin.ext (by show 0 + 1 * i.val = i.val; omega)
    have e1 : (r0_5.emb (ix2 i j) 1).val = j.val := by show 0 + 1 * j.val = j.val; omega
    beta_reduce
    rw [e0, e1, if_pos j.isLt]
    exact keys_apply x3 x4 x5 P h3 h4 h5 (k0_pay2 x0 x1 x2) _ (product_apply x0 x1 x2) i j
  nomatch hpc

/-- The rotated keys alone. -/
theorem out8_apply (r : Fin 512) (e : Fin 1024) :
    out0_8 x0 x1 x2 x3 x4 x5 (ix2 r e) = rope (product x0 x1 x2 r) (P r) (1024 + e.val) := by
  unfold_out out0_8
  rw [View.canon_unit_zero zero2]
  simp only [View.ld_unit_zero (S := S512x1024) zero2, View.ld_unit_zero (S := S1x1024) zero2,
    View.ld_unit_zero (S := S1024x3072) zero2, View.ld_unit_zero (S := S512x128) zero2, pay3_eq, pay4_eq, pay5_eq]
  exact keys_apply x3 x4 x5 P h3 h4 h5 (k0_pay2 x0 x1 x2) _ (product_apply x0 x1 x2) r e

omit h3 h4 h5 in
/-- The values, transposed. -/
theorem out9_apply (r : Fin 512) (e : Fin 1024) :
    out0_9 x0 x1 x2 x3 x4 x5 (ix3 0 e r) = product x0 x1 x2 r (2048 + e.val) := by
  unfold_out out0_9
  rw [View.canon_unit_zero zero3]
  simp only [View.ld_unit_zero (S := S512x1024) zero2, View.ld_unit_zero (S := S1x1024) zero2,
    View.ld_unit_zero (S := S1024x3072) zero2, View.ld_unit_zero (S := S512x128) zero2]
  pointwise [k0_pay1, k0_pay30, k0_pay27]
  rw [product_apply]

end Cert.DiffProj

end
-- ==== Proof.Diff.Inputs.lean ====
/- The projection kernel of the differential layer: the blocks a grid point loads, from the arguments. -/
module

public import proofs.«01_k».proof.Defs
public import proofs.«01_k».proof.Proof.Rope.Rope
public import proofs.«01_k».proof.Proof.Gen.Kernel2Ideal.Value
public import Idealize.ShloMosaic.Lib.Pipeline.Covers
public import Idealize.ShloMosaic.Lib.Pipeline.ValueKit
public import Idealize.ShloMosaic.Lib.StableHlo.RunRead
public import Idealize.ShloMosaic.Lib.Claim
public import Idealize.ShloMosaic.Lib.Pointwise

@[expose] public section

set_option maxRecDepth 131072
set_option maxHeartbeats 2000000

noncomputable section

namespace Cert.DiffProj

open Cert.Kernel2Ideal Cert.Kernel2Ideal.Gen Idealize.ShloMosaic Idealize.ShloMosaic.TcCoe Idealize.SL.Sem
open Idealize.ShloMosaic.Pipeline (Dat)
open Cert.Rope
open scoped BigOperators

variable (m : (ℓ : Loc nD τ sig) → Buf (Elt Ideal) ℓ)

/-- Where each window's block lies. -/
theorem index_eq : ∀ t : Fin cfg0.N,
    win0_0.index t = ![(grid0.coords t 0).val, 0]
      ∧ win0_1.index t = ![0, 0]
      ∧ win0_2.index t = ![0, 0]
      ∧ win0_3.index t = ![(grid0.coords t 0).val % 4, 0]
      ∧ win0_4.index t = ![(grid0.coords t 0).val % 4, 0]
      ∧ win0_5.index t = ![(grid0.coords t 0).val % 4, 0]
      ∧ win0_6.index t = ![0, (grid0.coords t 0).val]
      ∧ win0_7.index t = ![(grid0.coords t 0).val, 0]
      ∧ win0_8.index t = ![(grid0.coords t 0).val, 0]
      ∧ win0_9.index t = ![(grid0.coords t 0).val, 0, 0] := by
  decide +kernel

theorem point_lt (t : Fin cfg0.N) : (grid0.coords t 0).val < 32 := (grid0.coords t 0).isLt

/-- Row `j` of a point's block, counted over all points. -/
abbrev row (t : Fin cfg0.N) (j : Fin 512) : Fin 16384 :=
  ⟨(grid0.coords t 0).val * 512 + j.val, by have := point_lt t; omega⟩

/-- The position of that row in its sequence. -/
abbrev position (t : Fin cfg0.N) (j : Fin 512) : Fin 2048 := ⟨(row t j).val % 2048, by omega⟩

theorem iblk_x (c : Dev nD) (t : Fin cfg0.N) (j : Fin 512) (e : Fin 1024) :
    iblk m c 0 t (ix2 j e) = m ((c : Thread nD τ).loc main_arg0)
      (ix3 ⟨(row t j).val / 2048, by have := point_lt t; omega⟩ ⟨(row t j).val % 2048, by omega⟩ e) := by
  have := point_lt t
  blk_simp [iblk]
  entry_read
  pointwise
  blk_ext [index_eq t]

theorem iblk_g (c : Dev nD) (t : Fin cfg0.N) (e : Fin 1024) :
    iblk m c 1 t (ix2 0 e) = m ((c : Thread nD τ).loc main_arg1) (ix2 0 e) := by
  blk_simp [iblk]
  entry_read
  pointwise
  blk_ext [index_eq t]

theorem iblk_w (c : Dev nD) (t : Fin cfg0.N) (k : Fin 1024) (e : Fin 3072) :
    iblk m c 2 t (ix2 k e) = m ((c : Thread nD τ).loc main_arg2) (ix3 0 k e) := by
  blk_simp [iblk]
  entry_read
  pointwise
  blk_ext [index_eq t]

/-- A table of three parts, laid twice side by side, entry by entry. -/
theorem table_apply (A Z : S2048x8.Idx → EReal) (B : S2048x48.Idx → EReal) (f g : Nat → Nat → EReal) (z : EReal)
    (hA : ∀ p i, A (ix2 p i) = f p.val i.val) (hZ : ∀ p i, Z (ix2 p i) = g p.val i.val) (hB : ∀ p i, B (ix2 p i) = z)
    (p : Fin 2048) (e : Fin 128) :
    shapeCast S2048x128
      (broadcastInDim S1x2048x2x64 ![0, 1, 2, 3] bcast_S1x2048x1x64_S1x2048x2x64_0_1_2_3
        (shapeCast S1x2048x1x64
          (concatenate S2048x64 1 [⟨S2048x8, A⟩, ⟨S2048x8, Z⟩, ⟨S2048x48, B⟩] concatenates_S2048x8_S2048x8_S2048x48_S2048x64_d1)
          shapeCasts_S2048x64_S1x2048x1x64))
      shapeCasts_S1x2048x2x64_S2048x128 (ix2 p e)
      = if e.val % 64 < 8 then f p.val (e.val % 64) else if e.val % 64 < 16 then g p.val (e.val % 64 - 8) else z := by
  pointwise
  simp only [hA, hZ, hB]
  split_ifs <;> first | rfl | (exfalso; omega)

open StableHlo in
/-- The table of cosines as the host lays it out. -/
theorem table_cos (c : Dev nD) : V m c main_v25 = shapeCast S2048x128
    (broadcastInDim S1x2048x2x64 ![0, 1, 2, 3] bcast_S1x2048x1x64_S1x2048x2x64_0_1_2_3
      (shapeCast S1x2048x1x64
        (concatenate S2048x64 1 [⟨S2048x8, upto hostOps0 (fun b => m (c, b)) 19 (Proc.devRef .tc main_v13)⟩,
          ⟨S2048x8, upto hostOps0 (fun b => m (c, b)) 19 (Proc.devRef .tc main_v13)⟩,
          ⟨S2048x48, upto hostOps0 (fun b => m (c, b)) 19 (Proc.devRef .tc main_v15)⟩]
          concatenates_S2048x8_S2048x8_S2048x48_S2048x64_d1)
        shapeCasts_S2048x64_S1x2048x1x64))
    shapeCasts_S1x2048x2x64_S2048x128 := by
  simp (disch := decide) only [readAfter, readUpto, nullary_result', unary_result', binary_result', reshape_result', nary3_result]
  rfl

open StableHlo in
theorem cos_read (c : Dev nD) (p : Fin 2048) (i : Fin 8) :
    (upto hostOps0 (fun b => m (c, b)) 19 (Proc.devRef .tc main_v13) (ix2 p i) : EReal) = Ideal.cos (angle p.val i.val) := by
  simp (disch := decide) only [readAfter, readUpto, nullary_result', unary_result', binary_result', reshape_result', nary3_result]
  pointwise
  rfl

open StableHlo in
theorem one_read (c : Dev nD) (p : Fin 2048) (i : Fin 48) :
    (upto hostOps0 (fun b => m (c, b)) 19 (Proc.devRef .tc main_v15) (ix2 p i) : EReal) = (1 : EReal) := by
  simp (disch := decide) only [readAfter, readUpto, nullary_result', unary_result', binary_result', reshape_result', nary3_result]
  pointwise

open StableHlo in
/-- The table of sines for the columns the second rotation brings. -/
theorem table_last (c : Dev nD) : V m c main_v31 = shapeCast S2048x128
    (broadcastInDim S1x2048x2x64 ![0, 1, 2, 3] bcast_S1x2048x1x64_S1x2048x2x64_0_1_2_3
      (shapeCast S1x2048x1x64
        (concatenate S2048x64 1 [⟨S2048x8, upto hostOps0 (fun b => m (c, b)) 28 (Proc.devRef .tc main_v20)⟩,
          ⟨S2048x8, upto hostOps0 (fun b => m (c, b)) 28 (Proc.devRef .tc main_v14)⟩,
          ⟨S2048x48, upto hostOps0 (fun b => m (c, b)) 28 (Proc.devRef .tc main_v21)⟩]
          concatenates_S2048x8_S2048x8_S2048x48_S2048x64_d1)
        shapeCasts_S2048x64_S1x2048x1x64))
    shapeCasts_S1x2048x2x64_S2048x128 := by
  simp (disch := decide) only [readAfter, readUpto, nullary_result', unary_result', binary_result', reshape_result', nary3_result]
  rfl

open StableHlo in
theorem sin_read (c : Dev nD) (p : Fin 2048) (i : Fin 8) :
    (upto hostOps0 (fun b => m (c, b)) 28 (Proc.devRef .tc main_v14) (ix2 p i) : EReal) = Ideal.sin (angle p.val i.val) := by
  simp (disch := decide) only [readAfter, readUpto, nullary_result', unary_result', binary_result', reshape_result', nary3_result]
  pointwise
  rfl

open StableHlo in
theorem zero_read (c : Dev nD) (p : Fin 2048) (i : Fin 8) :
    (upto hostOps0 (fun b => m (c, b)) 28 (Proc.devRef .tc main_v20) (ix2 p i) : EReal) = (0 : EReal) := by
  simp (disch := decide) only [readAfter, readUpto, nullary_result', unary_result', binary_result', reshape_result', nary3_result]
  pointwise

open StableHlo in
theorem zero_read' (c : Dev nD) (p : Fin 2048) (i : Fin 48) :
    (upto hostOps0 (fun b => m (c, b)) 28 (Proc.devRef .tc main_v21) (ix2 p i) : EReal) = (0 : EReal) := by
  simp (disch := decide) only [readAfter, readUpto, nullary_result', unary_result', binary_result', reshape_result', nary3_result]
  pointwise

theorem cos_block (t : Fin cfg0.N) (j : Fin 512) (e : Fin 128) :
    (win0_3.blk t).view.emb (ix2 j e) = (ix2 (position t j) e : S2048x128.Idx) := by
  have h0 : ((win0_3.blk t).view.emb (ix2 j e) 0).val = ((grid0.coords t 0).val * 512 + j.val) % 2048 := by
    have := point_lt t
    blk_simp [index_eq t]
    omega
  have h1 : ((win0_3.blk t).view.emb (ix2 j e) 1).val = e.val := by
    blk_simp [index_eq t]
  exact funext fun a => Fin.ext (match a with | ⟨0, _⟩ => h0 | ⟨1, _⟩ => h1)

theorem next_block (t : Fin cfg0.N) (j : Fin 512) (e : Fin 128) :
    (win0_4.blk t).view.emb (ix2 j e) = (ix2 (position t j) e : S2048x128.Idx) := by
  have h0 : ((win0_4.blk t).view.emb (ix2 j e) 0).val = ((grid0.coords t 0).val * 512 + j.val) % 2048 := by
    have := point_lt t
    blk_simp [index_eq t]
    omega
  have h1 : ((win0_4.blk t).view.emb (ix2 j e) 1).val = e.val := by
    blk_simp [index_eq t]
  exact funext fun a => Fin.ext (match a with | ⟨0, _⟩ => h0 | ⟨1, _⟩ => h1)

theorem last_block (t : Fin cfg0.N) (j : Fin 512) (e : Fin 128) :
    (win0_5.blk t).view.emb (ix2 j e) = (ix2 (position t j) e : S2048x128.Idx) := by
  have h0 : ((win0_5.blk t).view.emb (ix2 j e) 0).val = ((grid0.coords t 0).val * 512 + j.val) % 2048 := by
    have := point_lt t
    blk_simp [index_eq t]
    omega
  have h1 : ((win0_5.blk t).view.emb (ix2 j e) 1).val = e.val := by
    blk_simp [index_eq t]
  exact funext fun a => Fin.ext (match a with | ⟨0, _⟩ => h0 | ⟨1, _⟩ => h1)

open StableHlo in
/-- The three tables a grid point loads. -/
theorem iblk_cos (c : Dev nD) (t : Fin cfg0.N) (j : Fin 512) (e : Fin 128) :
    (iblk m c 3 t (ix2 j e) : EReal) = cosTable (position t j).val e.val := by
  have h := table_apply (upto hostOps0 (fun b => m (c, b)) 19 (Proc.devRef .tc main_v13))
    (upto hostOps0 (fun b => m (c, b)) 19 (Proc.devRef .tc main_v13)) (upto hostOps0 (fun b => m (c, b)) 19 (Proc.devRef .tc main_v15))
    (fun p i => Ideal.cos (angle p i)) (fun p i => Ideal.cos (angle p i)) 1 (cos_read m c) (cos_read m c) (one_read m c) (position t j) e
  rw [← table_cos, ← cos_block] at h
  exact h

theorem iblk_next (c : Dev nD) (t : Fin cfg0.N) (j : Fin 512) (e : Fin 128) :
    (iblk m c 4 t (ix2 j e) : EReal) = sinNext (position t j).val e.val := by
  blk_simp [iblk]
  rw [next_block]
  entry_read
  pointwise
  rfl

open StableHlo in
theorem iblk_last (c : Dev nD) (t : Fin cfg0.N) (j : Fin 512) (e : Fin 128) :
    (iblk m c 5 t (ix2 j e) : EReal) = sinLast (position t j).val e.val := by
  have h := table_apply (upto hostOps0 (fun b => m (c, b)) 28 (Proc.devRef .tc main_v20))
    (upto hostOps0 (fun b => m (c, b)) 28 (Proc.devRef .tc main_v14)) (upto hostOps0 (fun b => m (c, b)) 28 (Proc.devRef .tc main_v21))
    (fun _ _ => 0) (fun p i => Ideal.sin (angle p i)) 0 (zero_read m c) (sin_read m c) (zero_read' m c) (position t j) e
  rw [← table_last, ← last_block] at h
  exact h

end Cert.DiffProj

end
-- ==== Proof.Diff.Reference.lean ====
/- The reference's projection of the differential layer, entry by entry. -/
module

public import proofs.«01_k».proof.Defs
public import proofs.«01_k».proof.Proof.Rope.Rope
public import proofs.«01_k».proof.Proof.Gen.Reference2Ideal.Read
public import Idealize.ShloMosaic.Lib.Pipeline.Covers
public import Idealize.ShloMosaic.Lib.Pipeline.ValueKit
public import Idealize.ShloMosaic.Lib.Claim
public import Idealize.ShloMosaic.Lib.Pointwise

@[expose] public section

set_option maxRecDepth 131072
set_option maxHeartbeats 2000000

noncomputable section

namespace Cert.DiffProj

open Cert.Reference2Ideal Cert.Reference2Ideal.Read Idealize.ShloMosaic Idealize.ShloMosaic.TcCoe Idealize.SL.Sem
open Idealize.ShloMosaic.Pipeline (Dat)
open Cert.Rope
open scoped BigOperators

variable (x : S8x2048x1024.Idx → EReal) (g : S2x1024.Idx → EReal) (w : S1x1024x3072.Idx → EReal)

/-- The row of the projection at position `t` of sequence `n`. -/
def refRow (n : Fin 8) (t : Fin 2048) : Fin 3072 → EReal :=
  projected (fun k => x (ix3 n t k)) (fun k => g (ix2 0 k)) (fun k e => w (ix3 0 k e))

theorem ref_product (n : Fin 8) (t : Fin 2048) (e : Fin 3072) :
    val_main_v17 (F := Ideal) x g w (ix3 n t e) = refRow x g w n t e := by
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_cst, val_main_cst_0, val_main_cst_1]
  rfl

/-- The rotated queries. -/
theorem ref_q (r : Fin 16384) (e : Fin 1024) :
    val_main_v56 (F := Ideal) x g w (ix2 r e)
      = rope (column (refRow x g w ⟨r.val / 2048, by omega⟩ ⟨r.val % 2048, by omega⟩)) (r.val % 2048) e.val := by
  pointwise [val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v18, val_main_cst_2, val_main_cst_3, val_main_v0]
  simp only [ref_product, ← column_val]
  exact parts (column (refRow x g w ⟨r.val / 2048, by omega⟩ ⟨r.val % 2048, by omega⟩)) (r.val % 2048) (o := e.val % 64) (E := e.val)
    rfl (by omega) (by omega) (by omega) (by omega) (by omega)

/-- The rotated keys. -/
theorem ref_k (r : Fin 16384) (e : Fin 1024) :
    val_main_v92 (F := Ideal) x g w (ix2 r e)
      = rope (column (refRow x g w ⟨r.val / 2048, by omega⟩ ⟨r.val % 2048, by omega⟩)) (r.val % 2048) (1024 + e.val) := by
  pointwise [val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v19, val_main_cst_4, val_main_cst_5, val_main_v0]
  simp only [ref_product, ← column_val]
  exact parts (column (refRow x g w ⟨r.val / 2048, by omega⟩ ⟨r.val % 2048, by omega⟩)) (r.val % 2048) (o := e.val % 64)
    (E := 1024 + e.val) (by omega) (by omega) (by omega) (by omega) (by omega) (by omega)

/-- The values. -/
theorem ref_v (r : Fin 16384) (e : Fin 1024) :
    val_main_v93 (F := Ideal) x g w (ix2 r e)
      = column (refRow x g w ⟨r.val / 2048, by omega⟩ ⟨r.val % 2048, by omega⟩) (2048 + e.val) := by
  pointwise [val_main_v93, val_main_v20]
  simp only [ref_product, ← column_val]

/-- The four results. -/
theorem ref_qt (r : Fin 16384) (e : Fin 1024) :
    val_main_v97 (F := Ideal) x g w (ix2 e r)
      = rope (column (refRow x g w ⟨r.val / 2048, by omega⟩ ⟨r.val % 2048, by omega⟩)) (r.val % 2048) e.val
          * Ideal.ofBits .f32 0x3E000000#32 := by
  rw [← ref_q]
  pointwise [val_main_v97, val_main_v96, val_main_v95, val_main_v94, val_main_cst_6]

theorem ref_kv (r : Fin 16384) (e : Fin 2048) :
    val_main_v98 (F := Ideal) x g w (ix2 r e)
      = if e.val < 1024 then
          rope (column (refRow x g w ⟨r.val / 2048, by omega⟩ ⟨r.val % 2048, by omega⟩)) (r.val % 2048) (1024 + e.val)
        else column (refRow x g w ⟨r.val / 2048, by omega⟩ ⟨r.val % 2048, by omega⟩) (1024 + e.val) := by
  pointwise [val_main_v98]
  simp only [ref_k, ref_v]
  by_cases h : e.val < 1024
  · rw [dif_pos h, if_pos h]
  · rw [dif_neg h, if_neg h, show 2048 + (e.val - 1024) = 1024 + e.val by omega]

theorem ref_kb (r : Fin 16384) (e : Fin 1024) :
    val_main_v99 (F := Ideal) x g w (ix2 r e)
      = rope (column (refRow x g w ⟨r.val / 2048, by omega⟩ ⟨r.val % 2048, by omega⟩)) (r.val % 2048) (1024 + e.val) := by
  rw [← ref_k]
  pointwise [val_main_v99]

theorem ref_vt (a : Fin 32) (e : Fin 1024) (j : Fin 512) :
    val_main_v102 (F := Ideal) x g w (ix3 a e j)
      = column (refRow x g w ⟨(a.val * 512 + j.val) / 2048, by omega⟩ ⟨(a.val * 512 + j.val) % 2048, by omega⟩) (2048 + e.val) := by
  pointwise [val_main_v102, val_main_v101, val_main_v100]
  rw [ref_v]

end Cert.DiffProj

end
-- ==== Proof.Diff.Output.lean ====
/- The projection kernel of the differential layer: its four whole arrays, the reference's, and their equality. -/
module

public import proofs.«01_k».proof.Defs
public import proofs.«01_k».proof.Proof.Rope.Rope
public import proofs.«01_k».proof.Proof.Diff.Block
public import proofs.«01_k».proof.Proof.Diff.Inputs
public import proofs.«01_k».proof.Proof.Diff.Reference
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.Covers
public import Idealize.ShloMosaic.Lib.Pipeline.ValueKit
public import Idealize.ShloMosaic.Lib.Claim
public import Idealize.ShloMosaic.Lib.Pointwise

@[expose] public section

set_option maxRecDepth 131072
set_option maxHeartbeats 2000000

noncomputable section

namespace Cert.DiffProj

open Cert.Kernel2Ideal Cert.Kernel2Ideal.Gen Idealize.ShloMosaic Idealize.ShloMosaic.TcCoe Idealize.SL.Sem
open Idealize.ShloMosaic.Pipeline (Dat)
open Cert.Rope
open scoped BigOperators

/-- Row `r` of the projection, `r` counting the positions of all sequences. -/
def rowOf (x : S8x2048x1024.Idx → EReal) (g : S2x1024.Idx → EReal) (w : S1x1024x3072.Idx → EReal) (r : Fin 16384) : Nat → EReal :=
  column (refRow x g w ⟨r.val / 2048, by omega⟩ ⟨r.val % 2048, by omega⟩)

/-- The queries: rotated, divided by eight, transposed. -/
def queries (x : S8x2048x1024.Idx → EReal) (g : S2x1024.Idx → EReal) (w : S1x1024x3072.Idx → EReal) : S1024x16384.Idx → EReal :=
  fun i => rope (rowOf x g w (i 1)) ((i 1).val % 2048) (i 0).val * Ideal.ofBits .f32 0x3E000000#32

/-- The rotated keys beside the values. -/
def keysValues (x : S8x2048x1024.Idx → EReal) (g : S2x1024.Idx → EReal) (w : S1x1024x3072.Idx → EReal) : S16384x2048.Idx → EReal :=
  fun i => if (i 1).val < 1024 then rope (rowOf x g w (i 0)) ((i 0).val % 2048) (1024 + (i 1).val)
    else rowOf x g w (i 0) (1024 + (i 1).val)

/-- The rotated keys. -/
def keys (x : S8x2048x1024.Idx → EReal) (g : S2x1024.Idx → EReal) (w : S1x1024x3072.Idx → EReal) : S16384x1024.Idx → EReal :=
  fun i => rope (rowOf x g w (i 0)) ((i 0).val % 2048) (1024 + (i 1).val)

/-- The values in chunks of 512 positions, each transposed. -/
def values (x : S8x2048x1024.Idx → EReal) (g : S2x1024.Idx → EReal) (w : S1x1024x3072.Idx → EReal) : S32x1024x512.Idx → EReal :=
  fun i => rowOf x g w ⟨(i 0).val * 512 + (i 2).val, by
    have h0 : (i 0).val < 32 := (i 0).isLt
    have h2 : (i 2).val < 512 := (i 2).isLt
    omega⟩ (2048 + (i 1).val)

section Kernel

variable (m : (ℓ : Loc nD τ sig) → Buf (Elt Ideal) ℓ) (c : Dev nD)

/-- The arguments. -/
abbrev argX : S8x2048x1024.Idx → EReal := m ((c : Thread nD τ).loc main_arg0)
abbrev argG : S2x1024.Idx → EReal := m ((c : Thread nD τ).loc main_arg1)
abbrev argW : S1x1024x3072.Idx → EReal := m ((c : Thread nD τ).loc main_arg2)

/-- A block's row of the product is the projection's row. -/
theorem product_row (t : Fin cfg0.N) (j : Fin 512) :
    product (iblk m c 0 t) (iblk m c 1 t) (iblk m c 2 t) j = rowOf (argX m c) (argG m c) (argW m c) (row t j) := by
  unfold product rowOf refRow
  refine congrArg column ?_
  have hx : (fun k => iblk m c 0 t (ix2 j k)) = fun k => argX m c (ix3 ⟨(row t j).val / 2048, by omega⟩ ⟨(row t j).val % 2048, by omega⟩ k) :=
    funext fun k => iblk_x m c t j k
  have hg : (fun k => iblk m c 1 t (ix2 0 k)) = fun k => argG m c (ix2 0 k) := funext fun k => iblk_g m c t k
  have hw : (fun k e => iblk m c 2 t (ix2 k e)) = fun k e => argW m c (ix3 0 k e) := funext fun k => funext fun e => iblk_w m c t k e
  exact congr (congr (congrArg projected hx) hg) hw

theorem array_queries : (dats m 0 c).arrAt 6 cfg0.N = queries (argX m c) (argG m c) (argW m c) := by
  refine (dats m 0 c).arrAt_eq_of_covers 6 _ (by decide +kernel) fun t hf y => ?_
  blk_simp
  rw [after0_6]
  obtain ⟨e, j, rfl⟩ : ∃ (e : Fin 1024) (j : Fin 512), y = ix2 e j := ⟨y 0, y 1, by funext a; fin_cases a <;> rfl⟩
  rw [out6_apply _ _ _ _ _ _ (fun r => (position t r).val) (iblk_cos m c t) (iblk_next m c t) (iblk_last m c t), product_row]
  have h0 : e = (win0_6.blk t).view.emb (ix2 e j) 0 := by
    apply Fin.ext
    blk_simp [index_eq t]
  have h1 : row t j = (win0_6.blk t).view.emb (ix2 e j) 1 := by
    apply Fin.ext
    blk_simp [index_eq t]
  exact congrArg₂ (fun (e : Fin 1024) (r : Fin 16384) =>
    rope (rowOf (argX m c) (argG m c) (argW m c) r) (r.val % 2048) e.val * Ideal.ofBits .f32 0x3E000000#32) h0 h1

theorem array_keysValues : (dats m 0 c).arrAt 7 cfg0.N = keysValues (argX m c) (argG m c) (argW m c) := by
  refine (dats m 0 c).arrAt_eq_of_covers 7 _ (by decide +kernel) fun t hf y => ?_
  blk_simp
  rw [after0_7]
  obtain ⟨j, e, rfl⟩ : ∃ (j : Fin 512) (e : Fin 2048), y = ix2 j e := ⟨y 0, y 1, by funext a; fin_cases a <;> rfl⟩
  rw [out7_apply _ _ _ _ _ _ (fun r => (position t r).val) (iblk_cos m c t) (iblk_next m c t) (iblk_last m c t), product_row]
  have h0 : row t j = (win0_7.blk t).view.emb (ix2 j e) 0 := by
    apply Fin.ext
    blk_simp [index_eq t]
  have h1 : e = (win0_7.blk t).view.emb (ix2 j e) 1 := by
    apply Fin.ext
    blk_simp [index_eq t]
  exact congrArg₂ (fun (r : Fin 16384) (e : Fin 2048) =>
    (show EReal from if e.val < 1024 then rope (rowOf (argX m c) (argG m c) (argW m c) r) (r.val % 2048) (1024 + e.val)
      else rowOf (argX m c) (argG m c) (argW m c) r (1024 + e.val))) h0 h1

theorem array_keys : (dats m 0 c).arrAt 8 cfg0.N = keys (argX m c) (argG m c) (argW m c) := by
  refine (dats m 0 c).arrAt_eq_of_covers 8 _ (by decide +kernel) fun t hf y => ?_
  blk_simp
  rw [after0_8]
  obtain ⟨j, e, rfl⟩ : ∃ (j : Fin 512) (e : Fin 1024), y = ix2 j e := ⟨y 0, y 1, by funext a; fin_cases a <;> rfl⟩
  rw [out8_apply _ _ _ _ _ _ (fun r => (position t r).val) (iblk_cos m c t) (iblk_next m c t) (iblk_last m c t), product_row]
  have h0 : row t j = (win0_8.blk t).view.emb (ix2 j e) 0 := by
    apply Fin.ext
    blk_simp [index_eq t]
  have h1 : e = (win0_8.blk t).view.emb (ix2 j e) 1 := by
    apply Fin.ext
    blk_simp [index_eq t]
  exact congrArg₂ (fun (r : Fin 16384) (e : Fin 1024) =>
    rope (rowOf (argX m c) (argG m c) (argW m c) r) (r.val % 2048) (1024 + e.val)) h0 h1

theorem array_values : (dats m 0 c).arrAt 9 cfg0.N = values (argX m c) (argG m c) (argW m c) := by
  refine (dats m 0 c).arrAt_eq_of_covers 9 _ (by decide +kernel) fun t hf y => ?_
  blk_simp
  rw [after0_9]
  obtain ⟨e, j, rfl⟩ : ∃ (e : Fin 1024) (j : Fin 512), y = ix3 0 e j :=
    ⟨y 1, y 2, by funext a; fin_cases a; exacts [Subsingleton.elim (α := Fin 1) _ _, rfl, rfl]⟩
  rw [out9_apply, product_row]
  have h0 : (grid0.coords t 0).val = ((win0_9.blk t).view.emb (ix3 0 e j) 0).val := by
    blk_simp [index_eq t]
    rfl
  have h1 : e.val = ((win0_9.blk t).view.emb (ix3 0 e j) 1).val := by
    blk_simp [index_eq t]
  have h2 : j.val = ((win0_9.blk t).view.emb (ix3 0 e j) 2).val := by
    blk_simp [index_eq t]
  have hr : row t j = ⟨((win0_9.blk t).view.emb (ix3 0 e j) 0).val * 512 + ((win0_9.blk t).view.emb (ix3 0 e j) 2).val, by
      rw [← h0, ← h2]; have := point_lt t; omega⟩ := by
    apply Fin.ext
    show (grid0.coords t 0).val * 512 + j.val = _ * 512 + _
    rw [← h0, ← h2]
  exact congrArg₂ (fun (r : Fin 16384) (e : Nat) => rowOf (argX m c) (argG m c) (argW m c) r (2048 + e)) hr h1

end Kernel

section Reference

open Cert.Reference2Ideal.Read

variable (x : S8x2048x1024.Idx → EReal) (g : S2x1024.Idx → EReal) (w : S1x1024x3072.Idx → EReal)

theorem reference_queries : val_main_v97 (F := Ideal) x g w = queries x g w := by
  funext i
  obtain ⟨e, r, rfl⟩ : ∃ (e : Fin 1024) (r : Fin 16384), i = ix2 e r := ⟨i 0, i 1, by funext a; fin_cases a <;> rfl⟩
  exact ref_qt x g w r e

theorem reference_keysValues : val_main_v98 (F := Ideal) x g w = keysValues x g w := by
  funext i
  obtain ⟨r, e, rfl⟩ : ∃ (r : Fin 16384) (e : Fin 2048), i = ix2 r e := ⟨i 0, i 1, by funext a; fin_cases a <;> rfl⟩
  exact ref_kv x g w r e

theorem reference_keys : val_main_v99 (F := Ideal) x g w = keys x g w := by
  funext i
  obtain ⟨r, e, rfl⟩ : ∃ (r : Fin 16384) (e : Fin 1024), i = ix2 r e := ⟨i 0, i 1, by funext a; fin_cases a <;> rfl⟩
  exact ref_kb x g w r e

theorem reference_values : val_main_v102 (F := Ideal) x g w = values x g w := by
  funext i
  obtain ⟨a, e, j, rfl⟩ : ∃ (a : Fin 32) (e : Fin 1024) (j : Fin 512), i = ix3 a e j :=
    ⟨i 0, i 1, i 2, by funext a; fin_cases a <;> rfl⟩
  exact ref_vt x g w a e j

end Reference

/-- The kernel's four arrays are the reference's. -/
theorem diff_proj_equal : Cert.algebraic_Kernel2Ideal_Reference2Ideal (hKernel2Ideal := Cert.Kernel2Ideal.Gen.facts)
    (hReference2Ideal := Cert.Reference2Ideal.Gen.facts) := by
  intro m g m' g' hpre hagree
  refine ⟨fun c => queries (argX m c) (argG m c) (argW m c), fun c => keysValues (argX m c) (argG m c) (argW m c),
    fun c => keys (argX m c) (argG m c) (argW m c), fun c => values (argX m c) (argG m c) (argW m c), ?_, ?_⟩
  · exact (θ_run _ _ _).mono (fun r h c => ⟨(h c).1.trans (array_queries m c), (h c).2.1.trans (array_keysValues m c),
      (h c).2.2.1.trans (array_keys m c), (h c).2.2.2.1.trans (array_values m c), (h c).2.2.2.2⟩)
      (Cert.Kernel2Ideal.Value.run_blocks (F := Ideal) m g)
  · refine (θ_run _ _ _).mono (fun r h c => ⟨(h c).1.trans ?_, (h c).2.1.trans ?_, (h c).2.2.1.trans ?_, (h c).2.2.2.1.trans ?_,
      (h c).2.2.2.2⟩) (Cert.Reference2Ideal.Value.run (F := Ideal) m' g')
    · rw [Cert.Reference2Ideal.Read.val_main_v97_eq, (hagree c).1, (hagree c).2.1, (hagree c).2.2]
      exact reference_queries _ _ _
    · rw [Cert.Reference2Ideal.Read.val_main_v98_eq, (hagree c).1, (hagree c).2.1, (hagree c).2.2]
      exact reference_keysValues _ _ _
    · rw [Cert.Reference2Ideal.Read.val_main_v99_eq, (hagree c).1, (hagree c).2.1, (hagree c).2.2]
      exact reference_keys _ _ _
    · rw [Cert.Reference2Ideal.Read.val_main_v102_eq, (hagree c).1, (hagree c).2.1, (hagree c).2.2]
      exact reference_values _ _ _

end Cert.DiffProj

end
-- ==== Proof.Out.Frames.lean ====
/- The frames of one call: its run over extended reals and, by the same text, over machine numbers; and the frame of
   its reference. -/
module

public import proofs.«01_k».proof.Defs
public import proofs.«01_k».proof.Proof.Gen.Kernel3Ideal.Frame
public import proofs.«01_k».proof.Proof.Gen.Reference3Ideal.Run

@[expose] public section

set_option maxHeartbeats 8000000

noncomputable section

namespace Cert.OutProj

open Idealize.ShloMosaic Idealize.ShloMosaic.TcCoe Idealize.SL.Sem

/-- The side conditions the program states are those of its twin over extended reals. -/
theorem facts₀ : Cert.Kernel3.Facts₀ where
  shapeCasts_S8x2048x8x128_S16384x1024 := @Cert.Kernel3Ideal.Gen.shapeCasts_S8x2048x8x128_S16384x1024
  transposes_S16384x1024_S1024x16384_1_0 := @Cert.Kernel3Ideal.Gen.transposes_S16384x1024_S1024x16384_1_0
  bitsLt_bf16_f32 := @Cert.Kernel3Ideal.Gen.bitsLt_bf16_f32
  shapeCasts_S8x2048x1024_S16384x1024 := @Cert.Kernel3Ideal.Gen.shapeCasts_S8x2048x1024_S16384x1024
  shapeCasts_S1x1024x1024_S1024x1024 := @Cert.Kernel3Ideal.Gen.shapeCasts_S1x1024x1024_S1024x1024
  inb_S512x1024_S512x1024_0_0 := @Cert.Kernel3Ideal.Gen.inb_S512x1024_S512x1024_0_0
  h_S512x1024 := @Cert.Kernel3Ideal.Gen.h_S512x1024
  shapeCasts_S512x1024_S512x1024 := @Cert.Kernel3Ideal.Gen.shapeCasts_S512x1024_S512x1024
  inb_S1024x512_S1024x512_0_0 := @Cert.Kernel3Ideal.Gen.inb_S1024x512_S1024x512_0_0
  h_S1024x512 := @Cert.Kernel3Ideal.Gen.h_S1024x512
  shapeCasts_S1024x512_S1024x512 := @Cert.Kernel3Ideal.Gen.shapeCasts_S1024x512_S1024x512
  inb_S1024x1024_S1024x1024_0_0 := @Cert.Kernel3Ideal.Gen.inb_S1024x1024_S1024x1024_0_0
  h_S1024x1024 := @Cert.Kernel3Ideal.Gen.h_S1024x1024
  shapeCasts_S1024x1024_S1024x1024 := @Cert.Kernel3Ideal.Gen.shapeCasts_S1024x1024_S1024x1024
  dot_S1024x512_S1024x1024_S512x1024_0_0_1_1_n_n_wf := @Cert.Kernel3Ideal.Gen.dot_S1024x512_S1024x1024_S512x1024_0_0_1_1_n_n_wf
  hrank0 := @Cert.Kernel3Ideal.Gen.hrank0
  hstage0_0 := @Cert.Kernel3Ideal.Gen.hstage0_0
  nbuf0_0 := @Cert.Kernel3Ideal.Gen.nbuf0_0
  hreads0_0 := @Cert.Kernel3Ideal.Gen.hreads0_0
  hinb0_0 := @Cert.Kernel3Ideal.Gen.hinb0_0
  hwx0_0 := @Cert.Kernel3Ideal.Gen.hwx0_0
  hstage0_1 := @Cert.Kernel3Ideal.Gen.hstage0_1
  nbuf0_1 := @Cert.Kernel3Ideal.Gen.nbuf0_1
  hreads0_1 := @Cert.Kernel3Ideal.Gen.hreads0_1
  hinb0_1 := @Cert.Kernel3Ideal.Gen.hinb0_1
  hwx0_1 := @Cert.Kernel3Ideal.Gen.hwx0_1
  hstage0_2 := @Cert.Kernel3Ideal.Gen.hstage0_2
  nbuf0_2 := @Cert.Kernel3Ideal.Gen.nbuf0_2
  hreads0_2 := @Cert.Kernel3Ideal.Gen.hreads0_2
  hinb0_2 := @Cert.Kernel3Ideal.Gen.hinb0_2
  hwx0_2 := @Cert.Kernel3Ideal.Gen.hwx0_2
  hstage0_3 := @Cert.Kernel3Ideal.Gen.hstage0_3
  nbuf0_3 := @Cert.Kernel3Ideal.Gen.nbuf0_3
  hreads0_3 := @Cert.Kernel3Ideal.Gen.hreads0_3
  hinb0_3 := @Cert.Kernel3Ideal.Gen.hinb0_3
  hwx0_3 := @Cert.Kernel3Ideal.Gen.hwx0_3

theorem facts : Cert.Kernel3.Facts :=
  @Cert.Kernel3.Facts.mk facts₀

/-- Both programs run the same bodies. -/
theorem bodies_eq [Cert.Kernel3.Facts] : Cert.Kernel3.defs₀ (F := Bits) = Cert.Kernel3Ideal.defs₀ (F := Bits) := by
  unfold Cert.Kernel3.defs₀ Cert.Kernel3Ideal.defs₀
  congr 1
  funext l x
  match l, x with
  | ⟨0, _⟩, ⟨t, s⟩ => rfl

theorem defs_eq [Cert.Kernel3.Facts] : Cert.Kernel3.defs (F := Bits) = Cert.Kernel3Ideal.defs (F := Bits) :=
  congrArg (Pipeline.defs (Cert.Kernel3Ideal.pcfgs (F := Bits))) bodies_eq

/-- The call as run. -/
theorem frame_kernel : Cert.quiescent_Kernel3 (hKernel3 := facts) := by
  haveI := facts
  intro m g _
  rw [defs_eq]
  exact Cert.Kernel3Ideal.Gen.frame (F := Bits) m g

/-- The call over extended reals. -/
theorem frame_kernelIdeal : Cert.quiescent_Kernel3Ideal (hKernel3Ideal := Cert.Kernel3Ideal.Gen.facts) :=
  fun m g _ => Cert.Kernel3Ideal.Gen.frame m g

/-- The reference, which declares no semaphore. -/
theorem frame_reference : Cert.quiescent_Reference3Ideal (hReference3Ideal := Cert.Reference3Ideal.Gen.facts) := fun m g _ =>
  (θ_run _ _ _).mono (fun r h => ⟨fun c => (h c).2, sem_eq_zero_of_no_sems (by decide) r.2⟩)
    (Cert.Reference3Ideal.Value.run (F := Ideal) m g)

end Cert.OutProj

end
-- ==== Proof.Out.OutProj.lean ====
/- The output projection after the attention: what a grid point stores, the whole array, and the reference's array,
   each the residual stream plus the dot product of the attention's row with the projection's column. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.Covers
public import Idealize.ShloMosaic.Lib.Pipeline.ValueKit
public import Idealize.ShloMosaic.Lib.Claim
public import Idealize.ShloMosaic.Lib.Pointwise

@[expose] public section

set_option maxRecDepth 131072
set_option maxHeartbeats 2000000

noncomputable section

namespace Cert.OutProj

open Cert.Kernel3Ideal Cert.Kernel3Ideal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Entry `(r, e)` of the projection, `r` counting the positions of all sequences. -/
def projected (x : S8x2048x1024.Idx → EReal) (o : S8x2048x8x128.Idx → EReal) (w : S1x1024x1024.Idx → EReal)
    (r : Fin 16384) (e : Fin 1024) : EReal :=
  x (ix3 ⟨r.val / 2048, by omega⟩ ⟨r.val % 2048, by omega⟩ e)
    + ∑ k : Fin 1024, o (ix4 ⟨r.val / 2048, by omega⟩ ⟨r.val % 2048, by omega⟩ ⟨k.val / 128, by omega⟩ ⟨k.val % 128, by omega⟩)
        * w (ix3 0 k e)

/-- Where each window's block lies. -/
theorem index_eq : ∀ t : Fin cfg0.N,
    win0_0.index t = ![(grid0.coords t 0).val, 0]
      ∧ win0_1.index t = ![0, (grid0.coords t 0).val]
      ∧ win0_2.index t = ![0, 0]
      ∧ win0_3.index t = ![(grid0.coords t 0).val, 0] := by
  decide +kernel

theorem point_lt (t : Fin cfg0.N) : (grid0.coords t 0).val < 32 := (grid0.coords t 0).isLt

/-- Row `j` of a point's block, counted over all points. -/
abbrev row (t : Fin cfg0.N) (j : Fin 512) : Fin 16384 :=
  ⟨(grid0.coords t 0).val * 512 + j.val, by have := point_lt t; omega⟩

theorem iblk_x (c : Dev nD) (t : Fin cfg0.N) (j : Fin 512) (e : Fin 1024) :
    iblk m c 0 t (ix2 j e) = m ((c : Thread nD τ).loc main_arg0)
      (ix3 ⟨(row t j).val / 2048, by have := point_lt t; omega⟩ ⟨(row t j).val % 2048, by omega⟩ e) := by
  have := point_lt t
  blk_simp [iblk]
  entry_read
  pointwise
  blk_ext [index_eq t]

theorem iblk_o (c : Dev nD) (t : Fin cfg0.N) (k : Fin 1024) (j : Fin 512) :
    iblk m c 1 t (ix2 k j) = m ((c : Thread nD τ).loc main_arg1)
      (ix4 ⟨(row t j).val / 2048, by have := point_lt t; omega⟩ ⟨(row t j).val % 2048, by omega⟩
        ⟨k.val / 128, by omega⟩ ⟨k.val % 128, by omega⟩) := by
  have := point_lt t
  blk_simp [iblk]
  entry_read
  pointwise
  blk_ext [index_eq t]

theorem iblk_w (c : Dev nD) (t : Fin cfg0.N) (k : Fin 1024) (e : Fin 1024) :
    iblk m c 2 t (ix2 k e) = m ((c : Thread nD τ).loc main_arg2) (ix3 0 k e) := by
  blk_simp [iblk]
  entry_read
  pointwise
  blk_ext [index_eq t]

theorem pay1_apply (x : Vec Ideal S512x1024 .f32) (o : Vec Ideal S1024x512 .bf16) (w : Vec Ideal S1024x1024 .bf16)
    (j : Fin 512) (e : Fin 1024) :
    k0_pay1 x o w (ix2 j e) = x (ix2 j e) + ∑ k : Fin 1024, o (ix2 k j) * w (ix2 k e) := by
  pointwise [k0_pay1]

theorem out_apply (x : Vec Ideal S512x1024 .f32) (o : Vec Ideal S1024x512 .bf16) (w : Vec Ideal S1024x1024 .bf16)
    (j : Fin 512) (e : Fin 1024) :
    out0_3 x o w (ix2 j e) = x (ix2 j e) + ∑ k : Fin 1024, o (ix2 k j) * w (ix2 k e) := by
  rw [← pay1_apply]
  unfold out0_3
  have h0 : (![0, 0] : Fin 2 → Nat) = fun _ => 0 := by funext a; fin_cases a <;> rfl
  rw [View.canon_unit_zero h0, View.ld_unit_zero h0, View.ld_unit_zero h0, View.ld_unit_zero h0]

/-- What a grid point stores, as entries of the projection. -/
theorem block_apply (c : Dev nD) (t : Fin cfg0.N) (j : Fin 512) (e : Fin 1024) :
    out0_3 (iblk m c 0 t) (iblk m c 1 t) (iblk m c 2 t) (ix2 j e)
      = projected (m ((c : Thread nD τ).loc main_arg0)) (m ((c : Thread nD τ).loc main_arg1))
          (m ((c : Thread nD τ).loc main_arg2)) (row t j) e := by
  rw [out_apply, iblk_x]
  unfold projected
  refine congrArg _ (Finset.sum_congr rfl fun k _ => ?_)
  rw [iblk_o, iblk_w]

/-- The kernel's whole array. -/
def result (c : Dev nD) : S16384x1024.Idx → EReal := fun j =>
  projected (m ((c : Thread nD τ).loc main_arg0)) (m ((c : Thread nD τ).loc main_arg1)) (m ((c : Thread nD τ).loc main_arg2))
    (j 0) (j 1)

/-- What the run leaves in the result. -/
theorem array_eq (c : Dev nD) : (dats m 0 c).arrAt 3 cfg0.N = result m c := by
  refine (dats m 0 c).arrAt_eq_of_covers 3 _ (by decide +kernel) fun t hf y => ?_
  blk_simp
  rw [after0_3]
  obtain ⟨j, e, rfl⟩ : ∃ (j : Fin 512) (e : Fin 1024), y = ix2 j e := ⟨y 0, y 1, by funext a; fin_cases a <;> rfl⟩
  rw [block_apply]
  unfold result
  have h0 : row t j = (win0_3.blk t).view.emb (ix2 j e) 0 := by
    apply Fin.ext
    blk_simp [index_eq t]
  have h1 : e = (win0_3.blk t).view.emb (ix2 j e) 1 := by
    apply Fin.ext
    blk_simp [index_eq t]
  exact congrArg₂ _ h0 h1

open Cert.Reference3Ideal.Read in
/-- The reference's array. -/
theorem reference_eq (x : Cert.Reference3Ideal.S8x2048x1024.Idx → EReal) (o : Cert.Reference3Ideal.S8x2048x8x128.Idx → EReal)
    (w : Cert.Reference3Ideal.S1x1024x1024.Idx → EReal) :
    val_main_v4 (F := Ideal) x o w = fun j => projected x o w (j 0) (j 1) := by
  funext j
  idx_vars j
  pointwise [val_main_v4, val_main_v3, val_main_v2, val_main_v1, val_main_v0]
  rfl

/-- The kernel's array is the reference's. -/
theorem outproj_equal : Cert.algebraic_Kernel3Ideal_Reference3Ideal (hKernel3Ideal := Cert.Kernel3Ideal.Gen.facts)
    (hReference3Ideal := Cert.Reference3Ideal.Gen.facts) := by
  intro m g m' g' hpre hagree
  refine ⟨fun c => result m c, ?_, ?_⟩
  · exact (θ_run _ _ _).mono (fun r h c => ⟨(h c).1.trans (array_eq m c), (h c).2⟩)
      (Cert.Kernel3Ideal.Value.run_blocks (F := Ideal) m g)
  · refine (θ_run _ _ _).mono (fun r h c => ⟨(h c).1.trans ?_, (h c).2⟩) (Cert.Reference3Ideal.Value.run (F := Ideal) m' g')
    rw [Cert.Reference3Ideal.Read.val_main_v4_eq, (hagree c).1, (hagree c).2.1, (hagree c).2.2]
    exact reference_eq _ _ _

end Cert.OutProj

end
-- ==== Proof.Sparse.Frames.lean ====
/- The frames of one call: its run over extended reals and, by the same text, over machine numbers; and the frame of
   its reference. -/
module

public import proofs.«01_k».proof.Defs
public import proofs.«01_k».proof.Proof.Gen.Kernel4Ideal.Frame
public import proofs.«01_k».proof.Proof.Gen.Reference4Ideal.Run

@[expose] public section

set_option maxHeartbeats 8000000

noncomputable section

namespace Cert.SparseProj

open Idealize.ShloMosaic Idealize.ShloMosaic.TcCoe Idealize.SL.Sem

/-- The side conditions the program states are those of its twin over extended reals. -/
theorem facts₀ : Cert.Kernel4.Facts₀ where
  shapeCasts_S1x1024x2608_S1024x2608 := @Cert.Kernel4Ideal.Gen.shapeCasts_S1x1024x2608_S1024x2608
  slices_S1024x2608_S1024x2560_0_0 := @Cert.Kernel4Ideal.Gen.slices_S1024x2608_S1024x2560_0_0
  bitsLt_bf16_f32 := @Cert.Kernel4Ideal.Gen.bitsLt_bf16_f32
  slices_S1024x2608_S1024x48_0_2560 := @Cert.Kernel4Ideal.Gen.slices_S1024x2608_S1024x48_0_2560
  pads_S1024x48_S1024x128_000_0800 := @Cert.Kernel4Ideal.Gen.pads_S1024x48_S1024x128_000_0800
  h_S_ := @Cert.Kernel4Ideal.Gen.h_S_
  bcast_S_S8 := @Cert.Kernel4Ideal.Gen.bcast_S_S8
  bcast_S2048_S2048x1_0 := @Cert.Kernel4Ideal.Gen.bcast_S2048_S2048x1_0
  bcast_S8_S1x8_1 := @Cert.Kernel4Ideal.Gen.bcast_S8_S1x8_1
  bcast_S2048x1_S2048x8_0_1 := @Cert.Kernel4Ideal.Gen.bcast_S2048x1_S2048x8_0_1
  bcast_S1x8_S2048x8_0_1 := @Cert.Kernel4Ideal.Gen.bcast_S1x8_S2048x8_0_1
  bcast_S_S2048x48 := @Cert.Kernel4Ideal.Gen.bcast_S_S2048x48
  concatenates_S2048x8_S2048x8_S2048x48_S2048x64_d1 := @Cert.Kernel4Ideal.Gen.concatenates_S2048x8_S2048x8_S2048x48_S2048x64_d1
  bcast_S_S2048x56 := @Cert.Kernel4Ideal.Gen.bcast_S_S2048x56
  concatenates_S2048x8_S2048x56_S2048x64_d1 := @Cert.Kernel4Ideal.Gen.concatenates_S2048x8_S2048x56_S2048x64_d1
  bcast_S_S2048x8 := @Cert.Kernel4Ideal.Gen.bcast_S_S2048x8
  shapeCasts_S2048x64_S1x2048x1x64 := @Cert.Kernel4Ideal.Gen.shapeCasts_S2048x64_S1x2048x1x64
  bcast_S1x2048x1x64_S1x2048x2x64_0_1_2_3 := @Cert.Kernel4Ideal.Gen.bcast_S1x2048x1x64_S1x2048x2x64_0_1_2_3
  shapeCasts_S1x2048x2x64_S2048x128 := @Cert.Kernel4Ideal.Gen.shapeCasts_S1x2048x2x64_S2048x128
  shapeCasts_S8x2048x1024_S16384x1024 := @Cert.Kernel4Ideal.Gen.shapeCasts_S8x2048x1024_S16384x1024
  slices_S2x1024_S1x1024_1_0 := @Cert.Kernel4Ideal.Gen.slices_S2x1024_S1x1024_1_0
  shapeCasts_S1x1024_S1024 := @Cert.Kernel4Ideal.Gen.shapeCasts_S1x1024_S1024
  shapeCasts_S1024_S1x1024 := @Cert.Kernel4Ideal.Gen.shapeCasts_S1024_S1x1024
  inb_S512x1024_S512x1024_0_0 := @Cert.Kernel4Ideal.Gen.inb_S512x1024_S512x1024_0_0
  h_S512x1024 := @Cert.Kernel4Ideal.Gen.h_S512x1024
  shapeCasts_S512x1024_S512x1024 := @Cert.Kernel4Ideal.Gen.shapeCasts_S512x1024_S512x1024
  inb_S1x1024_S1x1024_0_0 := @Cert.Kernel4Ideal.Gen.inb_S1x1024_S1x1024_0_0
  h_S1x1024 := @Cert.Kernel4Ideal.Gen.h_S1x1024
  shapeCasts_S1x1024_S1x1024 := @Cert.Kernel4Ideal.Gen.shapeCasts_S1x1024_S1x1024
  reduces_S512x1024_S512 := @Cert.Kernel4Ideal.Gen.reduces_S512x1024_S512
  shapeCasts_S512_S512x1 := @Cert.Kernel4Ideal.Gen.shapeCasts_S512_S512x1
  broadcasts_S512x1_S512x1024 := @Cert.Kernel4Ideal.Gen.broadcasts_S512x1_S512x1024
  broadcasts_S1x1024_S512x1024 := @Cert.Kernel4Ideal.Gen.broadcasts_S1x1024_S512x1024
  inb_S1024x2560_S1024x2560_0_0 := @Cert.Kernel4Ideal.Gen.inb_S1024x2560_S1024x2560_0_0
  h_S1024x2560 := @Cert.Kernel4Ideal.Gen.h_S1024x2560
  shapeCasts_S1024x2560_S1024x2560 := @Cert.Kernel4Ideal.Gen.shapeCasts_S1024x2560_S1024x2560
  inb_S1024x128_S1024x128_0_0 := @Cert.Kernel4Ideal.Gen.inb_S1024x128_S1024x128_0_0
  h_S1024x128 := @Cert.Kernel4Ideal.Gen.h_S1024x128
  shapeCasts_S1024x128_S1024x128 := @Cert.Kernel4Ideal.Gen.shapeCasts_S1024x128_S1024x128
  transposes_S512x128_p1_0_S128x512 := @Cert.Kernel4Ideal.Gen.transposes_S512x128_p1_0_S128x512
  inb_S128x512_S128x512_0_0 := @Cert.Kernel4Ideal.Gen.inb_S128x512_S128x512_0_0
  h_S128x512 := @Cert.Kernel4Ideal.Gen.h_S128x512
  inb_S512x128_S512x128_0_0 := @Cert.Kernel4Ideal.Gen.inb_S512x128_S512x128_0_0
  h_S512x128 := @Cert.Kernel4Ideal.Gen.h_S512x128
  shapeCasts_S512x128_S512x128 := @Cert.Kernel4Ideal.Gen.shapeCasts_S512x128_S512x128
  slices_S512x2560_o0_0_S512x1024 := @Cert.Kernel4Ideal.Gen.slices_S512x2560_o0_0_S512x1024
  transposes_S512x1024_p1_0_S1024x512 := @Cert.Kernel4Ideal.Gen.transposes_S512x1024_p1_0_S1024x512
  inb_S1024x512_S1024x512_0_0 := @Cert.Kernel4Ideal.Gen.inb_S1024x512_S1024x512_0_0
  h_S1024x512 := @Cert.Kernel4Ideal.Gen.h_S1024x512
  packedbf16_S1024x512_S1024x512_0_0 := @Cert.Kernel4Ideal.Gen.packedbf16_S1024x512_S1024x512_0_0
  slices_S512x1024_o0_0_S512x128 := @Cert.Kernel4Ideal.Gen.slices_S512x1024_o0_0_S512x128
  rotates_S512x128_d1 := @Cert.Kernel4Ideal.Gen.rotates_S512x128_d1
  slices_S512x1024_o0_128_S512x128 := @Cert.Kernel4Ideal.Gen.slices_S512x1024_o0_128_S512x128
  slices_S512x1024_o0_256_S512x128 := @Cert.Kernel4Ideal.Gen.slices_S512x1024_o0_256_S512x128
  slices_S512x1024_o0_384_S512x128 := @Cert.Kernel4Ideal.Gen.slices_S512x1024_o0_384_S512x128
  slices_S512x1024_o0_512_S512x128 := @Cert.Kernel4Ideal.Gen.slices_S512x1024_o0_512_S512x128
  slices_S512x1024_o0_640_S512x128 := @Cert.Kernel4Ideal.Gen.slices_S512x1024_o0_640_S512x128
  slices_S512x1024_o0_768_S512x128 := @Cert.Kernel4Ideal.Gen.slices_S512x1024_o0_768_S512x128
  slices_S512x1024_o0_896_S512x128 := @Cert.Kernel4Ideal.Gen.slices_S512x1024_o0_896_S512x128
  concatenates_S512x128_S512x128_S512x128_S512x128_S512x128_S512x128_S512x128_S512x128_S512x1024_d1 := @Cert.Kernel4Ideal.Gen.concatenates_S512x128_S512x128_S512x128_S512x128_S512x128_S512x128_S512x128_S512x128_S512x1024_d1
  slices_S512x2560_o0_1024_S512x512 := @Cert.Kernel4Ideal.Gen.slices_S512x2560_o0_1024_S512x512
  inb_S512x512_S512x512_0_0 := @Cert.Kernel4Ideal.Gen.inb_S512x512_S512x512_0_0
  h_S512x512 := @Cert.Kernel4Ideal.Gen.h_S512x512
  slices_S512x2560_o0_1536_S512x256 := @Cert.Kernel4Ideal.Gen.slices_S512x2560_o0_1536_S512x256
  slices_S512x256_o0_0_S512x128 := @Cert.Kernel4Ideal.Gen.slices_S512x256_o0_0_S512x128
  slices_S512x256_o0_128_S512x128 := @Cert.Kernel4Ideal.Gen.slices_S512x256_o0_128_S512x128
  concatenates_S512x128_S512x128_S512x256_d1 := @Cert.Kernel4Ideal.Gen.concatenates_S512x128_S512x128_S512x256_d1
  slices_S512x2560_o0_1792_S512x256 := @Cert.Kernel4Ideal.Gen.slices_S512x2560_o0_1792_S512x256
  inb_S512x512_S512x256_0_0 := @Cert.Kernel4Ideal.Gen.inb_S512x512_S512x256_0_0
  h_S512x256 := @Cert.Kernel4Ideal.Gen.h_S512x256
  inb_S512x512_S512x256_0_256 := @Cert.Kernel4Ideal.Gen.inb_S512x512_S512x256_0_256
  slices_S512x256_o0_0_S512x64 := @Cert.Kernel4Ideal.Gen.slices_S512x256_o0_0_S512x64
  inb_S4x512x64_S1x512x64_0_0_0 := @Cert.Kernel4Ideal.Gen.inb_S4x512x64_S1x512x64_0_0_0
  h_S1x512x64 := @Cert.Kernel4Ideal.Gen.h_S1x512x64
  shapeCasts_S1x512x64_S512x64 := @Cert.Kernel4Ideal.Gen.shapeCasts_S1x512x64_S512x64
  shapeCasts_S512x64_S1x512x64 := @Cert.Kernel4Ideal.Gen.shapeCasts_S512x64_S1x512x64
  packedbf16_S4x512x64_S1x512x64_0_0_0 := @Cert.Kernel4Ideal.Gen.packedbf16_S4x512x64_S1x512x64_0_0_0
  slices_S512x256_o0_64_S512x64 := @Cert.Kernel4Ideal.Gen.slices_S512x256_o0_64_S512x64
  inb_S4x512x64_S1x512x64_1_0_0 := @Cert.Kernel4Ideal.Gen.inb_S4x512x64_S1x512x64_1_0_0
  packedbf16_S4x512x64_S1x512x64_1_0_0 := @Cert.Kernel4Ideal.Gen.packedbf16_S4x512x64_S1x512x64_1_0_0
  slices_S512x256_o0_128_S512x64 := @Cert.Kernel4Ideal.Gen.slices_S512x256_o0_128_S512x64
  inb_S4x512x64_S1x512x64_2_0_0 := @Cert.Kernel4Ideal.Gen.inb_S4x512x64_S1x512x64_2_0_0
  packedbf16_S4x512x64_S1x512x64_2_0_0 := @Cert.Kernel4Ideal.Gen.packedbf16_S4x512x64_S1x512x64_2_0_0
  slices_S512x256_o0_192_S512x64 := @Cert.Kernel4Ideal.Gen.slices_S512x256_o0_192_S512x64
  inb_S4x512x64_S1x512x64_3_0_0 := @Cert.Kernel4Ideal.Gen.inb_S4x512x64_S1x512x64_3_0_0
  packedbf16_S4x512x64_S1x512x64_3_0_0 := @Cert.Kernel4Ideal.Gen.packedbf16_S4x512x64_S1x512x64_3_0_0
  transposes_S512x256_p1_0_S256x512 := @Cert.Kernel4Ideal.Gen.transposes_S512x256_p1_0_S256x512
  slices_S256x512_o0_0_S256x256 := @Cert.Kernel4Ideal.Gen.slices_S256x512_o0_0_S256x256
  inb_S2x256x256_S1x256x256_0_0_0 := @Cert.Kernel4Ideal.Gen.inb_S2x256x256_S1x256x256_0_0_0
  h_S1x256x256 := @Cert.Kernel4Ideal.Gen.h_S1x256x256
  shapeCasts_S1x256x256_S256x256 := @Cert.Kernel4Ideal.Gen.shapeCasts_S1x256x256_S256x256
  shapeCasts_S256x256_S1x256x256 := @Cert.Kernel4Ideal.Gen.shapeCasts_S256x256_S1x256x256
  packedbf16_S2x256x256_S1x256x256_0_0_0 := @Cert.Kernel4Ideal.Gen.packedbf16_S2x256x256_S1x256x256_0_0_0
  slices_S256x512_o0_256_S256x256 := @Cert.Kernel4Ideal.Gen.slices_S256x512_o0_256_S256x256
  inb_S2x256x256_S1x256x256_1_0_0 := @Cert.Kernel4Ideal.Gen.inb_S2x256x256_S1x256x256_1_0_0
  packedbf16_S2x256x256_S1x256x256_1_0_0 := @Cert.Kernel4Ideal.Gen.packedbf16_S2x256x256_S1x256x256_1_0_0
  slices_S512x2560_o0_2048_S512x256 := @Cert.Kernel4Ideal.Gen.slices_S512x2560_o0_2048_S512x256
  slices_S512x2560_o0_2304_S512x256 := @Cert.Kernel4Ideal.Gen.slices_S512x2560_o0_2304_S512x256
  dot_S512x1024_S1024x2560_S512x2560_1_0_0_1_n_n_wf := @Cert.Kernel4Ideal.Gen.dot_S512x1024_S1024x2560_S512x2560_1_0_0_1_n_n_wf
  dot_S512x1024_S1024x128_S512x128_1_0_0_1_n_n_wf := @Cert.Kernel4Ideal.Gen.dot_S512x1024_S1024x128_S512x128_1_0_0_1_n_n_wf
  hrank0 := @Cert.Kernel4Ideal.Gen.hrank0
  hstage0_0 := @Cert.Kernel4Ideal.Gen.hstage0_0
  nbuf0_0 := @Cert.Kernel4Ideal.Gen.nbuf0_0
  hreads0_0 := @Cert.Kernel4Ideal.Gen.hreads0_0
  hinb0_0 := @Cert.Kernel4Ideal.Gen.hinb0_0
  hwx0_0 := @Cert.Kernel4Ideal.Gen.hwx0_0
  hstage0_1 := @Cert.Kernel4Ideal.Gen.hstage0_1
  nbuf0_1 := @Cert.Kernel4Ideal.Gen.nbuf0_1
  hreads0_1 := @Cert.Kernel4Ideal.Gen.hreads0_1
  hinb0_1 := @Cert.Kernel4Ideal.Gen.hinb0_1
  hwx0_1 := @Cert.Kernel4Ideal.Gen.hwx0_1
  hstage0_2 := @Cert.Kernel4Ideal.Gen.hstage0_2
  nbuf0_2 := @Cert.Kernel4Ideal.Gen.nbuf0_2
  hreads0_2 := @Cert.Kernel4Ideal.Gen.hreads0_2
  hinb0_2 := @Cert.Kernel4Ideal.Gen.hinb0_2
  hwx0_2 := @Cert.Kernel4Ideal.Gen.hwx0_2
  hstage0_3 := @Cert.Kernel4Ideal.Gen.hstage0_3
  nbuf0_3 := @Cert.Kernel4Ideal.Gen.nbuf0_3
  hreads0_3 := @Cert.Kernel4Ideal.Gen.hreads0_3
  hinb0_3 := @Cert.Kernel4Ideal.Gen.hinb0_3
  hwx0_3 := @Cert.Kernel4Ideal.Gen.hwx0_3
  hstage0_4 := @Cert.Kernel4Ideal.Gen.hstage0_4
  nbuf0_4 := @Cert.Kernel4Ideal.Gen.nbuf0_4
  hreads0_4 := @Cert.Kernel4Ideal.Gen.hreads0_4
  hinb0_4 := @Cert.Kernel4Ideal.Gen.hinb0_4
  hwx0_4 := @Cert.Kernel4Ideal.Gen.hwx0_4
  hstage0_5 := @Cert.Kernel4Ideal.Gen.hstage0_5
  nbuf0_5 := @Cert.Kernel4Ideal.Gen.nbuf0_5
  hreads0_5 := @Cert.Kernel4Ideal.Gen.hreads0_5
  hinb0_5 := @Cert.Kernel4Ideal.Gen.hinb0_5
  hwx0_5 := @Cert.Kernel4Ideal.Gen.hwx0_5
  hstage0_6 := @Cert.Kernel4Ideal.Gen.hstage0_6
  nbuf0_6 := @Cert.Kernel4Ideal.Gen.nbuf0_6
  hreads0_6 := @Cert.Kernel4Ideal.Gen.hreads0_6
  hinb0_6 := @Cert.Kernel4Ideal.Gen.hinb0_6
  hwx0_6 := @Cert.Kernel4Ideal.Gen.hwx0_6
  hstage0_7 := @Cert.Kernel4Ideal.Gen.hstage0_7
  nbuf0_7 := @Cert.Kernel4Ideal.Gen.nbuf0_7
  hreads0_7 := @Cert.Kernel4Ideal.Gen.hreads0_7
  hinb0_7 := @Cert.Kernel4Ideal.Gen.hinb0_7
  hwx0_7 := @Cert.Kernel4Ideal.Gen.hwx0_7
  hstage0_8 := @Cert.Kernel4Ideal.Gen.hstage0_8
  nbuf0_8 := @Cert.Kernel4Ideal.Gen.nbuf0_8
  hreads0_8 := @Cert.Kernel4Ideal.Gen.hreads0_8
  hinb0_8 := @Cert.Kernel4Ideal.Gen.hinb0_8
  hwx0_8 := @Cert.Kernel4Ideal.Gen.hwx0_8
  hstage0_9 := @Cert.Kernel4Ideal.Gen.hstage0_9
  nbuf0_9 := @Cert.Kernel4Ideal.Gen.nbuf0_9
  hreads0_9 := @Cert.Kernel4Ideal.Gen.hreads0_9
  hinb0_9 := @Cert.Kernel4Ideal.Gen.hinb0_9
  hwx0_9 := @Cert.Kernel4Ideal.Gen.hwx0_9
  hstage0_10 := @Cert.Kernel4Ideal.Gen.hstage0_10
  nbuf0_10 := @Cert.Kernel4Ideal.Gen.nbuf0_10
  hreads0_10 := @Cert.Kernel4Ideal.Gen.hreads0_10
  hinb0_10 := @Cert.Kernel4Ideal.Gen.hinb0_10
  hwx0_10 := @Cert.Kernel4Ideal.Gen.hwx0_10
  hstage0_11 := @Cert.Kernel4Ideal.Gen.hstage0_11
  nbuf0_11 := @Cert.Kernel4Ideal.Gen.nbuf0_11
  hreads0_11 := @Cert.Kernel4Ideal.Gen.hreads0_11
  hinb0_11 := @Cert.Kernel4Ideal.Gen.hinb0_11
  hwx0_11 := @Cert.Kernel4Ideal.Gen.hwx0_11
  hstage0_12 := @Cert.Kernel4Ideal.Gen.hstage0_12
  nbuf0_12 := @Cert.Kernel4Ideal.Gen.nbuf0_12
  hreads0_12 := @Cert.Kernel4Ideal.Gen.hreads0_12
  hinb0_12 := @Cert.Kernel4Ideal.Gen.hinb0_12
  hwx0_12 := @Cert.Kernel4Ideal.Gen.hwx0_12
  hstage0_13 := @Cert.Kernel4Ideal.Gen.hstage0_13
  nbuf0_13 := @Cert.Kernel4Ideal.Gen.nbuf0_13
  hreads0_13 := @Cert.Kernel4Ideal.Gen.hreads0_13
  hinb0_13 := @Cert.Kernel4Ideal.Gen.hinb0_13
  hwx0_13 := @Cert.Kernel4Ideal.Gen.hwx0_13
  hstage0_14 := @Cert.Kernel4Ideal.Gen.hstage0_14
  nbuf0_14 := @Cert.Kernel4Ideal.Gen.nbuf0_14
  hreads0_14 := @Cert.Kernel4Ideal.Gen.hreads0_14
  hinb0_14 := @Cert.Kernel4Ideal.Gen.hinb0_14
  hwx0_14 := @Cert.Kernel4Ideal.Gen.hwx0_14
  hstage0_15 := @Cert.Kernel4Ideal.Gen.hstage0_15
  nbuf0_15 := @Cert.Kernel4Ideal.Gen.nbuf0_15
  hreads0_15 := @Cert.Kernel4Ideal.Gen.hreads0_15
  hinb0_15 := @Cert.Kernel4Ideal.Gen.hinb0_15
  hwx0_15 := @Cert.Kernel4Ideal.Gen.hwx0_15
  hstage0_16 := @Cert.Kernel4Ideal.Gen.hstage0_16
  nbuf0_16 := @Cert.Kernel4Ideal.Gen.nbuf0_16
  hreads0_16 := @Cert.Kernel4Ideal.Gen.hreads0_16
  hinb0_16 := @Cert.Kernel4Ideal.Gen.hinb0_16
  hwx0_16 := @Cert.Kernel4Ideal.Gen.hwx0_16

theorem facts : Cert.Kernel4.Facts :=
  @Cert.Kernel4.Facts.mk facts₀

/-- Both programs run the same bodies. -/
theorem bodies_eq [Cert.Kernel4.Facts] : Cert.Kernel4.defs₀ (F := Bits) = Cert.Kernel4Ideal.defs₀ (F := Bits) := by
  unfold Cert.Kernel4.defs₀ Cert.Kernel4Ideal.defs₀
  congr 1
  funext l x
  match l, x with
  | ⟨0, _⟩, ⟨t, s⟩ => rfl

theorem defs_eq [Cert.Kernel4.Facts] : Cert.Kernel4.defs (F := Bits) = Cert.Kernel4Ideal.defs (F := Bits) :=
  congrArg (Pipeline.defs (Cert.Kernel4Ideal.pcfgs (F := Bits))) bodies_eq

/-- The call as run. -/
theorem frame_kernel : Cert.quiescent_Kernel4 (hKernel4 := facts) := by
  haveI := facts
  intro m g _
  rw [defs_eq]
  exact Cert.Kernel4Ideal.Gen.frame (F := Bits) m g

/-- The call over extended reals. -/
theorem frame_kernelIdeal : Cert.quiescent_Kernel4Ideal (hKernel4Ideal := Cert.Kernel4Ideal.Gen.facts) :=
  fun m g _ => Cert.Kernel4Ideal.Gen.frame m g

/-- The reference, which declares no semaphore. -/
theorem frame_reference : Cert.quiescent_Reference4Ideal (hReference4Ideal := Cert.Reference4Ideal.Gen.facts) := fun m g _ =>
  (θ_run _ _ _).mono (fun r h => ⟨fun c => (h c).2.2.2.2.2.2.2.2.2.2, sem_eq_zero_of_no_sems (by decide) r.2⟩)
    (Cert.Reference4Ideal.Value.run (F := Ideal) m g)

end Cert.SparseProj

end
-- ==== Proof.Sparse.Pieces.lean ====
/- The projection kernel of the sparse-attention layer: blocks stored in several pieces, read as one. -/
module

public import proofs.«01_k».proof.Defs
public import proofs.«01_k».proof.Proof.Gen.Kernel4Ideal.Value
public import Idealize.ShloMosaic.Lib.Pipeline.Covers
public import Idealize.ShloMosaic.Lib.Pipeline.ValueKit
public import Idealize.ShloMosaic.Lib.Claim
public import Idealize.ShloMosaic.Lib.Pointwise

@[expose] public section

set_option maxRecDepth 131072
set_option maxHeartbeats 2000000

noncomputable section

namespace Cert.SparseProj

open Cert.Kernel4Ideal Cert.Kernel4Ideal.Gen Idealize.ShloMosaic Idealize.ShloMosaic.TcCoe Idealize.SL.Sem

/-- Two halves side by side. -/
theorem canon_beside (p q : Vec Ideal S512x256 .f32) (f : Fin 512 → Nat → EReal) (hp : ∀ r e, p (ix2 r e) = f r e.val)
    (hq : ∀ r e, q (ix2 r e) = f r (256 + e.val)) (r : Fin 512) (e : Fin 512) :
    View.canon (Val := Elt Ideal) [⟨r0_9, q⟩, ⟨r0_8, p⟩] (ix2 r e) = f r e.val := by
  refine View.canon_apply_of_pieces (Val := Elt Ideal) (S := S512x512) (e := .f32) (fun y => show EReal from f (y 0) (y 1).val)
    _ ?_ (ix2 r e) (cover0_10 _ _ (ix2 r e))
  intro pc hpc
  rcases List.mem_cons.mp hpc with rfl | hpc
  · intro x
    obtain ⟨i, j, rfl⟩ : ∃ (i : Fin 512) (j : Fin 256), x = ix2 i j := ⟨x 0, x 1, by funext a; fin_cases a <;> rfl⟩
    have e0 : r0_9.emb (ix2 i j) 0 = i := Fin.ext (by show 0 + 1 * i.val = i.val; omega)
    have e1 : (r0_9.emb (ix2 i j) 1).val = 256 + j.val := by show 256 + 1 * j.val = 256 + j.val; omega
    beta_reduce
    rw [e0, e1]
    exact hq i j
  rcases List.mem_cons.mp hpc with rfl | hpc
  · intro x
    obtain ⟨i, j, rfl⟩ : ∃ (i : Fin 512) (j : Fin 256), x = ix2 i j := ⟨x 0, x 1, by funext a; fin_cases a <;> rfl⟩
    have e0 : r0_8.emb (ix2 i j) 0 = i := Fin.ext (by show 0 + 1 * i.val = i.val; omega)
    have e1 : (r0_8.emb (ix2 i j) 1).val = j.val := by show 0 + 1 * j.val = j.val; omega
    beta_reduce
    rw [e0, e1]
    exact hp i j
  nomatch hpc

/-- An index of a piece with a leading dimension of one. -/
theorem piece_index {a b : Nat} (x : (⟨3, ![1, a, b]⟩ : Shape).Idx) :
    ∃ (i : Fin a) (j : Fin b), x = ix3 0 i j :=
  ⟨x 1, x 2, by funext k; fin_cases k; exacts [Subsingleton.elim (α := Fin 1) _ _, rfl, rfl]⟩

/-- Four heads, one after the other. -/
theorem canon_heads (p0 p1 p2 p3 : Vec Ideal S1x512x64 .bf16) (f : Nat → Fin 512 → Nat → EReal)
    (h0 : ∀ r e, p0 (ix3 0 r e) = f 0 r e.val) (h1 : ∀ r e, p1 (ix3 0 r e) = f 1 r e.val)
    (h2 : ∀ r e, p2 (ix3 0 r e) = f 2 r e.val) (h3 : ∀ r e, p3 (ix3 0 r e) = f 3 r e.val)
    (h : Fin 4) (r : Fin 512) (e : Fin 64) :
    View.canon (Val := Elt Ideal) [⟨r0_13, p3⟩, ⟨r0_12, p2⟩, ⟨r0_11, p1⟩, ⟨r0_10, p0⟩] (ix3 h r e) = f h.val r e.val := by
  refine View.canon_apply_of_pieces (Val := Elt Ideal) (S := S4x512x64) (e := .bf16)
    (fun y => show EReal from f (y 0).val (y 1) (y 2).val) _ ?_ (ix3 h r e) (cover0_12 _ _ _ _ (ix3 h r e))
  intro pc hpc
  rcases List.mem_cons.mp hpc with rfl | hpc
  · intro x
    obtain ⟨i, j, rfl⟩ : ∃ (i : Fin 512) (j : Fin 64), x = ix3 0 i j := piece_index x
    have e0 : (r0_13.emb (ix3 0 i j) 0).val = 3 := rfl
    have e1 : r0_13.emb (ix3 0 i j) 1 = i := Fin.ext (by show 0 + 1 * i.val = i.val; omega)
    have e2 : (r0_13.emb (ix3 0 i j) 2).val = j.val := by show 0 + 1 * j.val = j.val; omega
    beta_reduce
    rw [e0, e1, e2]
    exact h3 i j
  rcases List.mem_cons.mp hpc with rfl | hpc
  · intro x
    obtain ⟨i, j, rfl⟩ : ∃ (i : Fin 512) (j : Fin 64), x = ix3 0 i j := piece_index x
    have e0 : (r0_12.emb (ix3 0 i j) 0).val = 2 := rfl
    have e1 : r0_12.emb (ix3 0 i j) 1 = i := Fin.ext (by show 0 + 1 * i.val = i.val; omega)
    have e2 : (r0_12.emb (ix3 0 i j) 2).val = j.val := by show 0 + 1 * j.val = j.val; omega
    beta_reduce
    rw [e0, e1, e2]
    exact h2 i j
  rcases List.mem_cons.mp hpc with rfl | hpc
  · intro x
    obtain ⟨i, j, rfl⟩ : ∃ (i : Fin 512) (j : Fin 64), x = ix3 0 i j := piece_index x
    have e0 : (r0_11.emb (ix3 0 i j) 0).val = 1 := rfl
    have e1 : r0_11.emb (ix3 0 i j) 1 = i := Fin.ext (by show 0 + 1 * i.val = i.val; omega)
    have e2 : (r0_11.emb (ix3 0 i j) 2).val = j.val := by show 0 + 1 * j.val = j.val; omega
    beta_reduce
    rw [e0, e1, e2]
    exact h1 i j
  rcases List.mem_cons.mp hpc with rfl | hpc
  · intro x
    obtain ⟨i, j, rfl⟩ : ∃ (i : Fin 512) (j : Fin 64), x = ix3 0 i j := piece_index x
    have e0 : (r0_10.emb (ix3 0 i j) 0).val = 0 := rfl
    have e1 : r0_10.emb (ix3 0 i j) 1 = i := Fin.ext (by show 0 + 1 * i.val = i.val; omega)
    have e2 : (r0_10.emb (ix3 0 i j) 2).val = j.val := by show 0 + 1 * j.val = j.val; omega
    beta_reduce
    rw [e0, e1, e2]
    exact h0 i j
  nomatch hpc

/-- Two chunks of 256 rows, each transposed. -/
theorem canon_chunks (p q : Vec Ideal S1x256x256 .bf16) (f : Nat → Nat → Nat → EReal)
    (hp : ∀ e j, p (ix3 0 e j) = f 0 e.val j.val) (hq : ∀ e j, q (ix3 0 e j) = f 1 e.val j.val)
    (a : Fin 2) (e j : Fin 256) :
    View.canon (Val := Elt Ideal) [⟨r0_15, q⟩, ⟨r0_14, p⟩] (ix3 a e j) = f a.val e.val j.val := by
  refine View.canon_apply_of_pieces (Val := Elt Ideal) (S := S2x256x256) (e := .bf16)
    (fun y => show EReal from f (y 0).val (y 1).val (y 2).val) _ ?_ (ix3 a e j) (cover0_13 _ _ (ix3 a e j))
  intro pc hpc
  rcases List.mem_cons.mp hpc with rfl | hpc
  · intro x
    obtain ⟨i, j, rfl⟩ : ∃ (i : Fin 256) (j : Fin 256), x = ix3 0 i j := piece_index x
    have e0 : (r0_15.emb (ix3 0 i j) 0).val = 1 := rfl
    have e1 : (r0_15.emb (ix3 0 i j) 1).val = i.val := by show 0 + 1 * i.val = i.val; omega
    have e2 : (r0_15.emb (ix3 0 i j) 2).val = j.val := by show 0 + 1 * j.val = j.val; omega
    beta_reduce
    rw [e0, e1, e2]
    exact hq i j
  rcases List.mem_cons.mp hpc with rfl | hpc
  · intro x
    obtain ⟨i, j, rfl⟩ : ∃ (i : Fin 256) (j : Fin 256), x = ix3 0 i j := piece_index x
    have e0 : (r0_14.emb (ix3 0 i j) 0).val = 0 := rfl
    have e1 : (r0_14.emb (ix3 0 i j) 1).val = i.val := by show 0 + 1 * i.val = i.val; omega
    have e2 : (r0_14.emb (ix3 0 i j) 2).val = j.val := by show 0 + 1 * j.val = j.val; omega
    beta_reduce
    rw [e0, e1, e2]
    exact hp i j
  nomatch hpc

end Cert.SparseProj

end
-- ==== Proof.Sparse.Block.lean ====
/- The projection kernel of the sparse-attention layer: what a grid point stores, from the blocks it loads. -/
module

public import proofs.«01_k».proof.Defs
public import proofs.«01_k».proof.Proof.Rope.Rope
public import proofs.«01_k».proof.Proof.Sparse.Pieces
public import proofs.«01_k».proof.Proof.Gen.Kernel4Ideal.Value
public import Idealize.ShloMosaic.Lib.Pipeline.Covers
public import Idealize.ShloMosaic.Lib.Pipeline.ValueKit
public import Idealize.ShloMosaic.Lib.Claim
public import Idealize.ShloMosaic.Lib.Pointwise

@[expose] public section

set_option maxRecDepth 131072
set_option maxHeartbeats 2000000

noncomputable section

namespace Cert.SparseProj

open Cert.Kernel4Ideal Cert.Kernel4Ideal.Gen Idealize.ShloMosaic Idealize.ShloMosaic.TcCoe Idealize.SL.Sem
open Idealize.ShloMosaic.Pipeline (Dat)
open Cert.Rope
open scoped BigOperators

variable (x0 : Vec Ideal S512x1024 .f32) (x1 : Vec Ideal S1x1024 .f32) (x2 : Vec Ideal S1024x2560 .bf16)
  (x3 : Vec Ideal S1024x128 .bf16) (x4 x5 x6 : Vec Ideal S512x128 .f32)

theorem zero2 : (![0, 0] : Fin 2 → Nat) = fun _ => 0 := by funext a; fin_cases a <;> rfl

/-- The block's product with the main weights. -/
theorem product_apply (r : Fin 512) (e : Fin 2560) :
    (k0_pay7 x0 x1 x2 (ix2 r e) : EReal)
      = projected (fun k => x0 (ix2 r k)) (fun k => x1 (ix2 0 k)) (fun k e => x2 (ix2 k e)) e := by
  pointwise [k0_pay7, k0_pay6]
  rfl

theorem pay9_eq (x : Vec Ideal S512x128 .f32) : k0_pay9 x = x := by
  funext i
  idx_vars i
  pointwise [k0_pay9]

theorem pay10_eq (x : Vec Ideal S512x128 .f32) : k0_pay10 x = x := pay9_eq x

theorem pay11_eq (x : Vec Ideal S512x128 .f32) : k0_pay11 x = x := pay9_eq x

/-- The gates, transposed. -/
theorem out16_apply (r : Fin 512) (e : Fin 128) :
    (out0_16 x0 x1 x2 x3 x4 x5 x6 (ix2 e r) : EReal)
      = Ideal.div 1 (1 + Ideal.exp (0 - projected (fun k => x0 (ix2 r k)) (fun k => x1 (ix2 0 k)) (fun k e => x3 (ix2 k e)) e)) := by
  unfold_out out0_16
  rw [View.canon_unit_zero zero2]
  simp only [View.ld_unit_zero (S := S512x1024) zero2, View.ld_unit_zero (S := S1x1024) zero2,
    View.ld_unit_zero (S := S1024x128) zero2]
  pointwise [k0_pay8, k0_pay6]
  rfl

variable (Y : Fin 512 → Nat → EReal) (hy : ∀ r (e : Fin 2560), k0_pay7 x0 x1 x2 (ix2 r e) = Y r e.val)

include hy

/-- The queries, divided by eight and transposed. -/
theorem out7_apply (r : Fin 512) (e : Fin 1024) :
    out0_7 x0 x1 x2 x3 x4 x5 x6 (ix2 e r) = Y r e.val * Ideal.ofBits .f32 0x3E000000#32 := by
  unfold_out out0_7
  rw [View.canon_unit_zero zero2]
  simp only [View.ld_unit_zero (S := S512x1024) zero2, View.ld_unit_zero (S := S1x1024) zero2,
    View.ld_unit_zero (S := S1024x2560) zero2, View.ld_unit_zero (S := S512x128) zero2, pay9_eq, pay10_eq, pay11_eq]
  pointwise [k0_pay13, k0_pay12]
  rw [hy]

/-- The columns for the compressed branch. -/
theorem out9_apply (r : Fin 512) (e : Fin 512) : out0_9 x0 x1 x2 x3 x4 x5 x6 (ix2 r e) = Y r (1024 + e.val) := by
  unfold_out out0_9
  rw [View.canon_unit_zero zero2]
  simp only [View.ld_unit_zero (S := S512x1024) zero2, View.ld_unit_zero (S := S1x1024) zero2,
    View.ld_unit_zero (S := S1024x2560) zero2, View.ld_unit_zero (S := S512x128) zero2, pay9_eq, pay10_eq, pay11_eq]
  pointwise [k0_pay21]
  rw [hy]

/-- The values of the selected branch, transposed by chunks of 256 rows. -/
theorem out13_apply (a : Fin 2) (e j : Fin 256) :
    out0_13 x0 x1 x2 x3 x4 x5 x6 (ix3 a e j) = Y ⟨a.val * 256 + j.val, by omega⟩ (1792 + e.val) := by
  unfold_out out0_13
  simp only [View.ld_unit_zero (S := S512x1024) zero2, View.ld_unit_zero (S := S1x1024) zero2,
    View.ld_unit_zero (S := S1024x2560) zero2, View.ld_unit_zero (S := S512x128) zero2, pay9_eq, pay10_eq, pay11_eq]
  rw [canon_chunks _ _ (fun a e j => if h : a * 256 + j < 512 then Y ⟨a * 256 + j, h⟩ (1792 + e) else 0) ?_ ?_ a e j,
    dif_pos (by omega)]
  · intro e j
    pointwise [k0_pay33, k0_pay32, k0_pay31, k0_pay25]
    rw [hy, dif_pos (by omega)]
  · intro e j
    pointwise [k0_pay34, k0_pay31, k0_pay25]
    rw [hy, dif_pos (by omega)]

/-- The values of the window branch, transposed by chunks of 256 rows. -/
theorem out15_apply (a : Fin 2) (e j : Fin 256) :
    out0_15 x0 x1 x2 x3 x4 x5 x6 (ix3 a e j) = Y ⟨a.val * 256 + j.val, by omega⟩ (2304 + e.val) := by
  unfold_out out0_15
  simp only [View.ld_unit_zero (S := S512x1024) zero2, View.ld_unit_zero (S := S1x1024) zero2,
    View.ld_unit_zero (S := S1024x2560) zero2, View.ld_unit_zero (S := S512x128) zero2, pay9_eq, pay10_eq, pay11_eq]
  rw [canon_chunks _ _ (fun a e j => if h : a * 256 + j < 512 then Y ⟨a * 256 + j, h⟩ (2304 + e) else 0) ?_ ?_ a e j,
    dif_pos (by omega)]
  · intro e j
    pointwise [k0_pay4, k0_pay3, k0_pay36]
    rw [hy, dif_pos (by omega)]
  · intro e j
    pointwise [k0_pay5, k0_pay3, k0_pay36]
    rw [hy, dif_pos (by omega)]

variable (P : Fin 512 → Nat) (h4 : ∀ r e, x4 (ix2 r e) = cosTable (P r) e.val) (h5 : ∀ r e, x5 (ix2 r e) = sinNext (P r) e.val)
  (h6 : ∀ r e, x6 (ix2 r e) = sinLast (P r) e.val)

include h4 h5 h6

/-- The queries, rotated, divided by eight and transposed. -/
theorem out8_apply (r : Fin 512) (e : Fin 1024) :
    out0_8 x0 x1 x2 x3 x4 x5 x6 (ix2 e r) = rope (Y r) (P r) e.val * Ideal.ofBits .f32 0x3E000000#32 := by
  unfold_out out0_8
  rw [View.canon_unit_zero zero2]
  simp only [View.ld_unit_zero (S := S512x1024) zero2, View.ld_unit_zero (S := S1x1024) zero2,
    View.ld_unit_zero (S := S1024x2560) zero2, View.ld_unit_zero (S := S512x128) zero2, pay9_eq, pay10_eq, pay11_eq]
  pointwise [k0_pay20, k0_pay12, k0_pay14, k0_pay15, k0_pay16, k0_pay17, k0_pay18, k0_pay19, k0_pay11]
  simp only [hy, h4, h5, h6]
  refine congrArg (· * _) ?_
  split_ifs <;> exact chunk _ _ (by omega) (by omega) (by omega) (by omega) (by omega) (by omega)

omit hy in
/-- The rotated keys of the selected branch. -/
theorem selected_keys (v19 : FVec Ideal S512x2560 .f32) (hv : ∀ r e, v19 (ix2 r e) = Y r e.val) (r : Fin 512) (e : Fin 256) :
    k0_pay24 x4 x5 x6 (k0_pay22 v19) (k0_pay23 v19 x4 x5 x6) (ix2 r e) = rope (Y r) (P r) (1536 + e.val) := by
  pointwise [k0_pay24, k0_pay23, k0_pay22]
  simp only [hv, h4, h5, h6]
  split_ifs <;> exact chunk _ _ (by omega) (by omega) (by omega) (by omega) (by omega) (by omega)

omit hy in
/-- The rotated keys of the window branch. -/
theorem window_keys (v19 : FVec Ideal S512x2560 .f32) (hv : ∀ r e, v19 (ix2 r e) = Y r e.val) (r : Fin 512) (e : Fin 256) :
    k0_pay35 v19 x4 x5 x6 (ix2 r e) = rope (Y r) (P r) (2048 + e.val) := by
  pointwise [k0_pay35]
  simp only [hv, h4, h5, h6]
  split_ifs <;> exact chunk _ _ (by omega) (by omega) (by omega) (by omega) (by omega) (by omega)

/-- The rotated keys of the selected branch beside its values. -/
theorem out10_apply (r : Fin 512) (e : Fin 512) :
    out0_10 x0 x1 x2 x3 x4 x5 x6 (ix2 r e) = if e.val < 256 then rope (Y r) (P r) (1536 + e.val) else Y r (1536 + e.val) := by
  unfold_out out0_10
  simp only [View.ld_unit_zero (S := S512x1024) zero2, View.ld_unit_zero (S := S1x1024) zero2,
    View.ld_unit_zero (S := S1024x2560) zero2, View.ld_unit_zero (S := S512x128) zero2, pay9_eq, pay10_eq, pay11_eq]
  refine canon_beside _ _ (fun r e => if e < 256 then rope (Y r) (P r) (1536 + e) else Y r (1536 + e)) ?_ ?_ r e
  · intro r e
    beta_reduce
    rw [if_pos e.isLt]
    exact selected_keys x4 x5 x6 Y P h4 h5 h6 _ hy r e
  · intro r e
    beta_reduce
    rw [if_neg (by omega)]
    pointwise [k0_pay25]
    rw [hy]
    exact congrArg _ (by show 1792 + e.val = 1536 + (256 + e.val); omega)

/-- The rotated keys of the window branch beside its values. -/
theorem out11_apply (r : Fin 512) (e : Fin 512) :
    out0_11 x0 x1 x2 x3 x4 x5 x6 (ix2 r e) = if e.val < 256 then rope (Y r) (P r) (2048 + e.val) else Y r (2048 + e.val) := by
  unfold_out out0_11
  simp only [View.ld_unit_zero (S := S512x1024) zero2, View.ld_unit_zero (S := S1x1024) zero2,
    View.ld_unit_zero (S := S1024x2560) zero2, View.ld_unit_zero (S := S512x128) zero2, pay9_eq, pay10_eq, pay11_eq]
  refine canon_beside _ _ (fun r e => if e < 256 then rope (Y r) (P r) (2048 + e) else Y r (2048 + e)) ?_ ?_ r e
  · intro r e
    beta_reduce
    rw [if_pos e.isLt]
    exact window_keys x4 x5 x6 Y P h4 h5 h6 _ hy r e
  · intro r e
    beta_reduce
    rw [if_neg (by omega)]
    pointwise [k0_pay36]
    rw [hy]
    exact congrArg _ (by show 2304 + e.val = 2048 + (256 + e.val); omega)

/-- The rotated keys of the selected branch, head by head. -/
theorem out12_apply (h : Fin 4) (r : Fin 512) (e : Fin 64) :
    out0_12 x0 x1 x2 x3 x4 x5 x6 (ix3 h r e) = rope (Y r) (P r) (1536 + h.val * 64 + e.val) := by
  unfold_out out0_12
  simp only [View.ld_unit_zero (S := S512x1024) zero2, View.ld_unit_zero (S := S1x1024) zero2,
    View.ld_unit_zero (S := S1024x2560) zero2, View.ld_unit_zero (S := S512x128) zero2, pay9_eq, pay10_eq, pay11_eq]
  refine canon_heads _ _ _ _ (fun h r e => rope (Y r) (P r) (1536 + h * 64 + e)) ?_ ?_ ?_ ?_ h r e
  · intro r e
    beta_reduce
    rw [show 1536 + 0 * 64 + e.val = 1536 + (⟨0 + e.val, by omega⟩ : Fin 256).val by show _ = 1536 + (0 + e.val); omega,
      ← selected_keys x4 x5 x6 Y P h4 h5 h6 _ hy]
    pointwise [k0_pay27, k0_pay26]
  · intro r e
    beta_reduce
    rw [show 1536 + 1 * 64 + e.val = 1536 + (⟨64 + e.val, by omega⟩ : Fin 256).val by show _ = 1536 + (64 + e.val); omega,
      ← selected_keys x4 x5 x6 Y P h4 h5 h6 _ hy]
    pointwise [k0_pay28, k0_pay26]
  · intro r e
    beta_reduce
    rw [show 1536 + 2 * 64 + e.val = 1536 + (⟨128 + e.val, by omega⟩ : Fin 256).val by show _ = 1536 + (128 + e.val); omega,
      ← selected_keys x4 x5 x6 Y P h4 h5 h6 _ hy]
    pointwise [k0_pay29, k0_pay26]
  · intro r e
    beta_reduce
    rw [show 1536 + 3 * 64 + e.val = 1536 + (⟨192 + e.val, by omega⟩ : Fin 256).val by show _ = 1536 + (192 + e.val); omega,
      ← selected_keys x4 x5 x6 Y P h4 h5 h6 _ hy]
    pointwise [k0_pay30, k0_pay26]

/-- The rotated keys of the window branch, head by head. -/
theorem out14_apply (h : Fin 4) (r : Fin 512) (e : Fin 64) :
    out0_14 x0 x1 x2 x3 x4 x5 x6 (ix3 h r e) = rope (Y r) (P r) (2048 + h.val * 64 + e.val) := by
  unfold_out out0_14
  simp only [View.ld_unit_zero (S := S512x1024) zero2, View.ld_unit_zero (S := S1x1024) zero2,
    View.ld_unit_zero (S := S1024x2560) zero2, View.ld_unit_zero (S := S512x128) zero2, pay9_eq, pay10_eq, pay11_eq]
  refine canon_heads _ _ _ _ (fun h r e => rope (Y r) (P r) (2048 + h * 64 + e)) ?_ ?_ ?_ ?_ h r e
  · intro r e
    beta_reduce
    rw [show 2048 + 0 * 64 + e.val = 2048 + (⟨0 + e.val, by omega⟩ : Fin 256).val by show _ = 2048 + (0 + e.val); omega,
      ← window_keys x4 x5 x6 Y P h4 h5 h6 _ hy]
    pointwise [k0_pay38, k0_pay37]
  · intro r e
    beta_reduce
    rw [show 2048 + 1 * 64 + e.val = 2048 + (⟨64 + e.val, by omega⟩ : Fin 256).val by show _ = 2048 + (64 + e.val); omega,
      ← window_keys x4 x5 x6 Y P h4 h5 h6 _ hy]
    pointwise [k0_pay39, k0_pay37]
  · intro r e
    beta_reduce
    rw [show 2048 + 2 * 64 + e.val = 2048 + (⟨128 + e.val, by omega⟩ : Fin 256).val by show _ = 2048 + (128 + e.val); omega,
      ← window_keys x4 x5 x6 Y P h4 h5 h6 _ hy]
    pointwise [k0_pay1, k0_pay40, k0_pay37]
  · intro r e
    beta_reduce
    rw [show 2048 + 3 * 64 + e.val = 2048 + (⟨192 + e.val, by omega⟩ : Fin 256).val by show _ = 2048 + (192 + e.val); omega,
      ← window_keys x4 x5 x6 Y P h4 h5 h6 _ hy]
    pointwise [k0_pay2, k0_pay37]

end Cert.SparseProj

end
-- ==== Proof.Sparse.Inputs.lean ====
/- The projection kernel of the sparse-attention layer: the blocks a grid point loads, from the arguments. -/
module

public import proofs.«01_k».proof.Defs
public import proofs.«01_k».proof.Proof.Rope.Rope
public import proofs.«01_k».proof.Proof.Gen.Kernel4Ideal.Value
public import Idealize.ShloMosaic.Lib.Pipeline.Covers
public import Idealize.ShloMosaic.Lib.Pipeline.ValueKit
public import Idealize.ShloMosaic.Lib.StableHlo.RunRead
public import Idealize.ShloMosaic.Lib.Claim
public import Idealize.ShloMosaic.Lib.Pointwise

@[expose] public section

set_option maxRecDepth 131072
set_option maxHeartbeats 2000000

noncomputable section

namespace Cert.SparseProj

open Cert.Kernel4Ideal Cert.Kernel4Ideal.Gen Idealize.ShloMosaic Idealize.ShloMosaic.TcCoe Idealize.SL.Sem
open Idealize.ShloMosaic.Pipeline (Dat)
open Cert.Rope
open scoped BigOperators

variable (m : (ℓ : Loc nD τ sig) → Buf (Elt Ideal) ℓ)

/-- Where each window's block lies. -/
theorem index_eq : ∀ t : Fin cfg0.N,
    win0_0.index t = ![(grid0.coords t 0).val, 0]
      ∧ win0_1.index t = ![0, 0]
      ∧ win0_2.index t = ![0, 0]
      ∧ win0_3.index t = ![0, 0]
      ∧ win0_4.index t = ![(grid0.coords t 0).val % 4, 0]
      ∧ win0_5.index t = ![(grid0.coords t 0).val % 4, 0]
      ∧ win0_6.index t = ![(grid0.coords t 0).val % 4, 0]
      ∧ win0_7.index t = ![0, (grid0.coords t 0).val]
      ∧ win0_8.index t = ![0, (grid0.coords t 0).val]
      ∧ win0_9.index t = ![(grid0.coords t 0).val, 0]
      ∧ win0_10.index t = ![(grid0.coords t 0).val, 0]
      ∧ win0_11.index t = ![(grid0.coords t 0).val, 0]
      ∧ win0_12.index t = ![0, (grid0.coords t 0).val, 0]
      ∧ win0_13.index t = ![(grid0.coords t 0).val, 0, 0]
      ∧ win0_14.index t = ![0, (grid0.coords t 0).val, 0]
      ∧ win0_15.index t = ![(grid0.coords t 0).val, 0, 0]
      ∧ win0_16.index t = ![0, (grid0.coords t 0).val] := by
  decide +kernel

theorem point_lt (t : Fin cfg0.N) : (grid0.coords t 0).val < 32 := (grid0.coords t 0).isLt

/-- Row `j` of a point's block, counted over all points. -/
abbrev row (t : Fin cfg0.N) (j : Fin 512) : Fin 16384 :=
  ⟨(grid0.coords t 0).val * 512 + j.val, by have := point_lt t; omega⟩

/-- The position of that row in its sequence. -/
abbrev position (t : Fin cfg0.N) (j : Fin 512) : Fin 2048 := ⟨(row t j).val % 2048, by omega⟩

open StableHlo in
theorem iblk_x (c : Dev nD) (t : Fin cfg0.N) (j : Fin 512) (e : Fin 1024) :
    iblk m c 0 t (ix2 j e) = m ((c : Thread nD τ).loc main_arg0)
      (ix3 ⟨(row t j).val / 2048, by have := point_lt t; omega⟩ ⟨(row t j).val % 2048, by omega⟩ e) := by
  have := point_lt t
  blk_simp [iblk]
  simp (disch := decide) only [readAfter, readUpto, nullary_result', unary_result', binary_result', reshape_result']
  pointwise
  blk_ext [index_eq t]

open StableHlo in
theorem iblk_g (c : Dev nD) (t : Fin cfg0.N) (e : Fin 1024) :
    iblk m c 1 t (ix2 0 e) = m ((c : Thread nD τ).loc main_arg1) (ix2 1 e) := by
  blk_simp [iblk]
  simp (disch := decide) only [readAfter, readUpto, nullary_result', unary_result', binary_result', reshape_result']
  pointwise
  blk_ext [index_eq t]

open StableHlo in
theorem iblk_w (c : Dev nD) (t : Fin cfg0.N) (k : Fin 1024) (e : Fin 2560) :
    iblk m c 2 t (ix2 k e) = m ((c : Thread nD τ).loc main_arg2) (ix3 0 k ⟨e.val, by omega⟩) := by
  blk_simp [iblk]
  simp (disch := decide) only [readAfter, readUpto, nullary_result', unary_result', binary_result', reshape_result']
  pointwise
  blk_ext [index_eq t]

theorem gate_block (t : Fin cfg0.N) (k : Fin 1024) (e : Fin 128) :
    (win0_3.blk t).view.emb (ix2 k e) = (ix2 k e : S1024x128.Idx) := by
  have h0 : ((win0_3.blk t).view.emb (ix2 k e) 0).val = k.val := by
    blk_simp [index_eq t]
  have h1 : ((win0_3.blk t).view.emb (ix2 k e) 1).val = e.val := by
    blk_simp [index_eq t]
  exact funext fun a => Fin.ext (match a with | ⟨0, _⟩ => h0 | ⟨1, _⟩ => h1)

open StableHlo in
/-- The gates' weights, with columns of zeros to the right. -/
theorem iblk_wg (c : Dev nD) (t : Fin cfg0.N) (k : Fin 1024) (e : Fin 128) :
    (iblk m c 3 t (ix2 k e) : EReal)
      = if h : e.val < 48 then (m ((c : Thread nD τ).loc main_arg2) (ix3 0 k ⟨2560 + e.val, by omega⟩) : EReal) else (0 : EReal) := by
  blk_simp [iblk]
  rw [gate_block]
  simp (disch := decide) only [readAfter, readUpto, nullary_result', unary_result', binary_result', reshape_result']
  simp only [TRef.toBuf, TRef.ofBuf, cast_eq]
  pointwise
  have h : FloatOps.sitofp (F := Ideal) .f32 (0#32) = (0 : EReal) := by
    show (((0#32 : BitVec 32).toInt : ℝ) : EReal) = 0
    simp
  rw [h]

/-- A table of three parts, laid twice side by side, entry by entry. -/
theorem table_apply (A Z : S2048x8.Idx → EReal) (B : S2048x48.Idx → EReal) (f g : Nat → Nat → EReal) (z : EReal)
    (hA : ∀ p i, A (ix2 p i) = f p.val i.val) (hZ : ∀ p i, Z (ix2 p i) = g p.val i.val) (hB : ∀ p i, B (ix2 p i) = z)
    (p : Fin 2048) (e : Fin 128) :
    shapeCast S2048x128
      (broadcastInDim S1x2048x2x64 ![0, 1, 2, 3] bcast_S1x2048x1x64_S1x2048x2x64_0_1_2_3
        (shapeCast S1x2048x1x64
          (concatenate S2048x64 1 [⟨S2048x8, A⟩, ⟨S2048x8, Z⟩, ⟨S2048x48, B⟩] concatenates_S2048x8_S2048x8_S2048x48_S2048x64_d1)
          shapeCasts_S2048x64_S1x2048x1x64))
      shapeCasts_S1x2048x2x64_S2048x128 (ix2 p e)
      = if e.val % 64 < 8 then f p.val (e.val % 64) else if e.val % 64 < 16 then g p.val (e.val % 64 - 8) else z := by
  pointwise
  simp only [hA, hZ, hB]
  split_ifs <;> first | rfl | (exfalso; omega)

open StableHlo in
/-- The table of cosines as the host lays it out. -/
theorem table_cos (c : Dev nD) : V m c main_v32 = shapeCast S2048x128
    (broadcastInDim S1x2048x2x64 ![0, 1, 2, 3] bcast_S1x2048x1x64_S1x2048x2x64_0_1_2_3
      (shapeCast S1x2048x1x64
        (concatenate S2048x64 1 [⟨S2048x8, upto (List.flatten [hostOps0, hostOps0_1, hostOps0_2]) (fun b => m (c, b)) 28 (Proc.devRef .tc main_v20)⟩,
          ⟨S2048x8, upto (List.flatten [hostOps0, hostOps0_1, hostOps0_2]) (fun b => m (c, b)) 28 (Proc.devRef .tc main_v20)⟩,
          ⟨S2048x48, upto (List.flatten [hostOps0, hostOps0_1, hostOps0_2]) (fun b => m (c, b)) 28 (Proc.devRef .tc main_v22)⟩]
          concatenates_S2048x8_S2048x8_S2048x48_S2048x64_d1)
        shapeCasts_S2048x64_S1x2048x1x64))
    shapeCasts_S1x2048x2x64_S2048x128 := by
  simp (disch := decide) only [readAfter, readUpto, nullary_result', unary_result', binary_result', reshape_result', nary3_result]
  rfl

open StableHlo in
theorem cos_read (c : Dev nD) (p : Fin 2048) (i : Fin 8) :
    (upto (List.flatten [hostOps0, hostOps0_1, hostOps0_2]) (fun b => m (c, b)) 28 (Proc.devRef .tc main_v20) (ix2 p i) : EReal) = Ideal.cos (angle p.val i.val) := by
  simp (disch := decide) only [readAfter, readUpto, nullary_result', unary_result', binary_result', reshape_result', nary3_result]
  pointwise
  rfl

open StableHlo in
theorem one_read (c : Dev nD) (p : Fin 2048) (i : Fin 48) :
    (upto (List.flatten [hostOps0, hostOps0_1, hostOps0_2]) (fun b => m (c, b)) 28 (Proc.devRef .tc main_v22) (ix2 p i) : EReal) = (1 : EReal) := by
  simp (disch := decide) only [readAfter, readUpto, nullary_result', unary_result', binary_result', reshape_result', nary3_result]
  pointwise

open StableHlo in
/-- The table of sines for the columns the second rotation brings. -/
theorem table_last (c : Dev nD) : V m c main_v38 = shapeCast S2048x128
    (broadcastInDim S1x2048x2x64 ![0, 1, 2, 3] bcast_S1x2048x1x64_S1x2048x2x64_0_1_2_3
      (shapeCast S1x2048x1x64
        (concatenate S2048x64 1 [⟨S2048x8, upto (List.flatten [hostOps0, hostOps0_1, hostOps0_2]) (fun b => m (c, b)) 37 (Proc.devRef .tc main_v27)⟩,
          ⟨S2048x8, upto (List.flatten [hostOps0, hostOps0_1, hostOps0_2]) (fun b => m (c, b)) 37 (Proc.devRef .tc main_v21)⟩,
          ⟨S2048x48, upto (List.flatten [hostOps0, hostOps0_1, hostOps0_2]) (fun b => m (c, b)) 37 (Proc.devRef .tc main_v28)⟩]
          concatenates_S2048x8_S2048x8_S2048x48_S2048x64_d1)
        shapeCasts_S2048x64_S1x2048x1x64))
    shapeCasts_S1x2048x2x64_S2048x128 := by
  simp (disch := decide) only [readAfter, readUpto, nullary_result', unary_result', binary_result', reshape_result', nary3_result]
  rfl

open StableHlo in
theorem sin_read (c : Dev nD) (p : Fin 2048) (i : Fin 8) :
    (upto (List.flatten [hostOps0, hostOps0_1, hostOps0_2]) (fun b => m (c, b)) 37 (Proc.devRef .tc main_v21) (ix2 p i) : EReal) = Ideal.sin (angle p.val i.val) := by
  simp (disch := decide) only [readAfter, readUpto, nullary_result', unary_result', binary_result', reshape_result', nary3_result]
  pointwise
  rfl

open StableHlo in
theorem zero_read (c : Dev nD) (p : Fin 2048) (i : Fin 8) :
    (upto (List.flatten [hostOps0, hostOps0_1, hostOps0_2]) (fun b => m (c, b)) 37 (Proc.devRef .tc main_v27) (ix2 p i) : EReal) = (0 : EReal) := by
  simp (disch := decide) only [readAfter, readUpto, nullary_result', unary_result', binary_result', reshape_result', nary3_result]
  pointwise

open StableHlo in
theorem zero_read' (c : Dev nD) (p : Fin 2048) (i : Fin 48) :
    (upto (List.flatten [hostOps0, hostOps0_1, hostOps0_2]) (fun b => m (c, b)) 37 (Proc.devRef .tc main_v28) (ix2 p i) : EReal) = (0 : EReal) := by
  simp (disch := decide) only [readAfter, readUpto, nullary_result', unary_result', binary_result', reshape_result', nary3_result]
  pointwise

theorem cos_block (t : Fin cfg0.N) (j : Fin 512) (e : Fin 128) :
    (win0_4.blk t).view.emb (ix2 j e) = (ix2 (position t j) e : S2048x128.Idx) := by
  have h0 : ((win0_4.blk t).view.emb (ix2 j e) 0).val = ((grid0.coords t 0).val * 512 + j.val) % 2048 := by
    have := point_lt t
    blk_simp [index_eq t]
    omega
  have h1 : ((win0_4.blk t).view.emb (ix2 j e) 1).val = e.val := by
    blk_simp [index_eq t]
  exact funext fun a => Fin.ext (match a with | ⟨0, _⟩ => h0 | ⟨1, _⟩ => h1)

theorem next_block (t : Fin cfg0.N) (j : Fin 512) (e : Fin 128) :
    (win0_5.blk t).view.emb (ix2 j e) = (ix2 (position t j) e : S2048x128.Idx) := by
  have h0 : ((win0_5.blk t).view.emb (ix2 j e) 0).val = ((grid0.coords t 0).val * 512 + j.val) % 2048 := by
    have := point_lt t
    blk_simp [index_eq t]
    omega
  have h1 : ((win0_5.blk t).view.emb (ix2 j e) 1).val = e.val := by
    blk_simp [index_eq t]
  exact funext fun a => Fin.ext (match a with | ⟨0, _⟩ => h0 | ⟨1, _⟩ => h1)

theorem last_block (t : Fin cfg0.N) (j : Fin 512) (e : Fin 128) :
    (win0_6.blk t).view.emb (ix2 j e) = (ix2 (position t j) e : S2048x128.Idx) := by
  have h0 : ((win0_6.blk t).view.emb (ix2 j e) 0).val = ((grid0.coords t 0).val * 512 + j.val) % 2048 := by
    have := point_lt t
    blk_simp [index_eq t]
    omega
  have h1 : ((win0_6.blk t).view.emb (ix2 j e) 1).val = e.val := by
    blk_simp [index_eq t]
  exact funext fun a => Fin.ext (match a with | ⟨0, _⟩ => h0 | ⟨1, _⟩ => h1)

open StableHlo in
/-- The three tables a grid point loads. -/
theorem iblk_cos (c : Dev nD) (t : Fin cfg0.N) (j : Fin 512) (e : Fin 128) :
    (iblk m c 4 t (ix2 j e) : EReal) = cosTable (position t j).val e.val := by
  have h := table_apply (upto (List.flatten [hostOps0, hostOps0_1, hostOps0_2]) (fun b => m (c, b)) 28 (Proc.devRef .tc main_v20))
    (upto (List.flatten [hostOps0, hostOps0_1, hostOps0_2]) (fun b => m (c, b)) 28 (Proc.devRef .tc main_v20)) (upto (List.flatten [hostOps0, hostOps0_1, hostOps0_2]) (fun b => m (c, b)) 28 (Proc.devRef .tc main_v22))
    (fun p i => Ideal.cos (angle p i)) (fun p i => Ideal.cos (angle p i)) 1 (cos_read m c) (cos_read m c) (one_read m c) (position t j) e
  rw [← table_cos, ← cos_block] at h
  exact h

open StableHlo in
theorem iblk_next (c : Dev nD) (t : Fin cfg0.N) (j : Fin 512) (e : Fin 128) :
    (iblk m c 5 t (ix2 j e) : EReal) = sinNext (position t j).val e.val := by
  blk_simp [iblk]
  rw [next_block]
  simp (disch := decide) only [readAfter, readUpto, nullary_result', unary_result', binary_result', reshape_result']
  pointwise
  simp (disch := decide) only [readAfter, readUpto, nullary_result', unary_result', binary_result', reshape_result']
  pointwise
  rfl

open StableHlo in
theorem iblk_last (c : Dev nD) (t : Fin cfg0.N) (j : Fin 512) (e : Fin 128) :
    (iblk m c 6 t (ix2 j e) : EReal) = sinLast (position t j).val e.val := by
  have h := table_apply (upto (List.flatten [hostOps0, hostOps0_1, hostOps0_2]) (fun b => m (c, b)) 37 (Proc.devRef .tc main_v27))
    (upto (List.flatten [hostOps0, hostOps0_1, hostOps0_2]) (fun b => m (c, b)) 37 (Proc.devRef .tc main_v21)) (upto (List.flatten [hostOps0, hostOps0_1, hostOps0_2]) (fun b => m (c, b)) 37 (Proc.devRef .tc main_v28))
    (fun _ _ => 0) (fun p i => Ideal.sin (angle p i)) 0 (zero_read m c) (sin_read m c) (zero_read' m c) (position t j) e
  rw [← table_last, ← last_block] at h
  exact h

end Cert.SparseProj

end
-- ==== Proof.Sparse.Reference.lean ====
/- The reference's projection of the sparse-attention layer, entry by entry. -/
module

public import proofs.«01_k».proof.Defs
public import proofs.«01_k».proof.Proof.Rope.Rope
public import proofs.«01_k».proof.Proof.Gen.Reference4Ideal.Read
public import Idealize.ShloMosaic.Lib.Pipeline.Covers
public import Idealize.ShloMosaic.Lib.Pipeline.ValueKit
public import Idealize.ShloMosaic.Lib.Claim
public import Idealize.ShloMosaic.Lib.Pointwise

@[expose] public section

set_option maxRecDepth 131072
set_option maxHeartbeats 2000000

noncomputable section

namespace Cert.SparseProj

open Cert.Reference4Ideal Cert.Reference4Ideal.Read Idealize.ShloMosaic Idealize.ShloMosaic.TcCoe Idealize.SL.Sem
open Idealize.ShloMosaic.Pipeline (Dat)
open Cert.Rope
open scoped BigOperators

variable (x : S8x2048x1024.Idx → EReal) (g : S2x1024.Idx → EReal) (w : S1x1024x2608.Idx → EReal)

/-- The row of the projection at position `t` of sequence `n`. -/
def refRow (n : Fin 8) (t : Fin 2048) : Fin 2608 → EReal :=
  projected (fun k => x (ix3 n t k)) (fun k => g (ix2 1 k)) (fun k e => w (ix3 0 k e))

theorem ref_product (n : Fin 8) (t : Fin 2048) (e : Fin 2608) :
    val_main_v17 (F := Ideal) x g w (ix3 n t e) = refRow x g w n t e := by
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_cst, val_main_cst_0, val_main_cst_1]
  rfl

/-- Row `r` of the projection, `r` counting the positions of all sequences. -/
def rowOf (r : Fin 16384) : Nat → EReal := column (refRow x g w ⟨r.val / 2048, by omega⟩ ⟨r.val % 2048, by omega⟩)

/-- The rotated queries. -/
theorem ref_q (r : Fin 16384) (e : Fin 1024) :
    val_main_v164 (F := Ideal) x g w (ix2 r e) = rope (rowOf x g w r) (r.val % 2048) (e.val) := by
  pointwise [val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v18, val_main_cst_10, val_main_cst_11, val_main_v0]
  simp only [ref_product, ← column_val]
  exact parts (rowOf x g w r) (r.val % 2048) (o := e.val % 64)
    (E := e.val) (by omega) (by omega) (by omega) (by omega) (by omega) (by omega)

/-- The rotated keys of the selected branch. -/
theorem ref_ks (r : Fin 16384) (e : Fin 256) :
    val_main_v59 (F := Ideal) x g w (ix2 r e) = rope (rowOf x g w r) (r.val % 2048) (1536 + e.val) := by
  pointwise [val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v20, val_main_cst_2, val_main_cst_3, val_main_v0]
  simp only [ref_product, ← column_val]
  exact parts (rowOf x g w r) (r.val % 2048) (o := e.val % 64)
    (E := 1536 + e.val) (by omega) (by omega) (by omega) (by omega) (by omega) (by omega)

/-- The rotated keys of the window branch. -/
theorem ref_kw (r : Fin 16384) (e : Fin 256) :
    val_main_v105 (F := Ideal) x g w (ix2 r e) = rope (rowOf x g w r) (r.val % 2048) (2048 + e.val) := by
  pointwise [val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v21, val_main_cst_4, val_main_cst_5, val_main_v0]
  simp only [ref_product, ← column_val]
  exact parts (rowOf x g w r) (r.val % 2048) (o := e.val % 64)
    (E := 2048 + e.val) (by omega) (by omega) (by omega) (by omega) (by omega) (by omega)

/-- The values of the selected branch. -/
theorem ref_vs (r : Fin 16384) (e : Fin 256) :
    val_main_v61 (F := Ideal) x g w (ix2 r e) = rowOf x g w r (1792 + e.val) := by
  pointwise [val_main_v61, val_main_v60, val_main_v20]
  simp only [ref_product, ← column_val]
  exact congrArg (rowOf x g w r) (by omega)

/-- The values of the window branch. -/
theorem ref_vw (r : Fin 16384) (e : Fin 256) :
    val_main_v107 (F := Ideal) x g w (ix2 r e) = rowOf x g w r (2304 + e.val) := by
  pointwise [val_main_v107, val_main_v106, val_main_v21]
  simp only [ref_product, ← column_val]
  exact congrArg (rowOf x g w r) (by omega)

/-- The ten results. -/
theorem ref_qpl (r : Fin 16384) (e : Fin 1024) :
    val_main_v128 (F := Ideal) x g w (ix2 e r) = rowOf x g w r e.val * Ideal.ofBits .f32 0x3E000000#32 := by
  pointwise [val_main_v128, val_main_v127, val_main_v126, val_main_v125, val_main_v124, val_main_v18, val_main_cst_9]
  simp only [ref_product, ← column_val]
  rfl

theorem ref_qrt (r : Fin 16384) (e : Fin 1024) :
    val_main_v168 (F := Ideal) x g w (ix2 e r)
      = rope (rowOf x g w r) (r.val % 2048) e.val * Ideal.ofBits .f32 0x3E000000#32 := by
  rw [← ref_q]
  pointwise [val_main_v168, val_main_v167, val_main_v166, val_main_v165, val_main_cst_12]

theorem ref_kvc (r : Fin 16384) (e : Fin 512) :
    val_main_v169 (F := Ideal) x g w (ix2 r e) = rowOf x g w r (1024 + e.val) := by
  pointwise [val_main_v169, val_main_v19]
  simp only [ref_product, ← column_val]
  rfl

theorem ref_kvs (r : Fin 16384) (e : Fin 512) :
    val_main_v68 (F := Ideal) x g w (ix2 r e)
      = if e.val < 256 then rope (rowOf x g w r) (r.val % 2048) (1536 + e.val) else rowOf x g w r (1536 + e.val) := by
  pointwise [val_main_v68]
  simp only [ref_ks, ref_vs]
  by_cases h : e.val < 256
  · rw [dif_pos h, if_pos h]
  · rw [dif_neg h, if_neg h, show 1792 + (e.val - 256) = 1536 + e.val by omega]

theorem ref_kvw (r : Fin 16384) (e : Fin 512) :
    val_main_v114 (F := Ideal) x g w (ix2 r e)
      = if e.val < 256 then rope (rowOf x g w r) (r.val % 2048) (2048 + e.val) else rowOf x g w r (2048 + e.val) := by
  pointwise [val_main_v114]
  simp only [ref_kw, ref_vw]
  by_cases h : e.val < 256
  · rw [dif_pos h, if_pos h]
  · rw [dif_neg h, if_neg h, show 2304 + (e.val - 256) = 2048 + e.val by omega]

theorem ref_k1 (h : Fin 4) (r : Fin 16384) (e : Fin 64) :
    val_main_v64 (F := Ideal) x g w (ix3 h r e) = rope (rowOf x g w r) (r.val % 2048) (1536 + h.val * 64 + e.val) := by
  pointwise [val_main_v64, val_main_v63, val_main_v62]
  rw [ref_ks]
  exact congrArg _ (by show 1536 + (h.val * 64 + e.val) = _; omega)

theorem ref_k2 (h : Fin 4) (r : Fin 16384) (e : Fin 64) :
    val_main_v110 (F := Ideal) x g w (ix3 h r e) = rope (rowOf x g w r) (r.val % 2048) (2048 + h.val * 64 + e.val) := by
  pointwise [val_main_v110, val_main_v109, val_main_v108]
  rw [ref_kw]
  exact congrArg _ (by show 2048 + (h.val * 64 + e.val) = _; omega)

theorem ref_v1 (a : Fin 64) (e j : Fin 256) :
    val_main_v67 (F := Ideal) x g w (ix3 a e j) = rowOf x g w ⟨a.val * 256 + j.val, by omega⟩ (1792 + e.val) := by
  pointwise [val_main_v67, val_main_v66, val_main_v65]
  rw [ref_vs]

theorem ref_v2 (a : Fin 64) (e j : Fin 256) :
    val_main_v113 (F := Ideal) x g w (ix3 a e j) = rowOf x g w ⟨a.val * 256 + j.val, by omega⟩ (2304 + e.val) := by
  pointwise [val_main_v113, val_main_v112, val_main_v111]
  rw [ref_vw]

theorem ref_gate (r : Fin 16384) (e : Fin 128) :
    val_main_v170 (F := Ideal) x g w (ix2 e r)
      = if e.val < 48 then Ideal.div 1 (1 + Ideal.exp (-rowOf x g w r (2560 + e.val))) else Ideal.ofBits .f32 0x3F000000#32 := by
  pointwise [val_main_v170, val_main_v123, val_main_v122, val_main_v121, val_main_v120, val_main_v119, val_main_v118, val_main_v117, val_main_v116, val_main_v115, val_main_v22, val_main_cst_6, val_main_cst_7, val_main_cst_8]
  simp only [ref_product, ← column_val]
  rfl

end Cert.SparseProj

end
-- ==== Proof.Sparse.Output.lean ====
/- The projection kernel of the sparse-attention layer: its ten whole arrays, the reference's, and their equality. -/
module

public import proofs.«01_k».proof.Defs
public import proofs.«01_k».proof.Proof.Rope.Rope
public import proofs.«01_k».proof.Proof.Sparse.Block
public import proofs.«01_k».proof.Proof.Sparse.Inputs
public import proofs.«01_k».proof.Proof.Sparse.Reference
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.Covers
public import Idealize.ShloMosaic.Lib.Pipeline.ValueKit
public import Idealize.ShloMosaic.Lib.Claim
public import Idealize.ShloMosaic.Lib.Pointwise

@[expose] public section

set_option maxRecDepth 131072
set_option maxHeartbeats 2000000

noncomputable section

namespace Cert.SparseProj

open Cert.Kernel4Ideal Cert.Kernel4Ideal.Gen Idealize.ShloMosaic Idealize.ShloMosaic.TcCoe Idealize.SL.Sem
open Idealize.ShloMosaic.Pipeline (Dat)
open Cert.Rope
open scoped BigOperators

/-- The queries: divided by eight, transposed. -/
def queriesPlain (x : S8x2048x1024.Idx → EReal) (g : S2x1024.Idx → EReal) (w : S1x1024x2608.Idx → EReal) : S1024x16384.Idx → EReal :=
  fun i => rowOf x g w (i 1) (i 0).val * Ideal.ofBits .f32 0x3E000000#32

/-- The queries: rotated, divided by eight, transposed. -/
def queries (x : S8x2048x1024.Idx → EReal) (g : S2x1024.Idx → EReal) (w : S1x1024x2608.Idx → EReal) : S1024x16384.Idx → EReal :=
  fun i => rope (rowOf x g w (i 1)) ((i 1).val % 2048) (i 0).val * Ideal.ofBits .f32 0x3E000000#32

/-- The keys and values of the compressed branch, as projected. -/
def compressed (x : S8x2048x1024.Idx → EReal) (g : S2x1024.Idx → EReal) (w : S1x1024x2608.Idx → EReal) : S16384x512.Idx → EReal :=
  fun i => rowOf x g w (i 0) (1024 + (i 1).val)

/-- The rotated keys of a branch, from column `o` on, beside its values. -/
def keysValues (x : S8x2048x1024.Idx → EReal) (g : S2x1024.Idx → EReal) (w : S1x1024x2608.Idx → EReal) (o : Nat) : S16384x512.Idx → EReal :=
  fun i => if (i 1).val < 256 then rope (rowOf x g w (i 0)) ((i 0).val % 2048) (o + (i 1).val) else rowOf x g w (i 0) (o + (i 1).val)

/-- The rotated keys of a branch, head by head. -/
def keys (x : S8x2048x1024.Idx → EReal) (g : S2x1024.Idx → EReal) (w : S1x1024x2608.Idx → EReal) (o : Nat) : S4x16384x64.Idx → EReal :=
  fun i => rope (rowOf x g w (i 1)) ((i 1).val % 2048) (o + (i 0).val * 64 + (i 2).val)

/-- The values of a branch in chunks of 256 positions, each transposed. -/
def values (x : S8x2048x1024.Idx → EReal) (g : S2x1024.Idx → EReal) (w : S1x1024x2608.Idx → EReal) (o : Nat) : S64x256x256.Idx → EReal :=
  fun i => rowOf x g w ⟨(i 0).val * 256 + (i 2).val, by
    have h0 : (i 0).val < 64 := (i 0).isLt
    have h2 : (i 2).val < 256 := (i 2).isLt
    omega⟩ (o + (i 1).val)

/-- The gates, one row each, and below them rows of one half. -/
def gates (x : S8x2048x1024.Idx → EReal) (g : S2x1024.Idx → EReal) (w : S1x1024x2608.Idx → EReal) : S128x16384.Idx → EReal :=
  fun i => if (i 0).val < 48 then Ideal.div 1 (1 + Ideal.exp (-rowOf x g w (i 1) (2560 + (i 0).val))) else Ideal.ofBits .f32 0x3F000000#32

section Kernel

variable (m : (ℓ : Loc nD τ sig) → Buf (Elt Ideal) ℓ) (c : Dev nD)

/-- The arguments. -/
abbrev argX : S8x2048x1024.Idx → EReal := m ((c : Thread nD τ).loc main_arg0)
abbrev argG : S2x1024.Idx → EReal := m ((c : Thread nD τ).loc main_arg1)
abbrev argW : S1x1024x2608.Idx → EReal := m ((c : Thread nD τ).loc main_arg2)

/-- The row of the projection a block's row `j` is. -/
abbrev rowAt (t : Fin cfg0.N) (j : Fin 512) : Nat → EReal := rowOf (argX m c) (argG m c) (argW m c) (row t j)

theorem normed_row (t : Fin cfg0.N) (j : Fin 512) (k : Fin 1024) :
    normed (fun k => iblk m c 0 t (ix2 j k)) (fun k => iblk m c 1 t (ix2 0 k)) k
      = normed (fun k => argX m c (ix3 ⟨(row t j).val / 2048, by omega⟩ ⟨(row t j).val % 2048, by omega⟩ k))
          (fun k => argG m c (ix2 1 k)) k :=
  congrFun (congr (congrArg normed (funext fun k => iblk_x m c t j k)) (funext fun k => iblk_g m c t k)) k

/-- A block's row of the product is the projection's row, in the main columns. -/
theorem product_row (t : Fin cfg0.N) (j : Fin 512) (e : Fin 2560) :
    k0_pay7 (iblk m c 0 t) (iblk m c 1 t) (iblk m c 2 t) (ix2 j e) = rowAt m c t j e.val := by
  rw [product_apply]
  unfold rowAt rowOf
  rw [column_of_lt _ (by omega)]
  unfold refRow projected
  exact Finset.sum_congr rfl fun k _ => congrArg₂ (fun a b : EReal => a * b) (normed_row m c t j k) (iblk_w m c t k e)

theorem half : Ideal.div 1 (1 + Ideal.exp (0 - 0)) = Ideal.ofBits .f32 0x3F000000#32 := by
  have h : (1 + Ideal.exp (0 - 0) : EReal) = ((2 : ℝ) : EReal) := by
    rw [sub_zero, show (0 : EReal) = ((0 : ℝ) : EReal) from rfl, Ideal.exp_coe, Real.exp_zero]
    norm_cast
  have h' : Ideal.ofBits .f32 0x3F000000#32 = ((1 / 2 : ℝ) : EReal) := by
    simp [Ideal.ofBits, Ideal.ieee, -EReal.coe_mul]
    norm_num
  rw [h, h', Ideal.div_coe (by norm_num), one_mul]

/-- A block's gates are the projection's last columns; beyond them the weights are zero. -/
theorem gate_row (t : Fin cfg0.N) (j : Fin 512) (e : Fin 128) :
    Ideal.div 1 (1 + Ideal.exp (0 - projected (fun k => iblk m c 0 t (ix2 j k)) (fun k => iblk m c 1 t (ix2 0 k))
        (fun k e => iblk m c 3 t (ix2 k e)) e))
      = if e.val < 48 then Ideal.div 1 (1 + Ideal.exp (-rowAt m c t j (2560 + e.val))) else Ideal.ofBits .f32 0x3F000000#32 := by
  by_cases h : e.val < 48
  · have hp : projected (fun k => iblk m c 0 t (ix2 j k)) (fun k => iblk m c 1 t (ix2 0 k)) (fun k e => iblk m c 3 t (ix2 k e)) e
        = rowAt m c t j (2560 + e.val) := by
      unfold rowAt rowOf
      rw [column_of_lt _ (by omega)]
      unfold refRow projected
      exact Finset.sum_congr rfl fun k _ => congrArg₂ (fun a b : EReal => a * b) (normed_row m c t j k) ((iblk_wg m c t k e).trans (dif_pos h))
    rw [if_pos h, hp, zero_sub]
  · have hp : projected (fun k => iblk m c 0 t (ix2 j k)) (fun k => iblk m c 1 t (ix2 0 k)) (fun k e => iblk m c 3 t (ix2 k e)) e
        = 0 := by
      unfold projected
      exact Finset.sum_eq_zero fun k _ => by
        beta_reduce
        rw [iblk_wg, dif_neg h, mul_zero]
    rw [if_neg h, hp, half]

theorem array_queriesPlain : (dats m 0 c).arrAt 7 cfg0.N = queriesPlain (argX m c) (argG m c) (argW m c) := by
  refine (dats m 0 c).arrAt_eq_of_covers 7 _ (by decide +kernel) fun t hf y => ?_
  blk_simp
  rw [after0_7]
  obtain ⟨e, j, rfl⟩ : ∃ (e : Fin 1024) (j : Fin 512), y = ix2 e j := ⟨y 0, y 1, by funext a; fin_cases a <;> rfl⟩
  rw [out7_apply _ _ _ _ _ _ _ (rowAt m c t) (product_row m c t)]
  have h0 : e = (win0_7.blk t).view.emb (ix2 e j) 0 := by
    apply Fin.ext
    blk_simp [index_eq t]
  have h1 : row t j = (win0_7.blk t).view.emb (ix2 e j) 1 := by
    apply Fin.ext
    blk_simp [index_eq t]
  exact congrArg₂ (fun (e : Fin 1024) (r : Fin 16384) => (rowOf (argX m c) (argG m c) (argW m c) r) e.val * Ideal.ofBits .f32 0x3E000000#32) h0 h1

theorem array_queries : (dats m 0 c).arrAt 8 cfg0.N = queries (argX m c) (argG m c) (argW m c) := by
  refine (dats m 0 c).arrAt_eq_of_covers 8 _ (by decide +kernel) fun t hf y => ?_
  blk_simp
  rw [after0_8]
  obtain ⟨e, j, rfl⟩ : ∃ (e : Fin 1024) (j : Fin 512), y = ix2 e j := ⟨y 0, y 1, by funext a; fin_cases a <;> rfl⟩
  rw [out8_apply _ _ _ _ _ _ _ (rowAt m c t) (product_row m c t)
    (fun r => (position t r).val) (iblk_cos m c t) (iblk_next m c t) (iblk_last m c t)]
  have h0 : e = (win0_8.blk t).view.emb (ix2 e j) 0 := by
    apply Fin.ext
    blk_simp [index_eq t]
  have h1 : row t j = (win0_8.blk t).view.emb (ix2 e j) 1 := by
    apply Fin.ext
    blk_simp [index_eq t]
  exact congrArg₂ (fun (e : Fin 1024) (r : Fin 16384) => rope (rowOf (argX m c) (argG m c) (argW m c) r) (r.val % 2048) e.val * Ideal.ofBits .f32 0x3E000000#32) h0 h1

theorem array_compressed : (dats m 0 c).arrAt 9 cfg0.N = compressed (argX m c) (argG m c) (argW m c) := by
  refine (dats m 0 c).arrAt_eq_of_covers 9 _ (by decide +kernel) fun t hf y => ?_
  blk_simp
  rw [after0_9]
  obtain ⟨j, e, rfl⟩ : ∃ (j : Fin 512) (e : Fin 512), y = ix2 j e := ⟨y 0, y 1, by funext a; fin_cases a <;> rfl⟩
  rw [out9_apply _ _ _ _ _ _ _ (rowAt m c t) (product_row m c t)]
  have h0 : row t j = (win0_9.blk t).view.emb (ix2 j e) 0 := by
    apply Fin.ext
    blk_simp [index_eq t]
  have h1 : e = (win0_9.blk t).view.emb (ix2 j e) 1 := by
    apply Fin.ext
    blk_simp [index_eq t]
  exact congrArg₂ (fun (r : Fin 16384) (e : Fin 512) => (rowOf (argX m c) (argG m c) (argW m c) r) (1024 + e.val)) h0 h1

theorem array_keysValues1 : (dats m 0 c).arrAt 10 cfg0.N = keysValues (argX m c) (argG m c) (argW m c) 1536 := by
  refine (dats m 0 c).arrAt_eq_of_covers 10 _ (by decide +kernel) fun t hf y => ?_
  blk_simp
  rw [after0_10]
  obtain ⟨j, e, rfl⟩ : ∃ (j : Fin 512) (e : Fin 512), y = ix2 j e := ⟨y 0, y 1, by funext a; fin_cases a <;> rfl⟩
  rw [out10_apply _ _ _ _ _ _ _ (rowAt m c t) (product_row m c t)
    (fun r => (position t r).val) (iblk_cos m c t) (iblk_next m c t) (iblk_last m c t)]
  have h0 : row t j = (win0_10.blk t).view.emb (ix2 j e) 0 := by
    apply Fin.ext
    blk_simp [index_eq t]
  have h1 : e = (win0_10.blk t).view.emb (ix2 j e) 1 := by
    apply Fin.ext
    blk_simp [index_eq t]
  exact congrArg₂ (fun (r : Fin 16384) (e : Fin 512) => (show EReal from if e.val < 256 then rope (rowOf (argX m c) (argG m c) (argW m c) r) (r.val % 2048) (1536 + e.val)
    else (rowOf (argX m c) (argG m c) (argW m c) r) (1536 + e.val))) h0 h1

theorem array_keysValues2 : (dats m 0 c).arrAt 11 cfg0.N = keysValues (argX m c) (argG m c) (argW m c) 2048 := by
  refine (dats m 0 c).arrAt_eq_of_covers 11 _ (by decide +kernel) fun t hf y => ?_
  blk_simp
  rw [after0_11]
  obtain ⟨j, e, rfl⟩ : ∃ (j : Fin 512) (e : Fin 512), y = ix2 j e := ⟨y 0, y 1, by funext a; fin_cases a <;> rfl⟩
  rw [out11_apply _ _ _ _ _ _ _ (rowAt m c t) (product_row m c t)
    (fun r => (position t r).val) (iblk_cos m c t) (iblk_next m c t) (iblk_last m c t)]
  have h0 : row t j = (win0_11.blk t).view.emb (ix2 j e) 0 := by
    apply Fin.ext
    blk_simp [index_eq t]
  have h1 : e = (win0_11.blk t).view.emb (ix2 j e) 1 := by
    apply Fin.ext
    blk_simp [index_eq t]
  exact congrArg₂ (fun (r : Fin 16384) (e : Fin 512) => (show EReal from if e.val < 256 then rope (rowOf (argX m c) (argG m c) (argW m c) r) (r.val % 2048) (2048 + e.val)
    else (rowOf (argX m c) (argG m c) (argW m c) r) (2048 + e.val))) h0 h1

theorem array_gates : (dats m 0 c).arrAt 16 cfg0.N = gates (argX m c) (argG m c) (argW m c) := by
  refine (dats m 0 c).arrAt_eq_of_covers 16 _ (by decide +kernel) fun t hf y => ?_
  blk_simp
  rw [after0_16]
  obtain ⟨e, j, rfl⟩ : ∃ (e : Fin 128) (j : Fin 512), y = ix2 e j := ⟨y 0, y 1, by funext a; fin_cases a <;> rfl⟩
  rw [out16_apply, gate_row]
  have h0 : e = (win0_16.blk t).view.emb (ix2 e j) 0 := by
    apply Fin.ext
    blk_simp [index_eq t]
  have h1 : row t j = (win0_16.blk t).view.emb (ix2 e j) 1 := by
    apply Fin.ext
    blk_simp [index_eq t]
  exact congrArg₂ (fun (e : Fin 128) (r : Fin 16384) => (show EReal from if e.val < 48 then
    Ideal.div 1 (1 + Ideal.exp (-(rowOf (argX m c) (argG m c) (argW m c) r) (2560 + e.val))) else Ideal.ofBits .f32 0x3F000000#32)) h0 h1

theorem array_keys1 : (dats m 0 c).arrAt 12 cfg0.N = keys (argX m c) (argG m c) (argW m c) 1536 := by
  refine (dats m 0 c).arrAt_eq_of_covers 12 _ (by decide +kernel) fun t hf y => ?_
  blk_simp
  rw [after0_12]
  obtain ⟨a, j, e, rfl⟩ : ∃ (a : Fin 4) (j : Fin 512) (e : Fin 64), y = ix3 a j e := ⟨y 0, y 1, y 2, by funext a; fin_cases a <;> rfl⟩
  rw [out12_apply _ _ _ _ _ _ _ (rowAt m c t) (product_row m c t)
    (fun r => (position t r).val) (iblk_cos m c t) (iblk_next m c t) (iblk_last m c t)]
  have h0 : a.val = ((win0_12.blk t).view.emb (ix3 a j e) 0).val := by
    blk_simp [index_eq t]
  have h1 : row t j = (win0_12.blk t).view.emb (ix3 a j e) 1 := by
    apply Fin.ext
    blk_simp [index_eq t]
  have h2 : e.val = ((win0_12.blk t).view.emb (ix3 a j e) 2).val := by
    blk_simp [index_eq t]
  exact congrArg₂ (fun (r : Fin 16384) (e : Nat) => rope (rowOf (argX m c) (argG m c) (argW m c) r) (r.val % 2048) e) h1
    (congrArg₂ (fun a e : Nat => 1536 + a * 64 + e) h0 h2)

theorem array_keys2 : (dats m 0 c).arrAt 14 cfg0.N = keys (argX m c) (argG m c) (argW m c) 2048 := by
  refine (dats m 0 c).arrAt_eq_of_covers 14 _ (by decide +kernel) fun t hf y => ?_
  blk_simp
  rw [after0_14]
  obtain ⟨a, j, e, rfl⟩ : ∃ (a : Fin 4) (j : Fin 512) (e : Fin 64), y = ix3 a j e := ⟨y 0, y 1, y 2, by funext a; fin_cases a <;> rfl⟩
  rw [out14_apply _ _ _ _ _ _ _ (rowAt m c t) (product_row m c t)
    (fun r => (position t r).val) (iblk_cos m c t) (iblk_next m c t) (iblk_last m c t)]
  have h0 : a.val = ((win0_14.blk t).view.emb (ix3 a j e) 0).val := by
    blk_simp [index_eq t]
  have h1 : row t j = (win0_14.blk t).view.emb (ix3 a j e) 1 := by
    apply Fin.ext
    blk_simp [index_eq t]
  have h2 : e.val = ((win0_14.blk t).view.emb (ix3 a j e) 2).val := by
    blk_simp [index_eq t]
  exact congrArg₂ (fun (r : Fin 16384) (e : Nat) => rope (rowOf (argX m c) (argG m c) (argW m c) r) (r.val % 2048) e) h1
    (congrArg₂ (fun a e : Nat => 2048 + a * 64 + e) h0 h2)

theorem array_values1 : (dats m 0 c).arrAt 13 cfg0.N = values (argX m c) (argG m c) (argW m c) 1792 := by
  refine (dats m 0 c).arrAt_eq_of_covers 13 _ (by decide +kernel) fun t hf y => ?_
  blk_simp
  rw [after0_13]
  obtain ⟨a, e, j, rfl⟩ : ∃ (a : Fin 2) (e j : Fin 256), y = ix3 a e j := ⟨y 0, y 1, y 2, by funext a; fin_cases a <;> rfl⟩
  rw [out13_apply _ _ _ _ _ _ _ (rowAt m c t) (product_row m c t)]
  have h0 : (grid0.coords t 0).val * 2 + a.val = ((win0_13.blk t).view.emb (ix3 a e j) 0).val := by
    blk_simp [index_eq t]
  have h1 : e.val = ((win0_13.blk t).view.emb (ix3 a e j) 1).val := by
    blk_simp [index_eq t]
  have h2 : j.val = ((win0_13.blk t).view.emb (ix3 a e j) 2).val := by
    blk_simp [index_eq t]
  have hr : row t ⟨a.val * 256 + j.val, by omega⟩
      = ⟨((win0_13.blk t).view.emb (ix3 a e j) 0).val * 256 + ((win0_13.blk t).view.emb (ix3 a e j) 2).val, by
        rw [← h0, ← h2]; have := point_lt t; omega⟩ := by
    apply Fin.ext
    show (grid0.coords t 0).val * 512 + (a.val * 256 + j.val) = _ * 256 + _
    rw [← h0, ← h2]
    omega
  exact congrArg₂ (fun (r : Fin 16384) (e : Nat) => (rowOf (argX m c) (argG m c) (argW m c) r) (1792 + e)) hr h1

theorem array_values2 : (dats m 0 c).arrAt 15 cfg0.N = values (argX m c) (argG m c) (argW m c) 2304 := by
  refine (dats m 0 c).arrAt_eq_of_covers 15 _ (by decide +kernel) fun t hf y => ?_
  blk_simp
  rw [after0_15]
  obtain ⟨a, e, j, rfl⟩ : ∃ (a : Fin 2) (e j : Fin 256), y = ix3 a e j := ⟨y 0, y 1, y 2, by funext a; fin_cases a <;> rfl⟩
  rw [out15_apply _ _ _ _ _ _ _ (rowAt m c t) (product_row m c t)]
  have h0 : (grid0.coords t 0).val * 2 + a.val = ((win0_15.blk t).view.emb (ix3 a e j) 0).val := by
    blk_simp [index_eq t]
  have h1 : e.val = ((win0_15.blk t).view.emb (ix3 a e j) 1).val := by
    blk_simp [index_eq t]
  have h2 : j.val = ((win0_15.blk t).view.emb (ix3 a e j) 2).val := by
    blk_simp [index_eq t]
  have hr : row t ⟨a.val * 256 + j.val, by omega⟩
      = ⟨((win0_15.blk t).view.emb (ix3 a e j) 0).val * 256 + ((win0_15.blk t).view.emb (ix3 a e j) 2).val, by
        rw [← h0, ← h2]; have := point_lt t; omega⟩ := by
    apply Fin.ext
    show (grid0.coords t 0).val * 512 + (a.val * 256 + j.val) = _ * 256 + _
    rw [← h0, ← h2]
    omega
  exact congrArg₂ (fun (r : Fin 16384) (e : Nat) => (rowOf (argX m c) (argG m c) (argW m c) r) (2304 + e)) hr h1

end Kernel

section Reference

open Cert.Reference4Ideal.Read

variable (x : S8x2048x1024.Idx → EReal) (g : S2x1024.Idx → EReal) (w : S1x1024x2608.Idx → EReal)

theorem reference_queriesPlain : val_main_v128 (F := Ideal) x g w = queriesPlain x g w := by
  funext i
  obtain ⟨e, r, rfl⟩ : ∃ (e : Fin 1024) (r : Fin 16384), i = ix2 e r := ⟨i 0, i 1, by funext a; fin_cases a <;> rfl⟩
  exact ref_qpl x g w r e

theorem reference_queries : val_main_v168 (F := Ideal) x g w = queries x g w := by
  funext i
  obtain ⟨e, r, rfl⟩ : ∃ (e : Fin 1024) (r : Fin 16384), i = ix2 e r := ⟨i 0, i 1, by funext a; fin_cases a <;> rfl⟩
  exact ref_qrt x g w r e

theorem reference_compressed : val_main_v169 (F := Ideal) x g w = compressed x g w := by
  funext i
  obtain ⟨r, e, rfl⟩ : ∃ (r : Fin 16384) (e : Fin 512), i = ix2 r e := ⟨i 0, i 1, by funext a; fin_cases a <;> rfl⟩
  exact ref_kvc x g w r e

theorem reference_keysValues1 : val_main_v68 (F := Ideal) x g w = keysValues x g w 1536 := by
  funext i
  obtain ⟨r, e, rfl⟩ : ∃ (r : Fin 16384) (e : Fin 512), i = ix2 r e := ⟨i 0, i 1, by funext a; fin_cases a <;> rfl⟩
  exact ref_kvs x g w r e

theorem reference_keysValues2 : val_main_v114 (F := Ideal) x g w = keysValues x g w 2048 := by
  funext i
  obtain ⟨r, e, rfl⟩ : ∃ (r : Fin 16384) (e : Fin 512), i = ix2 r e := ⟨i 0, i 1, by funext a; fin_cases a <;> rfl⟩
  exact ref_kvw x g w r e

theorem reference_keys1 : val_main_v64 (F := Ideal) x g w = keys x g w 1536 := by
  funext i
  obtain ⟨a, r, e, rfl⟩ : ∃ (a : Fin 4) (r : Fin 16384) (e : Fin 64), i = ix3 a r e := ⟨i 0, i 1, i 2, by funext a; fin_cases a <;> rfl⟩
  exact ref_k1 x g w a r e

theorem reference_values1 : val_main_v67 (F := Ideal) x g w = values x g w 1792 := by
  funext i
  obtain ⟨a, e, j, rfl⟩ : ∃ (a : Fin 64) (e : Fin 256) (j : Fin 256), i = ix3 a e j := ⟨i 0, i 1, i 2, by funext a; fin_cases a <;> rfl⟩
  exact ref_v1 x g w a e j

theorem reference_keys2 : val_main_v110 (F := Ideal) x g w = keys x g w 2048 := by
  funext i
  obtain ⟨a, r, e, rfl⟩ : ∃ (a : Fin 4) (r : Fin 16384) (e : Fin 64), i = ix3 a r e := ⟨i 0, i 1, i 2, by funext a; fin_cases a <;> rfl⟩
  exact ref_k2 x g w a r e

theorem reference_values2 : val_main_v113 (F := Ideal) x g w = values x g w 2304 := by
  funext i
  obtain ⟨a, e, j, rfl⟩ : ∃ (a : Fin 64) (e : Fin 256) (j : Fin 256), i = ix3 a e j := ⟨i 0, i 1, i 2, by funext a; fin_cases a <;> rfl⟩
  exact ref_v2 x g w a e j

theorem reference_gates : val_main_v170 (F := Ideal) x g w = gates x g w := by
  funext i
  obtain ⟨e, r, rfl⟩ : ∃ (e : Fin 128) (r : Fin 16384), i = ix2 e r := ⟨i 0, i 1, by funext a; fin_cases a <;> rfl⟩
  exact ref_gate x g w r e

end Reference

/-- The kernel's ten arrays are the reference's. -/
theorem sparse_proj_equal : Cert.algebraic_Kernel4Ideal_Reference4Ideal (hKernel4Ideal := Cert.Kernel4Ideal.Gen.facts)
    (hReference4Ideal := Cert.Reference4Ideal.Gen.facts) := by
  intro m g m' g' hpre hagree
  refine ⟨fun c => queriesPlain (argX m c) (argG m c) (argW m c),
    fun c => queries (argX m c) (argG m c) (argW m c),
    fun c => compressed (argX m c) (argG m c) (argW m c),
    fun c => keysValues (argX m c) (argG m c) (argW m c) 1536,
    fun c => keysValues (argX m c) (argG m c) (argW m c) 2048,
    fun c => keys (argX m c) (argG m c) (argW m c) 1536,
    fun c => values (argX m c) (argG m c) (argW m c) 1792,
    fun c => keys (argX m c) (argG m c) (argW m c) 2048,
    fun c => values (argX m c) (argG m c) (argW m c) 2304,
    fun c => gates (argX m c) (argG m c) (argW m c), ?_, ?_⟩
  · exact (θ_run _ _ _).mono (fun r h c => ⟨(h c).1.trans (array_queriesPlain m c), (h c).2.1.trans (array_queries m c), (h c).2.2.1.trans (array_compressed m c), (h c).2.2.2.1.trans (array_keysValues1 m c), (h c).2.2.2.2.1.trans (array_keysValues2 m c), (h c).2.2.2.2.2.1.trans (array_keys1 m c), (h c).2.2.2.2.2.2.1.trans (array_values1 m c), (h c).2.2.2.2.2.2.2.1.trans (array_keys2 m c), (h c).2.2.2.2.2.2.2.2.1.trans (array_values2 m c), (h c).2.2.2.2.2.2.2.2.2.1.trans (array_gates m c), (h c).2.2.2.2.2.2.2.2.2.2⟩)
      (Cert.Kernel4Ideal.Value.run_blocks (F := Ideal) m g)
  · have arg0_of : ∀ c, StableHlo.launchContents m' c (Proc.tc.devRef Cert.Reference4Ideal.main_arg0) = argX m c := fun c => (hagree c).1
    have arg1_of : ∀ c, StableHlo.launchContents m' c (Proc.tc.devRef Cert.Reference4Ideal.main_arg1) = argG m c := fun c => (hagree c).2.1
    have arg2_of : ∀ c, StableHlo.launchContents m' c (Proc.tc.devRef Cert.Reference4Ideal.main_arg2) = argW m c := fun c => (hagree c).2.2
    refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_,
      (h c).2.2.2.2.2.2.2.2.2.2⟩) (Cert.Reference4Ideal.Value.run (F := Ideal) m' g')
    · refine (Cert.Reference4Ideal.Read.val_main_v128_eq _).trans ?_
      exact (reference_queriesPlain _ _ _).trans (by rw [arg0_of c, arg1_of c, arg2_of c])
    · refine (Cert.Reference4Ideal.Read.val_main_v168_eq _).trans ?_
      exact (reference_queries _ _ _).trans (by rw [arg0_of c, arg1_of c, arg2_of c])
    · refine (Cert.Reference4Ideal.Read.val_main_v169_eq _).trans ?_
      exact (reference_compressed _ _ _).trans (by rw [arg0_of c, arg1_of c, arg2_of c])
    · refine (Cert.Reference4Ideal.Read.val_main_v68_eq _).trans ?_
      exact (reference_keysValues1 _ _ _).trans (by rw [arg0_of c, arg1_of c, arg2_of c])
    · refine (Cert.Reference4Ideal.Read.val_main_v114_eq _).trans ?_
      exact (reference_keysValues2 _ _ _).trans (by rw [arg0_of c, arg1_of c, arg2_of c])
    · refine (Cert.Reference4Ideal.Read.val_main_v64_eq _).trans ?_
      exact (reference_keys1 _ _ _).trans (by rw [arg0_of c, arg1_of c, arg2_of c])
    · refine (Cert.Reference4Ideal.Read.val_main_v67_eq _).trans ?_
      exact (reference_values1 _ _ _).trans (by rw [arg0_of c, arg1_of c, arg2_of c])
    · refine (Cert.Reference4Ideal.Read.val_main_v110_eq _).trans ?_
      exact (reference_keys2 _ _ _).trans (by rw [arg0_of c, arg1_of c, arg2_of c])
    · refine (Cert.Reference4Ideal.Read.val_main_v113_eq _).trans ?_
      exact (reference_values2 _ _ _).trans (by rw [arg0_of c, arg1_of c, arg2_of c])
    · refine (Cert.Reference4Ideal.Read.val_main_v170_eq _).trans ?_
      exact (reference_gates _ _ _).trans (by rw [arg0_of c, arg1_of c, arg2_of c])

end Cert.SparseProj

end
-- ==== Proof.Mix.Frames.lean ====
/- The frames of one call: its run over extended reals and, by the same text, over machine numbers; and the frame of
   its reference. -/
module

public import proofs.«01_k».proof.Defs
public import proofs.«01_k».proof.Proof.Gen.Kernel5Ideal.Frame
public import proofs.«01_k».proof.Proof.Gen.Reference5Ideal.Run

@[expose] public section

set_option maxHeartbeats 8000000

noncomputable section

namespace Cert.SparseOut

open Idealize.ShloMosaic Idealize.ShloMosaic.TcCoe Idealize.SL.Sem

/-- The side conditions the program states are those of its twin over extended reals. -/
theorem facts₀ : Cert.Kernel5.Facts₀ where
  shapeCasts_S8x2048x1024_S16384x1024 := @Cert.Kernel5Ideal.Gen.shapeCasts_S8x2048x1024_S16384x1024
  shapeCasts_S8x2048x4x4x64_S16384x1024 := @Cert.Kernel5Ideal.Gen.shapeCasts_S8x2048x4x4x64_S16384x1024
  transposes_S16384x1024_S1024x16384_1_0 := @Cert.Kernel5Ideal.Gen.transposes_S16384x1024_S1024x16384_1_0
  bitsLt_bf16_f32 := @Cert.Kernel5Ideal.Gen.bitsLt_bf16_f32
  shapeCasts_S1x1024x1024_S1024x1024 := @Cert.Kernel5Ideal.Gen.shapeCasts_S1x1024x1024_S1024x1024
  inb_S128x512_S1x512_0_0 := @Cert.Kernel5Ideal.Gen.inb_S128x512_S1x512_0_0
  h_S1x512 := @Cert.Kernel5Ideal.Gen.h_S1x512
  inb_S1024x512_S64x512_0_0 := @Cert.Kernel5Ideal.Gen.inb_S1024x512_S64x512_0_0
  h_S64x512 := @Cert.Kernel5Ideal.Gen.h_S64x512
  shapeCasts_S64x512_S64x512 := @Cert.Kernel5Ideal.Gen.shapeCasts_S64x512_S64x512
  broadcasts_S1x512_S64x512 := @Cert.Kernel5Ideal.Gen.broadcasts_S1x512_S64x512
  inb_S128x512_S1x512_1_0 := @Cert.Kernel5Ideal.Gen.inb_S128x512_S1x512_1_0
  inb_S128x512_S1x512_2_0 := @Cert.Kernel5Ideal.Gen.inb_S128x512_S1x512_2_0
  packedbf16_S1024x512_S64x512_0_0 := @Cert.Kernel5Ideal.Gen.packedbf16_S1024x512_S64x512_0_0
  inb_S128x512_S1x512_3_0 := @Cert.Kernel5Ideal.Gen.inb_S128x512_S1x512_3_0
  inb_S1024x512_S64x512_64_0 := @Cert.Kernel5Ideal.Gen.inb_S1024x512_S64x512_64_0
  inb_S128x512_S1x512_4_0 := @Cert.Kernel5Ideal.Gen.inb_S128x512_S1x512_4_0
  inb_S128x512_S1x512_5_0 := @Cert.Kernel5Ideal.Gen.inb_S128x512_S1x512_5_0
  packedbf16_S1024x512_S64x512_64_0 := @Cert.Kernel5Ideal.Gen.packedbf16_S1024x512_S64x512_64_0
  inb_S128x512_S1x512_6_0 := @Cert.Kernel5Ideal.Gen.inb_S128x512_S1x512_6_0
  inb_S1024x512_S64x512_128_0 := @Cert.Kernel5Ideal.Gen.inb_S1024x512_S64x512_128_0
  inb_S128x512_S1x512_7_0 := @Cert.Kernel5Ideal.Gen.inb_S128x512_S1x512_7_0
  inb_S128x512_S1x512_8_0 := @Cert.Kernel5Ideal.Gen.inb_S128x512_S1x512_8_0
  packedbf16_S1024x512_S64x512_128_0 := @Cert.Kernel5Ideal.Gen.packedbf16_S1024x512_S64x512_128_0
  inb_S128x512_S1x512_9_0 := @Cert.Kernel5Ideal.Gen.inb_S128x512_S1x512_9_0
  inb_S1024x512_S64x512_192_0 := @Cert.Kernel5Ideal.Gen.inb_S1024x512_S64x512_192_0
  inb_S128x512_S1x512_10_0 := @Cert.Kernel5Ideal.Gen.inb_S128x512_S1x512_10_0
  inb_S128x512_S1x512_11_0 := @Cert.Kernel5Ideal.Gen.inb_S128x512_S1x512_11_0
  packedbf16_S1024x512_S64x512_192_0 := @Cert.Kernel5Ideal.Gen.packedbf16_S1024x512_S64x512_192_0
  inb_S128x512_S1x512_12_0 := @Cert.Kernel5Ideal.Gen.inb_S128x512_S1x512_12_0
  inb_S1024x512_S64x512_256_0 := @Cert.Kernel5Ideal.Gen.inb_S1024x512_S64x512_256_0
  inb_S128x512_S1x512_13_0 := @Cert.Kernel5Ideal.Gen.inb_S128x512_S1x512_13_0
  inb_S128x512_S1x512_14_0 := @Cert.Kernel5Ideal.Gen.inb_S128x512_S1x512_14_0
  packedbf16_S1024x512_S64x512_256_0 := @Cert.Kernel5Ideal.Gen.packedbf16_S1024x512_S64x512_256_0
  inb_S128x512_S1x512_15_0 := @Cert.Kernel5Ideal.Gen.inb_S128x512_S1x512_15_0
  inb_S1024x512_S64x512_320_0 := @Cert.Kernel5Ideal.Gen.inb_S1024x512_S64x512_320_0
  inb_S128x512_S1x512_16_0 := @Cert.Kernel5Ideal.Gen.inb_S128x512_S1x512_16_0
  inb_S128x512_S1x512_17_0 := @Cert.Kernel5Ideal.Gen.inb_S128x512_S1x512_17_0
  packedbf16_S1024x512_S64x512_320_0 := @Cert.Kernel5Ideal.Gen.packedbf16_S1024x512_S64x512_320_0
  inb_S128x512_S1x512_18_0 := @Cert.Kernel5Ideal.Gen.inb_S128x512_S1x512_18_0
  inb_S1024x512_S64x512_384_0 := @Cert.Kernel5Ideal.Gen.inb_S1024x512_S64x512_384_0
  inb_S128x512_S1x512_19_0 := @Cert.Kernel5Ideal.Gen.inb_S128x512_S1x512_19_0
  inb_S128x512_S1x512_20_0 := @Cert.Kernel5Ideal.Gen.inb_S128x512_S1x512_20_0
  packedbf16_S1024x512_S64x512_384_0 := @Cert.Kernel5Ideal.Gen.packedbf16_S1024x512_S64x512_384_0
  inb_S128x512_S1x512_21_0 := @Cert.Kernel5Ideal.Gen.inb_S128x512_S1x512_21_0
  inb_S1024x512_S64x512_448_0 := @Cert.Kernel5Ideal.Gen.inb_S1024x512_S64x512_448_0
  inb_S128x512_S1x512_22_0 := @Cert.Kernel5Ideal.Gen.inb_S128x512_S1x512_22_0
  inb_S128x512_S1x512_23_0 := @Cert.Kernel5Ideal.Gen.inb_S128x512_S1x512_23_0
  packedbf16_S1024x512_S64x512_448_0 := @Cert.Kernel5Ideal.Gen.packedbf16_S1024x512_S64x512_448_0
  inb_S128x512_S1x512_24_0 := @Cert.Kernel5Ideal.Gen.inb_S128x512_S1x512_24_0
  inb_S1024x512_S64x512_512_0 := @Cert.Kernel5Ideal.Gen.inb_S1024x512_S64x512_512_0
  inb_S128x512_S1x512_25_0 := @Cert.Kernel5Ideal.Gen.inb_S128x512_S1x512_25_0
  inb_S128x512_S1x512_26_0 := @Cert.Kernel5Ideal.Gen.inb_S128x512_S1x512_26_0
  packedbf16_S1024x512_S64x512_512_0 := @Cert.Kernel5Ideal.Gen.packedbf16_S1024x512_S64x512_512_0
  inb_S128x512_S1x512_27_0 := @Cert.Kernel5Ideal.Gen.inb_S128x512_S1x512_27_0
  inb_S1024x512_S64x512_576_0 := @Cert.Kernel5Ideal.Gen.inb_S1024x512_S64x512_576_0
  inb_S128x512_S1x512_28_0 := @Cert.Kernel5Ideal.Gen.inb_S128x512_S1x512_28_0
  inb_S128x512_S1x512_29_0 := @Cert.Kernel5Ideal.Gen.inb_S128x512_S1x512_29_0
  packedbf16_S1024x512_S64x512_576_0 := @Cert.Kernel5Ideal.Gen.packedbf16_S1024x512_S64x512_576_0
  inb_S128x512_S1x512_30_0 := @Cert.Kernel5Ideal.Gen.inb_S128x512_S1x512_30_0
  inb_S1024x512_S64x512_640_0 := @Cert.Kernel5Ideal.Gen.inb_S1024x512_S64x512_640_0
  inb_S128x512_S1x512_31_0 := @Cert.Kernel5Ideal.Gen.inb_S128x512_S1x512_31_0
  inb_S128x512_S1x512_32_0 := @Cert.Kernel5Ideal.Gen.inb_S128x512_S1x512_32_0
  packedbf16_S1024x512_S64x512_640_0 := @Cert.Kernel5Ideal.Gen.packedbf16_S1024x512_S64x512_640_0
  inb_S128x512_S1x512_33_0 := @Cert.Kernel5Ideal.Gen.inb_S128x512_S1x512_33_0
  inb_S1024x512_S64x512_704_0 := @Cert.Kernel5Ideal.Gen.inb_S1024x512_S64x512_704_0
  inb_S128x512_S1x512_34_0 := @Cert.Kernel5Ideal.Gen.inb_S128x512_S1x512_34_0
  inb_S128x512_S1x512_35_0 := @Cert.Kernel5Ideal.Gen.inb_S128x512_S1x512_35_0
  packedbf16_S1024x512_S64x512_704_0 := @Cert.Kernel5Ideal.Gen.packedbf16_S1024x512_S64x512_704_0
  inb_S128x512_S1x512_36_0 := @Cert.Kernel5Ideal.Gen.inb_S128x512_S1x512_36_0
  inb_S1024x512_S64x512_768_0 := @Cert.Kernel5Ideal.Gen.inb_S1024x512_S64x512_768_0
  inb_S128x512_S1x512_37_0 := @Cert.Kernel5Ideal.Gen.inb_S128x512_S1x512_37_0
  inb_S128x512_S1x512_38_0 := @Cert.Kernel5Ideal.Gen.inb_S128x512_S1x512_38_0
  packedbf16_S1024x512_S64x512_768_0 := @Cert.Kernel5Ideal.Gen.packedbf16_S1024x512_S64x512_768_0
  inb_S128x512_S1x512_39_0 := @Cert.Kernel5Ideal.Gen.inb_S128x512_S1x512_39_0
  inb_S1024x512_S64x512_832_0 := @Cert.Kernel5Ideal.Gen.inb_S1024x512_S64x512_832_0
  inb_S128x512_S1x512_40_0 := @Cert.Kernel5Ideal.Gen.inb_S128x512_S1x512_40_0
  inb_S128x512_S1x512_41_0 := @Cert.Kernel5Ideal.Gen.inb_S128x512_S1x512_41_0
  packedbf16_S1024x512_S64x512_832_0 := @Cert.Kernel5Ideal.Gen.packedbf16_S1024x512_S64x512_832_0
  inb_S128x512_S1x512_42_0 := @Cert.Kernel5Ideal.Gen.inb_S128x512_S1x512_42_0
  inb_S1024x512_S64x512_896_0 := @Cert.Kernel5Ideal.Gen.inb_S1024x512_S64x512_896_0
  inb_S128x512_S1x512_43_0 := @Cert.Kernel5Ideal.Gen.inb_S128x512_S1x512_43_0
  inb_S128x512_S1x512_44_0 := @Cert.Kernel5Ideal.Gen.inb_S128x512_S1x512_44_0
  packedbf16_S1024x512_S64x512_896_0 := @Cert.Kernel5Ideal.Gen.packedbf16_S1024x512_S64x512_896_0
  inb_S128x512_S1x512_45_0 := @Cert.Kernel5Ideal.Gen.inb_S128x512_S1x512_45_0
  inb_S1024x512_S64x512_960_0 := @Cert.Kernel5Ideal.Gen.inb_S1024x512_S64x512_960_0
  inb_S128x512_S1x512_46_0 := @Cert.Kernel5Ideal.Gen.inb_S128x512_S1x512_46_0
  inb_S128x512_S1x512_47_0 := @Cert.Kernel5Ideal.Gen.inb_S128x512_S1x512_47_0
  packedbf16_S1024x512_S64x512_960_0 := @Cert.Kernel5Ideal.Gen.packedbf16_S1024x512_S64x512_960_0
  inb_S512x1024_S512x1024_0_0 := @Cert.Kernel5Ideal.Gen.inb_S512x1024_S512x1024_0_0
  h_S512x1024 := @Cert.Kernel5Ideal.Gen.h_S512x1024
  shapeCasts_S512x1024_S512x1024 := @Cert.Kernel5Ideal.Gen.shapeCasts_S512x1024_S512x1024
  inb_S1024x512_S1024x512_0_0 := @Cert.Kernel5Ideal.Gen.inb_S1024x512_S1024x512_0_0
  h_S1024x512 := @Cert.Kernel5Ideal.Gen.h_S1024x512
  inb_S1024x1024_S1024x1024_0_0 := @Cert.Kernel5Ideal.Gen.inb_S1024x1024_S1024x1024_0_0
  h_S1024x1024 := @Cert.Kernel5Ideal.Gen.h_S1024x1024
  shapeCasts_S1024x1024_S1024x1024 := @Cert.Kernel5Ideal.Gen.shapeCasts_S1024x1024_S1024x1024
  dot_S1024x512_S1024x1024_S512x1024_0_0_1_1_n_n_wf := @Cert.Kernel5Ideal.Gen.dot_S1024x512_S1024x1024_S512x1024_0_0_1_1_n_n_wf
  hrank0 := @Cert.Kernel5Ideal.Gen.hrank0
  hstage0_0 := @Cert.Kernel5Ideal.Gen.hstage0_0
  nbuf0_0 := @Cert.Kernel5Ideal.Gen.nbuf0_0
  hreads0_0 := @Cert.Kernel5Ideal.Gen.hreads0_0
  hinb0_0 := @Cert.Kernel5Ideal.Gen.hinb0_0
  hwx0_0 := @Cert.Kernel5Ideal.Gen.hwx0_0
  hstage0_1 := @Cert.Kernel5Ideal.Gen.hstage0_1
  nbuf0_1 := @Cert.Kernel5Ideal.Gen.nbuf0_1
  hreads0_1 := @Cert.Kernel5Ideal.Gen.hreads0_1
  hinb0_1 := @Cert.Kernel5Ideal.Gen.hinb0_1
  hwx0_1 := @Cert.Kernel5Ideal.Gen.hwx0_1
  hstage0_2 := @Cert.Kernel5Ideal.Gen.hstage0_2
  nbuf0_2 := @Cert.Kernel5Ideal.Gen.nbuf0_2
  hreads0_2 := @Cert.Kernel5Ideal.Gen.hreads0_2
  hinb0_2 := @Cert.Kernel5Ideal.Gen.hinb0_2
  hwx0_2 := @Cert.Kernel5Ideal.Gen.hwx0_2
  hstage0_3 := @Cert.Kernel5Ideal.Gen.hstage0_3
  nbuf0_3 := @Cert.Kernel5Ideal.Gen.nbuf0_3
  hreads0_3 := @Cert.Kernel5Ideal.Gen.hreads0_3
  hinb0_3 := @Cert.Kernel5Ideal.Gen.hinb0_3
  hwx0_3 := @Cert.Kernel5Ideal.Gen.hwx0_3
  hstage0_4 := @Cert.Kernel5Ideal.Gen.hstage0_4
  nbuf0_4 := @Cert.Kernel5Ideal.Gen.nbuf0_4
  hreads0_4 := @Cert.Kernel5Ideal.Gen.hreads0_4
  hinb0_4 := @Cert.Kernel5Ideal.Gen.hinb0_4
  hwx0_4 := @Cert.Kernel5Ideal.Gen.hwx0_4
  hstage0_5 := @Cert.Kernel5Ideal.Gen.hstage0_5
  nbuf0_5 := @Cert.Kernel5Ideal.Gen.nbuf0_5
  hreads0_5 := @Cert.Kernel5Ideal.Gen.hreads0_5
  hinb0_5 := @Cert.Kernel5Ideal.Gen.hinb0_5
  hwx0_5 := @Cert.Kernel5Ideal.Gen.hwx0_5
  hstage0_6 := @Cert.Kernel5Ideal.Gen.hstage0_6
  nbuf0_6 := @Cert.Kernel5Ideal.Gen.nbuf0_6
  hreads0_6 := @Cert.Kernel5Ideal.Gen.hreads0_6
  hinb0_6 := @Cert.Kernel5Ideal.Gen.hinb0_6
  hwx0_6 := @Cert.Kernel5Ideal.Gen.hwx0_6

theorem facts : Cert.Kernel5.Facts :=
  @Cert.Kernel5.Facts.mk facts₀

/-- Both programs run the same bodies. -/
theorem bodies_eq [Cert.Kernel5.Facts] : Cert.Kernel5.defs₀ (F := Bits) = Cert.Kernel5Ideal.defs₀ (F := Bits) := by
  unfold Cert.Kernel5.defs₀ Cert.Kernel5Ideal.defs₀
  congr 1
  funext l x
  match l, x with
  | ⟨0, _⟩, ⟨t, s⟩ => rfl

theorem defs_eq [Cert.Kernel5.Facts] : Cert.Kernel5.defs (F := Bits) = Cert.Kernel5Ideal.defs (F := Bits) :=
  congrArg (Pipeline.defs (Cert.Kernel5Ideal.pcfgs (F := Bits))) bodies_eq

/-- The call as run. -/
theorem frame_kernel : Cert.quiescent_Kernel5 (hKernel5 := facts) := by
  haveI := facts
  intro m g _
  rw [defs_eq]
  exact Cert.Kernel5Ideal.Gen.frame (F := Bits) m g

/-- The call over extended reals. -/
theorem frame_kernelIdeal : Cert.quiescent_Kernel5Ideal (hKernel5Ideal := Cert.Kernel5Ideal.Gen.facts) :=
  fun m g _ => Cert.Kernel5Ideal.Gen.frame m g

/-- The reference, which declares no semaphore. -/
theorem frame_reference : Cert.quiescent_Reference5Ideal (hReference5Ideal := Cert.Reference5Ideal.Gen.facts) := fun m g _ =>
  (θ_run _ _ _).mono (fun r h => ⟨fun c => (h c).2, sem_eq_zero_of_no_sems (by decide) r.2⟩)
    (Cert.Reference5Ideal.Value.run (F := Ideal) m g)

end Cert.SparseOut

end
-- ==== Proof.Mix.Heads.lean ====
/- The sparse-attention output kernel: the three branches of a head mixed by their gates, head after head. -/
module

public import proofs.«01_k».proof.Defs
public import proofs.«01_k».proof.Proof.Gen.Kernel5Ideal.Value
public import Idealize.ShloMosaic.Lib.Pipeline.Covers
public import Idealize.ShloMosaic.Lib.Pipeline.ReadBack
public import Idealize.ShloMosaic.Lib.Pipeline.ValueKit
public import Idealize.ShloMosaic.Lib.Claim
public import Idealize.ShloMosaic.Lib.Pointwise

@[expose] public section

set_option maxRecDepth 131072
set_option maxHeartbeats 2000000

noncomputable section

namespace Cert.SparseOut

open Cert.Kernel5Ideal Cert.Kernel5Ideal.Gen Idealize.ShloMosaic Idealize.ShloMosaic.TcCoe Idealize.SL.Sem
open scoped BigOperators

/-- Row `k` of the mixed branches: row `k` belongs to head `k / 64`, whose three gates are consecutive rows of the gates. -/
def mixed (a b d : Vec Ideal S1024x512 .bf16) (g : Vec Ideal S128x512 .f32) (k : Fin 1024) (j : Fin 512) : EReal :=
  g (ix2 ⟨3 * (k.val / 64), by omega⟩ j) * a (ix2 k j) + g (ix2 ⟨3 * (k.val / 64) + 1, by omega⟩ j) * b (ix2 k j)
    + g (ix2 ⟨3 * (k.val / 64) + 2, by omega⟩ j) * d (ix2 k j)

/-- A block of one head's mixture, from its three gates and three branches. -/
def mix3 (A C E : Vec Ideal S1x512 .f32) (B D F : Vec Ideal S64x512 .bf16) (i : Fin 64) (j : Fin 512) : EReal :=
  A (ix2 0 j) * B (ix2 i j) + C (ix2 0 j) * D (ix2 i j) + E (ix2 0 j) * F (ix2 i j)

section heads

variable (A C E : Vec Ideal S1x512 .f32) (B D F : Vec Ideal S64x512 .bf16) (i : Fin 64) (j : Fin 512)

theorem head0_apply : k0_pay3 A B C D E F (ix2 i j) = mix3 A C E B D F i j := by
  pointwise [k0_pay3]
  rfl

theorem head1_apply : k0_pay6 (k0_pay4 A B) (k0_pay5 C D) E F (ix2 i j) = mix3 A C E B D F i j := by
  pointwise [k0_pay4, k0_pay5, k0_pay6]
  rfl

theorem head2_apply : k0_pay7 A B C D E F (ix2 i j) = mix3 A C E B D F i j := by
  pointwise [k0_pay7]
  rfl

theorem head3_apply : k0_pay8 A B C D E F (ix2 i j) = mix3 A C E B D F i j := by
  pointwise [k0_pay8]
  rfl

theorem head4_apply : k0_pay10 (k0_pay9 A B C D) E F (ix2 i j) = mix3 A C E B D F i j := by
  pointwise [k0_pay10, k0_pay9]
  rfl

theorem head5_apply : k0_pay11 A B C D E F (ix2 i j) = mix3 A C E B D F i j := by
  pointwise [k0_pay11]
  rfl

theorem head6_apply : k0_pay12 A B C D E F (ix2 i j) = mix3 A C E B D F i j := by
  pointwise [k0_pay12]
  rfl

theorem head7_apply : k0_pay14 (k0_pay13 A B C D) E F (ix2 i j) = mix3 A C E B D F i j := by
  pointwise [k0_pay13, k0_pay14]
  rfl

theorem head8_apply : k0_pay15 A B C D E F (ix2 i j) = mix3 A C E B D F i j := by
  pointwise [k0_pay15]
  rfl

theorem head9_apply : k0_pay17 A (k0_pay16 B) C D E F (ix2 i j) = mix3 A C E B D F i j := by
  pointwise [k0_pay16, k0_pay17]
  rfl

theorem head10_apply : k0_pay20 (k0_pay18 A B C D) E (k0_pay19 F) (ix2 i j) = mix3 A C E B D F i j := by
  pointwise [k0_pay18, k0_pay19, k0_pay20]
  rfl

theorem head11_apply : k0_pay21 A B C D E F (ix2 i j) = mix3 A C E B D F i j := by
  pointwise [k0_pay21]
  rfl

theorem head12_apply : k0_pay23 (k0_pay22 A B) C D E F (ix2 i j) = mix3 A C E B D F i j := by
  pointwise [k0_pay22, k0_pay23]
  rfl

theorem head13_apply : k0_pay25 (k0_pay24 A B C D E F) (ix2 i j) = mix3 A C E B D F i j := by
  pointwise [k0_pay24, k0_pay25]
  rfl

theorem head14_apply : k0_pay26 A B C D E F (ix2 i j) = mix3 A C E B D F i j := by
  pointwise [k0_pay26]
  rfl

theorem head15_apply : k0_pay1 (k0_pay27 A B) C D E F (ix2 i j) = mix3 A C E B D F i j := by
  pointwise [k0_pay1, k0_pay27]
  rfl

end heads

/-- The three gates of head `n` and rows `64 n …` of the branches mix to those rows of the mixture. -/
theorem mix3_eq (a b d : Vec Ideal S1024x512 .bf16) (g : Vec Ideal S128x512 .f32) (n o o0 o1 o2 : Nat) (hn : n < 16) (ho : o = 64 * n)
    (h0 : o0 = 3 * n) (h1 : o1 = 3 * n + 1) (h2 : o2 = 3 * n + 2)
    (i0 : ∀ k, (![o0, 0] : Fin 2 → Nat) k + (![1, 512] : Fin 2 → Nat) k ≤ S128x512.size k)
    (i1 : ∀ k, (![o1, 0] : Fin 2 → Nat) k + (![1, 512] : Fin 2 → Nat) k ≤ S128x512.size k)
    (i2 : ∀ k, (![o2, 0] : Fin 2 → Nat) k + (![1, 512] : Fin 2 → Nat) k ≤ S128x512.size k)
    (io : ∀ k, (![o, 0] : Fin 2 → Nat) k + (![64, 512] : Fin 2 → Nat) k ≤ S1024x512.size k)
    (i : Fin 64) (j : Fin 512) :
    mix3 (View.ld g (Rect.unit ![o0, 0] ![1, 512] i0)) (View.ld g (Rect.unit ![o1, 0] ![1, 512] i1))
        (View.ld g (Rect.unit ![o2, 0] ![1, 512] i2)) (View.ld a (Rect.unit ![o, 0] ![64, 512] io))
        (View.ld b (Rect.unit ![o, 0] ![64, 512] io)) (View.ld d (Rect.unit ![o, 0] ![64, 512] io)) i j
      = mixed a b d g ((Rect.unit (s := S1024x512) ![o, 0] ![64, 512] io).emb (ix2 i j) 0)
          ((Rect.unit (s := S1024x512) ![o, 0] ![64, 512] io).emb (ix2 i j) 1) := by
  subst ho h0 h1 h2
  have e0 : (Rect.unit (s := S1024x512) ![64 * n, 0] ![64, 512] io).emb (ix2 i j) 0 = (⟨64 * n + i.val, by omega⟩ : Fin 1024) :=
    Fin.ext (by show 64 * n + 1 * i.val = 64 * n + i.val; omega)
  have e1 : (Rect.unit (s := S1024x512) ![64 * n, 0] ![64, 512] io).emb (ix2 i j) 1 = j :=
    Fin.ext (by show 0 + 1 * j.val = j.val; omega)
  have hd : (64 * n + i.val) / 64 = n := by omega
  rw [e0, e1]
  unfold mix3 mixed
  have gate : ∀ (q : Nat) (hq : q < 128) (iq : ∀ k, (![q, 0] : Fin 2 → Nat) k + (![1, 512] : Fin 2 → Nat) k ≤ S128x512.size k),
      View.ld g (Rect.unit (s := S128x512) ![q, 0] ![1, 512] iq) (ix2 0 j) = g (ix2 ⟨q, hq⟩ j) := by
    intro q hq iq
    refine View.ld_unit_apply_of _ _ _ _ _ _ fun k => ?_
    · fin_cases k
      · rfl
      · show j.val = 0 + j.val; omega
  have branch : ∀ (x : Vec Ideal S1024x512 .bf16),
      View.ld x (Rect.unit (s := S1024x512) ![64 * n, 0] ![64, 512] io) (ix2 i j) = x (ix2 ⟨64 * n + i.val, by omega⟩ j) := by
    intro x
    refine View.ld_unit_apply_of _ _ _ _ _ _ fun k => ?_
    · fin_cases k
      · rfl
      · show j.val = 0 + j.val; omega
  have g0 : (⟨3 * n, by omega⟩ : Fin 128) = ⟨3 * ((64 * n + i.val) / 64), by omega⟩ := Fin.ext (by show 3 * n = 3 * ((64 * n + i.val) / 64); omega)
  have g1 : (⟨3 * n + 1, by omega⟩ : Fin 128) = ⟨3 * ((64 * n + i.val) / 64) + 1, by omega⟩ := Fin.ext (by show 3 * n + 1 = 3 * ((64 * n + i.val) / 64) + 1; omega)
  have g2 : (⟨3 * n + 2, by omega⟩ : Fin 128) = ⟨3 * ((64 * n + i.val) / 64) + 2, by omega⟩ := Fin.ext (by show 3 * n + 2 = 3 * ((64 * n + i.val) / 64) + 2; omega)
  rw [gate _ (by omega), gate _ (by omega), gate _ (by omega), branch, branch, branch, g0, g1, g2]

/-- The pieces a grid point stores, the last head first. -/
def pieces (a b d : Vec Ideal S1024x512 .bf16) (g : Vec Ideal S128x512 .f32) : List (View.Piece (Elt Ideal) S1024x512 .bf16) :=
  [⟨Rect.unit ![960, 0] ![64, 512] inb_S1024x512_S64x512_960_0,
      k0_pay1 (k0_pay27 (View.ld g (Rect.unit ![45, 0] ![1, 512] inb_S128x512_S1x512_45_0)) (View.ld a (Rect.unit ![960, 0] ![64, 512] inb_S1024x512_S64x512_960_0))) (View.ld g (Rect.unit ![46, 0] ![1, 512] inb_S128x512_S1x512_46_0)) (View.ld b (Rect.unit ![960, 0] ![64, 512] inb_S1024x512_S64x512_960_0)) (View.ld g (Rect.unit ![47, 0] ![1, 512] inb_S128x512_S1x512_47_0)) (View.ld d (Rect.unit ![960, 0] ![64, 512] inb_S1024x512_S64x512_960_0))⟩,
    ⟨Rect.unit ![896, 0] ![64, 512] inb_S1024x512_S64x512_896_0,
      k0_pay26 (View.ld g (Rect.unit ![42, 0] ![1, 512] inb_S128x512_S1x512_42_0)) (View.ld a (Rect.unit ![896, 0] ![64, 512] inb_S1024x512_S64x512_896_0)) (View.ld g (Rect.unit ![43, 0] ![1, 512] inb_S128x512_S1x512_43_0)) (View.ld b (Rect.unit ![896, 0] ![64, 512] inb_S1024x512_S64x512_896_0)) (View.ld g (Rect.unit ![44, 0] ![1, 512] inb_S128x512_S1x512_44_0)) (View.ld d (Rect.unit ![896, 0] ![64, 512] inb_S1024x512_S64x512_896_0))⟩,
    ⟨Rect.unit ![832, 0] ![64, 512] inb_S1024x512_S64x512_832_0,
      k0_pay25 (k0_pay24 (View.ld g (Rect.unit ![39, 0] ![1, 512] inb_S128x512_S1x512_39_0)) (View.ld a (Rect.unit ![832, 0] ![64, 512] inb_S1024x512_S64x512_832_0)) (View.ld g (Rect.unit ![40, 0] ![1, 512] inb_S128x512_S1x512_40_0)) (View.ld b (Rect.unit ![832, 0] ![64, 512] inb_S1024x512_S64x512_832_0)) (View.ld g (Rect.unit ![41, 0] ![1, 512] inb_S128x512_S1x512_41_0)) (View.ld d (Rect.unit ![832, 0] ![64, 512] inb_S1024x512_S64x512_832_0)))⟩,
    ⟨Rect.unit ![768, 0] ![64, 512] inb_S1024x512_S64x512_768_0,
      k0_pay23 (k0_pay22 (View.ld g (Rect.unit ![36, 0] ![1, 512] inb_S128x512_S1x512_36_0)) (View.ld a (Rect.unit ![768, 0] ![64, 512] inb_S1024x512_S64x512_768_0))) (View.ld g (Rect.unit ![37, 0] ![1, 512] inb_S128x512_S1x512_37_0)) (View.ld b (Rect.unit ![768, 0] ![64, 512] inb_S1024x512_S64x512_768_0)) (View.ld g (Rect.unit ![38, 0] ![1, 512] inb_S128x512_S1x512_38_0)) (View.ld d (Rect.unit ![768, 0] ![64, 512] inb_S1024x512_S64x512_768_0))⟩,
    ⟨Rect.unit ![704, 0] ![64, 512] inb_S1024x512_S64x512_704_0,
      k0_pay21 (View.ld g (Rect.unit ![33, 0] ![1, 512] inb_S128x512_S1x512_33_0)) (View.ld a (Rect.unit ![704, 0] ![64, 512] inb_S1024x512_S64x512_704_0)) (View.ld g (Rect.unit ![34, 0] ![1, 512] inb_S128x512_S1x512_34_0)) (View.ld b (Rect.unit ![704, 0] ![64, 512] inb_S1024x512_S64x512_704_0)) (View.ld g (Rect.unit ![35, 0] ![1, 512] inb_S128x512_S1x512_35_0)) (View.ld d (Rect.unit ![704, 0] ![64, 512] inb_S1024x512_S64x512_704_0))⟩,
    ⟨Rect.unit ![640, 0] ![64, 512] inb_S1024x512_S64x512_640_0,
      k0_pay20 (k0_pay18 (View.ld g (Rect.unit ![30, 0] ![1, 512] inb_S128x512_S1x512_30_0)) (View.ld a (Rect.unit ![640, 0] ![64, 512] inb_S1024x512_S64x512_640_0)) (View.ld g (Rect.unit ![31, 0] ![1, 512] inb_S128x512_S1x512_31_0)) (View.ld b (Rect.unit ![640, 0] ![64, 512] inb_S1024x512_S64x512_640_0))) (View.ld g (Rect.unit ![32, 0] ![1, 512] inb_S128x512_S1x512_32_0)) (k0_pay19 (View.ld d (Rect.unit ![640, 0] ![64, 512] inb_S1024x512_S64x512_640_0)))⟩,
    ⟨Rect.unit ![576, 0] ![64, 512] inb_S1024x512_S64x512_576_0,
      k0_pay17 (View.ld g (Rect.unit ![27, 0] ![1, 512] inb_S128x512_S1x512_27_0)) (k0_pay16 (View.ld a (Rect.unit ![576, 0] ![64, 512] inb_S1024x512_S64x512_576_0))) (View.ld g (Rect.unit ![28, 0] ![1, 512] inb_S128x512_S1x512_28_0)) (View.ld b (Rect.unit ![576, 0] ![64, 512] inb_S1024x512_S64x512_576_0)) (View.ld g (Rect.unit ![29, 0] ![1, 512] inb_S128x512_S1x512_29_0)) (View.ld d (Rect.unit ![576, 0] ![64, 512] inb_S1024x512_S64x512_576_0))⟩,
    ⟨Rect.unit ![512, 0] ![64, 512] inb_S1024x512_S64x512_512_0,
      k0_pay15 (View.ld g (Rect.unit ![24, 0] ![1, 512] inb_S128x512_S1x512_24_0)) (View.ld a (Rect.unit ![512, 0] ![64, 512] inb_S1024x512_S64x512_512_0)) (View.ld g (Rect.unit ![25, 0] ![1, 512] inb_S128x512_S1x512_25_0)) (View.ld b (Rect.unit ![512, 0] ![64, 512] inb_S1024x512_S64x512_512_0)) (View.ld g (Rect.unit ![26, 0] ![1, 512] inb_S128x512_S1x512_26_0)) (View.ld d (Rect.unit ![512, 0] ![64, 512] inb_S1024x512_S64x512_512_0))⟩,
    ⟨Rect.unit ![448, 0] ![64, 512] inb_S1024x512_S64x512_448_0,
      k0_pay14 (k0_pay13 (View.ld g (Rect.unit ![21, 0] ![1, 512] inb_S128x512_S1x512_21_0)) (View.ld a (Rect.unit ![448, 0] ![64, 512] inb_S1024x512_S64x512_448_0)) (View.ld g (Rect.unit ![22, 0] ![1, 512] inb_S128x512_S1x512_22_0)) (View.ld b (Rect.unit ![448, 0] ![64, 512] inb_S1024x512_S64x512_448_0))) (View.ld g (Rect.unit ![23, 0] ![1, 512] inb_S128x512_S1x512_23_0)) (View.ld d (Rect.unit ![448, 0] ![64, 512] inb_S1024x512_S64x512_448_0))⟩,
    ⟨Rect.unit ![384, 0] ![64, 512] inb_S1024x512_S64x512_384_0,
      k0_pay12 (View.ld g (Rect.unit ![18, 0] ![1, 512] inb_S128x512_S1x512_18_0)) (View.ld a (Rect.unit ![384, 0] ![64, 512] inb_S1024x512_S64x512_384_0)) (View.ld g (Rect.unit ![19, 0] ![1, 512] inb_S128x512_S1x512_19_0)) (View.ld b (Rect.unit ![384, 0] ![64, 512] inb_S1024x512_S64x512_384_0)) (View.ld g (Rect.unit ![20, 0] ![1, 512] inb_S128x512_S1x512_20_0)) (View.ld d (Rect.unit ![384, 0] ![64, 512] inb_S1024x512_S64x512_384_0))⟩,
    ⟨Rect.unit ![320, 0] ![64, 512] inb_S1024x512_S64x512_320_0,
      k0_pay11 (View.ld g (Rect.unit ![15, 0] ![1, 512] inb_S128x512_S1x512_15_0)) (View.ld a (Rect.unit ![320, 0] ![64, 512] inb_S1024x512_S64x512_320_0)) (View.ld g (Rect.unit ![16, 0] ![1, 512] inb_S128x512_S1x512_16_0)) (View.ld b (Rect.unit ![320, 0] ![64, 512] inb_S1024x512_S64x512_320_0)) (View.ld g (Rect.unit ![17, 0] ![1, 512] inb_S128x512_S1x512_17_0)) (View.ld d (Rect.unit ![320, 0] ![64, 512] inb_S1024x512_S64x512_320_0))⟩,
    ⟨Rect.unit ![256, 0] ![64, 512] inb_S1024x512_S64x512_256_0,
      k0_pay10 (k0_pay9 (View.ld g (Rect.unit ![12, 0] ![1, 512] inb_S128x512_S1x512_12_0)) (View.ld a (Rect.unit ![256, 0] ![64, 512] inb_S1024x512_S64x512_256_0)) (View.ld g (Rect.unit ![13, 0] ![1, 512] inb_S128x512_S1x512_13_0)) (View.ld b (Rect.unit ![256, 0] ![64, 512] inb_S1024x512_S64x512_256_0))) (View.ld g (Rect.unit ![14, 0] ![1, 512] inb_S128x512_S1x512_14_0)) (View.ld d (Rect.unit ![256, 0] ![64, 512] inb_S1024x512_S64x512_256_0))⟩,
    ⟨Rect.unit ![192, 0] ![64, 512] inb_S1024x512_S64x512_192_0,
      k0_pay8 (View.ld g (Rect.unit ![9, 0] ![1, 512] inb_S128x512_S1x512_9_0)) (View.ld a (Rect.unit ![192, 0] ![64, 512] inb_S1024x512_S64x512_192_0)) (View.ld g (Rect.unit ![10, 0] ![1, 512] inb_S128x512_S1x512_10_0)) (View.ld b (Rect.unit ![192, 0] ![64, 512] inb_S1024x512_S64x512_192_0)) (View.ld g (Rect.unit ![11, 0] ![1, 512] inb_S128x512_S1x512_11_0)) (View.ld d (Rect.unit ![192, 0] ![64, 512] inb_S1024x512_S64x512_192_0))⟩,
    ⟨Rect.unit ![128, 0] ![64, 512] inb_S1024x512_S64x512_128_0,
      k0_pay7 (View.ld g (Rect.unit ![6, 0] ![1, 512] inb_S128x512_S1x512_6_0)) (View.ld a (Rect.unit ![128, 0] ![64, 512] inb_S1024x512_S64x512_128_0)) (View.ld g (Rect.unit ![7, 0] ![1, 512] inb_S128x512_S1x512_7_0)) (View.ld b (Rect.unit ![128, 0] ![64, 512] inb_S1024x512_S64x512_128_0)) (View.ld g (Rect.unit ![8, 0] ![1, 512] inb_S128x512_S1x512_8_0)) (View.ld d (Rect.unit ![128, 0] ![64, 512] inb_S1024x512_S64x512_128_0))⟩,
    ⟨Rect.unit ![64, 0] ![64, 512] inb_S1024x512_S64x512_64_0,
      k0_pay6 (k0_pay4 (View.ld g (Rect.unit ![3, 0] ![1, 512] inb_S128x512_S1x512_3_0)) (View.ld a (Rect.unit ![64, 0] ![64, 512] inb_S1024x512_S64x512_64_0))) (k0_pay5 (View.ld g (Rect.unit ![4, 0] ![1, 512] inb_S128x512_S1x512_4_0)) (View.ld b (Rect.unit ![64, 0] ![64, 512] inb_S1024x512_S64x512_64_0))) (View.ld g (Rect.unit ![5, 0] ![1, 512] inb_S128x512_S1x512_5_0)) (View.ld d (Rect.unit ![64, 0] ![64, 512] inb_S1024x512_S64x512_64_0))⟩,
    ⟨Rect.unit ![0, 0] ![64, 512] inb_S1024x512_S64x512_0_0,
      k0_pay3 (View.ld g (Rect.unit ![0, 0] ![1, 512] inb_S128x512_S1x512_0_0)) (View.ld a (Rect.unit ![0, 0] ![64, 512] inb_S1024x512_S64x512_0_0)) (View.ld g (Rect.unit ![1, 0] ![1, 512] inb_S128x512_S1x512_1_0)) (View.ld b (Rect.unit ![0, 0] ![64, 512] inb_S1024x512_S64x512_0_0)) (View.ld g (Rect.unit ![2, 0] ![1, 512] inb_S128x512_S1x512_2_0)) (View.ld d (Rect.unit ![0, 0] ![64, 512] inb_S1024x512_S64x512_0_0))⟩]

/-- An index of a block with 64 rows. -/
theorem block_index (x : S64x512.Idx) : ∃ (i : Fin 64) (j : Fin 512), x = ix2 i j :=
  ⟨x 0, x 1, by funext k; fin_cases k <;> rfl⟩

/-- Every piece is a block of the mixture. -/
theorem pieces_of (a b d : Vec Ideal S1024x512 .bf16) (g : Vec Ideal S128x512 .f32) :
    View.PiecesOf (Val := Elt Ideal) (s := S1024x512) (e := .bf16) (fun y => show EReal from mixed a b d g (y 0) (y 1)) (pieces a b d g) := by
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · obtain ⟨i, j, rfl⟩ := block_index x
    exact (head15_apply _ _ _ _ _ _ i j).trans
      (mix3_eq a b d g 15 960 45 46 47 (by norm_num) rfl rfl rfl rfl _ _ _ _ i j)
  · obtain ⟨i, j, rfl⟩ := block_index x
    exact (head14_apply _ _ _ _ _ _ i j).trans
      (mix3_eq a b d g 14 896 42 43 44 (by norm_num) rfl rfl rfl rfl _ _ _ _ i j)
  · obtain ⟨i, j, rfl⟩ := block_index x
    exact (head13_apply _ _ _ _ _ _ i j).trans
      (mix3_eq a b d g 13 832 39 40 41 (by norm_num) rfl rfl rfl rfl _ _ _ _ i j)
  · obtain ⟨i, j, rfl⟩ := block_index x
    exact (head12_apply _ _ _ _ _ _ i j).trans
      (mix3_eq a b d g 12 768 36 37 38 (by norm_num) rfl rfl rfl rfl _ _ _ _ i j)
  · obtain ⟨i, j, rfl⟩ := block_index x
    exact (head11_apply _ _ _ _ _ _ i j).trans
      (mix3_eq a b d g 11 704 33 34 35 (by norm_num) rfl rfl rfl rfl _ _ _ _ i j)
  · obtain ⟨i, j, rfl⟩ := block_index x
    exact (head10_apply _ _ _ _ _ _ i j).trans
      (mix3_eq a b d g 10 640 30 31 32 (by norm_num) rfl rfl rfl rfl _ _ _ _ i j)
  · obtain ⟨i, j, rfl⟩ := block_index x
    exact (head9_apply _ _ _ _ _ _ i j).trans
      (mix3_eq a b d g 9 576 27 28 29 (by norm_num) rfl rfl rfl rfl _ _ _ _ i j)
  · obtain ⟨i, j, rfl⟩ := block_index x
    exact (head8_apply _ _ _ _ _ _ i j).trans
      (mix3_eq a b d g 8 512 24 25 26 (by norm_num) rfl rfl rfl rfl _ _ _ _ i j)
  · obtain ⟨i, j, rfl⟩ := block_index x
    exact (head7_apply _ _ _ _ _ _ i j).trans
      (mix3_eq a b d g 7 448 21 22 23 (by norm_num) rfl rfl rfl rfl _ _ _ _ i j)
  · obtain ⟨i, j, rfl⟩ := block_index x
    exact (head6_apply _ _ _ _ _ _ i j).trans
      (mix3_eq a b d g 6 384 18 19 20 (by norm_num) rfl rfl rfl rfl _ _ _ _ i j)
  · obtain ⟨i, j, rfl⟩ := block_index x
    exact (head5_apply _ _ _ _ _ _ i j).trans
      (mix3_eq a b d g 5 320 15 16 17 (by norm_num) rfl rfl rfl rfl _ _ _ _ i j)
  · obtain ⟨i, j, rfl⟩ := block_index x
    exact (head4_apply _ _ _ _ _ _ i j).trans
      (mix3_eq a b d g 4 256 12 13 14 (by norm_num) rfl rfl rfl rfl _ _ _ _ i j)
  · obtain ⟨i, j, rfl⟩ := block_index x
    exact (head3_apply _ _ _ _ _ _ i j).trans
      (mix3_eq a b d g 3 192 9 10 11 (by norm_num) rfl rfl rfl rfl _ _ _ _ i j)
  · obtain ⟨i, j, rfl⟩ := block_index x
    exact (head2_apply _ _ _ _ _ _ i j).trans
      (mix3_eq a b d g 2 128 6 7 8 (by norm_num) rfl rfl rfl rfl _ _ _ _ i j)
  · obtain ⟨i, j, rfl⟩ := block_index x
    exact (head1_apply _ _ _ _ _ _ i j).trans
      (mix3_eq a b d g 1 64 3 4 5 (by norm_num) rfl rfl rfl rfl _ _ _ _ i j)
  · obtain ⟨i, j, rfl⟩ := block_index x
    exact (head0_apply _ _ _ _ _ _ i j).trans
      (mix3_eq a b d g 0 0 0 1 2 (by norm_num) rfl rfl rfl rfl _ _ _ _ i j)

/-- The pieces together are the mixture. -/
theorem pieces_apply (a b d : Vec Ideal S1024x512 .bf16) (g : Vec Ideal S128x512 .f32) (k : Fin 1024) (j : Fin 512) :
    View.canon (pieces a b d g) (ix2 k j) = mixed a b d g k j :=
  View.canon_apply_of_pieces (Val := Elt Ideal) (S := S1024x512) (e := .bf16) (fun y => show EReal from mixed a b d g (y 0) (y 1))
    _ (pieces_of a b d g).mem (ix2 k j)
    (View.cover_of_tiledL (pieces a b d g) S64x512.size (by sl_kernel_rfl) (ix2 k j))

theorem pay2_apply (x : Vec Ideal S512x1024 .f32) (o : Vec Ideal S1024x512 .bf16) (w : Vec Ideal S1024x1024 .bf16)
    (j : Fin 512) (e : Fin 1024) :
    k0_pay2 x o w (ix2 j e) = x (ix2 j e) + ∑ k : Fin 1024, o (ix2 k j) * w (ix2 k e) := by
  pointwise [k0_pay2]

/-- A stored entry: the residual and the mixture's product with the weights. -/
def stored (x : Vec Ideal S512x1024 .f32) (a b d : Vec Ideal S1024x512 .bf16) (g : Vec Ideal S128x512 .f32)
    (w : Vec Ideal S1024x1024 .bf16) (j : Fin 512) (e : Fin 1024) : EReal :=
  x (ix2 j e) + ∑ k : Fin 1024, mixed a b d g k j * w (ix2 k e)

variable (m : (ℓ : Loc nD τ sig) → Buf (Elt Ideal) ℓ)

/-- What a grid point leaves in the output. -/
theorem outs_apply (c : Dev nD) (t : Fin cfg0.N) (j : Fin 512) (e : Fin 1024) :
    outsAt0 m c t (ix2 j e) = stored (iblk m c 0 t) (iblk m c 1 t) (iblk m c 2 t) (iblk m c 3 t) (iblk m c 4 t) (iblk m c 5 t) j e := by
  unfold outsAt0
  frame_out
  rw [pay2_apply, View.readCov_eq_canon']
  refine congrArg _ (Finset.sum_congr rfl fun k _ => ?_)
  have h : (Rect.unit (s := S1024x512) ![0, 0] ![1024, 512] inb_S1024x512_S1024x512_0_0).toLoadRect.idx (ix2 k j) = ix2 k j := by
    funext a
    apply Fin.ext
    fin_cases a
    · show 0 + 1 * k.val = k.val; omega
    · show 0 + 1 * j.val = j.val; omega
  rw [← pieces_apply]
  exact congrArg (· * (show Vec Ideal S1024x1024 .bf16 from iblk m c 5 t) (ix2 k e))
    (congrArg (View.canon (pieces (iblk m c 1 t) (iblk m c 2 t) (iblk m c 3 t) (iblk m c 4 t))) h)

end Cert.SparseOut

end
-- ==== Proof.Mix.Output.lean ====
/- The sparse-attention output projection: every position's gated branches times the weights, added to the residual. -/
module

public import proofs.«01_k».proof.Defs
public import proofs.«01_k».proof.Proof.Mix.Heads
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.Covers
public import Idealize.ShloMosaic.Lib.Pipeline.ValueKit
public import Idealize.ShloMosaic.Lib.Claim
public import Idealize.ShloMosaic.Lib.Pointwise

@[expose] public section

set_option maxRecDepth 131072
set_option maxHeartbeats 2000000

noncomputable section

namespace Cert.SparseOut

open Cert.Kernel5Ideal Cert.Kernel5Ideal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Channel `k` of a branch at position `r`, `r` counting the positions of all sequences. -/
def channel (o : S8x2048x4x4x64.Idx → EReal) (r : Fin 16384) (k : Fin 1024) : EReal :=
  o (ix5 ⟨r.val / 2048, by omega⟩ ⟨r.val % 2048, by omega⟩ ⟨k.val / 256, by omega⟩ ⟨k.val / 64 % 4, by omega⟩ ⟨k.val % 64, by omega⟩)

/-- Channel `k` of the three branches mixed by the gates of its head. -/
def gated (a b d : S8x2048x4x4x64.Idx → EReal) (g : S128x16384.Idx → EReal) (r : Fin 16384) (k : Fin 1024) : EReal :=
  g (ix2 ⟨3 * (k.val / 64), by omega⟩ r) * channel a r k + g (ix2 ⟨3 * (k.val / 64) + 1, by omega⟩ r) * channel b r k
    + g (ix2 ⟨3 * (k.val / 64) + 2, by omega⟩ r) * channel d r k

/-- Entry `(r, e)` of the projection. -/
def projected (x : S8x2048x1024.Idx → EReal) (a b d : S8x2048x4x4x64.Idx → EReal) (g : S128x16384.Idx → EReal)
    (w : S1x1024x1024.Idx → EReal) (r : Fin 16384) (e : Fin 1024) : EReal :=
  x (ix3 ⟨r.val / 2048, by omega⟩ ⟨r.val % 2048, by omega⟩ e) + ∑ k : Fin 1024, gated a b d g r k * w (ix3 0 k e)

/-- Where each window's block lies. -/
theorem index_eq : ∀ t : Fin cfg0.N,
    win0_0.index t = ![(grid0.coords t 0).val, 0]
      ∧ win0_1.index t = ![0, (grid0.coords t 0).val]
      ∧ win0_2.index t = ![0, (grid0.coords t 0).val]
      ∧ win0_3.index t = ![0, (grid0.coords t 0).val]
      ∧ win0_4.index t = ![0, (grid0.coords t 0).val]
      ∧ win0_5.index t = ![0, 0]
      ∧ win0_6.index t = ![(grid0.coords t 0).val, 0] := by
  decide +kernel

theorem point_lt (t : Fin cfg0.N) : (grid0.coords t 0).val < 32 := (grid0.coords t 0).isLt

/-- Row `j` of a point's block, counted over all points. -/
abbrev row (t : Fin cfg0.N) (j : Fin 512) : Fin 16384 :=
  ⟨(grid0.coords t 0).val * 512 + j.val, by have := point_lt t; omega⟩

theorem iblk_x (c : Dev nD) (t : Fin cfg0.N) (j : Fin 512) (e : Fin 1024) :
    iblk m c 0 t (ix2 j e) = m ((c : Thread nD τ).loc main_arg0)
      (ix3 ⟨(row t j).val / 2048, by have := point_lt t; omega⟩ ⟨(row t j).val % 2048, by omega⟩ e) := by
  have := point_lt t
  blk_simp [iblk]
  entry_read
  pointwise
  blk_ext [index_eq t]

theorem iblk_a (c : Dev nD) (t : Fin cfg0.N) (k : Fin 1024) (j : Fin 512) :
    iblk m c 1 t (ix2 k j) = channel (m ((c : Thread nD τ).loc main_arg1)) (row t j) k := by
  have := point_lt t
  unfold channel
  blk_simp [iblk]
  entry_read
  pointwise
  blk_ext [index_eq t]

theorem iblk_b (c : Dev nD) (t : Fin cfg0.N) (k : Fin 1024) (j : Fin 512) :
    iblk m c 2 t (ix2 k j) = channel (m ((c : Thread nD τ).loc main_arg2)) (row t j) k := by
  have := point_lt t
  unfold channel
  blk_simp [iblk]
  entry_read
  pointwise
  blk_ext [index_eq t]

theorem iblk_d (c : Dev nD) (t : Fin cfg0.N) (k : Fin 1024) (j : Fin 512) :
    iblk m c 3 t (ix2 k j) = channel (m ((c : Thread nD τ).loc main_arg3)) (row t j) k := by
  have := point_lt t
  unfold channel
  blk_simp [iblk]
  entry_read
  pointwise
  blk_ext [index_eq t]

theorem iblk_g (c : Dev nD) (t : Fin cfg0.N) (q : Fin 128) (j : Fin 512) :
    iblk m c 4 t (ix2 q j) = m ((c : Thread nD τ).loc main_arg4) (ix2 q (row t j)) := by
  have := point_lt t
  blk_simp [iblk]
  entry_read
  pointwise
  blk_ext [index_eq t]

theorem iblk_w (c : Dev nD) (t : Fin cfg0.N) (k : Fin 1024) (e : Fin 1024) :
    iblk m c 5 t (ix2 k e) = m ((c : Thread nD τ).loc main_arg5) (ix3 0 k e) := by
  blk_simp [iblk]
  entry_read
  pointwise
  blk_ext [index_eq t]

/-- The kernel's whole array. -/
def result (c : Dev nD) : S16384x1024.Idx → EReal := fun j =>
  projected (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (j 0) (j 1)

/-- What a grid point stores, as entries of the projection. -/
theorem block_apply (c : Dev nD) (t : Fin cfg0.N) (j : Fin 512) (e : Fin 1024) :
    outsAt0 m c t (ix2 j e) = result m c (ix2 (row t j) e) := by
  rw [outs_apply]
  unfold stored
  rw [iblk_x]
  refine congrArg _ (Finset.sum_congr rfl fun k _ => ?_)
  unfold mixed
  rw [iblk_a, iblk_b, iblk_d, iblk_g, iblk_g, iblk_g, iblk_w]
  rfl

/-- What the run leaves in the result. -/
theorem array_eq (c : Dev nD) : (dats m 0 c).arrAt 6 cfg0.N = result m c := by
  refine (dats m 0 c).arrAt_eq_of_covers 6 _ (by decide +kernel) fun t hf y => ?_
  blk_simp
  rw [after0_6]
  obtain ⟨j, e, rfl⟩ : ∃ (j : Fin 512) (e : Fin 1024), y = ix2 j e := ⟨y 0, y 1, by funext a; fin_cases a <;> rfl⟩
  rw [block_apply]
  refine congrArg (result m c) ?_
  have h0 : row t j = (win0_6.blk t).view.emb (ix2 j e) 0 := by
    apply Fin.ext
    blk_simp [index_eq t]
  have h1 : e = (win0_6.blk t).view.emb (ix2 j e) 1 := by
    apply Fin.ext
    blk_simp [index_eq t]
  funext a
  fin_cases a
  · exact h0
  · exact h1

open Cert.Reference5Ideal.Read in
/-- The reference's array. -/
theorem reference_eq (x : Cert.Reference5Ideal.S8x2048x1024.Idx → EReal) (a b d : Cert.Reference5Ideal.S8x2048x4x4x64.Idx → EReal)
    (g : Cert.Reference5Ideal.S128x16384.Idx → EReal) (w : Cert.Reference5Ideal.S1x1024x1024.Idx → EReal) :
    val_main_v18 (F := Ideal) x a b d g w = fun j => projected x a b d g w (j 0) (j 1) := by
  funext j
  idx_vars j
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0]
  unfold projected gated channel
  refine congrArg _ (Finset.sum_congr rfl fun k _ => ?_)
  have g0 : (⟨k.val / 256 * 12 + k.val / 64 % 4 * 3, by omega⟩ : Fin 128) = ⟨3 * (k.val / 64), by omega⟩ :=
    Fin.ext (by show k.val / 256 * 12 + k.val / 64 % 4 * 3 = 3 * (k.val / 64); omega)
  have g1 : (⟨k.val / 256 * 12 + k.val / 64 % 4 * 3 + 1, by omega⟩ : Fin 128) = ⟨3 * (k.val / 64) + 1, by omega⟩ :=
    Fin.ext (by show k.val / 256 * 12 + k.val / 64 % 4 * 3 + 1 = 3 * (k.val / 64) + 1; omega)
  have g2 : (⟨k.val / 256 * 12 + k.val / 64 % 4 * 3 + 2, by omega⟩ : Fin 128) = ⟨3 * (k.val / 64) + 2, by omega⟩ :=
    Fin.ext (by show k.val / 256 * 12 + k.val / 64 % 4 * 3 + 2 = 3 * (k.val / 64) + 2; omega)
  rw [← g0, ← g1, ← g2]

/-- The kernel's array is the reference's. -/
theorem sparse_out_equal : Cert.algebraic_Kernel5Ideal_Reference5Ideal (hKernel5Ideal := Cert.Kernel5Ideal.Gen.facts)
    (hReference5Ideal := Cert.Reference5Ideal.Gen.facts) := by
  intro m g m' g' hpre hagree
  refine ⟨fun c => result m c, ?_, ?_⟩
  · exact (θ_run _ _ _).mono (fun r h c => ⟨(h c).1.trans (array_eq m c), (h c).2⟩)
      (Cert.Kernel5Ideal.Value.run_blocks (F := Ideal) m g)
  · refine (θ_run _ _ _).mono (fun r h c => ⟨(h c).1.trans ?_, (h c).2⟩) (Cert.Reference5Ideal.Value.run (F := Ideal) m' g')
    rw [Cert.Reference5Ideal.Read.val_main_v18_eq, (hagree c).1, (hagree c).2.1, (hagree c).2.2.1, (hagree c).2.2.2.1,
      (hagree c).2.2.2.2.1, (hagree c).2.2.2.2.2]
    exact reference_eq _ _ _ _ _ _

end Cert.SparseOut

end
-- ==== Proof.Norm.Frames.lean ====
/- The frames of one call: its run over extended reals and, by the same text, over machine numbers; and the frame of
   its reference. -/
module

public import proofs.«01_k».proof.Defs
public import proofs.«01_k».proof.Proof.Gen.Kernel6Ideal.Frame
public import proofs.«01_k».proof.Proof.Gen.Reference6Ideal.Run

@[expose] public section

set_option maxHeartbeats 8000000

noncomputable section

namespace Cert.FinalNorm

open Idealize.ShloMosaic Idealize.ShloMosaic.TcCoe Idealize.SL.Sem

/-- The side conditions the program states are those of its twin over extended reals. -/
theorem facts₀ : Cert.Kernel6.Facts₀ where
  shapeCasts_S8x2048x1024_S16384x1024 := @Cert.Kernel6Ideal.Gen.shapeCasts_S8x2048x1024_S16384x1024
  shapeCasts_S1024_S1x1024 := @Cert.Kernel6Ideal.Gen.shapeCasts_S1024_S1x1024
  inb_S512x1024_S512x1024_0_0 := @Cert.Kernel6Ideal.Gen.inb_S512x1024_S512x1024_0_0
  h_S512x1024 := @Cert.Kernel6Ideal.Gen.h_S512x1024
  shapeCasts_S512x1024_S512x1024 := @Cert.Kernel6Ideal.Gen.shapeCasts_S512x1024_S512x1024
  inb_S1x1024_S1x1024_0_0 := @Cert.Kernel6Ideal.Gen.inb_S1x1024_S1x1024_0_0
  h_S1x1024 := @Cert.Kernel6Ideal.Gen.h_S1x1024
  shapeCasts_S1x1024_S1x1024 := @Cert.Kernel6Ideal.Gen.shapeCasts_S1x1024_S1x1024
  reduces_S512x1024_S512 := @Cert.Kernel6Ideal.Gen.reduces_S512x1024_S512
  shapeCasts_S512_S512x1 := @Cert.Kernel6Ideal.Gen.shapeCasts_S512_S512x1
  broadcasts_S512x1_S512x1024 := @Cert.Kernel6Ideal.Gen.broadcasts_S512x1_S512x1024
  broadcasts_S1x1024_S512x1024 := @Cert.Kernel6Ideal.Gen.broadcasts_S1x1024_S512x1024
  hrank0 := @Cert.Kernel6Ideal.Gen.hrank0
  hstage0_0 := @Cert.Kernel6Ideal.Gen.hstage0_0
  nbuf0_0 := @Cert.Kernel6Ideal.Gen.nbuf0_0
  hreads0_0 := @Cert.Kernel6Ideal.Gen.hreads0_0
  hinb0_0 := @Cert.Kernel6Ideal.Gen.hinb0_0
  hwx0_0 := @Cert.Kernel6Ideal.Gen.hwx0_0
  hstage0_1 := @Cert.Kernel6Ideal.Gen.hstage0_1
  nbuf0_1 := @Cert.Kernel6Ideal.Gen.nbuf0_1
  hreads0_1 := @Cert.Kernel6Ideal.Gen.hreads0_1
  hinb0_1 := @Cert.Kernel6Ideal.Gen.hinb0_1
  hwx0_1 := @Cert.Kernel6Ideal.Gen.hwx0_1
  hstage0_2 := @Cert.Kernel6Ideal.Gen.hstage0_2
  nbuf0_2 := @Cert.Kernel6Ideal.Gen.nbuf0_2
  hreads0_2 := @Cert.Kernel6Ideal.Gen.hreads0_2
  hinb0_2 := @Cert.Kernel6Ideal.Gen.hinb0_2
  hwx0_2 := @Cert.Kernel6Ideal.Gen.hwx0_2

theorem facts : Cert.Kernel6.Facts :=
  @Cert.Kernel6.Facts.mk facts₀

/-- Both programs run the same bodies. -/
theorem bodies_eq [Cert.Kernel6.Facts] : Cert.Kernel6.defs₀ (F := Bits) = Cert.Kernel6Ideal.defs₀ (F := Bits) := by
  unfold Cert.Kernel6.defs₀ Cert.Kernel6Ideal.defs₀
  congr 1
  funext l x
  match l, x with
  | ⟨0, _⟩, ⟨t, s⟩ => rfl

theorem defs_eq [Cert.Kernel6.Facts] : Cert.Kernel6.defs (F := Bits) = Cert.Kernel6Ideal.defs (F := Bits) :=
  congrArg (Pipeline.defs (Cert.Kernel6Ideal.pcfgs (F := Bits))) bodies_eq

/-- The call as run. -/
theorem frame_kernel : Cert.quiescent_Kernel6 (hKernel6 := facts) := by
  haveI := facts
  intro m g _
  rw [defs_eq]
  exact Cert.Kernel6Ideal.Gen.frame (F := Bits) m g

/-- The call over extended reals. -/
theorem frame_kernelIdeal : Cert.quiescent_Kernel6Ideal (hKernel6Ideal := Cert.Kernel6Ideal.Gen.facts) :=
  fun m g _ => Cert.Kernel6Ideal.Gen.frame m g

/-- The reference, which declares no semaphore. -/
theorem frame_reference : Cert.quiescent_Reference6Ideal (hReference6Ideal := Cert.Reference6Ideal.Gen.facts) := fun m g _ =>
  (θ_run _ _ _).mono (fun r h => ⟨fun c => (h c).2, sem_eq_zero_of_no_sems (by decide) r.2⟩)
    (Cert.Reference6Ideal.Value.run (F := Ideal) m g)

end Cert.FinalNorm

end
-- ==== Proof.Norm.FinalNorm.lean ====
/- The final norm of the prompt group: every row divided by the root of its mean square and scaled. -/
module

public import proofs.«01_k».proof.Defs
public import proofs.«01_k».proof.Proof.Rope.Rope
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.Covers
public import Idealize.ShloMosaic.Lib.Pipeline.ValueKit
public import Idealize.ShloMosaic.Lib.Claim
public import Idealize.ShloMosaic.Lib.Pointwise

@[expose] public section

set_option maxRecDepth 131072
set_option maxHeartbeats 2000000

noncomputable section

namespace Cert.FinalNorm

open Cert.Kernel6Ideal Cert.Kernel6Ideal.Gen Idealize.ShloMosaic Idealize.ShloMosaic.TcCoe Idealize.SL.Sem
open Idealize.ShloMosaic.Pipeline (Dat)
open Cert.Rope (normed)
open scoped BigOperators

variable (m : (ℓ : Loc nD τ sig) → Buf (Elt Ideal) ℓ)

/-- Entry `(r, e)` of the normed stream, `r` counting the positions of all sequences. -/
def entry (x : S8x2048x1024.Idx → EReal) (g : S1024.Idx → EReal) (r : Fin 16384) (e : Fin 1024) : EReal :=
  normed (fun k => x (ix3 ⟨r.val / 2048, by omega⟩ ⟨r.val % 2048, by omega⟩ k)) (fun k => g (ix1 k)) e

/-- Where each window's block lies. -/
theorem index_eq : ∀ t : Fin cfg0.N,
    win0_0.index t = ![(grid0.coords t 0).val, 0]
      ∧ win0_1.index t = ![0, 0]
      ∧ win0_2.index t = ![(grid0.coords t 0).val, 0] := by
  decide +kernel

theorem point_lt (t : Fin cfg0.N) : (grid0.coords t 0).val < 32 := (grid0.coords t 0).isLt

/-- Row `j` of a point's block, counted over all points. -/
abbrev row (t : Fin cfg0.N) (j : Fin 512) : Fin 16384 :=
  ⟨(grid0.coords t 0).val * 512 + j.val, by have := point_lt t; omega⟩

theorem iblk_x (c : Dev nD) (t : Fin cfg0.N) (j : Fin 512) (e : Fin 1024) :
    iblk m c 0 t (ix2 j e) = m ((c : Thread nD τ).loc main_arg0)
      (ix3 ⟨(row t j).val / 2048, by have := point_lt t; omega⟩ ⟨(row t j).val % 2048, by omega⟩ e) := by
  have := point_lt t
  blk_simp [iblk]
  entry_read
  pointwise
  blk_ext [index_eq t]

theorem iblk_g (c : Dev nD) (t : Fin cfg0.N) (e : Fin 1024) :
    iblk m c 1 t (ix2 0 e) = m ((c : Thread nD τ).loc main_arg1) (ix1 e) := by
  blk_simp [iblk]
  entry_read
  pointwise
  blk_ext [index_eq t]

theorem out_apply (x : Vec Ideal S512x1024 .f32) (g : Vec Ideal S1x1024 .f32) (j : Fin 512) (e : Fin 1024) :
    out0_2 x g (ix2 j e) = normed (fun k => x (ix2 j k)) (fun k => g (ix2 0 k)) e := by
  unfold out0_2
  have h0 : (![0, 0] : Fin 2 → Nat) = fun _ => 0 := by funext a; fin_cases a <;> rfl
  rw [View.canon_unit_zero h0, View.ld_unit_zero h0, View.ld_unit_zero h0]
  pointwise [k0_pay1]
  rfl

/-- What a grid point stores. -/
theorem block_apply (c : Dev nD) (t : Fin cfg0.N) (j : Fin 512) (e : Fin 1024) :
    out0_2 (iblk m c 0 t) (iblk m c 1 t) (ix2 j e)
      = entry (m ((c : Thread nD τ).loc main_arg0)) (m ((c : Thread nD τ).loc main_arg1)) (row t j) e := by
  rw [out_apply]
  exact congrFun (congr (congrArg normed (funext fun k => iblk_x m c t j k)) (funext fun k => iblk_g m c t k)) e

/-- The kernel's whole array. -/
def result (c : Dev nD) : S16384x1024.Idx → EReal := fun j =>
  entry (m ((c : Thread nD τ).loc main_arg0)) (m ((c : Thread nD τ).loc main_arg1)) (j 0) (j 1)

/-- What the run leaves in the result. -/
theorem array_eq (c : Dev nD) : (dats m 0 c).arrAt 2 cfg0.N = result m c := by
  refine (dats m 0 c).arrAt_eq_of_covers 2 _ (by decide +kernel) fun t hf y => ?_
  blk_simp
  rw [after0_2]
  obtain ⟨j, e, rfl⟩ : ∃ (j : Fin 512) (e : Fin 1024), y = ix2 j e := ⟨y 0, y 1, by funext a; fin_cases a <;> rfl⟩
  rw [block_apply]
  unfold result
  have h0 : row t j = (win0_2.blk t).view.emb (ix2 j e) 0 := by
    apply Fin.ext
    blk_simp [index_eq t]
  have h1 : e = (win0_2.blk t).view.emb (ix2 j e) 1 := by
    apply Fin.ext
    blk_simp [index_eq t]
  exact congrArg₂ _ h0 h1

open Cert.Reference6Ideal.Read in
/-- The reference's array. -/
theorem reference_eq (x : Cert.Reference6Ideal.S8x2048x1024.Idx → EReal) (g : Cert.Reference6Ideal.S1024.Idx → EReal) :
    val_main_v13 (F := Ideal) x g = fun j => entry x g (j 0) (j 1) := by
  funext j
  idx_vars j
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The kernel's array is the reference's. -/
theorem final_norm_equal : Cert.algebraic_Kernel6Ideal_Reference6Ideal (hKernel6Ideal := Cert.Kernel6Ideal.Gen.facts)
    (hReference6Ideal := Cert.Reference6Ideal.Gen.facts) := by
  intro m g m' g' hpre hagree
  refine ⟨fun c => result m c, ?_, ?_⟩
  · exact (θ_run _ _ _).mono (fun r h c => ⟨(h c).1.trans (array_eq m c), (h c).2⟩)
      (Cert.Kernel6Ideal.Value.run_blocks (F := Ideal) m g)
  · refine (θ_run _ _ _).mono (fun r h c => ⟨(h c).1.trans ?_, (h c).2⟩) (Cert.Reference6Ideal.Value.run (F := Ideal) m' g')
    rw [Cert.Reference6Ideal.Read.val_main_v13_eq, (hagree c).1, (hagree c).2]
    exact reference_eq _ _

end Cert.FinalNorm

end
-- ==== Proof.Branch.Rows.lean ====
/- A softmax taken chunk by chunk over a row of scores any part of which may be masked, even a whole prefix: as long
   as every score so far is masked the running maximum is `⊥` and the two running sums are 0.  Nothing here
   mentions the programs. -/
module

public import proofs.«01_k».proof.Proof.Attn.Online

@[expose] public section

noncomputable section

namespace Cert.SparseAttn

open Idealize.ShloMosaic Cert.DiffAttn
open scoped BigOperators

/-- Scores that are reals or masked. -/
def NoTop (s : ℕ → EReal) : Prop := ∀ κ, s κ ≠ ⊤

/-- The running maximum is `⊥` or a real. -/
theorem rowMax_cases {s : ℕ → EReal} (hs : NoTop s) (N : ℕ) : rowMax s N = ⊥ ∨ ∃ M : ℝ, rowMax s N = (M : EReal) := by
  have ht : rowMax s N ≠ ⊤ :=
    ((Finset.sup_lt_iff bot_lt_top).2 fun κ _ => lt_top_iff_ne_top.2 (hs κ)).ne
  by_cases hb : rowMax s N = ⊥
  · exact Or.inl hb
  · exact Or.inr ⟨_, (EReal.coe_toReal ht hb).symm⟩

/-- Where the maximum is `⊥` every score is. -/
theorem all_masked {s : ℕ → EReal} {N : ℕ} (h : rowMax s N = ⊥) {κ : ℕ} (hκ : κ < N) : s κ = ⊥ :=
  le_bot_iff.1 (h ▸ Finset.le_sup (f := s) (Finset.mem_range.2 hκ))

/-- Where the maximum is `⊥` the weighted sum is 0. -/
theorem rowVal_bot {s : ℕ → EReal} (w : ℕ → EReal) {N : ℕ} (h : rowMax s N = ⊥) : rowVal s w N = 0 := by
  unfold rowVal
  refine Finset.sum_eq_zero fun κ hκ => ?_
  rw [all_masked h (Finset.mem_range.1 hκ), exp_masked, mul_zero]

theorem rowSum_bot {s : ℕ → EReal} {N : ℕ} (h : rowMax s N = ⊥) : rowSum s N = 0 := by
  rw [rowSum_eq, rowVal_bot _ h]

/-! ## A masked prefix -/

theorem rowMax_prefix {s : ℕ → EReal} {N : ℕ} (h : ∀ κ, κ < N → s κ = ⊥) : rowMax s N = ⊥ :=
  le_bot_iff.1 (Finset.sup_le fun κ hκ => (h κ (Finset.mem_range.1 hκ)).le)

theorem rowVal_prefix {s : ℕ → EReal} (w : ℕ → EReal) {N : ℕ} (h : ∀ κ, κ < N → s κ = ⊥) : rowVal s w N = 0 :=
  rowVal_bot w (rowMax_prefix h)

theorem rowSum_prefix {s : ℕ → EReal} {N : ℕ} (h : ∀ κ, κ < N → s κ = ⊥) : rowSum s N = 0 :=
  rowSum_bot (rowMax_prefix h)

/-! ## A further chunk -/

/-- The weighted sum against a real maximum, as a real. -/
theorem rowVal_real {s w : ℕ → EReal} (hs : NoTop s) {r : ℕ → ℝ} (hr : ∀ κ, w κ = (r κ : EReal)) {N : ℕ} {M : ℝ}
    (hM : rowMax s N = (M : EReal)) : rowVal s w N = ((∑ κ ∈ Finset.range N, r κ * weight (s κ) M : ℝ) : EReal) := by
  rw [coe_sum]
  unfold rowVal
  refine Finset.sum_congr rfl fun κ _ => ?_
  rw [hM, exp_sub_coe (hs κ), hr, EReal.coe_mul]

theorem rowVal_step {s w : ℕ → EReal} (hs : NoTop s) (hw : Reals w) (N n : ℕ) :
    rowVal s w (N + n) = Ideal.exp (rowMax s N - rowMax s (N + n)) * rowVal s w N
      + ∑ r : Fin n, w (N + r.val) * Ideal.exp (s (N + r.val) - rowMax s (N + n)) := by
  have hsplit : rowVal s w (N + n) = (∑ κ ∈ Finset.range N, w κ * Ideal.exp (s κ - rowMax s (N + n)))
      + ∑ r : Fin n, w (N + r.val) * Ideal.exp (s (N + r.val) - rowMax s (N + n)) := by
    unfold rowVal
    rw [Finset.sum_range_add, Finset.sum_range (fun x => w (N + x) * Ideal.exp (s (N + x) - rowMax s (N + n)))]
  rw [hsplit]
  congr 1
  rcases rowMax_cases hs N with hb | ⟨M, hM⟩
  · rw [rowVal_bot w hb, mul_zero]
    refine Finset.sum_eq_zero fun κ hκ => ?_
    rw [all_masked hb (Finset.mem_range.1 hκ), exp_masked, mul_zero]
  · choose r hr using hw
    rcases rowMax_cases hs (N + n) with hb' | ⟨M', hM'⟩
    · refine absurd (hM ▸ ?_ : (M : EReal) ≤ ⊥) (by simp)
      rw [← hb', rowMax_add]
      exact le_max_left _ _
    · rw [rowVal_real hs hr hM, hM, hM', ← EReal.coe_sub]
      show _ = ((Real.exp (M - M') : ℝ) : EReal) * _
      rw [← EReal.coe_mul, Finset.mul_sum, coe_sum]
      refine Finset.sum_congr rfl fun κ _ => ?_
      rw [exp_sub_coe (hs κ), hr, ← EReal.coe_mul, weight_shift (s κ) M M']
      congr 1; ring

theorem rowSum_step {s : ℕ → EReal} (hs : NoTop s) (N n : ℕ) :
    rowSum s (N + n) = Ideal.exp (rowMax s N - rowMax s (N + n)) * rowSum s N
      + ∑ r : Fin n, Ideal.exp (s (N + r.val) - rowMax s (N + n)) := by
  rw [rowSum_eq, rowSum_eq, rowVal_step hs reals_one N n]
  simp only [one_mul]

/-! ## The division at the end -/

/-- The weighted sum over the normaliser (kept above a real `ε > 0`) is the sum weighted by the softmax. -/
theorem softmax_sum {s w : ℕ → EReal} (hs : NoTop s) (hw : Reals w) (N : ℕ) {ε : EReal}
    (hε : ∃ r : ℝ, 0 < r ∧ ε = (r : EReal)) :
    rowVal s w N * Ideal.div 1 (max (rowSum s N) ε)
      = ∑ κ ∈ Finset.range N, w κ * Ideal.div (Ideal.exp (s κ - rowMax s N)) (max (rowSum s N) ε) := by
  obtain ⟨e, he, rfl⟩ := hε
  rcases rowMax_cases hs N with hb | ⟨M, hM⟩
  · rw [rowVal_bot w hb, zero_mul, rowSum_bot hb]
    symm
    refine Finset.sum_eq_zero fun κ hκ => ?_
    rw [all_masked hb (Finset.mem_range.1 hκ), exp_masked, show (0 : EReal) = ((0 : ℝ) : EReal) from rfl, max_coe,
      max_eq_right he.le, div_coe _ _ he.ne', zero_div]
    exact mul_zero _
  · choose r hr using hw
    have one : ∀ κ : ℕ, (fun _ : ℕ => (1 : EReal)) κ = (((fun _ : ℕ => (1 : ℝ)) κ : ℝ) : EReal) := fun _ => by simp
    rw [rowSum_eq, rowVal_real hs hr hM, rowVal_real hs one hM, max_coe, hM]
    generalize hd : max (∑ κ ∈ Finset.range N, (1 : ℝ) * weight (s κ) M) e = d
    have p : d ≠ 0 := by rw [← hd]; exact (lt_of_lt_of_le he (le_max_right _ _)).ne'
    rw [show (1 : EReal) = ((1 : ℝ) : EReal) by simp, div_coe _ _ p, ← EReal.coe_mul, Finset.sum_mul, coe_sum]
    refine Finset.sum_congr rfl fun κ _ => ?_
    rw [exp_sub_coe (hs κ), div_coe _ _ p, hr, ← EReal.coe_mul]
    congr 1; ring

end Cert.SparseAttn

end
-- ==== Proof.Branch.Chunk.lean ====
/- One chunk of keys in the call of the two branches: what the vector expressions of one pass of a key loop hold,
   read at an index.  The three carried arrays are, per column, the running maximum, normaliser and weighted sums
   of the scores so far; the lemmas say that a pass takes them on by its chunk. -/
module

public import proofs.«01_k».proof.Proof.Gen.Kernel7Ideal.Value
public import proofs.«01_k».proof.Proof.Branch.Rows
public import Idealize.ShloMosaic.Lib.Pointwise

@[expose] public section

set_option maxRecDepth 16384

noncomputable section

namespace Cert.SparseAttn

open Cert.Kernel7Ideal Cert.Kernel7Ideal.Gen Idealize.ShloMosaic Idealize.ShloMosaic.TcCoe Cert.DiffAttn
open scoped BigOperators

/-- The carried maxima after `N` scores, a row of 1024 columns. -/
def maxs (s : Fin 1024 → ℕ → EReal) (N : ℕ) : FVec Ideal S1x1024 .f32 := fun j => rowMax (s (j 1)) N
/-- The carried normalisers after `N` scores. -/
def sums (s : Fin 1024 → ℕ → EReal) (N : ℕ) : FVec Ideal S1x1024 .f32 := fun j => rowSum (s (j 1)) N
/-- The carried weighted sums after `N` scores, one row per value coordinate. -/
def vals (s : Fin 1024 → ℕ → EReal) (w : Fin 64 → ℕ → EReal) (N : ℕ) : FVec Ideal S64x1024 .f32 :=
  fun j => rowVal (s (j 1)) (w (j 0)) N

/-- The mask constant. -/
abbrev maskConst : EReal := Named.named (F := Ideal) Cert.Kernel7Ideal.κ (φ := .f32) "mask" 0xF149F2CA#32

theorem maskConst_eq : maskConst = ⊥ := IdealRules.named_const.ideal_named_scalar _ _ _ _ rfl

/-! ## What the loops start from: a prefix of masked scores -/

section Start

variable (s : Fin 1024 → ℕ → EReal) (w : Fin 64 → ℕ → EReal) {N : ℕ} (h : ∀ c κ, κ < N → s c κ = ⊥)
include h

theorem pay45_eq : k0_pay45 (F := Ideal) maskConst = maxs s N := by
  funext j
  rw [show maxs s N j = ⊥ from rowMax_prefix (h _)]
  exact maskConst_eq

theorem pay46_eq : k0_pay46 (F := Ideal) = sums s N := by
  funext j
  rw [show sums s N j = 0 from rowSum_prefix (h _)]
  pointwise [k0_pay46]

theorem pay47_eq : k0_pay47 (F := Ideal) = vals s w N := by
  funext j
  rw [show vals s w N j = 0 from rowVal_prefix _ (h _)]
  pointwise [k0_pay47]

end Start

section Step

variable {s : Fin 1024 → ℕ → EReal} {w : Fin 64 → ℕ → EReal} (hs : ∀ c, NoTop (s c)) (hw : ∀ e, Reals (w e))
variable {N : ℕ} (i : grid0.Coords) (v8 : FVec Ideal S64x1024 .bf16)

/-! ### A chunk before the queries' own -/

section Before

variable (v11 : FVec Ideal S128x256 .bf16) (v12 v37 : IVec S512x128 32) (a b : BitVec 32) (t : Fin (k0_t1_loop i).trips)
variable (kc : Vec Ideal S1x512x64 .bf16)
variable (h : ∀ (r : Fin 512) (c : Fin 1024), k0_pay9 (F := Ideal) i v8 v11 v12 v37 a b t kc (ix2 r c) = s c (N + r.val))
include h

theorem pay10_step : k0_pay10 i v8 v11 v12 v37 a b t (maxs s N) kc = maxs s (N + 512) := by
  funext j
  idx_vars j
  pointwise [k0_pay10]
  rw [ofBits_neg_inf, fold_max_bot]
  simp only [h]
  exact (rowMax_add _ N 512).symm

include hs

theorem pay48_step : k0_pay48 (k0_pay12 i v8 v11 v12 v37 a b t (maxs s N) kc) (k0_pay13 i v8 v11 v12 v37 a b t (maxs s N) (sums s N) kc)
    = sums s (N + 512) := by
  funext j
  idx_vars j
  pointwise [k0_pay48, k0_pay12, k0_pay13, k0_pay11]
  rw [pay10_step i v8 v11 v12 v37 a b t kc h]
  simp only [h]
  exact (rowSum_step (hs _) N 512).symm

include hw

theorem pay49_step (vc : FVec Ideal S64x512 .bf16) (hv : ∀ (e : Fin 64) (r : Fin 512), vc (ix2 e r) = w e (N + r.val)) :
    k0_pay49 (vals s w N) vc (k0_pay11 i v8 v11 v12 v37 a b t (maxs s N) kc) (k0_pay12 i v8 v11 v12 v37 a b t (maxs s N) kc)
      = vals s w (N + 512) := by
  funext j
  idx_vars j
  pointwise [k0_pay49, k0_pay12, k0_pay11]
  rw [pay10_step i v8 v11 v12 v37 a b t kc h]
  simp only [h, hv]
  exact (rowVal_step (hs _) (hw _) N 512).symm

end Before

/-! ### The chunk that holds the queries -/

section Own

variable (sc : FVec Ideal S512x1024 .f32) (m : IVec S512x1024 1) (o : Ideal .f32)
variable (h : ∀ (r : Fin 512) (c : Fin 1024), k0_pay52 (F := Ideal) sc m o (ix2 r c) = s c (N + r.val))
include h

theorem pay53_step : k0_pay53 (maxs s N) sc m o = maxs s (N + 512) := by
  funext j
  idx_vars j
  pointwise [k0_pay53]
  rw [ofBits_neg_inf, fold_max_bot]
  simp only [h]
  exact (rowMax_add _ N 512).symm

include hs

theorem pay56_step : k0_pay56 (maxs s N) (sums s N) sc m o = sums s (N + 512) := by
  funext j
  idx_vars j
  pointwise [k0_pay56, k0_pay55, k0_pay54]
  rw [pay53_step sc m o h]
  simp only [h]
  exact (rowSum_step (hs _) N 512).symm

include hw

theorem pay57_step (vc : FVec Ideal S64x512 .bf16) (hv : ∀ (e : Fin 64) (r : Fin 512), vc (ix2 e r) = w e (N + r.val)) :
    k0_pay57 (maxs s N) (vals s w N) sc m vc o = vals s w (N + 512) := by
  funext j
  idx_vars j
  pointwise [k0_pay57, k0_pay55, k0_pay54]
  rw [pay53_step sc m o h]
  simp only [h, hv]
  exact (rowVal_step (hs _) (hw _) N 512).symm

end Own

/-! ### A chunk of the window -/

section Window

variable (p a b : BitVec 32) (t : Fin (k0_t5_loop i).trips) (kc : Vec Ideal S1x256x64 .bf16)
variable (h : ∀ (r : Fin 256) (c : Fin 1024), k0_pay27 (F := Ideal) i p v8 a b t kc (ix2 r c) = s c (N + r.val))
include h

theorem pay28_step : k0_pay28 i p v8 a b t (maxs s N) kc = maxs s (N + 256) := by
  funext j
  idx_vars j
  pointwise [k0_pay28]
  rw [ofBits_neg_inf, fold_max_bot]
  simp only [h]
  exact (rowMax_add _ N 256).symm

variable (hm : ∀ (r : Fin 256) (c : Fin 1024), k0_pay26 i p a b t (ix2 r c) ≠ 1#1 → s c (N + r.val) = ⊥)
include hm

/-- The weights of the window are set to 0 where masked, which they are already. -/
theorem pay30_apply (r : Fin 256) (c : Fin 1024) :
    k0_pay30 i p v8 a b t (maxs s N) kc (ix2 r c) = Ideal.exp (s c (N + r.val) - rowMax (s c) (N + 256)) := by
  pointwise [k0_pay30]
  rw [pay28_step i v8 p a b t kc h, h]
  by_cases hb : k0_pay26 i p a b t (ix2 r c) = 1#1
  · exact if_pos hb
  · refine (if_neg hb).trans ?_
    rw [hm r c hb, exp_masked]

include hs

theorem pay31_step : k0_pay31 i p v8 a b t (maxs s N) (sums s N) kc = sums s (N + 256) := by
  funext j
  idx_vars j
  pointwise [k0_pay31, k0_pay29]
  rw [pay28_step i v8 p a b t kc h]
  simp only [pay30_apply i v8 p a b t kc h hm]
  exact (rowSum_step (hs _) N 256).symm

include hw

theorem pay1_step (vc : Vec Ideal S1x64x256 .bf16) (hv : ∀ (e : Fin 64) (r : Fin 256), vc (ix3 0 e r) = w e (N + r.val)) :
    k0_pay1 (k0_pay32 i p v8 a b t (maxs s N) (vals s w N) kc) (k0_pay33 i p v8 a b t (maxs s N) kc vc) = vals s w (N + 256) := by
  funext j
  idx_vars j
  pointwise [k0_pay1, k0_pay32, k0_pay33, k0_pay29]
  rw [pay28_step i v8 p a b t kc h]
  simp only [pay30_apply i v8 p a b t kc h hm, hv]
  exact (rowVal_step (hs _) (hw _) N 256).symm

end Window

end Step

/-! ## The masked scores of a chunk, in terms of the chunk -/

theorem pay8_apply (v1 v2 : Vec Ideal S1x64x256 .bf16) (e : Fin 64) (r : Fin 512) :
    k0_pay8 (F := Ideal) v1 v2 (ix2 e r) = if h : r.val < 256 then v1 (ix3 0 e ⟨r.val, h⟩) else v2 (ix3 0 e ⟨r.val - 256, by omega⟩) := by
  pointwise [k0_pay8]

theorem pay22_apply (v1 v2 : Vec Ideal S1x64x256 .bf16) (e : Fin 64) (r : Fin 512) :
    k0_pay22 (F := Ideal) v1 v2 (ix2 e r) = if h : r.val < 256 then v1 (ix3 0 e ⟨r.val, h⟩) else v2 (ix3 0 e ⟨r.val - 256, by omega⟩) :=
  pay8_apply v1 v2 e r

theorem pay20_apply (v8 : FVec Ideal S64x1024 .bf16) (kc : Vec Ideal S1x512x64 .bf16) (r : Fin 512) (c : Fin 1024) :
    k0_pay20 (F := Ideal) v8 kc (ix2 r c) = ∑ x : Fin 64, kc (ix3 0 r x) * v8 (ix2 x c) := by
  pointwise [k0_pay20]

/-- Four arrays of 256 columns side by side, all the same function of the column. -/
theorem four_groups {α : Type} (f : Fin 256 → α) (c : Fin 1024) :
    (if h : c.val < 256 then f ⟨c.val, h⟩ else if h : c.val - 256 < 256 then f ⟨c.val - 256, h⟩
      else if h : c.val - 256 - 256 < 256 then f ⟨c.val - 256 - 256, h⟩ else f ⟨c.val - 256 - 256 - 256, by omega⟩)
      = f ⟨c.val % 256, by omega⟩ := by
  split
  · congr 1; ext; show c.val = c.val % 256; omega
  · split
    · congr 1; ext; show c.val - 256 = c.val % 256; omega
    · split
      · congr 1; ext; show c.val - 256 - 256 = c.val % 256; omega
      · congr 1; ext; show c.val - 256 - 256 - 256 = c.val % 256; omega

/-- Whether the flag of key `r` of chunk `w`, spread out from its block, is set for query `x`. -/
def flagMask (v11 : FVec Ideal S128x256 .bf16) (v12 v37 : IVec S512x128 32) (w : BitVec 32) (r : Fin 512) (x : Fin 256) : BitVec 1 :=
  BitVec.ofBool (decide (Ideal.ofBits FTy.f32 1056964608#32 < ∑ n : Fin 128,
    Scalar.select (IntOp.cmpi .eq (v12 (ix2 r n)) (IntOp.addi (v37 (ix2 r n)) (Scalar.muli w 8#32))) (v11 (ix2 n x)) 0))

/-- Whether key `r` of chunk `w` is not after query `x` of block `p`. -/
def causalMask (p w : BitVec 32) (r : Fin 512) (x : Fin 256) : BitVec 1 :=
  IntOp.cmpi .sle (IntOp.addi (BitVec.ofNat 32 r.val) (Scalar.muli w 512#32)) (IntOp.addi (Scalar.muli p 256#32) (BitVec.ofNat 32 x.val))

/-- Whether key `r` of chunk `w` is in the window of query `x` of block `p`. -/
def windowMask (p w : BitVec 32) (r x : Fin 256) : BitVec 1 :=
  IntOp.andi
    (IntOp.cmpi .sge (IntOp.subi (IntOp.addi (Scalar.muli p 256#32) (BitVec.ofNat 32 x.val))
      (IntOp.addi (BitVec.ofNat 32 r.val) (Scalar.muli w 256#32))) 0#32)
    (IntOp.cmpi .slt (IntOp.subi (IntOp.addi (Scalar.muli p 256#32) (BitVec.ofNat 32 x.val))
      (IntOp.addi (BitVec.ofNat 32 r.val) (Scalar.muli w 256#32))) 512#32)

theorem pay9_apply (i : grid0.Coords) (v8 : FVec Ideal S64x1024 .bf16) (v11 : FVec Ideal S128x256 .bf16) (v12 v37 : IVec S512x128 32)
    (a b : BitVec 32) (t : Fin (k0_t1_loop i).trips) (kc : Vec Ideal S1x512x64 .bf16) (r : Fin 512) (c : Fin 1024) :
    k0_pay9 (F := Ideal) i v8 v11 v12 v37 a b t kc (ix2 r c)
      = if flagMask v11 v12 v37 (Scf.iv a b t) r ⟨c.val % 256, by omega⟩ = 1#1 then ∑ x : Fin 64, kc (ix3 0 r x) * v8 (ix2 x c) else ⊥ := by
  pointwise [k0_pay9]
  rw [show (Named.named κ "mask" 4048155338#32 : Ideal .f32) = ⊥ from maskConst_eq]
  exact congrArg (fun m => Scalar.select m (∑ x : Fin 64, kc (ix3 0 r x) * v8 (ix2 x c)) ⊥) (four_groups (flagMask v11 v12 v37 (Scf.iv a b t) r) c)

theorem pay21_apply (i : grid0.Coords) (p : BitVec 32) (v11 : FVec Ideal S128x256 .bf16) (v12 v37 : IVec S512x128 32)
    (a b : BitVec 32) (t : Fin (k0_t3_loop i).trips) (r : Fin 512) (c : Fin 1024) :
    k0_pay21 (F := Ideal) i p v11 v12 v37 a b t (ix2 r c)
      = IntOp.andi (flagMask v11 v12 v37 (Scf.iv a b t) r ⟨c.val % 256, by omega⟩) (causalMask p (Scf.iv a b t) r ⟨c.val % 256, by omega⟩) := by
  pointwise [k0_pay21]
  exact four_groups (fun x => IntOp.andi (flagMask v11 v12 v37 (Scf.iv a b t) r x) (causalMask p (Scf.iv a b t) r x)) c

theorem pay26_apply (i : grid0.Coords) (p a b : BitVec 32) (t : Fin (k0_t5_loop i).trips) (r : Fin 256) (c : Fin 1024) :
    k0_pay26 i p a b t (ix2 r c) = windowMask p (Scf.iv a b t) r ⟨c.val % 256, by omega⟩ := by
  pointwise [k0_pay26]
  exact four_groups (windowMask p (Scf.iv a b t) r) c

theorem pay52_apply (sc : FVec Ideal S512x1024 .f32) (m : IVec S512x1024 1) (o : Ideal .f32) (r : Fin 512) (c : Fin 1024) :
    k0_pay52 (F := Ideal) sc m o (ix2 r c) = if m (ix2 r c) = 1#1 then sc (ix2 r c) else o := by
  pointwise [k0_pay52]
  rfl

theorem pay27_apply (i : grid0.Coords) (p : BitVec 32) (v8 : FVec Ideal S64x1024 .bf16) (a b : BitVec 32) (t : Fin (k0_t5_loop i).trips)
    (kc : Vec Ideal S1x256x64 .bf16) (r : Fin 256) (c : Fin 1024) :
    k0_pay27 (F := Ideal) i p v8 a b t kc (ix2 r c)
      = if k0_pay26 i p a b t (ix2 r c) = 1#1 then ∑ x : Fin 64, kc (ix3 0 r x) * v8 (ix2 x c) else ⊥ := by
  pointwise [k0_pay27]
  rw [show (Named.named κ "mask" 4048155338#32 : Ideal .f32) = ⊥ from maskConst_eq]
  rfl

theorem block_word : ∀ r : Fin 512,
    Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 r.val) 64#32) 0#32))
      (IntOp.subi (IntOp.divsi ArithUnit.vector (BitVec.ofNat 32 r.val) 64#32) 1#32)
      (IntOp.divsi ArithUnit.vector (BitVec.ofNat 32 r.val) 64#32) = BitVec.ofNat 32 (r.val / 64) := by decide +kernel

/-- The block of 64 keys a key of a chunk lies in. -/
theorem pay44_apply (r : Fin 512) (n : Fin 128) : k0_pay44 (ix2 r n) = BitVec.ofNat 32 (r.val / 64) := by
  pointwise [k0_pay44]
  exact block_word r

end Cert.SparseAttn

end
-- ==== Proof.Branch.Words.lean ====
/- The position words of the two branches: differences and comparisons of small naturals held in 32-bit words. -/
module

public import Idealize.ShloMosaic.Lib.WordCmp
public import Idealize.ShloMosaic.Lib.Pointwise

@[expose] public section

namespace Cert.SparseAttn

open Idealize.ShloMosaic

/-- The conjunction of two bits. -/
theorem and_bit : ∀ a b : BitVec 1, IntOp.andi a b = 1#1 ↔ a = 1#1 ∧ b = 1#1 := by decide

/-- The difference of two small words, signed. -/
theorem toInt_diff {p κ : ℕ} (hp : p < 65536) (hκ : κ < 65536) :
    (IntOp.subi (BitVec.ofNat 32 p) (BitVec.ofNat 32 κ)).toInt = (p : ℤ) - κ := by
  show (BitVec.ofNat 32 p - BitVec.ofNat 32 κ).toInt = _
  rw [BitVec.toInt_eq_toNat_cond, BitVec.toNat_sub, BitVec.toNat_ofNat, BitVec.toNat_ofNat]
  split <;> omega

/-- The difference is not negative where the key is not after the query. -/
theorem not_after {p κ : ℕ} (hp : p < 65536) (hκ : κ < 65536) :
    IntOp.cmpi .sge (IntOp.subi (BitVec.ofNat 32 p) (BitVec.ofNat 32 κ)) 0#32 = 1#1 ↔ κ ≤ p := by
  rw [WordCmp.cmpi_sge_eq, WordCmp.ofBool_decide_eq_one_iff, toInt_diff hp hκ]
  have : (0#32).toInt = 0 := by decide
  rw [this]; omega

/-- The difference is below 512 where the key is one of the 512 up to the query, or after it. -/
theorem in_window {p κ : ℕ} (hp : p < 65536) (hκ : κ < 65536) :
    IntOp.cmpi .slt (IntOp.subi (BitVec.ofNat 32 p) (BitVec.ofNat 32 κ)) 512#32 = 1#1 ↔ p < κ + 512 := by
  rw [WordCmp.cmpi_slt_eq, WordCmp.ofBool_decide_eq_one_iff, toInt_diff hp hκ]
  have : (512#32).toInt = 512 := by decide
  rw [this]; omega

end Cert.SparseAttn
-- ==== Proof.Branch.Block.lean ====
/- One block of the call of the two branches: 256 queries of the four query heads of one key head of one sequence,
   1024 columns, against every key they may see.  The loops that run leave the maxima, normalisers and weighted
   sums of all the scores up to the queries' own chunk. -/
module

public import proofs.«01_k».proof.Proof.Branch.Chunk
public import proofs.«01_k».proof.Proof.Branch.Words
public import Idealize.ShloMosaic.Lib.Pipeline.ValueKit
public import Idealize.ShloMosaic.Lib.Claim

@[expose] public section

set_option maxRecDepth 16384

noncomputable section

namespace Cert.SparseAttn

open Cert.Kernel7Ideal Cert.Kernel7Ideal.Gen Idealize.ShloMosaic Idealize.ShloMosaic.TcCoe Idealize.SL.Sem Cert.DiffAttn
open scoped BigOperators

/-! ## How often the loops run, and what a pass reads -/

theorem trips1 : ∀ i : grid0.Coords, (k0_t1_loop i).trips = (i 2).val / 2 := by decide +kernel
theorem trips2 : ∀ i : grid0.Coords, (k0_t2_loop i).trips = 0 := by decide +kernel
theorem trips3 : ∀ i : grid0.Coords, (k0_t3_loop i).trips = 1 := by decide +kernel
theorem trips4 : ∀ i : grid0.Coords, (k0_t4_loop i).trips = 0 := by decide +kernel
theorem trips5 : ∀ i : grid0.Coords, (k0_t5_loop i).trips = (i 2).val + 1 - ((i 2).val - 2) := by decide +kernel
theorem trips6 : ∀ i : grid0.Coords, (k0_t6_loop i).trips = 0 := by decide +kernel

theorem off1_eq : ∀ (i : grid0.Coords) (k : Fin (k0_t1_loop i).trips), k0_off1 i k = ![0, 512 * k.val, 0] := by decide +kernel
theorem off2_eq0 : ∀ (i : grid0.Coords) (k : Fin (k0_t1_loop i).trips), k0_off2 i k 0#32 = ![2 * k.val, 0, 0] := by decide +kernel
theorem off2_eq1 : ∀ (i : grid0.Coords) (k : Fin (k0_t1_loop i).trips), k0_off2 i k 1#32 = ![2 * k.val + 1, 0, 0] := by decide +kernel
theorem off5_eq : ∀ (i : grid0.Coords) (k : Fin (k0_t3_loop i).trips), k0_off5 i k = ![0, 512 * ((i 2).val / 2), 0] := by decide +kernel
theorem off6_eq0 : ∀ (i : grid0.Coords) (k : Fin (k0_t3_loop i).trips), k0_off6 i k 0#32 = ![2 * ((i 2).val / 2), 0, 0] := by decide +kernel
theorem off6_eq1 : ∀ (i : grid0.Coords) (k : Fin (k0_t3_loop i).trips), k0_off6 i k 1#32 = ![2 * ((i 2).val / 2) + 1, 0, 0] := by decide +kernel
theorem off9_eq : ∀ (i : grid0.Coords) (k : Fin (k0_t5_loop i).trips), k0_off9 i k = ![0, 256 * ((i 2).val - 2 + k.val), 0] := by decide +kernel
theorem off10_eq : ∀ (i : grid0.Coords) (k : Fin (k0_t5_loop i).trips), k0_off10 i k = ![(i 2).val - 2 + k.val, 0, 0] := by decide +kernel

/-! ## The words of a chunk -/

theorem before_word : ∀ k : Fin 4, Scalar.muli (Scf.iv 0#32 1#32 k.val) 8#32 = BitVec.ofNat 32 (8 * k.val) := by decide
theorem own_word8 : ∀ (i : Fin 8) (k : Fin 1),
    Scalar.muli (Scf.iv (BitVec.ofNat 32 (i.val / 2)) 1#32 k.val) 8#32 = BitVec.ofNat 32 (8 * (i.val / 2)) := by decide
theorem own_word512 : ∀ (i : Fin 8) (k : Fin 1),
    Scalar.muli (Scf.iv (BitVec.ofNat 32 (i.val / 2)) 1#32 k.val) 512#32 = BitVec.ofNat 32 (512 * (i.val / 2)) := by decide
theorem window_word : ∀ (i : Fin 8) (k : Fin 3),
    Scalar.muli (Scf.iv (BitVec.ofNat 32 (i.val - 2)) 1#32 k.val) 256#32 = BitVec.ofNat 32 (256 * (i.val - 2 + k.val)) := by decide
theorem query_word : ∀ i : Fin 8, Scalar.muli (BitVec.ofNat 32 i.val) 256#32 = BitVec.ofNat 32 (256 * i.val) := by decide

/-- The flag spread out to a key is the flag of the key's block. -/
theorem flagMask_iff (v11 : FVec Ideal S128x256 .bf16) (v12 v37 : IVec S512x128 32) (w : BitVec 32) (n : ℕ) (hn : n < 4)
    (h12 : ∀ r x, v12 (ix2 r x) = BitVec.ofNat 32 x.val) (h37 : ∀ r x, v37 (ix2 r x) = BitVec.ofNat 32 (r.val / 64))
    (hw : Scalar.muli w 8#32 = BitVec.ofNat 32 (8 * n)) (r : Fin 512) (x : Fin 256) :
    flagMask v11 v12 v37 w r x = 1#1 ↔ Ideal.ofBits FTy.f32 1056964608#32 < v11 (ix2 ⟨(512 * n + r.val) / 64, by omega⟩ x) := by
  unfold flagMask
  rw [WordCmp.ofBool_decide_eq_one_iff]
  have e : ∀ k : Fin 128, (IntOp.cmpi .eq (v12 (ix2 r k)) (IntOp.addi (v37 (ix2 r k)) (Scalar.muli w 8#32)) = 1#1)
      ↔ k = ⟨(512 * n + r.val) / 64, by omega⟩ := fun k => by
    have ha : IntOp.addi (v37 (ix2 r k)) (Scalar.muli w 8#32) = BitVec.ofNat 32 ((512 * n + r.val) / 64) := by
      rw [h37, hw, show (512 * n + r.val) / 64 = r.val / 64 + 8 * n by omega]
      exact (BitVec.ofNat_add _ _).symm
    rw [h12, ha, WordCmp.cmpi_eq_eq, WordCmp.ofBool_decide_eq_one_iff, WordCmp.ofNat_eq_ofNat_iff (by omega) (by omega)]
    exact ⟨fun h => Fin.ext h, fun h => congrArg Fin.val h⟩
  rw [Finset.sum_eq_single (⟨(512 * n + r.val) / 64, by omega⟩ : Fin 128)]
  · exact iff_of_eq (congrArg (_ < ·) (if_pos ((e _).mpr rfl)))
  · exact fun k _ hk => if_neg fun h => hk ((e k).mp h)
  · exact fun h => absurd (Finset.mem_univ _) h

theorem causalMask_iff (i : Fin 8) (w : BitVec 32) (n : ℕ) (hn : n < 4) (hw : Scalar.muli w 512#32 = BitVec.ofNat 32 (512 * n))
    (r : Fin 512) (x : Fin 256) :
    causalMask (BitVec.ofNat 32 i.val) w r x = 1#1 ↔ 512 * n + r.val ≤ 256 * i.val + x.val := by
  unfold causalMask
  rw [hw, query_word]
  show IntOp.cmpi .sle (BitVec.ofNat 32 r.val + BitVec.ofNat 32 (512 * n)) (BitVec.ofNat 32 (256 * i.val) + BitVec.ofNat 32 x.val) = 1#1 ↔ _
  rw [← BitVec.ofNat_add, ← BitVec.ofNat_add, Nat.add_comm r.val]
  exact WordCmp.cmpi_sle_ofNat_eq_one_iff (by norm_num; omega) (by norm_num; omega)

theorem windowMask_iff (i : Fin 8) (w : BitVec 32) (n : ℕ) (hn : n < 8) (hw : Scalar.muli w 256#32 = BitVec.ofNat 32 (256 * n))
    (r x : Fin 256) :
    windowMask (BitVec.ofNat 32 i.val) w r x = 1#1
      ↔ 256 * n + r.val ≤ 256 * i.val + x.val ∧ 256 * i.val + x.val < 256 * n + r.val + 512 := by
  unfold windowMask
  rw [hw, query_word]
  show IntOp.andi (IntOp.cmpi .sge (IntOp.subi (BitVec.ofNat 32 (256 * i.val) + BitVec.ofNat 32 x.val) (BitVec.ofNat 32 r.val + BitVec.ofNat 32 (256 * n))) _)
    (IntOp.cmpi .slt (IntOp.subi (BitVec.ofNat 32 (256 * i.val) + BitVec.ofNat 32 x.val) (BitVec.ofNat 32 r.val + BitVec.ofNat 32 (256 * n))) _) = 1#1 ↔ _
  rw [← BitVec.ofNat_add, ← BitVec.ofNat_add, Nat.add_comm r.val, and_bit, not_after (by omega) (by omega), in_window (by omega) (by omega)]

/-! ## The scores and the values of a block -/

/-- The score of key `κ` in column `c`. -/
def blockScore (v8 : FVec Ideal S64x1024 .bf16) (K : Vec Ideal S1x2048x64 .bf16) (c : Fin 1024) (κ : Fin 2048) : EReal :=
  ∑ x : Fin 64, K (ix3 0 κ x) * v8 (ix2 x c)

open Classical in
/-- The scores of column `c` in the selected branch: `⊥` at the keys of unflagged blocks and after the column's query. -/
def selScores (v8 : FVec Ideal S64x1024 .bf16) (v11 : FVec Ideal S128x256 .bf16) (K : Vec Ideal S1x2048x64 .bf16) (qi : ℕ)
    (c : Fin 1024) (κ : ℕ) : EReal :=
  if h : κ < 2048 then
    if Ideal.ofBits FTy.f32 1056964608#32 < v11 (ix2 ⟨κ / 64, by omega⟩ ⟨c.val % 256, by omega⟩) ∧ κ ≤ 256 * qi + c.val % 256
    then blockScore v8 K c ⟨κ, h⟩ else ⊥ else ⊥

open Classical in
/-- The scores of column `c` in the window branch. -/
def winScores (v8 : FVec Ideal S64x1024 .bf16) (K : Vec Ideal S1x2048x64 .bf16) (qi : ℕ) (c : Fin 1024) (κ : ℕ) : EReal :=
  if h : κ < 2048 then
    if κ ≤ 256 * qi + c.val % 256 ∧ 256 * qi + c.val % 256 < κ + 512 then blockScore v8 K c ⟨κ, h⟩ else ⊥ else ⊥

/-- Coordinate `e` of the values, in the order of the keys. -/
def values (V : Vec Ideal S8x64x256 .bf16) (e : Fin 64) (κ : ℕ) : EReal :=
  if h : κ < 2048 then V (ix3 ⟨κ / 256, by omega⟩ e ⟨κ % 256, by omega⟩) else 0

/-! ## What a pass loads -/

theorem keys_chunk (K : Vec Ideal S1x2048x64 .bf16) (off : Fin 3 → ℕ) (inb) (o : ℕ) (ho : off = ![0, o, 0])
    (hn : o + 512 ≤ 2048) (r : Fin 512) (x : Fin 64) :
    View.ld (Val := Elt Ideal) K (Rect.unit (s := S1x2048x64) off S1x512x64.size inb) (ix3 0 r x) = K (ix3 0 ⟨o + r.val, by omega⟩ x) := by
  subst ho
  pointwise

theorem keys_window (K : Vec Ideal S1x2048x64 .bf16) (off : Fin 3 → ℕ) (inb) (o : ℕ) (ho : off = ![0, o, 0])
    (hn : o + 256 ≤ 2048) (r : Fin 256) (x : Fin 64) :
    View.ld (Val := Elt Ideal) K (Rect.unit (s := S1x2048x64) off S1x256x64.size inb) (ix3 0 r x) = K (ix3 0 ⟨o + r.val, by omega⟩ x) := by
  subst ho
  pointwise

theorem values_chunk (V : Vec Ideal S8x64x256 .bf16) (off : Fin 3 → ℕ) (inb) (n : ℕ) (ho : off = ![n, 0, 0])
    (hn : n < 8) (e : Fin 64) (r : Fin 256) :
    View.ld (Val := Elt Ideal) V (Rect.unit (s := S8x64x256) off S1x64x256.size inb) (ix3 0 e r) = values V e (256 * n + r.val) := by
  subst ho
  pointwise
  unfold values
  rw [dif_pos (by omega)]
  congr 1
  have h1 : (256 * n + r.val) / 256 = n := by omega
  have h2 : (256 * n + r.val) % 256 = r.val := by omega
  simp only [h1, h2]

/-- Two blocks of values side by side. -/
theorem values_pair (V : Vec Ideal S8x64x256 .bf16) (off off' : Fin 3 → ℕ) (inb inb') (n : ℕ) (ho : off = ![2 * n, 0, 0])
    (ho' : off' = ![2 * n + 1, 0, 0]) (hn : n < 4) (e : Fin 64) (r : Fin 512) :
    k0_pay8 (F := Ideal) (View.ld (Val := Elt Ideal) V (Rect.unit (s := S8x64x256) off S1x64x256.size inb))
      (View.ld (Val := Elt Ideal) V (Rect.unit (s := S8x64x256) off' S1x64x256.size inb')) (ix2 e r) = values V e (512 * n + r.val) := by
  rw [pay8_apply]
  split
  · rw [values_chunk V off inb (2 * n) ho (by omega)]
    congr 1; show 256 * (2 * n) + r.val = _; omega
  · rw [values_chunk V off' inb' (2 * n + 1) ho' (by omega)]
    congr 1; show 256 * (2 * n + 1) + (r.val - 256) = _; omega

/-! ## The loops of the selected branch -/

section Selected

variable (c : Dev nD) (t : Fin cfg0.N)
variable (v8 : FVec Ideal S64x1024 .bf16) (v11 : FVec Ideal S128x256 .bf16) (K : Vec Ideal S1x2048x64 .bf16) (V : Vec Ideal S8x64x256 .bf16)
variable (hs : ∀ col, NoTop (selScores v8 v11 K (grid0.coords t 2).val col)) (hw : ∀ e, Reals (values V e))
variable (arg2 : BitVec 32) (v12 v37 : IVec S512x128 32) (v38 v39 : FVec Ideal S1x1024 .f32) (v40 : FVec Ideal S64x1024 .f32)
variable (v58 v63 : BitVec 32) (v77 : BitVec 1) (v84 v91 : BitVec 32)
variable (h2 : arg2 = BitVec.ofNat 32 (grid0.coords t 2).val)
variable (h12 : ∀ r x, v12 (ix2 r x) = BitVec.ofNat 32 x.val) (h37 : ∀ r x, v37 (ix2 r x) = BitVec.ofNat 32 (r.val / 64))
variable (h58 : v58 = BitVec.ofNat 32 ((grid0.coords t 2).val / 2))

/-- The three carried arrays after `N` scores. -/
abbrev selCarried (qi : ℕ) (N : ℕ) : FVec Ideal S1x1024 .f32 × FVec Ideal S1x1024 .f32 × FVec Ideal S64x1024 .f32 :=
  (maxs (selScores v8 v11 K qi) N, sums (selScores v8 v11 K qi) N, vals (selScores v8 v11 K qi) (values V) N)

theorem selCarried_zero (qi : ℕ) : (k0_pay45 (F := Ideal) maskConst, k0_pay46 (F := Ideal), k0_pay47 (F := Ideal)) = selCarried v8 v11 K V qi 0 := by
  unfold selCarried
  rw [pay45_eq _ (fun _ κ h => absurd h (Nat.not_lt_zero κ)), pay46_eq _ (fun _ κ h => absurd h (Nat.not_lt_zero κ)),
    pay47_eq _ (values V) (fun _ κ h => absurd h (Nat.not_lt_zero κ))]

include hs hw h12 h37 in
theorem trip1 (k : Fin (k0_t1_loop (grid0.coords t)).trips) :
    tripR_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) arg2 v8 v11 v12 v37 v38 v39 v40 v58 v63 v77
      ((hs0_1 t).unread K) ((hs0_2 t).unread V) k (selCarried v8 v11 K V (grid0.coords t 2).val (512 * k.val))
      = selCarried v8 v11 K V (grid0.coords t 2).val (512 * k.val + 512) := by
  have hk : k.val < (grid0.coords t 2).val / 2 := trips1 (grid0.coords t) ▸ k.isLt
  have h8 : (grid0.coords t 2).val < 8 := (grid0.coords t 2).isLt
  unfold tripR_k0_t1 trip_k0_t1
  frame_out
  have hsc : ∀ (r : Fin 512) (col : Fin 1024), k0_pay9 (F := Ideal) (grid0.coords t) v8 v11 v12 v37 0#32 1#32 k
      (View.ld (Val := Elt Ideal) K (Rect.unit (s := S1x2048x64) (k0_off1 (grid0.coords t) k) S1x512x64.size (k0_off1_inb _ _))) (ix2 r col)
      = selScores v8 v11 K (grid0.coords t 2).val col (512 * k.val + r.val) := fun r col => by
    rw [pay9_apply]
    unfold selScores blockScore
    rw [dif_pos (by omega)]
    refine if_congr ((flagMask_iff v11 v12 v37 _ k.val (by omega) h12 h37 (before_word ⟨k.val, by omega⟩) r _).trans
      ⟨fun h => ⟨h, by omega⟩, fun h => h.1⟩) (Finset.sum_congr rfl fun x _ => ?_) rfl
    rw [keys_chunk K _ _ (512 * k.val) (off1_eq _ _) (by omega)]
  have hv := fun e r => values_pair V _ _ (k0_off2_inb (grid0.coords t) k 0) (k0_off2_inb (grid0.coords t) k 1) k.val (off2_eq0 _ _) (off2_eq1 _ _) (by omega) e r
  unfold selCarried
  rw [← pay10_step _ _ _ _ _ _ _ _ _ hsc, ← pay48_step hs _ _ _ _ _ _ _ _ _ hsc, ← pay49_step hs hw _ _ _ _ _ _ _ _ _ hsc _ hv]
  rfl

include hs hw h12 h37 in
theorem loop1 (k : ℕ) (hk : k ≤ (grid0.coords t 2).val / 2) :
    st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) arg2 v8 v11 v12 v37 v38 v39 v40 v58 v63 v77
      ((hs0_1 t).unread K) ((hs0_2 t).unread V) (k0_pay45 maskConst, k0_pay46, k0_pay47) k
      = selCarried v8 v11 K V (grid0.coords t 2).val (512 * k) := by
  induction k with
  | zero => rw [st_k0_t1_zero, selCarried_zero v8 v11 K V (grid0.coords t 2).val]
  | succ n ih =>
    have hn : n < (k0_t1_loop (grid0.coords t)).trips := by rw [trips1]; omega
    rw [show n + 1 = (⟨n, hn⟩ : Fin (k0_t1_loop (grid0.coords t)).trips).val + 1 from rfl, st_k0_t1_succ, ih (by omega),
      trip1 c t v8 v11 K V hs hw arg2 v12 v37 v38 v39 v40 v58 v63 v77 h12 h37 ⟨n, hn⟩]
    rfl

include hs hw h2 h12 h37 h58 in
theorem trip3 (k : Fin (k0_t3_loop (grid0.coords t)).trips) :
    tripR_k0_t3 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) arg2 v8 v11 v12 v37 v38 v39 v40 v58 v63 v77
      ((hs0_1 t).unread K) ((hs0_2 t).unread V) k (selCarried v8 v11 K V (grid0.coords t 2).val (512 * ((grid0.coords t 2).val / 2)))
      = selCarried v8 v11 K V (grid0.coords t 2).val (512 * ((grid0.coords t 2).val / 2) + 512) := by
  have h8 : (grid0.coords t 2).val < 8 := (grid0.coords t 2).isLt
  have hk1 : k.val < 1 := trips3 (grid0.coords t) ▸ k.isLt
  unfold tripR_k0_t3 trip_k0_t3
  frame_out
  have hsc : ∀ (r : Fin 512) (col : Fin 1024), k0_pay52 (F := Ideal) (k0_pay20 v8
      (View.ld (Val := Elt Ideal) K (Rect.unit (s := S1x2048x64) (k0_off5 (grid0.coords t) k) S1x512x64.size (k0_off5_inb _ _))))
      (k0_pay21 (F := Ideal) (grid0.coords t) arg2 v11 v12 v37 v58 1#32 k) maskConst (ix2 r col)
      = selScores v8 v11 K (grid0.coords t 2).val col (512 * ((grid0.coords t 2).val / 2) + r.val) := fun r col => by
    rw [pay52_apply, pay20_apply, pay21_apply, maskConst_eq]
    subst h2 h58
    unfold selScores blockScore
    rw [dif_pos (by omega)]
    refine if_congr ((and_bit _ _).trans (and_congr
      (flagMask_iff v11 v12 v37 _ ((grid0.coords t 2).val / 2) (by omega) h12 h37 (own_word8 ⟨_, h8⟩ ⟨k.val, hk1⟩) r _)
      (causalMask_iff ⟨_, h8⟩ _ ((grid0.coords t 2).val / 2) (by omega) (own_word512 ⟨_, h8⟩ ⟨k.val, hk1⟩) r _)))
      (Finset.sum_congr rfl fun x _ => ?_) rfl
    rw [keys_chunk K _ _ (512 * ((grid0.coords t 2).val / 2)) (off5_eq _ _) (by omega)]
  have hv := fun e r => values_pair V _ _ (k0_off6_inb (grid0.coords t) k 0) (k0_off6_inb (grid0.coords t) k 1) _ (off6_eq0 _ _) (off6_eq1 _ _) (by omega) e r
  unfold selCarried
  rw [← pay53_step _ _ _ hsc, ← pay56_step hs _ _ _ hsc, ← pay57_step hs hw _ _ _ hsc _ hv]
  rfl

include hs hw h12 h37 in
theorem loop1_end (n : ℕ) (hn : n = (grid0.coords t 2).val / 2) :
    st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) arg2 v8 v11 v12 v37 v38 v39 v40 v58 v63 v77
      ((hs0_1 t).unread K) ((hs0_2 t).unread V) (k0_pay45 maskConst, k0_pay46, k0_pay47) n
      = selCarried v8 v11 K V (grid0.coords t 2).val (512 * ((grid0.coords t 2).val / 2)) := by
  subst hn
  exact loop1 c t v8 v11 K V hs hw arg2 v12 v37 v38 v39 v40 v58 v63 v77 h12 h37 _ le_rfl

theorem loop2_end (init) (n : ℕ) (hn : n = 0) :
    st_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) arg2 v8 v11 v12 v37 v38 v39 v40 v58 v63 v77 v84
      ((hs0_1 t).unread K) ((hs0_2 t).unread V) init n = init := by
  subst hn
  exact st_k0_t2_zero ..

include hs hw h2 h12 h37 h58 in
theorem loop3_end (init) (hi : init = selCarried v8 v11 K V (grid0.coords t 2).val (512 * ((grid0.coords t 2).val / 2))) (n : ℕ) (hn : n = 1) :
    st_k0_t3 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) arg2 v8 v11 v12 v37 v38 v39 v40 v58 v63 v77
      ((hs0_1 t).unread K) ((hs0_2 t).unread V) init n
      = selCarried v8 v11 K V (grid0.coords t 2).val (512 * ((grid0.coords t 2).val / 2) + 512) := by
  subst hn hi
  have h0 : 0 < (k0_t3_loop (grid0.coords t)).trips := by rw [trips3]; exact Nat.one_pos
  refine (st_k0_t3_succ Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) arg2 v8 v11 v12 v37 v38 v39 v40 v58 v63 v77
    ((hs0_1 t).unread K) ((hs0_2 t).unread V) _ ⟨0, h0⟩).trans ?_
  rw [show (⟨0, h0⟩ : Fin (k0_t3_loop (grid0.coords t)).trips).val = 0 from rfl, st_k0_t3_zero]
  exact trip3 c t v8 v11 K V hs hw arg2 v12 v37 v38 v39 v40 v58 v63 v77 h2 h12 h37 h58 ⟨0, h0⟩

theorem loop4_end (init) (n : ℕ) (hn : n = 0) :
    st_k0_t4 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) arg2 v8 v11 v12 v37 v38 v39 v40 v58 v63 v77 v91
      ((hs0_1 t).unread K) ((hs0_2 t).unread V) init n = init := by
  subst hn
  exact st_k0_t4_zero ..

end Selected

/-! ## The loops of the window branch -/

section Window

variable (c : Dev nD) (t : Fin cfg0.N)
variable (v8 : FVec Ideal S64x1024 .bf16) (K : Vec Ideal S1x2048x64 .bf16) (V : Vec Ideal S8x64x256 .bf16)
variable (hs : ∀ col, NoTop (winScores v8 K (grid0.coords t 2).val col)) (hw : ∀ e, Reals (values V e))
variable (arg2 v128 v154 : BitVec 32)
variable (h2 : arg2 = BitVec.ofNat 32 (grid0.coords t 2).val) (h128 : v128 = BitVec.ofNat 32 ((grid0.coords t 2).val - 2))

/-- The three carried arrays after `N` scores. -/
abbrev winCarried (qi : ℕ) (N : ℕ) : FVec Ideal S1x1024 .f32 × FVec Ideal S1x1024 .f32 × FVec Ideal S64x1024 .f32 :=
  (maxs (winScores v8 K qi) N, sums (winScores v8 K qi) N, vals (winScores v8 K qi) (values V) N)

/-- Before the window every score is masked. -/
theorem winScores_before (qi : ℕ) (col : Fin 1024) (κ : ℕ) (h : κ < 256 * (qi - 2)) : winScores v8 K qi col κ = ⊥ := by
  unfold winScores
  split
  · exact if_neg fun h' => by omega
  · rfl

theorem winCarried_start (qi : ℕ) :
    (k0_pay45 (F := Ideal) maskConst, k0_pay46 (F := Ideal), k0_pay47 (F := Ideal)) = winCarried v8 K V qi (256 * (qi - 2)) := by
  unfold winCarried
  rw [pay45_eq _ (winScores_before v8 K qi), pay46_eq _ (winScores_before v8 K qi), pay47_eq _ (values V) (winScores_before v8 K qi)]

include hs hw h2 h128 in
theorem trip5 (k : Fin (k0_t5_loop (grid0.coords t)).trips) :
    tripR_k0_t5 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) arg2 v8 v128
      ((hs0_3 t).unread K) ((hs0_4 t).unread V) k (winCarried v8 K V (grid0.coords t 2).val (256 * ((grid0.coords t 2).val - 2 + k.val)))
      = winCarried v8 K V (grid0.coords t 2).val (256 * ((grid0.coords t 2).val - 2 + k.val) + 256) := by
  have h8 : (grid0.coords t 2).val < 8 := (grid0.coords t 2).isLt
  have hk : k.val < (grid0.coords t 2).val + 1 - ((grid0.coords t 2).val - 2) := trips5 (grid0.coords t) ▸ k.isLt
  unfold tripR_k0_t5 trip_k0_t5
  frame_out
  have hm : ∀ (r : Fin 256) (col : Fin 1024), k0_pay26 (grid0.coords t) arg2 v128 1#32 k (ix2 r col) = 1#1
      ↔ 256 * ((grid0.coords t 2).val - 2 + k.val) + r.val ≤ 256 * (grid0.coords t 2).val + col.val % 256
        ∧ 256 * (grid0.coords t 2).val + col.val % 256 < 256 * ((grid0.coords t 2).val - 2 + k.val) + r.val + 512 := fun r col => by
    rw [pay26_apply]
    subst h2 h128
    exact windowMask_iff ⟨_, h8⟩ _ ((grid0.coords t 2).val - 2 + k.val) (by omega) (window_word ⟨_, h8⟩ ⟨k.val, by omega⟩) r _
  have hsc : ∀ (r : Fin 256) (col : Fin 1024), k0_pay27 (F := Ideal) (grid0.coords t) arg2 v8 v128 1#32 k
      (View.ld (Val := Elt Ideal) K (Rect.unit (s := S1x2048x64) (k0_off9 (grid0.coords t) k) S1x256x64.size (k0_off9_inb _ _))) (ix2 r col)
      = winScores v8 K (grid0.coords t 2).val col (256 * ((grid0.coords t 2).val - 2 + k.val) + r.val) := fun r col => by
    rw [pay27_apply]
    unfold winScores blockScore
    rw [dif_pos (by omega)]
    refine if_congr (hm r col) (Finset.sum_congr rfl fun x _ => ?_) rfl
    rw [keys_window K _ _ (256 * ((grid0.coords t 2).val - 2 + k.val)) (off9_eq _ _) (by omega)]
  have hmask : ∀ (r : Fin 256) (col : Fin 1024), k0_pay26 (grid0.coords t) arg2 v128 1#32 k (ix2 r col) ≠ 1#1
      → winScores v8 K (grid0.coords t 2).val col (256 * ((grid0.coords t 2).val - 2 + k.val) + r.val) = ⊥ := fun r col h => by
    unfold winScores
    rw [dif_pos (by omega)]
    exact if_neg fun h' => h ((hm r col).mpr h')
  have hv := fun e r => values_chunk V _ (k0_off10_inb (grid0.coords t) k) _ (off10_eq _ _) (by omega) e r
  unfold winCarried
  rw [← pay28_step _ _ _ _ _ _ _ hsc, ← pay31_step hs _ _ _ _ _ _ _ hsc hmask, ← pay1_step hs hw _ _ _ _ _ _ _ hsc hmask _ hv]

include hs hw h2 h128 in
theorem loop5 (k : ℕ) (hk : k ≤ (grid0.coords t 2).val + 1 - ((grid0.coords t 2).val - 2)) :
    st_k0_t5 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) arg2 v8 v128
      ((hs0_3 t).unread K) ((hs0_4 t).unread V) (k0_pay45 maskConst, k0_pay46, k0_pay47) k
      = winCarried v8 K V (grid0.coords t 2).val (256 * ((grid0.coords t 2).val - 2 + k)) := by
  induction k with
  | zero => rw [st_k0_t5_zero, winCarried_start v8 K V (grid0.coords t 2).val]; rfl
  | succ n ih =>
    have hn : n < (k0_t5_loop (grid0.coords t)).trips := by rw [trips5]; omega
    rw [show n + 1 = (⟨n, hn⟩ : Fin (k0_t5_loop (grid0.coords t)).trips).val + 1 from rfl, st_k0_t5_succ, ih (by omega),
      trip5 c t v8 K V hs hw arg2 v128 h2 h128 ⟨n, hn⟩]
    rfl

include hs hw h2 h128 in
theorem loop5_end (n : ℕ) (hn : n = (grid0.coords t 2).val + 1 - ((grid0.coords t 2).val - 2)) :
    st_k0_t5 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) arg2 v8 v128
      ((hs0_3 t).unread K) ((hs0_4 t).unread V) (k0_pay45 maskConst, k0_pay46, k0_pay47) n
      = winCarried v8 K V (grid0.coords t 2).val (256 * (grid0.coords t 2).val + 256) := by
  rw [loop5 c t v8 K V hs hw arg2 v128 h2 h128 n hn.le, hn]
  congr 1 <;> omega

theorem loop6_end (init) (n : ℕ) (hn : n = 0) :
    st_k0_t6 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) arg2 v8 v154
      ((hs0_3 t).unread K) ((hs0_4 t).unread V) init n = init := by
  subst hn
  exact st_k0_t6_zero ..

end Window

end Cert.SparseAttn

end
-- ==== Proof.Branch.Attend.lean ====
/- The two branches of the sparse attention as one function of their arrays and of which keys a query sees, over
   extended reals: what the kernel and the reference are both shown to compute. -/
module

public import proofs.«01_k».proof.Proof.Branch.Rows
public import proofs.«01_k».proof.Proof.Attn.Attention

@[expose] public section

noncomputable section

namespace Cert.SparseAttn

open Idealize.ShloMosaic Cert.DiffAttn
open scoped BigOperators

/-- Queries: sequence, position, key head, query head of that key head, coordinate. -/
abbrev Queries : Type := Fin 8 → Fin 2048 → Fin 4 → Fin 4 → Fin 64 → EReal
/-- Keys and values: sequence, position, key (0) or value (1), key head, coordinate. -/
abbrev KeyValues : Type := Fin 8 → Fin 2048 → Fin 2 → Fin 4 → Fin 64 → EReal
/-- The flags of the selection: key head, block of 64 keys, query counted over all sequences. -/
abbrev Flags : Type := Fin 4 → Fin 128 → Fin 16384 → EReal

/-- The threshold of a flag. -/
abbrev half : EReal := Ideal.ofBits .f32 0x3F000000#32

/-- The keys query `p` sees in the selected branch: those of the flagged blocks, up to `p`. -/
def chosen (f : Flags) (b : Fin 8) (k : Fin 4) (p κ : Fin 2048) : Prop :=
  half < f k ⟨κ.val / 64, by omega⟩ ⟨b.val * 2048 + p.val, by omega⟩ ∧ κ.val ≤ p.val

/-- The keys query `p` sees in the window branch: itself and the 511 before it. -/
def near (p κ : Fin 2048) : Prop := κ.val ≤ p.val ∧ p.val < κ.val + 512

/-- The value of a key's score that is seen. -/
abbrev score (q : Queries) (kv : KeyValues) (b : Fin 8) (p : Fin 2048) (k g : Fin 4) (κ : Fin 2048) : EReal :=
  (∑ d : Fin 64, kv b κ 0 k d * q b p k g d) * scale

open Classical in
/-- The scores of a query, `⊥` at the keys it does not see. -/
def row (q : Queries) (kv : KeyValues) (sees : Fin 2048 → Prop) (b : Fin 8) (p : Fin 2048) (k g : Fin 4) (κ : ℕ) : EReal :=
  if hκ : κ < 2048 then if sees ⟨κ, hκ⟩ then score q kv b p k g ⟨κ, hκ⟩ else ⊥ else ⊥

/-- One coordinate of the values, in the order of the keys. -/
def valueRow (kv : KeyValues) (b : Fin 8) (k : Fin 4) (e : Fin 64) (κ : ℕ) : EReal :=
  if hκ : κ < 2048 then kv b ⟨κ, hκ⟩ 1 k e else 0

/-- The attention of one query over the keys it sees, in one coordinate. -/
def attend (q : Queries) (kv : KeyValues) (sees : Fin 2048 → Prop) (b : Fin 8) (p : Fin 2048) (k g : Fin 4) (e : Fin 64) : EReal :=
  rowVal (row q kv sees b p k g) (valueRow kv b k e) 2048 * Ideal.div 1 (max (rowSum (row q kv sees b p k g) 2048) floor)

/-! ## Reals in, reals inside -/

/-- The queries, keys and values of a branch are reals. -/
structure AllReal (q : Queries) (kv : KeyValues) : Prop where
  q : ∀ b p k g d, ∃ r : ℝ, q b p k g d = (r : EReal)
  kv : ∀ b p x k d, ∃ r : ℝ, kv b p x k d = (r : EReal)

section

variable {q : Queries} {kv : KeyValues} (hr : AllReal q kv)
include hr

theorem score_real (b : Fin 8) (p : Fin 2048) (k g : Fin 4) (κ : Fin 2048) : ∃ r : ℝ, score q kv b p k g κ = (r : EReal) := by
  obtain ⟨a, ha⟩ := dot_real (kv b κ 0 k) (q b p k g) (hr.kv b κ 0 k) (hr.q b p k g)
  obtain ⟨s, hs⟩ := scale_real
  exact ⟨a * s, by unfold score; rw [ha, hs, EReal.coe_mul]⟩

theorem row_noTop (sees : Fin 2048 → Prop) (b : Fin 8) (p : Fin 2048) (k g : Fin 4) : NoTop (row q kv sees b p k g) := fun κ => by
  unfold row
  split
  · split
    · obtain ⟨r, e⟩ := score_real hr b p k g ⟨κ, by assumption⟩
      rw [e]; exact EReal.coe_ne_top r
    · exact bot_ne_top
  · exact bot_ne_top

theorem valueRow_reals (b : Fin 8) (k : Fin 4) (e : Fin 64) : Reals (valueRow kv b k e) := fun κ => by
  unfold valueRow
  split
  · exact hr.kv _ _ _ _ _
  · exact ⟨0, rfl⟩

/-- The attention as the sum of the values weighted by the softmax. -/
theorem attend_eq (sees : Fin 2048 → Prop) (b : Fin 8) (p : Fin 2048) (k g : Fin 4) (e : Fin 64) :
    attend q kv sees b p k g e = ∑ κ : Fin 2048, kv b κ 1 k e
      * Ideal.div (Ideal.exp (row q kv sees b p k g κ.val - rowMax (row q kv sees b p k g) 2048))
          (max (rowSum (row q kv sees b p k g) 2048) floor) := by
  unfold attend
  rw [softmax_sum (row_noTop hr sees b p k g) (valueRow_reals hr b k e) 2048 floor_real, Finset.sum_range]
  refine Finset.sum_congr rfl fun κ _ => ?_
  unfold valueRow
  rw [dif_pos κ.isLt]

/-- The scale taken into the queries comes out of the score. -/
theorem scaled_score (b : Fin 8) (p : Fin 2048) (k g : Fin 4) (κ : Fin 2048) :
    ∑ d : Fin 64, kv b κ 0 k d * (q b p k g d * scale) = score q kv b p k g κ := by
  rw [scaled_dot _ _ (hr.q b p k g) (hr.kv b κ 0 k)]
  unfold score
  congr 1
  exact Finset.sum_congr rfl fun d _ => mul_comm _ _

end

end Cert.SparseAttn

end
-- ==== Proof.Branch.Inputs.lean ====
/- The blocks the call of the two branches reads, in terms of the arguments of the program: the host's scaling,
   reshapes and transposes undone.  A grid point `(b, k, i)` works on sequence `b`, key head `k`, queries
   `256 i … 256 i + 255` of its four query heads. -/
module

public import proofs.«01_k».proof.Proof.Branch.Block
public import proofs.«01_k».proof.Proof.Branch.Attend

@[expose] public section

set_option maxRecDepth 16384
set_option maxHeartbeats 2000000

noncomputable section

namespace Cert.SparseAttn

open Cert.Kernel7Ideal Cert.Kernel7Ideal.Gen Idealize.ShloMosaic Idealize.ShloMosaic.TcCoe Idealize.SL.Sem Cert.DiffAttn
open scoped BigOperators

variable (m : (ℓ : Loc nD τ sig) → Buf (Elt Ideal) ℓ)

/-- Where each window's block lies. -/
theorem index_eq : ∀ t : Fin cfg0.N,
    win0_0.index t = ![(grid0.coords t 1).val, (grid0.coords t 0).val * 8 + (grid0.coords t 2).val]
      ∧ win0_1.index t = ![(grid0.coords t 1).val, (grid0.coords t 0).val, 0]
      ∧ win0_2.index t = ![(grid0.coords t 0).val, (grid0.coords t 1).val, 0]
      ∧ win0_3.index t = ![(grid0.coords t 1).val, (grid0.coords t 0).val, 0]
      ∧ win0_4.index t = ![(grid0.coords t 0).val, (grid0.coords t 1).val, 0]
      ∧ win0_5.index t = ![(grid0.coords t 1).val, 0, (grid0.coords t 0).val * 8 + (grid0.coords t 2).val]
      ∧ win0_6.index t = ![(grid0.coords t 1).val, (grid0.coords t 0).val * 8 + (grid0.coords t 2).val]
      ∧ win0_7.index t = ![(grid0.coords t 1).val, (grid0.coords t 0).val * 8 + (grid0.coords t 2).val] := by
  decide +kernel

/-- The grid point's sequence, key head and block of queries. -/
abbrev seq (t : Fin cfg0.N) : Fin 8 := ⟨(grid0.coords t 0).val, (grid0.coords t 0).isLt⟩
abbrev head (t : Fin cfg0.N) : Fin 4 := ⟨(grid0.coords t 1).val, (grid0.coords t 1).isLt⟩
abbrev qblock (t : Fin cfg0.N) : Fin 8 := ⟨(grid0.coords t 2).val, (grid0.coords t 2).isLt⟩

/-- The arguments as arrays by coordinates. -/
abbrev argQ (c : Dev nD) : Queries := fun b p k g d => m ((c : Thread nD τ).loc main_arg0) (ix5 b p k g d)
abbrev argS (c : Dev nD) : KeyValues := fun b p x k d => m ((c : Thread nD τ).loc main_arg1) (ix5 b p x k d)
abbrev argW (c : Dev nD) : KeyValues := fun b p x k d => m ((c : Thread nD τ).loc main_arg2) (ix5 b p x k d)
abbrev argF (c : Dev nD) : Flags := fun k n p => m ((c : Thread nD τ).loc main_arg3) (ix3 k n p)

theorem iblk_q (c : Dev nD) (t : Fin cfg0.N) (y : Fin 256) (j : Fin 256) :
    iblk m c 0 t (ix2 y j) = argQ m c (seq t) ⟨256 * (qblock t).val + j.val, by omega⟩ (head t) ⟨y.val / 64, by omega⟩ ⟨y.val % 64, by omega⟩ * scale := by
  blk_simp [iblk]
  entry_read
  pointwise
  congr 1
  have h0 : (grid0.coords t 0).val < 8 := (grid0.coords t 0).isLt
  have h1 : (grid0.coords t 1).val < 4 := (grid0.coords t 1).isLt
  have h2 : (grid0.coords t 2).val < 8 := (grid0.coords t 2).isLt
  blk_ext [index_eq t]
  all_goals omega

theorem iblk_ks (c : Dev nD) (t : Fin cfg0.N) (κ : Fin 2048) (d : Fin 64) :
    iblk m c 1 t (ix3 0 κ d) = argS m c (seq t) κ 0 (head t) d := by
  have h0 : (grid0.coords t 0).val < 8 := (grid0.coords t 0).isLt
  have h1 : (grid0.coords t 1).val < 4 := (grid0.coords t 1).isLt
  blk_simp [iblk]
  entry_read
  pointwise
  blk_ext [index_eq t]

theorem iblk_vs (c : Dev nD) (t : Fin cfg0.N) (n : Fin 8) (e : Fin 64) (r : Fin 256) :
    iblk m c 2 t (ix3 n e r) = argS m c (seq t) ⟨n.val * 256 + r.val, by omega⟩ 1 (head t) e := by
  have h0 : (grid0.coords t 0).val < 8 := (grid0.coords t 0).isLt
  have h1 : (grid0.coords t 1).val < 4 := (grid0.coords t 1).isLt
  blk_simp [iblk]
  entry_read
  pointwise
  blk_ext [index_eq t]

theorem iblk_kw (c : Dev nD) (t : Fin cfg0.N) (κ : Fin 2048) (d : Fin 64) :
    iblk m c 3 t (ix3 0 κ d) = argW m c (seq t) κ 0 (head t) d := by
  have h0 : (grid0.coords t 0).val < 8 := (grid0.coords t 0).isLt
  have h1 : (grid0.coords t 1).val < 4 := (grid0.coords t 1).isLt
  blk_simp [iblk]
  entry_read
  pointwise
  blk_ext [index_eq t]

theorem iblk_vw (c : Dev nD) (t : Fin cfg0.N) (n : Fin 8) (e : Fin 64) (r : Fin 256) :
    iblk m c 4 t (ix3 n e r) = argW m c (seq t) ⟨n.val * 256 + r.val, by omega⟩ 1 (head t) e := by
  have h0 : (grid0.coords t 0).val < 8 := (grid0.coords t 0).isLt
  have h1 : (grid0.coords t 1).val < 4 := (grid0.coords t 1).isLt
  blk_simp [iblk]
  entry_read
  pointwise
  blk_ext [index_eq t]

theorem iblk_f (c : Dev nD) (t : Fin cfg0.N) (n : Fin 128) (j : Fin 256) :
    iblk m c 5 t (ix3 0 n j) = argF m c (head t) n ⟨2048 * (seq t).val + (256 * (qblock t).val + j.val), by omega⟩ := by
  blk_simp [iblk]
  entry_read
  pointwise
  have h0 : (grid0.coords t 0).val < 8 := (grid0.coords t 0).isLt
  have h1 : (grid0.coords t 1).val < 4 := (grid0.coords t 1).isLt
  have h2 : (grid0.coords t 2).val < 8 := (grid0.coords t 2).isLt
  blk_ext [index_eq t]
  all_goals omega

/-! ## The queries and flags as the kernel arranges them -/

/-- The queries of the four query heads side by side, one head per 256 columns. -/
abbrev arranged (X0 : Vec Ideal S256x256 .bf16) : FVec Ideal S64x1024 .bf16 :=
  k0_pay42 (View.ld (Val := Elt Ideal) X0 (Rect.unit (s := S256x256) ![0, 0] ![64, 256] inb_S256x256_S64x256_0_0))
    (View.ld (Val := Elt Ideal) X0 (Rect.unit (s := S256x256) ![64, 0] ![64, 256] inb_S256x256_S64x256_64_0))
    (View.ld (Val := Elt Ideal) X0 (Rect.unit (s := S256x256) ![128, 0] ![64, 256] inb_S256x256_S64x256_128_0))
    (View.ld (Val := Elt Ideal) X0 (Rect.unit (s := S256x256) ![192, 0] ![64, 256] inb_S256x256_S64x256_192_0))

theorem arranged_apply (X0 : Vec Ideal S256x256 .bf16) (d : Fin 64) (col : Fin 1024) :
    arranged X0 (ix2 d col) = X0 (ix2 ⟨64 * (col.val / 256) + d.val, by omega⟩ ⟨col.val % 256, by omega⟩) := by
  unfold arranged
  pointwise [k0_pay42]
  have at_eq : ∀ (a a' b b' : Fin 256), a.val = a'.val → b.val = b'.val → X0 (ix2 a b) = X0 (ix2 a' b') := fun a a' b b' h h' => by
    rw [Fin.ext h, Fin.ext h']
  split
  · exact at_eq _ _ _ _ (by show d.val = 64 * (col.val / 256) + d.val; omega) (by show col.val = col.val % 256; omega)
  · split
    · exact at_eq _ _ _ _ (by show 64 + d.val = 64 * (col.val / 256) + d.val; omega) (by show col.val - 256 = col.val % 256; omega)
    · split
      · exact at_eq _ _ _ _ (by show 128 + d.val = 64 * (col.val / 256) + d.val; omega) (by show col.val - 256 - 256 = col.val % 256; omega)
      · exact at_eq _ _ _ _ (by show 192 + d.val = 64 * (col.val / 256) + d.val; omega) (by show col.val - 256 - 256 - 256 = col.val % 256; omega)

theorem pay43_apply (X : Vec Ideal S1x128x256 .f32) (n : Fin 128) (j : Fin 256) : k0_pay43 (F := Ideal) X (ix2 n j) = X (ix3 0 n j) := by
  pointwise [k0_pay43]

/-! ## The scores and the values -/

/-- The query a column stands for. -/
abbrev position (t : Fin cfg0.N) (col : Fin 1024) : Fin 2048 :=
  ⟨256 * (qblock t).val + col.val % 256, by have := (qblock t).isLt; omega⟩

/-- The query head, of the four of the key head, a column stands for. -/
abbrev group (col : Fin 1024) : Fin 4 := ⟨col.val / 256, by omega⟩

theorem arranged_q (c : Dev nD) (t : Fin cfg0.N) (d : Fin 64) (col : Fin 1024) :
    arranged (iblk m c 0 t) (ix2 d col) = argQ m c (seq t) (position t col) (head t) (group col) d * scale := by
  rw [arranged_apply, iblk_q]
  have e1 : (64 * (col.val / 256) + d.val) / 64 = col.val / 256 := by omega
  have e2 : (64 * (col.val / 256) + d.val) % 64 = d.val := by omega
  simp only [e1, e2]

theorem selScores_eq (c : Dev nD) (hr : AllReal (argQ m c) (argS m c)) (t : Fin cfg0.N) (col : Fin 1024) :
    selScores (arranged (iblk m c 0 t)) (k0_pay43 (iblk m c 5 t)) (iblk m c 1 t) (grid0.coords t 2).val col
      = row (argQ m c) (argS m c) (chosen (argF m c) (seq t) (head t) (position t col)) (seq t) (position t col) (head t) (group col) := by
  funext κ
  unfold selScores row
  refine dite_congr rfl (fun hκ => ?_) fun _ => rfl
  classical refine if_congr ?_ ?_ rfl
  · rw [pay43_apply, iblk_f]
    unfold chosen
    rw [show (⟨(seq t).val * 2048 + (position t col).val, by omega⟩ : Fin 16384)
      = ⟨2048 * (seq t).val + (256 * (qblock t).val + col.val % 256), by omega⟩ from Fin.ext (by
        show (seq t).val * 2048 + (256 * (qblock t).val + col.val % 256) = 2048 * (seq t).val + (256 * (qblock t).val + col.val % 256); omega)]
  · unfold blockScore
    rw [← scaled_score hr]
    exact Finset.sum_congr rfl fun d _ => by rw [arranged_q, iblk_ks]

theorem winScores_eq (c : Dev nD) (hr : AllReal (argQ m c) (argW m c)) (t : Fin cfg0.N) (col : Fin 1024) :
    winScores (arranged (iblk m c 0 t)) (iblk m c 3 t) (grid0.coords t 2).val col
      = row (argQ m c) (argW m c) (near (position t col)) (seq t) (position t col) (head t) (group col) := by
  funext κ
  unfold winScores row
  refine dite_congr rfl (fun hκ => ?_) fun _ => rfl
  classical refine if_congr Iff.rfl ?_ rfl
  unfold blockScore
  rw [← scaled_score hr]
  exact Finset.sum_congr rfl fun d _ => by rw [arranged_q, iblk_kw]

theorem selValues_eq (c : Dev nD) (t : Fin cfg0.N) (e : Fin 64) :
    values (iblk m c 2 t) e = valueRow (argS m c) (seq t) (head t) e := by
  funext κ
  unfold values valueRow
  refine dite_congr rfl (fun hκ => ?_) fun _ => rfl
  rw [iblk_vs]
  congr 1
  exact Fin.ext (by show κ / 256 * 256 + κ % 256 = κ; omega)

theorem winValues_eq (c : Dev nD) (t : Fin cfg0.N) (e : Fin 64) :
    values (iblk m c 4 t) e = valueRow (argW m c) (seq t) (head t) e := by
  funext κ
  unfold values valueRow
  refine dite_congr rfl (fun hκ => ?_) fun _ => rfl
  rw [iblk_vw]
  congr 1
  exact Fin.ext (by show κ / 256 * 256 + κ % 256 = κ; omega)

end Cert.SparseAttn

end
-- ==== Proof.Branch.Output.lean ====
/- What the call of the two branches leaves in its two results: at every grid point the two blocks it stores, each in
   four pieces, one per query head. -/
module

public import proofs.«01_k».proof.Proof.Branch.Inputs
public import Idealize.ShloMosaic.Lib.Pipeline.Covers
public import Idealize.ShloMosaic.Lib.Pipeline.ReadBack

@[expose] public section

set_option maxRecDepth 131072
set_option maxHeartbeats 2000000

noncomputable section

namespace Cert.SparseAttn

open Cert.Kernel7Ideal Cert.Kernel7Ideal.Gen Idealize.ShloMosaic Idealize.ShloMosaic.TcCoe Idealize.SL.Sem Cert.DiffAttn
open Idealize.ShloMosaic.Pipeline (Dat)
open scoped BigOperators

variable (m : (ℓ : Loc nD τ sig) → Buf (Elt Ideal) ℓ)

/-! ## The pieces of a stored block -/

/-- A stored entry, row `64 a + e` of query head `a`, from the carried normalisers and weighted sums. -/
def entry (l : FVec Ideal S1x1024 .f32) (v : FVec Ideal S64x1024 .f32) (y j : Fin 256) : EReal :=
  v (ix2 ⟨y.val % 64, by omega⟩ ⟨256 * (y.val / 64) + j.val, by omega⟩)
    * Ideal.div 1 (max (l (ix2 0 ⟨256 * (y.val / 64) + j.val, by omega⟩)) floor)

/-- The pieces of the selected branch, the last query head first. -/
def selPieces (l : FVec Ideal S1x1024 .f32) (v : FVec Ideal S64x1024 .f32) : List (View.Piece (Elt Ideal) S256x256 .bf16) :=
  [⟨Rect.unit ![192, 0] ![64, 256] inb_S256x256_S64x256_192_0, k0_pay68 l v⟩,
    ⟨Rect.unit ![128, 0] ![64, 256] inb_S256x256_S64x256_128_0, k0_pay67 l v⟩,
    ⟨Rect.unit ![64, 0] ![64, 256] inb_S256x256_S64x256_64_0, k0_pay66 l v⟩,
    ⟨Rect.unit ![0, 0] ![64, 256] inb_S256x256_S64x256_0_0, k0_pay65 l v⟩]

/-- The pieces of the window branch. -/
def winPieces (l : FVec Ideal S1x1024 .f32) (v : FVec Ideal S64x1024 .f32) : List (View.Piece (Elt Ideal) S256x256 .bf16) :=
  [⟨Rect.unit ![192, 0] ![64, 256] inb_S256x256_S64x256_192_0, k0_pay7 l v⟩,
    ⟨Rect.unit ![128, 0] ![64, 256] inb_S256x256_S64x256_128_0, k0_pay6 l v⟩,
    ⟨Rect.unit ![64, 0] ![64, 256] inb_S256x256_S64x256_64_0, k0_pay5 l v⟩,
    ⟨Rect.unit ![0, 0] ![64, 256] inb_S256x256_S64x256_0_0, k0_pay4 l v⟩]

/-- Query head `a`'s columns of the scaled sums are its rows of the block. -/
theorem piece_eq (l : FVec Ideal S1x1024 .f32) (v : FVec Ideal S64x1024 .f32) (a o : ℕ) (ha : a < 4) (ho : o = 64 * a)
    (io : ∀ k, (![o, 0] : Fin 2 → ℕ) k + (![64, 256] : Fin 2 → ℕ) k ≤ S256x256.size k) (e : Fin 64) (j : Fin 256) :
    v (ix2 e ⟨256 * a + j.val, by omega⟩) * Ideal.div 1 (max (l (ix2 0 ⟨256 * a + j.val, by omega⟩)) floor)
      = entry l v ((Rect.unit (s := S256x256) ![o, 0] ![64, 256] io).emb (ix2 e j) 0)
          ((Rect.unit (s := S256x256) ![o, 0] ![64, 256] io).emb (ix2 e j) 1) := by
  subst ho
  have e0 : (Rect.unit (s := S256x256) ![64 * a, 0] ![64, 256] io).emb (ix2 e j) 0 = (⟨64 * a + e.val, by omega⟩ : Fin 256) :=
    Fin.ext (by show 64 * a + 1 * e.val = 64 * a + e.val; omega)
  have e1 : (Rect.unit (s := S256x256) ![64 * a, 0] ![64, 256] io).emb (ix2 e j) 1 = j :=
    Fin.ext (by show 0 + 1 * j.val = j.val; omega)
  rw [e0, e1]
  unfold entry
  have d1 : (64 * a + e.val) / 64 = a := by omega
  have d2 : (64 * a + e.val) % 64 = e.val := by omega
  simp only [d1, d2]

/-- An index of a piece. -/
theorem piece_index (x : S64x256.Idx) : ∃ (e : Fin 64) (j : Fin 256), x = ix2 e j :=
  ⟨x 0, x 1, by funext k; fin_cases k <;> rfl⟩

theorem selPieces_of (l : FVec Ideal S1x1024 .f32) (v : FVec Ideal S64x1024 .f32) :
    View.PiecesOf (Val := Elt Ideal) (s := S256x256) (e := .bf16) (fun y => show EReal from entry l v (y 0) (y 1)) (selPieces l v) := by
  refine ⟨fun x => ?_, fun x => ?_, fun x => ?_, fun x => ?_, trivial⟩
  · obtain ⟨e, j, rfl⟩ := piece_index x
    refine Eq.trans ?_ (piece_eq l v 3 192 (by norm_num) rfl inb_S256x256_S64x256_192_0 e j)
    show k0_pay68 l v (ix2 e j) = _
    pointwise [k0_pay68, k0_pay64]
  · obtain ⟨e, j, rfl⟩ := piece_index x
    refine Eq.trans ?_ (piece_eq l v 2 128 (by norm_num) rfl inb_S256x256_S64x256_128_0 e j)
    show k0_pay67 l v (ix2 e j) = _
    pointwise [k0_pay67, k0_pay64]
  · obtain ⟨e, j, rfl⟩ := piece_index x
    refine Eq.trans ?_ (piece_eq l v 1 64 (by norm_num) rfl inb_S256x256_S64x256_64_0 e j)
    show k0_pay66 l v (ix2 e j) = _
    pointwise [k0_pay66, k0_pay64]
  · obtain ⟨e, j, rfl⟩ := piece_index x
    refine Eq.trans ?_ (piece_eq l v 0 0 (by norm_num) rfl inb_S256x256_S64x256_0_0 e j)
    show k0_pay65 l v (ix2 e j) = _
    pointwise [k0_pay65, k0_pay64]

theorem winPieces_of (l : FVec Ideal S1x1024 .f32) (v : FVec Ideal S64x1024 .f32) :
    View.PiecesOf (Val := Elt Ideal) (s := S256x256) (e := .bf16) (fun y => show EReal from entry l v (y 0) (y 1)) (winPieces l v) :=
  selPieces_of l v

theorem selPieces_apply (l : FVec Ideal S1x1024 .f32) (v : FVec Ideal S64x1024 .f32) (y j : Fin 256) :
    View.canon (selPieces l v) (ix2 y j) = entry l v y j :=
  View.canon_apply_of_pieces (Val := Elt Ideal) (S := S256x256) (e := .bf16) (fun y => show EReal from entry l v (y 0) (y 1))
    _ (selPieces_of l v).mem (ix2 y j)
    (View.cover_of_tiledL (selPieces l v) S64x256.size (by sl_kernel_rfl) (ix2 y j))

theorem winPieces_apply (l : FVec Ideal S1x1024 .f32) (v : FVec Ideal S64x1024 .f32) (y j : Fin 256) :
    View.canon (winPieces l v) (ix2 y j) = entry l v y j :=
  View.canon_apply_of_pieces (Val := Elt Ideal) (S := S256x256) (e := .bf16) (fun y => show EReal from entry l v (y 0) (y 1))
    _ (winPieces_of l v).mem (ix2 y j)
    (View.cover_of_tiledL (winPieces l v) S64x256.size (by sl_kernel_rfl) (ix2 y j))

/-! ## The words a grid point computes from its coordinates -/

theorem key_word (r : Fin 512) (n : Fin 128) : (iota .tc S512x128 32 [1] iota_S512x128_d1_w32) (ix2 r n) = BitVec.ofNat 32 n.val := by
  pointwise

theorem chunk_word : ∀ i : Fin 8,
    Scalar.select
      (Scalar.andi
        (Scalar.cmpi .ne
          (Scalar.subi (Scalar.extui (Scalar.cmpi .sgt (Scalar.muli (BitVec.ofNat 32 i.val) 256#32) 0#32))
            (Scalar.extui (Scalar.cmpi .slt (Scalar.muli (BitVec.ofNat 32 i.val) 256#32) 0#32)))
          (Scalar.subi (Scalar.extui (Scalar.cmpi .sgt 512#32 0#32)) (Scalar.extui (Scalar.cmpi .slt 512#32 0#32))))
        (Scalar.cmpi .ne (Scalar.remsi (Scalar.muli (BitVec.ofNat 32 i.val) 256#32) 512#32) 0#32))
      (Scalar.subi (Scalar.divsi (Scalar.muli (BitVec.ofNat 32 i.val) 256#32) 512#32) 1#32)
      (Scalar.divsi (Scalar.muli (BitVec.ofNat 32 i.val) 256#32) 512#32) = BitVec.ofNat 32 (i.val / 2) := by decide

theorem first_word : ∀ i : Fin 8,
    Scalar.select
      (Scalar.andi
        (Scalar.cmpi .ne
          (Scalar.subi (Scalar.extui (Scalar.cmpi .sgt (Scalar.maxsi (Scalar.subi (Scalar.muli (BitVec.ofNat 32 i.val) 256#32) 511#32) 0#32) 0#32))
            (Scalar.extui (Scalar.cmpi .slt (Scalar.maxsi (Scalar.subi (Scalar.muli (BitVec.ofNat 32 i.val) 256#32) 511#32) 0#32) 0#32)))
          (Scalar.subi (Scalar.extui (Scalar.cmpi .sgt 256#32 0#32)) (Scalar.extui (Scalar.cmpi .slt 256#32 0#32))))
        (Scalar.cmpi .ne (Scalar.remsi (Scalar.maxsi (Scalar.subi (Scalar.muli (BitVec.ofNat 32 i.val) 256#32) 511#32) 0#32) 256#32) 0#32))
      (Scalar.subi (Scalar.divsi (Scalar.maxsi (Scalar.subi (Scalar.muli (BitVec.ofNat 32 i.val) 256#32) 511#32) 0#32) 256#32) 1#32)
      (Scalar.divsi (Scalar.maxsi (Scalar.subi (Scalar.muli (BitVec.ofNat 32 i.val) 256#32) 511#32) 0#32) 256#32) = BitVec.ofNat 32 (i.val - 2) := by decide

/-! ## One grid point -/

theorem outs_sel (c : Dev nD) (t : Fin cfg0.N)
    (hs : ∀ col, NoTop (selScores (arranged (iblk m c 0 t)) (k0_pay43 (iblk m c 5 t)) (iblk m c 1 t) (grid0.coords t 2).val col))
    (hw : ∀ e, Reals (values (iblk m c 2 t) e)) (y : S256x256.Idx) :
    (outsAt0 m c t).1 y = View.canon (selPieces
      (sums (selScores (arranged (iblk m c 0 t)) (k0_pay43 (iblk m c 5 t)) (iblk m c 1 t) (grid0.coords t 2).val) (512 * ((grid0.coords t 2).val / 2) + 512))
      (vals (selScores (arranged (iblk m c 0 t)) (k0_pay43 (iblk m c 5 t)) (iblk m c 1 t) (grid0.coords t 2).val) (values (iblk m c 2 t))
        (512 * ((grid0.coords t 2).val / 2) + 512))) y := by
  unfold outsAt0
  frame_out
  have h8 : (grid0.coords t 2).val < 8 := (grid0.coords t 2).isLt
  rw [loop1_end c t _ _ _ _ hs hw _ _ _ _ _ _ _ _ _ ?h12 ?h37 _ ?n1, loop2_end c t _ _ _ _ _ _ _ _ _ _ _ _ _ _ _ _ ?n2,
    loop3_end c t _ _ _ _ hs hw _ _ _ _ _ _ _ _ _ ?g2 ?g12 ?g37 ?g58 _ ?i3 _ ?n3, loop4_end c t _ _ _ _ _ _ _ _ _ _ _ _ _ _ _ _ ?n4]
  · rfl
  · exact trips4 (grid0.coords t)
  · rfl
  · exact key_word
  · exact pay44_apply
  · exact chunk_word ⟨_, h8⟩
  · rfl
  · exact trips3 (grid0.coords t)
  · exact trips2 (grid0.coords t)
  · exact key_word
  · exact pay44_apply
  · exact trips1 (grid0.coords t)

theorem outs_win (c : Dev nD) (t : Fin cfg0.N)
    (hs : ∀ col, NoTop (winScores (arranged (iblk m c 0 t)) (iblk m c 3 t) (grid0.coords t 2).val col))
    (hw : ∀ e, Reals (values (iblk m c 4 t) e)) (y : S256x256.Idx) :
    (outsAt0 m c t).2 y = View.canon (winPieces
      (sums (winScores (arranged (iblk m c 0 t)) (iblk m c 3 t) (grid0.coords t 2).val) (256 * (grid0.coords t 2).val + 256))
      (vals (winScores (arranged (iblk m c 0 t)) (iblk m c 3 t) (grid0.coords t 2).val) (values (iblk m c 4 t))
        (256 * (grid0.coords t 2).val + 256))) y := by
  unfold outsAt0
  frame_out
  have h8 : (grid0.coords t 2).val < 8 := (grid0.coords t 2).isLt
  rw [loop5_end c t _ _ _ hs hw _ _ ?h2 ?h128 _ ?n5, loop6_end c t _ _ _ _ _ _ _ ?n6]
  · rfl
  · exact trips6 (grid0.coords t)
  · rfl
  · exact first_word ⟨_, h8⟩
  · exact trips5 (grid0.coords t)

/-! ## One stored entry, and the two arrays -/

/-- A query does not see the keys after itself. -/
theorem row_end (q : Queries) (kv : KeyValues) (sees : Fin 2048 → Prop) (b : Fin 8) (p : Fin 2048) (k g : Fin 4)
    (hsees : ∀ κ, sees κ → κ.val ≤ p.val) (N : ℕ) (hN : p.val < N) : ∀ κ, N ≤ κ → row q kv sees b p k g κ = ⊥ := fun κ h => by
  classical
  unfold row
  split
  · rename_i hκ
    exact if_neg fun hn => by have := hsees _ hn; simp only at this; omega
  · rfl

/-- An entry from scores that are a row up to its last visible key. -/
theorem entry_attend (q : Queries) (kv : KeyValues) (sees : Fin 2048 → Prop) (b : Fin 8) (p : Fin 2048) (k g : Fin 4) (N : ℕ)
    (hN : N ≤ 2048) (hp : p.val < N) (hsees : ∀ κ, sees κ → κ.val ≤ p.val) (s : Fin 1024 → ℕ → EReal) (w : Fin 64 → ℕ → EReal)
    (y j : Fin 256) (hs : s ⟨256 * (y.val / 64) + j.val, by omega⟩ = row q kv sees b p k g)
    (hw : w ⟨y.val % 64, by omega⟩ = valueRow kv b k ⟨y.val % 64, by omega⟩) :
    entry (sums s N) (vals s w N) y j = attend q kv sees b p k g ⟨y.val % 64, by omega⟩ := by
  show rowVal (s ⟨256 * (y.val / 64) + j.val, _⟩) (w ⟨y.val % 64, _⟩) N
    * Ideal.div 1 (max (rowSum (s ⟨256 * (y.val / 64) + j.val, _⟩) N) floor) = _
  rw [hs, hw]
  unfold attend
  rw [rowSum_masked _ hN (row_end q kv sees b p k g hsees N hp), rowVal_masked _ _ hN (row_end q kv sees b p k g hsees N hp)]

/-- The query of a column of a block. -/
abbrev query (t : Fin cfg0.N) (j : Fin 256) : Fin 2048 := ⟨256 * (qblock t).val + j.val, by have := (qblock t).isLt; omega⟩

theorem position_eq (t : Fin cfg0.N) (y j : Fin 256) : position t ⟨256 * (y.val / 64) + j.val, by omega⟩ = query t j :=
  Fin.ext (by
    show 256 * (grid0.coords t 2).val + (256 * (y.val / 64) + j.val) % 256 = 256 * (grid0.coords t 2).val + j.val
    omega)

theorem group_eq (y j : Fin 256) : group ⟨256 * (y.val / 64) + j.val, by omega⟩ = ⟨y.val / 64, by omega⟩ :=
  Fin.ext (by show (256 * (y.val / 64) + j.val) / 256 = y.val / 64; omega)

theorem sel_stored (c : Dev nD) (hr : AllReal (argQ m c) (argS m c)) (t : Fin cfg0.N) (y j : Fin 256) :
    (outsAt0 m c t).1 (ix2 y j) = attend (argQ m c) (argS m c) (chosen (argF m c) (seq t) (head t) (query t j)) (seq t) (query t j)
      (head t) ⟨y.val / 64, by omega⟩ ⟨y.val % 64, by omega⟩ := by
  have h8 : (grid0.coords t 2).val < 8 := (grid0.coords t 2).isLt
  have hsc := selScores_eq m c hr t
  rw [outs_sel m c t (fun col => hsc col ▸ row_noTop hr _ _ _ _ _) (fun e => selValues_eq m c t e ▸ valueRow_reals hr _ _ e),
    selPieces_apply]
  refine entry_attend _ _ _ _ _ _ _ _ (by omega) ?_ (fun κ h => h.2) _ _ y j ?_ (selValues_eq m c t _)
  · show 256 * (grid0.coords t 2).val + j.val < _
    omega
  · rw [hsc, position_eq, group_eq]

theorem win_stored (c : Dev nD) (hr : AllReal (argQ m c) (argW m c)) (t : Fin cfg0.N) (y j : Fin 256) :
    (outsAt0 m c t).2 (ix2 y j) = attend (argQ m c) (argW m c) (near (query t j)) (seq t) (query t j)
      (head t) ⟨y.val / 64, by omega⟩ ⟨y.val % 64, by omega⟩ := by
  have h8 : (grid0.coords t 2).val < 8 := (grid0.coords t 2).isLt
  have hsc := winScores_eq m c hr t
  rw [outs_win m c t (fun col => hsc col ▸ row_noTop hr _ _ _ _ _) (fun e => winValues_eq m c t e ▸ valueRow_reals hr _ _ e),
    winPieces_apply]
  refine entry_attend _ _ _ _ _ _ _ _ (by omega) ?_ (fun κ h => h.1) _ _ y j ?_ (winValues_eq m c t _)
  · show 256 * (grid0.coords t 2).val + j.val < _
    omega
  · rw [hsc, position_eq, group_eq]

/-- The coordinates of a row and a column of a result. -/
abbrev rowHead (r : Fin 1024) : Fin 4 := ⟨r.val / 256, by omega⟩
abbrev rowGroup (r : Fin 1024) : Fin 4 := ⟨r.val / 64 % 4, by omega⟩
abbrev rowCoord (r : Fin 1024) : Fin 64 := ⟨r.val % 64, by omega⟩
abbrev colSeq (x : Fin 16384) : Fin 8 := ⟨x.val / 2048, by omega⟩
abbrev colQuery (x : Fin 16384) : Fin 2048 := ⟨x.val % 2048, by omega⟩

/-- What the selected branch's array holds. -/
def selResult (c : Dev nD) : Buf (Elt Ideal) ((c : Thread nD τ).loc main_v25_0) := fun j : S1024x16384.Idx =>
  attend (argQ m c) (argS m c) (chosen (argF m c) (colSeq (j 1)) (rowHead (j 0)) (colQuery (j 1))) (colSeq (j 1)) (colQuery (j 1))
    (rowHead (j 0)) (rowGroup (j 0)) (rowCoord (j 0))

/-- What the window branch's array holds. -/
def winResult (c : Dev nD) : Buf (Elt Ideal) ((c : Thread nD τ).loc main_v25_1) := fun j : S1024x16384.Idx =>
  attend (argQ m c) (argW m c) (near (colQuery (j 1))) (colSeq (j 1)) (colQuery (j 1))
    (rowHead (j 0)) (rowGroup (j 0)) (rowCoord (j 0))

/-- The coordinates of an entry of a grid point's block, from its place in the array. -/
theorem place (t : Fin cfg0.N) (y j : Fin 256) (r : Fin 1024) (x : Fin 16384)
    (hrow : r.val = (grid0.coords t 1).val * 256 + y.val)
    (hcol : x.val = ((grid0.coords t 0).val * 8 + (grid0.coords t 2).val) * 256 + j.val) :
    colSeq x = seq t ∧ colQuery x = query t j ∧ rowHead r = head t ∧ rowGroup r = ⟨y.val / 64, by omega⟩
      ∧ rowCoord r = ⟨y.val % 64, by omega⟩ := by
  have h0 : (grid0.coords t 0).val < 8 := (grid0.coords t 0).isLt
  have h1 : (grid0.coords t 1).val < 4 := (grid0.coords t 1).isLt
  have h2 : (grid0.coords t 2).val < 8 := (grid0.coords t 2).isLt
  refine ⟨Fin.ext ?_, Fin.ext ?_, Fin.ext ?_, Fin.ext ?_, Fin.ext ?_⟩
  · show x.val / 2048 = (grid0.coords t 0).val; omega
  · show x.val % 2048 = 256 * (grid0.coords t 2).val + j.val; omega
  · show r.val / 256 = (grid0.coords t 1).val; omega
  · show r.val / 64 % 4 = y.val / 64; omega
  · show r.val % 64 = y.val % 64; omega

theorem sel_place (c : Dev nD) (t : Fin cfg0.N) (y j : Fin 256) (r : Fin 1024) (x : Fin 16384)
    (hrow : r.val = (grid0.coords t 1).val * 256 + y.val)
    (hcol : x.val = ((grid0.coords t 0).val * 8 + (grid0.coords t 2).val) * 256 + j.val) :
    attend (argQ m c) (argS m c) (chosen (argF m c) (seq t) (head t) (query t j)) (seq t) (query t j) (head t)
        ⟨y.val / 64, by omega⟩ ⟨y.val % 64, by omega⟩
      = attend (argQ m c) (argS m c) (chosen (argF m c) (colSeq x) (rowHead r) (colQuery x)) (colSeq x) (colQuery x) (rowHead r) (rowGroup r) (rowCoord r) := by
  obtain ⟨a, b, d, e, f⟩ := place t y j r x hrow hcol
  rw [a, b, d, e, f]

theorem sel_array (c : Dev nD) (hr : AllReal (argQ m c) (argS m c)) : (dats m 0 c).arrAt 6 cfg0.N = selResult m c := by
  refine (dats m 0 c).arrAt_eq_of_covers 6 _ (by decide +kernel) fun t hf y => ?_
  blk_simp
  rw [after0_6]
  obtain ⟨y, j, rfl⟩ : ∃ (e : Fin 256) (j : Fin 256), y = ix2 e j := ⟨y 0, y 1, by funext a; fin_cases a <;> rfl⟩
  rw [sel_stored m c hr t y j]
  have e0 : ((win0_6.blk t).view.emb (ix2 y j) 0).val = (grid0.coords t 1).val * 256 + y.val := by
    blk_simp [index_eq t]
  have e1 : ((win0_6.blk t).view.emb (ix2 y j) 1).val = ((grid0.coords t 0).val * 8 + (grid0.coords t 2).val) * 256 + j.val := by
    blk_simp [index_eq t]
  exact sel_place m c t y j _ _ e0 e1

theorem win_place (c : Dev nD) (t : Fin cfg0.N) (y j : Fin 256) (r : Fin 1024) (x : Fin 16384)
    (hrow : r.val = (grid0.coords t 1).val * 256 + y.val)
    (hcol : x.val = ((grid0.coords t 0).val * 8 + (grid0.coords t 2).val) * 256 + j.val) :
    attend (argQ m c) (argW m c) (near (query t j)) (seq t) (query t j) (head t)
        ⟨y.val / 64, by omega⟩ ⟨y.val % 64, by omega⟩
      = attend (argQ m c) (argW m c) (near (colQuery x)) (colSeq x) (colQuery x) (rowHead r) (rowGroup r) (rowCoord r) := by
  obtain ⟨a, b, d, e, f⟩ := place t y j r x hrow hcol
  rw [a, b, d, e, f]

theorem win_array (c : Dev nD) (hr : AllReal (argQ m c) (argW m c)) : (dats m 0 c).arrAt 7 cfg0.N = winResult m c := by
  refine (dats m 0 c).arrAt_eq_of_covers 7 _ (by decide +kernel) fun t hf y => ?_
  blk_simp
  rw [after0_7]
  obtain ⟨y, j, rfl⟩ : ∃ (e : Fin 256) (j : Fin 256), y = ix2 e j := ⟨y 0, y 1, by funext a; fin_cases a <;> rfl⟩
  rw [win_stored m c hr t y j]
  have e0 : ((win0_7.blk t).view.emb (ix2 y j) 0).val = (grid0.coords t 1).val * 256 + y.val := by
    blk_simp [index_eq t]
  have e1 : ((win0_7.blk t).view.emb (ix2 y j) 1).val = ((grid0.coords t 0).val * 8 + (grid0.coords t 2).val) * 256 + j.val := by
    blk_simp [index_eq t]
  exact win_place m c t y j _ _ e0 e1

end Cert.SparseAttn

end
-- ==== Proof.Branch.Reference.lean ====
/- What the reference of the two branches computes, stage by stage: which keys a query sees, the masked scores, their
   maxima, the exponentials, the softmax, and the values weighted by it. -/
module

public import proofs.«01_k».proof.Proof.Gen.Reference7Ideal.Read
public import proofs.«01_k».proof.Proof.Branch.Attend
public import Idealize.ShloMosaic.Lib.Pointwise
public import proofs.«01_k».proof.Proof.Branch.Words

@[expose] public section

set_option maxRecDepth 16384

noncomputable section

namespace Cert.SparseAttn.Ref

open Cert.Reference7Ideal Cert.Reference7Ideal.Read Idealize.ShloMosaic Idealize.ShloMosaic.TcCoe Cert.DiffAttn
open scoped BigOperators

variable (q : (⟨S8x2048x4x4x64, .f32⟩ : BufTy).Contents (Elt Ideal))
variable (kv : (⟨S8x2048x2x4x64, .f32⟩ : BufTy).Contents (Elt Ideal))
variable (f : (⟨S4x128x16384, .f32⟩ : BufTy).Contents (Elt Ideal))

/-- The queries, by coordinates. -/
abbrev queries : Queries := fun b p k g d => q (ix5 b p k g d)
/-- The keys and values, by coordinates. -/
abbrev keyValues : KeyValues := fun b p x k d => kv (ix5 b p x k d)
/-- The flags, by coordinates. -/
abbrev flags : Flags := fun k n c => f (ix3 k n c)

/-- The largest of all 2048 scores, as the maximum of a row. -/
theorem rowMax_all (s : ℕ → EReal) : (Finset.univ.sup fun x : Fin 2048 => s x.val) = rowMax s 2048 := by
  have e := rowMax_add s 0 2048
  rw [rowMax_zero] at e
  simp only [Nat.zero_add] at e
  rw [e]
  exact (bot_sup_eq _).symm

/-! ## Which keys a query sees -/

theorem chosen_iff (b : Fin 8) (p : Fin 2048) (k : Fin 4) (κ : Fin 2048) :
    val_main_v19 (F := Ideal) f (ix5 b p k 0 κ) = 1#1 ↔ chosen (flags f) b k p κ := by
  pointwise [val_main_v19, val_main_v18, val_main_v17, val_main_v16, val_main_v15, val_main_c, val_main_v14, val_main_v13, val_main_v12,
    val_main_v11, val_main_v10, val_main_v9, val_main_v8, val_main_v7, val_main_v6, val_main_v5, val_main_v4, val_main_v3, val_main_v2,
    val_main_v1, val_main_v0, val_main_cst]
  rw [and_bit, WordCmp.ofBool_decide_eq_one_iff, not_after (by omega) (by omega)]
  rfl

theorem near_iff (p κ : Fin 2048) : val_main_v51 (F := Ideal) (ix5 0 p 0 0 κ) = 1#1 ↔ near p κ := by
  pointwise [val_main_v51, val_main_v50, val_main_v49, val_main_v48, val_main_v47, val_main_v46, val_main_c_6, val_main_c_7, val_main_v13, val_main_v12,
    val_main_v11, val_main_v10, val_main_v9, val_main_v0]
  rw [and_bit, not_after (by omega) (by omega), in_window (by omega) (by omega)]
  rfl

/-! ## The selected branch -/

section

variable (b : Fin 8) (p : Fin 2048) (k g : Fin 4) (κ : Fin 2048)

/-- The scores of the selected branch. -/
abbrev selRow : ℕ → EReal := row (queries q) (keyValues kv) (chosen (flags f) b k p) b p k g

theorem sel_scores : val_main_v26 (F := Ideal) q kv f (ix5 b p k g κ) = selRow q kv f b p k g κ.val := by
  pointwise [val_main_v26, val_main_call0_v0, val_main_call0_v1, val_main_call0_v2, val_main_v25, val_main_v24, val_main_v23,
    val_main_v22, val_main_v21, val_main_v20, val_main_cst_0, val_main_cst_1]
  unfold selRow row
  rw [dif_pos κ.isLt]
  classical exact if_congr (chosen_iff f b p k κ) rfl ofBits_neg_inf

theorem sel_max : val_main_v27 (F := Ideal) q kv f (ix4 b p k g) = rowMax (selRow q kv f b p k g) 2048 := by
  pointwise [val_main_v27, val_main_cst_2]
  rw [ofBits_neg_inf, fold_max_bot]
  simp only [sel_scores]
  exact rowMax_all _

theorem sel_exp : val_main_v32 (F := Ideal) q kv f (ix5 b p k g κ)
    = Ideal.exp (selRow q kv f b p k g κ.val - rowMax (selRow q kv f b p k g) 2048) := by
  pointwise [val_main_v32, val_main_v31, val_main_v30, val_main_v29, val_main_v28, val_main_call1_v0, val_main_call1_v1,
    val_main_call1_v2, val_main_cst_3]
  rw [sel_scores, sel_max]
  by_cases h : chosen (flags f) b k p κ
  · exact if_pos ((chosen_iff f b p k κ).mpr h)
  · refine (if_neg fun h1 => h ((chosen_iff f b p k κ).mp h1)).trans ?_
    have c : selRow q kv f b p k g κ.val = ⊥ := by
      unfold selRow row; rw [dif_pos κ.isLt]; classical exact if_neg h
    rw [c, exp_masked]
    exact Ideal.ofBits_zero .f32

theorem sel_softmax : val_main_v38 (F := Ideal) q kv f (ix5 b p k g κ)
    = Ideal.div (Ideal.exp (selRow q kv f b p k g κ.val - rowMax (selRow q kv f b p k g) 2048))
        (max (rowSum (selRow q kv f b p k g) 2048) floor) := by
  pointwise [val_main_v38, val_main_v37, val_main_v36, val_main_v35, val_main_v34, val_main_v33, val_main_cst_4, val_main_cst_5]
  simp only [sel_exp]
  unfold rowSum
  rw [Finset.sum_range]

end

theorem sel_apply (hr : AllReal (queries q) (keyValues kv)) (r : Fin 1024) (c : Fin 16384) :
    val_main_v45 (F := Ideal) q kv f (ix2 r c)
      = attend (queries q) (keyValues kv)
          (chosen (flags f) ⟨c.val / 2048, by omega⟩ ⟨r.val / 256, by omega⟩ ⟨c.val % 2048, by omega⟩)
          ⟨c.val / 2048, by omega⟩ ⟨c.val % 2048, by omega⟩ ⟨r.val / 256, by omega⟩ ⟨r.val / 64 % 4, by omega⟩ ⟨r.val % 64, by omega⟩ := by
  rw [attend_eq hr]
  pointwise [val_main_v45, val_main_v44, val_main_v43, val_main_v42, val_main_v41, val_main_v40, val_main_v39]
  simp only [sel_softmax]

/-! ## The window branch -/

section

variable (b : Fin 8) (p : Fin 2048) (k g : Fin 4) (κ : Fin 2048)

/-- The scores of the window branch. -/
abbrev winRow : ℕ → EReal := row (queries q) (keyValues kv) (near p) b p k g

theorem win_scores : val_main_v58 (F := Ideal) q kv (ix5 b p k g κ) = winRow q kv b p k g κ.val := by
  pointwise [val_main_v58, val_main_call2_v0, val_main_call2_v1, val_main_call2_v2, val_main_v57, val_main_v56, val_main_v55,
    val_main_v54, val_main_v53, val_main_v52, val_main_cst_8, val_main_cst_9]
  unfold winRow row
  rw [dif_pos κ.isLt]
  classical exact if_congr (near_iff p κ) rfl ofBits_neg_inf

theorem win_max : val_main_v59 (F := Ideal) q kv (ix4 b p k g) = rowMax (winRow q kv b p k g) 2048 := by
  pointwise [val_main_v59, val_main_cst_10]
  rw [ofBits_neg_inf, fold_max_bot]
  simp only [win_scores]
  exact rowMax_all _

theorem win_exp : val_main_v64 (F := Ideal) q kv (ix5 b p k g κ)
    = Ideal.exp (winRow q kv b p k g κ.val - rowMax (winRow q kv b p k g) 2048) := by
  pointwise [val_main_v64, val_main_v63, val_main_v62, val_main_v61, val_main_v60, val_main_call3_v0, val_main_call3_v1,
    val_main_call3_v2, val_main_cst_11]
  rw [win_scores, win_max]
  by_cases h : near p κ
  · exact if_pos ((near_iff p κ).mpr h)
  · refine (if_neg fun h1 => h ((near_iff p κ).mp h1)).trans ?_
    have c : winRow q kv b p k g κ.val = ⊥ := by
      unfold winRow row; rw [dif_pos κ.isLt]; classical exact if_neg h
    rw [c, exp_masked]
    exact Ideal.ofBits_zero .f32

theorem win_softmax : val_main_v70 (F := Ideal) q kv (ix5 b p k g κ)
    = Ideal.div (Ideal.exp (winRow q kv b p k g κ.val - rowMax (winRow q kv b p k g) 2048))
        (max (rowSum (winRow q kv b p k g) 2048) floor) := by
  pointwise [val_main_v70, val_main_v69, val_main_v68, val_main_v67, val_main_v66, val_main_v65, val_main_cst_12, val_main_cst_13]
  simp only [win_exp]
  unfold rowSum
  rw [Finset.sum_range]

end

theorem win_apply (hr : AllReal (queries q) (keyValues kv)) (r : Fin 1024) (c : Fin 16384) :
    val_main_v77 (F := Ideal) q kv (ix2 r c)
      = attend (queries q) (keyValues kv) (near ⟨c.val % 2048, by omega⟩)
          ⟨c.val / 2048, by omega⟩ ⟨c.val % 2048, by omega⟩ ⟨r.val / 256, by omega⟩ ⟨r.val / 64 % 4, by omega⟩ ⟨r.val % 64, by omega⟩ := by
  rw [attend_eq hr]
  pointwise [val_main_v77, val_main_v76, val_main_v75, val_main_v74, val_main_v73, val_main_v72, val_main_v71]
  simp only [win_softmax]

end Cert.SparseAttn.Ref

end
-- ==== Proof.Branch.Finite.lean ====
/- What the precondition says of the arrays: every element of the queries and of the two branches' keys and values is a
   real. -/
module

public import proofs.«01_k».proof.Pre_finite_kv
public import proofs.«01_k».proof.Proof.Attn.Finite
public import proofs.«01_k».proof.Proof.Branch.Attend

@[expose] public section

set_option maxRecDepth 16384

noncomputable section

namespace Cert.SparseAttn

open Cert.Pre_finite_kv Idealize.ShloMosaic Idealize.ShloMosaic.TcCoe Cert.DiffAttn

/-- The side conditions of the precondition's operations. -/
theorem pre_facts : Cert.Pre_finite_kv.Facts where
  bcast_S_S8x2048x4x4x64 := by decide
  reducesTo_S8x2048x4x4x64_S_d0_1_2_3_4 := by decide
  h_S_ := by decide
  bcast_S_S8x2048x2x4x64 := by decide
  reducesTo_S8x2048x2x4x64_S_d0_1_2_3_4 := by decide

instance : Subsingleton Cert.Pre_finite_kv.S_.Idx := ⟨fun i j => funext fun a => a.elim0⟩

/-- The precondition at its arrays: each comparison holds at each index. -/
theorem reals_of_pre [Cert.Pre_finite_kv.Facts] (q : FVec Ideal S8x2048x4x4x64 .f32) (s w : FVec Ideal S8x2048x2x4x64 .f32)
    (f : FVec Ideal S4x128x16384 .f32) (h : Cert.Pre_finite_kv.fn (F := Ideal) q s w f = fun _ => 1#1) :
    AllReal (fun b p k g d => q (ix5 b p k g d)) (fun b p x k d => s (ix5 b p x k d))
      ∧ AllReal (fun b p k g d => q (ix5 b p k g d)) (fun b p x k d => w (ix5 b p x k d)) := by
  have e := congrFun h ix0
  unfold Cert.Pre_finite_kv.fn at e
  obtain ⟨e, ew⟩ := IntOp.andi_eq_one.mp e
  obtain ⟨eq, es⟩ := IntOp.andi_eq_one.mp e
  have hq : ∀ b p k g d, ∃ r : ℝ, q (ix5 b p k g d) = (r : EReal) := fun b p k g d =>
    real_of_abs _ (Host.reduce_andi_all _ _ _ _ _ eq (ix5 b p k g d))
  exact ⟨⟨hq, fun b p x k d => real_of_abs _ (Host.reduce_andi_all _ _ _ _ _ es (ix5 b p x k d))⟩,
    ⟨hq, fun b p x k d => real_of_abs _ (Host.reduce_andi_all _ _ _ _ _ ew (ix5 b p x k d))⟩⟩

end Cert.SparseAttn

end
-- ==== Proof.Branch.Claims.lean ====
/- The claims about the call of the two branches, each from its programs' runs. -/
module

public import proofs.«01_k».proof.Defs
public import proofs.«01_k».proof.Proof.Gen.Kernel7.Frame
public import proofs.«01_k».proof.Proof.Gen.Reference7Ideal.Run
public import proofs.«01_k».proof.Proof.Branch.Output
public import proofs.«01_k».proof.Proof.Branch.Reference
public import proofs.«01_k».proof.Proof.Branch.Finite
public import proofs.«01_k».proof.Proof.Gen.Kernel7Ideal.Value

@[expose] public section

set_option maxRecDepth 16384
set_option maxHeartbeats 2000000

noncomputable section

namespace Cert.SparseAttn

open Idealize.ShloMosaic Idealize.ShloMosaic.TcCoe Idealize.SL.Sem

/-- The call as run. -/
theorem frame_kernel : Cert.quiescent_Kernel7 (hKernel7 := Cert.Kernel7.Gen.facts) :=
  fun m g _ => Cert.Kernel7.Gen.frame m g

/-- The call over extended reals. -/
theorem frame_kernelIdeal : Cert.quiescent_Kernel7Ideal (hKernel7Ideal := Cert.Kernel7Ideal.Gen.facts) :=
  fun m g _ => Cert.Kernel7Ideal.Gen.frame m g

/-- The reference, which declares no semaphore. -/
theorem frame_reference : Cert.quiescent_Reference7Ideal (hReference7Ideal := Cert.Reference7Ideal.Gen.facts) := fun m g _ =>
  (θ_run _ _ _).mono (fun r h => ⟨fun c => (h c).2.2, sem_eq_zero_of_no_sems (by decide) r.2⟩)
    (Cert.Reference7Ideal.Value.run (F := Ideal) m g)

theorem frame_kernelIdeal_pre :
    Cert.quiescent_Kernel7Ideal_pre_finite_kv (hKernel7Ideal := Cert.Kernel7Ideal.Gen.facts) (hPre_finite_kv := pre_facts) :=
  fun m g _ => Cert.Kernel7Ideal.Gen.frame m g

theorem frame_reference_pre :
    Cert.quiescent_Reference7Ideal_pre_finite_kv (hReference7Ideal := Cert.Reference7Ideal.Gen.facts) (hPre_finite_kv := pre_facts) :=
  fun m g _ => frame_reference m g trivial

/-- The mask's constant stands for negative infinity. -/
theorem mask_preserved : Cert.preserves_Kernel7_Kernel7Ideal :=
  IdealRules.named_const.statement Cert.Kernel7Ideal.κ "mask" .f32 0xF149F2CA#32 ⊥ rfl

/-- The call and the reference hold the same two arrays. -/
theorem branches_equal : Cert.algebraic_Kernel7Ideal_Reference7Ideal_pre_finite_kv (hKernel7Ideal := Cert.Kernel7Ideal.Gen.facts)
    (hReference7Ideal := Cert.Reference7Ideal.Gen.facts) (hPre_finite_kv := pre_facts) := by
  intro m g m' g' hpre hagree
  have hr : ∀ c, AllReal (argQ m c) (argS m c) ∧ AllReal (argQ m c) (argW m c) := fun c =>
    @reals_of_pre pre_facts _ _ _ _ (hpre c)
  refine ⟨fun c => selResult m c, fun c => winResult m c, ?_, ?_⟩
  · exact (θ_run _ _ _).mono (fun r h c => ⟨(h c).1.trans (sel_array m c (hr c).1), (h c).2.1.trans (win_array m c (hr c).2), (h c).2.2⟩)
      (Cert.Kernel7Ideal.Value.run_blocks (F := Ideal) m g)
  · refine (θ_run _ _ _).mono (fun r h c => ⟨(h c).1.trans ?_, (h c).2.1.trans ?_, (h c).2.2⟩)
      (Cert.Reference7Ideal.Value.run (F := Ideal) m' g')
    · rw [Cert.Reference7Ideal.Read.val_main_v45_eq, (hagree c).1, (hagree c).2.1, (hagree c).2.2.2]
      funext j
      idx_vars j
      exact Ref.sel_apply _ _ _ (hr c).1 _ _
    · rw [Cert.Reference7Ideal.Read.val_main_v77_eq, (hagree c).1, (hagree c).2.2.1]
      funext j
      idx_vars j
      exact Ref.win_apply _ _ (hr c).2 _ _

end Cert.SparseAttn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Attn.Claims
public import proofs.«01_k».proof.Proof.Diff.Frames
public import proofs.«01_k».proof.Proof.Diff.Output
public import proofs.«01_k».proof.Proof.Out.Frames
public import proofs.«01_k».proof.Proof.Out.OutProj
public import proofs.«01_k».proof.Proof.Sparse.Frames
public import proofs.«01_k».proof.Proof.Sparse.Output
public import proofs.«01_k».proof.Proof.Mix.Frames
public import proofs.«01_k».proof.Proof.Mix.Output
public import proofs.«01_k».proof.Proof.Norm.Frames
public import proofs.«01_k».proof.Proof.Norm.FinalNorm
public import proofs.«01_k».proof.Proof.Branch.Claims
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Frame
public import proofs.«01_k».proof.Proof.Gen.Kernel7Ideal.Value
public import proofs.«01_k».proof.Proof.Gen.Kernel7.Frame
public import proofs.«01_k».proof.Proof.Gen.Reference7Ideal.Run
public import proofs.«01_k».proof.Proof.Gen.Reference7Ideal.Read
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.DiffProj.facts, Cert.Kernel2Ideal.Gen.facts, Cert.Reference2Ideal.Gen.facts,
    Cert.OutProj.facts, Cert.Kernel3Ideal.Gen.facts, Cert.Reference3Ideal.Gen.facts,
    Cert.SparseProj.facts, Cert.Kernel4Ideal.Gen.facts, Cert.Reference4Ideal.Gen.facts,
    Cert.SparseOut.facts, Cert.Kernel5Ideal.Gen.facts, Cert.Reference5Ideal.Gen.facts,
    Cert.FinalNorm.facts, Cert.Kernel6Ideal.Gen.facts, Cert.Reference6Ideal.Gen.facts,
    Cert.Kernel7.Gen.facts, Cert.Kernel7Ideal.Gen.facts, Cert.Reference7Ideal.Gen.facts, Cert.DiffAttn.pre_facts, Cert.SparseAttn.pre_facts,
    Cert.DiffAttn.frame_kernel, Cert.DiffAttn.frame_kernelIdeal, Cert.DiffAttn.frame_kernelIdeal_pre,
    Cert.DiffAttn.frame_reference, Cert.DiffAttn.frame_reference_pre,
    Cert.DiffProj.frame_kernel, Cert.DiffProj.frame_kernelIdeal, Cert.DiffProj.frame_reference,
    Cert.OutProj.frame_kernel, Cert.OutProj.frame_kernelIdeal, Cert.OutProj.frame_reference,
    Cert.SparseProj.frame_kernel, Cert.SparseProj.frame_kernelIdeal, Cert.SparseProj.frame_reference,
    Cert.SparseOut.frame_kernel, Cert.SparseOut.frame_kernelIdeal, Cert.SparseOut.frame_reference,
    Cert.FinalNorm.frame_kernel, Cert.FinalNorm.frame_kernelIdeal, Cert.FinalNorm.frame_reference,
    Cert.SparseAttn.frame_kernel, Cert.SparseAttn.frame_kernelIdeal, Cert.SparseAttn.frame_kernelIdeal_pre,
    Cert.SparseAttn.frame_reference, Cert.SparseAttn.frame_reference_pre,
    Cert.DiffAttn.mask_preserved, Cert.DiffAttn.attention_equal,
    trivial, Cert.DiffProj.diff_proj_equal, trivial, Cert.OutProj.outproj_equal,
    trivial, Cert.SparseProj.sparse_proj_equal,
    trivial, Cert.SparseOut.sparse_out_equal, trivial, Cert.FinalNorm.final_norm_equal,
    Cert.SparseAttn.mask_preserved, Cert.SparseAttn.branches_equal⟩

end Cert.Proof

end
